-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  IdealRules.named_const.Statement Cert.KernelIdeal.κ "c" .f32 0x3D372713#32 ((8943 / 200000 : ℝ) : EReal)
  ∧ IdealRules.named_const.Statement Cert.KernelIdeal.κ "c3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v4)) (v4 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v4) = v3 c
          ∧ r.2.mem ((c.tc : Thread Cert.Kernel8Ideal.nD Cert.Kernel8Ideal.τ).loc Cert.Kernel8Ideal.main_v5) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v78) = v0 c
          ∧ r.2.mem ((c.tc : Thread Cert.Reference8Ideal.nD Cert.Reference8Ideal.τ).loc Cert.Reference8Ideal.main_v58) = v1 c
          ∧ r.2.mem ((c.tc : Thread Cert.Reference8Ideal.nD Cert.Reference8Ideal.τ).loc Cert.Reference8Ideal.main_v35) = v2 c
          ∧ r.2.mem ((c.tc : Thread Cert.Reference8Ideal.nD Cert.Reference8Ideal.τ).loc Cert.Reference8Ideal.main_v64) = v3 c
          ∧ r.2.mem ((c.tc : Thread Cert.Reference8Ideal.nD Cert.Reference8Ideal.τ).loc Cert.Reference8Ideal.main_v44) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v23_0)) (v1 : (c : Dev Cert.Kernel9Ideal.nD) → Buf (Elt Ideal) ((c.tc : Thread Cert.Kernel9Ideal.nD Cert.Kernel9Ideal.τ).loc Cert.Kernel9Ideal.main_v24)) (v2 : (c : Dev Cert.Kernel9Ideal.nD) → Buf (Elt Ideal) ((c.tc : Thread Cert.Kernel9Ideal.nD Cert.Kernel9Ideal.τ).loc Cert.Kernel9Ideal.main_v23_1)) (v3 : (c : Dev Cert.Kernel9Ideal.nD) → Buf (Elt Ideal) ((c.tc : Thread Cert.Kernel9Ideal.nD Cert.Kernel9Ideal.τ).loc Cert.Kernel9Ideal.main_v23_2)) (v4 : (c : Dev Cert.Kernel9Ideal.nD) → Buf (Elt Ideal) ((c.tc : Thread Cert.Kernel9Ideal.nD Cert.Kernel9Ideal.τ).loc Cert.Kernel9Ideal.main_v23_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v23_0) = v0 c
          ∧ r.2.mem ((c.tc : Thread Cert.Kernel9Ideal.nD Cert.Kernel9Ideal.τ).loc Cert.Kernel9Ideal.main_v24) = v1 c
          ∧ r.2.mem ((c.tc : Thread Cert.Kernel9Ideal.nD Cert.Kernel9Ideal.τ).loc Cert.Kernel9Ideal.main_v23_1) = v2 c
          ∧ r.2.mem ((c.tc : Thread Cert.Kernel9Ideal.nD Cert.Kernel9Ideal.τ).loc Cert.Kernel9Ideal.main_v23_2) = v3 c
          ∧ r.2.mem ((c.tc : Thread Cert.Kernel9Ideal.nD Cert.Kernel9Ideal.τ).loc Cert.Kernel9Ideal.main_v23_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v56) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_v87) = v2 c
          ∧ r.2.mem ((c.tc : Thread Cert.Reference9Ideal.nD Cert.Reference9Ideal.τ).loc Cert.Reference9Ideal.main_v91) = v3 c
          ∧ r.2.mem ((c.tc : Thread Cert.Reference9Ideal.nD Cert.Reference9Ideal.τ).loc Cert.Reference9Ideal.main_v94) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  IdealRules.named_const.Statement Cert.Kernel10Ideal.κ "c" .f32 0x3D372713#32 ((8943 / 200000 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v59) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)) (v1 : (c : Dev Cert.Kernel11Ideal.nD) → Buf (Elt Ideal) ((c.tc : Thread Cert.Kernel11Ideal.nD Cert.Kernel11Ideal.τ).loc Cert.Kernel11Ideal.main_v1_0)) (v2 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_v1_0) = v1 c
          ∧ r.2.mem ((c.tc : Thread Cert.Kernel11Ideal.nD Cert.Kernel11Ideal.τ).loc Cert.Kernel11Ideal.main_v4) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v50) = v1 c
          ∧ r.2.mem ((c.tc : Thread Cert.Reference11Ideal.nD Cert.Reference11Ideal.τ).loc Cert.Reference11Ideal.main_v36) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2)) (v1 : (c : Dev Cert.Kernel13Ideal.nD) → Buf (Elt Ideal) ((c.tc : Thread Cert.Kernel13Ideal.nD Cert.Kernel13Ideal.τ).loc Cert.Kernel13Ideal.main_v4)) (v2 : (c : Dev Cert.Kernel13Ideal.nD) → Buf (Elt Ideal) ((c.tc : Thread Cert.Kernel13Ideal.nD Cert.Kernel13Ideal.τ).loc Cert.Kernel13Ideal.main_v6)) (v3 : (c : Dev Cert.Kernel13Ideal.nD) → Buf (Elt Ideal) ((c.tc : Thread Cert.Kernel13Ideal.nD Cert.Kernel13Ideal.τ).loc Cert.Kernel13Ideal.main_v8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_v4) = v1 c
          ∧ r.2.mem ((c.tc : Thread Cert.Kernel13Ideal.nD Cert.Kernel13Ideal.τ).loc Cert.Kernel13Ideal.main_v6) = v2 c
          ∧ r.2.mem ((c.tc : Thread Cert.Kernel13Ideal.nD Cert.Kernel13Ideal.τ).loc Cert.Kernel13Ideal.main_v8) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v31) = v1 c
          ∧ r.2.mem ((c.tc : Thread Cert.Reference13Ideal.nD Cert.Reference13Ideal.τ).loc Cert.Reference13Ideal.main_v12) = v2 c
          ∧ r.2.mem ((c.tc : Thread Cert.Reference13Ideal.nD Cert.Reference13Ideal.τ).loc Cert.Reference13Ideal.main_v18) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite7 : Cert.Pre_finite7.Facts) (hPre_finite8 : Cert.Pre_finite8.Facts) (hPre_finite9 : Cert.Pre_finite9.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x1536 : Shape := ⟨2, ![8192, 1536]⟩
abbrev S8192x512 : Shape := ⟨2, ![8192, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bcast_S_S8192x1536 : S_.BroadcastsInDim S8192x1536 (![] : Fin 0 → Fin S8192x1536.rank)
  bcast_S_S8192x512 : S_.BroadcastsInDim S8192x512 (![] : Fin 0 → Fin S8192x512.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S8192x1536 .f32) (main_arg1 : FVec F S8192x512 .f32) (main_arg2 : FVec F S512 .f32) (main_arg3 : FVec F S4x128x128 .f32) (main_arg4 : FVec F S4x128 .f32) : IVec S8192x1536 1 × IVec S8192x512 1 × IVec S512 1 × IVec S4x128x128 1 × IVec S4x128 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  (main_v2, main_v5, main_v8, main_v11, main_v14)
-- ==== Pre_finite11.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite7.lean ====
abbrev S8192x1024 : Shape := ⟨2, ![8192, 1024]⟩
abbrev S1024 : Shape := ⟨1, ![1024]⟩
abbrev S8192x512 : Shape := ⟨2, ![8192, 512]⟩
abbrev S1024x1536 : Shape := ⟨2, ![1024, 1536]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S8192x512 : S_.BroadcastsInDim S8192x512 (![] : Fin 0 → Fin S8192x512.rank)
  bcast_S_S1024x1536 : S_.BroadcastsInDim S1024x1536 (![] : Fin 0 → Fin S1024x1536.rank)

variable [Facts]

def fn_part1 {F : FTy → Type} [FloatOps F] (main_arg6 : FVec F S1024x1536 .f32) (main_v2 : IVec S8192x1024 1) (main_v5 : IVec S1024 1) (main_v8 : IVec S8192x512 1) (main_v11 : IVec S8192x512 1) (main_v14 : IVec S8192x512 1) (main_v17 : IVec S8192x1024 1) : IVec S8192x1024 1 × IVec S1024 1 × IVec S8192x512 1 × IVec S8192x512 1 × IVec S8192x512 1 × IVec S8192x1024 1 × IVec S1024x1536 1 :=
  let main_v18 : FVec F S1024x1536 .f32 := Host.absf main_arg6
  let main_cst_5 : FVec F S_ .f32 := constant S_ .f32 0x7F800000#32
  let main_v19 : FVec F S1024x1536 .f32 := broadcastInDim S1024x1536 ![] bcast_S_S1024x1536 main_cst_5
  let main_v20 : IVec S1024x1536 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S8192x512 .f32) (main_arg3 : FVec F S8192x512 .f32) (main_arg4 : FVec F S8192x512 .f32) (main_arg5 : FVec F S8192x1024 .f32) (main_arg6 : FVec F S1024x1536 .f32) : IVec S8192x1024 1 × IVec S1024 1 × IVec S8192x512 1 × IVec S8192x512 1 × IVec S8192x512 1 × IVec S8192x1024 1 × IVec S1024x1536 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_v2 main_v5 main_v8 main_v11 main_v14 main_v17
-- ==== Pre_finite8.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S512 : S_.BroadcastsInDim S512 (![] : Fin 0 → Fin S512.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x512 .f32) (main_arg1 : FVec F S8192x512 .f32) (main_arg2 : FVec F S512 .f32) (main_arg3 : FVec F S512 .f32) (main_arg4 : FVec F S1024x1024 .f32) (main_arg5 : FVec F S8192x1024 .f32) : IVec S8192x512 1 × IVec S8192x512 1 × IVec S512 1 × IVec S512 1 × IVec S1024x1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite9.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) : IVec S8192x1024 1 × IVec S1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Kernel.lean ====
abbrev S8192x1536 : Shape := ⟨2, ![8192, 1536]⟩
abbrev S8192x512 : Shape := ⟨2, ![8192, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S8x512 : Shape := ⟨2, ![8, 512]⟩
abbrev S1024x512 : Shape := ⟨2, ![1024, 512]⟩
abbrev S1x128 : Shape := ⟨2, ![1, 128]⟩
abbrev S128 : Shape := ⟨1, ![128]⟩
abbrev S128x1 : Shape := ⟨2, ![128, 1]⟩
abbrev S16x8x512 : Shape := ⟨3, ![16, 8, 512]⟩

abbrev nBuf : Space → Nat
  | .hbm => 44
  | .vmem => 16
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S4x128x128, .i1⟩
  | .hbm, ⟨20, _⟩ => ⟨S4x128x128, .f32⟩
  | .hbm, ⟨21, _⟩ => ⟨S4x128x128, .f32⟩
  | .hbm, ⟨22, _⟩ => ⟨S4x128x128, .bf16⟩
  | .hbm, ⟨23, _⟩ => ⟨S128x4, .f32⟩
  | .hbm, ⟨24, _⟩ => ⟨S128x4x128, .f32⟩
  | .hbm, ⟨25, _⟩ => ⟨S128x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S4x128x128, .f32⟩
  | .hbm, ⟨30, _⟩ => ⟨S128x512, .f32⟩
  | .hbm, ⟨31, _⟩ => ⟨S8x512, .f32⟩
  | .hbm, ⟨32, _⟩ => ⟨S_, .f32⟩
  | .hbm, ⟨33, _⟩ => ⟨S512, .f32⟩
  | .hbm, ⟨34, _⟩ => ⟨S1x128x128, .i1⟩
  | .hbm, ⟨35, _⟩ => ⟨S_, .f32⟩
  | .hbm, ⟨36, _⟩ => ⟨S_, .f32⟩
  | .hbm, ⟨37, _⟩ => ⟨S4x128x128, .i1⟩
  | .hbm, ⟨38, _⟩ => ⟨S4x128x128, .f32⟩
  | .hbm, ⟨39, _⟩ => ⟨S4x128x128, .f32⟩
  | .hbm, ⟨40, _⟩ => ⟨S128x4x128, .f32⟩
  | .hbm, ⟨41, _⟩ => ⟨S_, .f32⟩
  | .hbm, ⟨42, _⟩ => ⟨S128x4, .f32⟩
  | .hbm, ⟨43, _⟩ => ⟨S4x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S4x128x128, .bf16⟩
  | .local _ .vmem, ⟨8, _⟩ => ⟨S128x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S4x128x128, .f32⟩
  | .local _ .vmem, ⟨14, _⟩ => ⟨S128x512, .f32⟩
  | .local _ .vmem, ⟨15, _⟩ => ⟨S8x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v9_4 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_v15 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "c" => some ((8943 / 200000 : ℝ) : EReal)
  | "c3" => some ((26829 / 200000 : ℝ) : EReal)
  | _ => none
-- ==== ReferenceIdeal.lean ====
abbrev S8192x1536 : Shape := ⟨2, ![8192, 1536]⟩
abbrev S8192x512 : Shape := ⟨2, ![8192, 512]⟩
abbrev S512 : Shape := ⟨1, ![512]⟩
abbrev S4x128x128 : Shape := ⟨3, ![4, 128, 128]⟩
abbrev S4x128 : Shape := ⟨2, ![4, 128]⟩
abbrev S4x2048x1536 : Shape := ⟨3, ![4, 2048, 1536]⟩
abbrev S4x2048x512 : Shape := ⟨3, ![4, 2048, 512]⟩
abbrev S_ : Shape := ⟨0, ![]⟩
abbrev S4x16x128x4x128 : Shape := ⟨5, ![4, 16, 128, 4, 128]⟩
abbrev S4x16x128x4 : Shape := ⟨4, ![4, 16, 128, 4]⟩
abbrev S4x16x128x4x1 : Shape := ⟨5, ![4, 16, 128, 4, 1]⟩
abbrev S1x1x1x4x128 : Shape := ⟨5, ![1, 1, 1, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩

abbrev nBuf : Space → Nat
  | .hbm => 190
  | .vmem => 0
  | .smem => 0
  | _ => 0

abbrev hbmTy0_0 (i : Nat) : BufTy := match i % 128 with
  | 0 => ⟨S8192x1536, .f32⟩
  | 1 => ⟨S8192x512, .f32⟩
  | 2 => ⟨S512, .f32⟩
  | 3 => ⟨S4x128x128, .f32⟩
  | 4 => ⟨S4x128, .f32⟩
  | 5 => ⟨S4x2048x1536, .f32⟩
  | 6 => ⟨S4x2048x512, .f32⟩
  | 7 => ⟨S4x2048x512, .f32⟩
  | 8 => ⟨S_, .f32⟩
  | 9 => ⟨S_, .f32⟩
  | 10 => ⟨S_, .f32⟩
  | 11 => ⟨S4x2048x512, .f32⟩
  | 12 => ⟨S4x2048x512, .f32⟩
  | 13 => ⟨S4x2048x512, .f32⟩
  | 14 => ⟨S_, .f32⟩
  | 15 => ⟨S4x2048x512, .f32⟩
  | 16 => ⟨S4x2048x512, .f32⟩
  | 17 => ⟨S4x2048x512, .f32⟩
  | 18 => ⟨S4x2048x512, .f32⟩
  | 19 => ⟨S4x2048x512, .f32⟩
  | 20 => ⟨S_, .f32⟩
  | 21 => ⟨S4x2048x512, .f32⟩
  | 22 => ⟨S4x2048x512, .f32⟩
  | 23 => ⟨S4x2048x512, .f32⟩
  | 24 => ⟨S_, .f32⟩
  | 25 => ⟨S4x2048x512, .f32⟩
  | 26 => ⟨S4x2048x512, .f32⟩
  | 27 => ⟨S_, .f32⟩
  | 28 => ⟨S4x2048x512, .f32⟩
  | 29 => ⟨S4x2048x512, .f32⟩
  | 30 => ⟨S4x2048x512, .f32⟩
  | 31 => ⟨S_, .f32⟩
  | 32 => ⟨S4x2048x512, .f32⟩
  | 33 => ⟨S4x2048x512, .f32⟩
  | 34 => ⟨S_, .f32⟩
  | 35 => ⟨S4x2048x512, .f32⟩
  | 36 => ⟨S4x2048x512, .f32⟩
  | 37 => ⟨S4x2048x512, .f32⟩
  | 38 => ⟨S_, .f32⟩
  | 39 => ⟨S_, .f32⟩
  | 40 => ⟨S_, .f32⟩
  | 41 => ⟨S4x2048x512, .f32⟩
  | 42 => ⟨S4x2048x512, .f32⟩
  | 43 => ⟨S4x2048x512, .f32⟩
  | 44 => ⟨S_, .f32⟩
  | 45 => ⟨S4x2048x512, .f32⟩
  | 46 => ⟨S4x2048x512, .f32⟩
  | 47 => ⟨S4x2048x512, .f32⟩
  | 48 => ⟨S4x2048x512, .f32⟩
  | 49 => ⟨S4x2048x512, .f32⟩
  | 50 => ⟨S_, .f32⟩
  | 51 => ⟨S4x2048x512, .f32⟩
  | 52 => ⟨S4x2048x512, .f32⟩
  | 53 => ⟨S4x2048x512, .f32⟩
  | 54 => ⟨S_, .f32⟩
  | 55 => ⟨S4x2048x512, .f32⟩
  | 56 => ⟨S4x2048x512, .f32⟩
  | 57 => ⟨S_, .f32⟩
  | 58 => ⟨S4x2048x512, .f32⟩
  | 59 => ⟨S4x2048x512, .f32⟩
  | 60 => ⟨S4x2048x512, .f32⟩
  | 61 => ⟨S_, .f32⟩
  | 62 => ⟨S4x2048x512, .f32⟩
  | 63 => ⟨S4x2048x512, .f32⟩
  | 64 => ⟨S_, .f32⟩
  | 65 => ⟨S4x2048x512, .f32⟩
  | 66 => ⟨S4x2048x512, .f32⟩
  | 67 => ⟨S4x2048x512, .f32⟩
  | 68 => ⟨S4x16x128x4x128, .f32⟩
  | 69 => ⟨S4x128, .f32⟩
  | 70 => ⟨S4x16x128x4x128, .f32⟩
  | 71 => ⟨S_, .f32⟩
  | 72 => ⟨S4x16x128x4, .f32⟩
  | 73 => ⟨S4x16x128x4x1, .f32⟩
  | 74 => ⟨S_, .f32⟩
  | 75 => ⟨S4x16x128x4x1, .f32⟩
  | 76 => ⟨S4x16x128x4x1, .f32⟩
  | 77 => ⟨S_, .f32⟩
  | 78 => ⟨S4x16x128x4x1, .f32⟩
  | 79 => ⟨S4x16x128x4x1, .f32⟩
  | 80 => ⟨S4x16x128x4x1, .f32⟩
  | 81 => ⟨S4x16x128x4x1, .f32⟩
  | 82 => ⟨S_, .f32⟩
  | 83 => ⟨S4x16x128x4x1, .f32⟩
  | 84 => ⟨S4x16x128x4x1, .f32⟩
  | 85 => ⟨S4x16x128x4x128, .f32⟩
  | 86 => ⟨S4x16x128x4x128, .f32⟩
  | 87 => ⟨S1x1x1x4x128, .f32⟩
  | 88 => ⟨S4x16x128x4x128, .f32⟩
  | 89 => ⟨S4x16x128x4x128, .f32⟩
  | 90 => ⟨S_, .i1⟩
  | 91 => ⟨S128x128, .i1⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i1⟩
  | 99 => ⟨S128x128, .i1⟩
  | 100 => ⟨S128x128, .i1⟩
  | 101 => ⟨S1x128x128, .i1⟩
  | 102 => ⟨S_, .f32⟩
  | 103 => ⟨S4x128x128, .f32⟩
  | 104 => ⟨S4x128x128, .i1⟩
  | 105 => ⟨S4x128x128, .f32⟩
  | 106 => ⟨S_, .f32⟩
  | 107 => ⟨S4x128x128, .f32⟩
  | 108 => ⟨S4x4x16x128x128, .f32⟩
  | 109 => ⟨S4x16x128x4x128, .f32⟩
  | 110 => ⟨S128x4, .f32⟩
  | 111 => ⟨S1x1x128x4x1, .f32⟩
  | 112 => ⟨S4x16x128x4x128, .f32⟩
  | 113 => ⟨S4x16x128x4x128, .f32⟩
  | 114 => ⟨S4x2048x512, .f32⟩
  | 115 => ⟨S4x2048x512, .f32⟩
  | 116 => ⟨S4x2048x512, .f32⟩
  | 117 => ⟨S4x2048x512, .f32⟩
  | 118 => ⟨S4x2048x512, .f32⟩
  | 119 => ⟨S4x16x128x4x128, .f32⟩
  | 120 => ⟨S_, .f32⟩
  | 121 => ⟨S128x4, .f32⟩
  | 122 => ⟨S1x1x128x4x1, .f32⟩
  | 123 => ⟨S_, .f32⟩
  | 124 => ⟨S128x4, .f32⟩
  | 125 => ⟨S4x128, .f32⟩
  | 126 => ⟨S4x4x16x128x128, .f32⟩
  | 127 => ⟨S4x128x128, .f32⟩
  | _ => ⟨S8192x1536, .f32⟩

abbrev hbmTy0_1 (i : Nat) : BufTy := match i % 128 with
  | 0 => ⟨S4x4x16x128x128, .f32⟩
  | 1 => ⟨S4x16x128x4x128, .f32⟩
  | 2 => ⟨S_, .f32⟩
  | 3 => ⟨S4x128x128, .f32⟩
  | 4 => ⟨S4x128x128, .f32⟩
  | 5 => ⟨S4x16x128x4x128, .f32⟩
  | 6 => ⟨S_, .f32⟩
  | 7 => ⟨S4x128, .f32⟩
  | 8 => ⟨S1x1x1x4x128, .f32⟩
  | 9 => ⟨S4x16x128x4x128, .f32⟩
  | 10 => ⟨S4x16x128x4x128, .f32⟩
  | 11 => ⟨S_, .f32⟩
  | 12 => ⟨S4x128, .f32⟩
  | 13 => ⟨S4x16x128x4x128, .f32⟩
  | 14 => ⟨S_, .f32⟩
  | 15 => ⟨S4x16x128x4, .f32⟩
  | 16 => ⟨S4x16x128x4x1, .f32⟩
  | 17 => ⟨S4x16x128x4x128, .f32⟩
  | 18 => ⟨S4x16x128x4x128, .f32⟩
  | 19 => ⟨S4x16x128x4x1, .f32⟩
  | 20 => ⟨S_, .f32⟩
  | 21 => ⟨S4x16x128x4x1, .f32⟩
  | 22 => ⟨S4x16x128x4x1, .f32⟩
  | 23 => ⟨S_, .f32⟩
  | 24 => ⟨S4x16x128x4, .f32⟩
  | 25 => ⟨S4x16x128x4x128, .f32⟩
  | 26 => ⟨S4x16x128x4x128, .f32⟩
  | 27 => ⟨S4x16x128x4x128, .f32⟩
  | 28 => ⟨S4x16x128x4x128, .f32⟩
  | 29 => ⟨S4x16x128x4x128, .f32⟩
  | 30 => ⟨S512, .f32⟩
  | 31 => ⟨S4x2048x512, .f32⟩
  | 32 => ⟨S4x2048x512, .f32⟩
  | 33 => ⟨S4x2048x512, .f32⟩
  | 34 => ⟨S_, .f32⟩
  | 35 => ⟨S4x2048x512, .f32⟩
  | 36 => ⟨S4x2048x512, .f32⟩
  | 37 => ⟨S4x2048x512, .f32⟩
  | 38 => ⟨S_, .f32⟩
  | 39 => ⟨S4x2048x512, .f32⟩
  | 40 => ⟨S4x2048x512, .f32⟩
  | 41 => ⟨S4x2048x512, .f32⟩
  | 42 => ⟨S4x2048x512, .f32⟩
  | 43 => ⟨S4x2048x512, .f32⟩
  | 44 => ⟨S4x2048x512, .f32⟩
  | 45 => ⟨S4x2048x512, .f32⟩
  | 46 => ⟨S4x2048x512, .f32⟩
  | 47 => ⟨S4x2048x512, .f32⟩
  | 48 => ⟨S_, .f32⟩
  | 49 => ⟨S4x2048x512, .f32⟩
  | 50 => ⟨S4x2048x512, .f32⟩
  | 51 => ⟨S4x2048x512, .f32⟩
  | 52 => ⟨S_, .f32⟩
  | 53 => ⟨S4x2048x512, .f32⟩
  | 54 => ⟨S4x2048x512, .f32⟩
  | 55 => ⟨S4x2048x512, .f32⟩
  | 56 => ⟨S4x2048x512, .f32⟩
  | 57 => ⟨S4x2048x512, .f32⟩
  | 58 => ⟨S4x2048x512, .f32⟩
  | 59 => ⟨S4x2048x512, .f32⟩
  | 60 => ⟨S8192x512, .f32⟩
  | 61 => ⟨S8192x512, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_18 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c : Ref sig .tc := ⟨.hbm, 90, rfl⟩
abbrev main_v65 : Ref sig .tc := ⟨.hbm, 91, rfl⟩
abbrev main_call0_v0 : Ref sig .tc := ⟨.hbm, 92, rfl⟩
abbrev main_call0_c : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_c_0 : Ref sig .tc := ⟨.hbm, 98, rfl⟩
abbrev main_call0_v5 : Ref sig .tc := ⟨.hbm, 99, rfl⟩
abbrev main_v66 : Ref sig .tc := ⟨.hbm, 100, rfl⟩
abbrev main_v67 : Ref sig .tc := ⟨.hbm, 101, rfl⟩
abbrev main_cst_19 : Ref sig .tc := ⟨.hbm, 102, rfl⟩
abbrev main_v68 : Ref sig .tc := ⟨.hbm, 103, rfl⟩
abbrev main_v69_1 : Ref sig .tc := ⟨.hbm, 104, rfl⟩
abbrev main_v69_0 : Ref sig .tc := ⟨.hbm, 105, rfl⟩
abbrev main_call1_cst : Ref sig .tc := ⟨.hbm, 106, rfl⟩
abbrev main_v69_2 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_20 : Ref sig .tc := ⟨.hbm, 120, rfl⟩
abbrev main_v82 : Ref sig .tc := ⟨.hbm, 121, rfl⟩
abbrev main_v83 : Ref sig .tc := ⟨.hbm, 122, rfl⟩
abbrev main_cst_21 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call2_cst : Ref sig .tc := ⟨.hbm, 130, rfl⟩
abbrev main_call2_v0 : Ref sig .tc := ⟨.hbm, 131, rfl⟩
abbrev main_v90 : Ref sig .tc := ⟨.hbm, 132, rfl⟩
abbrev main_v91 : Ref sig .tc := ⟨.hbm, 133, rfl⟩
abbrev main_cst_22 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_23 : Ref sig .tc := ⟨.hbm, 139, rfl⟩
abbrev main_v96 : Ref sig .tc := ⟨.hbm, 140, rfl⟩
abbrev main_v97 : Ref sig .tc := ⟨.hbm, 141, rfl⟩
abbrev main_cst_24 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_25 : Ref sig .tc := ⟨.hbm, 148, rfl⟩
abbrev main_v103 : Ref sig .tc := ⟨.hbm, 149, rfl⟩
abbrev main_v104 : Ref sig .tc := ⟨.hbm, 150, rfl⟩
abbrev main_cst_26 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_27 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_28 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_29 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_30 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S8192x2x4x704 : Shape := ⟨4, ![8192, 2, 4, 704]⟩
abbrev S4x2x8192x704 : Shape := ⟨4, ![4, 2, 8192, 704]⟩
abbrev S8x704x1024 : Shape := ⟨3, ![8, 704, 1024]⟩
abbrev S4096x1024 : Shape := ⟨2, ![4096, 1024]⟩
abbrev S1x1x4096x704 : Shape := ⟨4, ![1, 1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S8192x2x4x704, .bf16⟩
  | .hbm, ⟨5, _⟩ => ⟨S4x2x8192x704, .bf16⟩
  | .hbm, ⟨6, _⟩ => ⟨S8x704x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x1x4096x704, .bf16⟩
  | .local _ .vmem, ⟨3, _⟩ => ⟨S1x1x4096x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg1
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x704x1024, .f32⟩
  | .hbm, ⟨9, _⟩ => ⟨S8x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S8192x1x4x704 : Shape := ⟨4, ![8192, 1, 4, 704]⟩
abbrev S4x1x8192x704 : Shape := ⟨4, ![4, 1, 8192, 704]⟩
abbrev S4x8192x704 : Shape := ⟨3, ![4, 8192, 704]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 8
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1x4x704, .bf16⟩
  | .hbm, ⟨4, _⟩ => ⟨S4x1x8192x704, .bf16⟩
  | .hbm, ⟨5, _⟩ => ⟨S4x8192x704, .bf16⟩
  | .hbm, ⟨6, _⟩ => ⟨S8192x1024, .bf16⟩
  | .hbm, ⟨7, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S4x2x8192x704 : Shape := ⟨4, ![4, 2, 8192, 704]⟩
abbrev S1024x1024 : Shape := ⟨2, ![1024, 1024]⟩
abbrev S1x1024x704 : Shape := ⟨3, ![1, 1024, 704]⟩
abbrev S2x352x1024 : Shape := ⟨3, ![2, 352, 1024]⟩
abbrev S1x2x1024x704 : Shape := ⟨4, ![1, 2, 1024, 704]⟩
abbrev S1024x1 : Shape := ⟨2, ![1024, 1]⟩
abbrev S704x1024 : Shape := ⟨2, ![704, 1024]⟩
abbrev S1x1024x256 : Shape := ⟨3, ![1, 1024, 256]⟩
abbrev S1024x256 : Shape := ⟨2, ![1024, 256]⟩
abbrev S1x1x1024x256 : Shape := ⟨4, ![1, 1, 1024, 256]⟩
abbrev S256x1024 : Shape := ⟨2, ![256, 1024]⟩
abbrev S1x1024x192 : Shape := ⟨3, ![1, 1024, 192]⟩
abbrev S1024x192 : Shape := ⟨2, ![1024, 192]⟩
abbrev S1x1x1024x192 : Shape := ⟨4, ![1, 1, 1024, 192]⟩
abbrev S192x1024 : Shape := ⟨2, ![192, 1024]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S1024x8x704, .bf16⟩
  | .hbm, ⟨7, _⟩ => ⟨S8x1024x704, .bf16⟩
  | .hbm, ⟨8, _⟩ => ⟨S2816x1024, .bf16⟩
  | .hbm, ⟨9, _⟩ => ⟨S8x352x1024, .bf16⟩
  | .hbm, ⟨10, _⟩ => ⟨S8192x1024, .f32⟩
  | .hbm, ⟨11, _⟩ => ⟨S8192x1024, .bf16⟩
  | .hbm, ⟨12, _⟩ => ⟨S4x2x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S2x352x1024, .bf16⟩
  | .local _ .vmem, ⟨8, _⟩ => ⟨S2x352x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x2x1024x704, .bf16⟩
  | .local _ .vmem, ⟨14, _⟩ => ⟨S1x2x1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x2x4x704 : Shape := ⟨4, ![8192, 2, 4, 704]⟩
abbrev S4x2x8192x704 : Shape := ⟨4, ![4, 2, 8192, 704]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x5632, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S8192x5632, .f32⟩
  | .hbm, ⟨56, _⟩ => ⟨S8192x5632, .bf16⟩
  | .hbm, ⟨57, _⟩ => ⟨S8192x2x4x704, .bf16⟩
  | .hbm, ⟨58, _⟩ => ⟨S4x2x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x1536 : Shape := ⟨2, ![1024, 1536]⟩
abbrev S1x1024 : Shape := ⟨2, ![1, 1024]⟩
abbrev S8192x1536 : Shape := ⟨2, ![8192, 1536]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S8192x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x1024 : Shape := ⟨2, ![8192, 1024]⟩
abbrev S1024 : Shape := ⟨1, ![1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S8192x512 : Shape := ⟨2, ![8192, 512]⟩
abbrev S1024x1536 : Shape := ⟨2, ![1024, 1536]⟩
abbrev S1x1024 : Shape := ⟨2, ![1, 1024]⟩
abbrev S1536x1024 : Shape := ⟨2, ![1536, 1024]⟩
abbrev S8x1024 : Shape := ⟨2, ![8, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S64x8x1024 : Shape := ⟨3, ![64, 8, 1024]⟩
abbrev S_ : Shape := ⟨0, ![]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S1024x1536, .f32⟩
  | .hbm, ⟨7, _⟩ => ⟨S1x1024, .f32⟩
  | .hbm, ⟨8, _⟩ => ⟨S1024x1536, .bf16⟩
  | .hbm, ⟨9, _⟩ => ⟨S8192x1024, .f32⟩
  | .hbm, ⟨10, _⟩ => ⟨S1536x1024, .f32⟩
  | .hbm, ⟨11, _⟩ => ⟨S8x1024, .f32⟩
  | .hbm, ⟨12, _⟩ => ⟨S_, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1024, .f32⟩
  | .local _ .vmem, ⟨10, _⟩ => ⟨S512x1024, .f32⟩
  | .local _ .vmem, ⟨11, _⟩ => ⟨S1024x1536, .bf16⟩
  | .local _ .vmem, ⟨12, _⟩ => ⟨S512x1024, .f32⟩
  | .local _ .vmem, ⟨13, _⟩ => ⟨S512x1024, .f32⟩
  | .local _ .vmem, ⟨14, _⟩ => ⟨S1536x1024, .f32⟩
  | .local _ .vmem, ⟨15, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_cst : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S8192x1024 : Shape := ⟨2, ![8192, 1024]⟩
abbrev S1024 : Shape := ⟨1, ![1024]⟩
abbrev S8192x512 : Shape := ⟨2, ![8192, 512]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S1536x1024 : Shape := ⟨2, ![1536, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S1024x1536, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1536, .f32⟩
  | .hbm, ⟨28, _⟩ => ⟨S8192x1536, .f32⟩
  | .hbm, ⟨29, _⟩ => ⟨S1536x1024, .f32⟩
  | .hbm, ⟨30, _⟩ => ⟨S1024x1536, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1536x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel8.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S1x512 : Shape := ⟨2, ![1, 512]⟩
abbrev S8x512 : Shape := ⟨2, ![8, 512]⟩
abbrev S512x512 : Shape := ⟨2, ![512, 512]⟩
abbrev S512x1024 : Shape := ⟨2, ![512, 1024]⟩
abbrev S512x1 : Shape := ⟨2, ![512, 1]⟩
abbrev S64x8x512 : Shape := ⟨3, ![64, 8, 512]⟩
abbrev S_ : Shape := ⟨0, ![]⟩

abbrev nBuf : Space → Nat
  | .hbm => 18
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S8192x512, .f32⟩
  | .hbm, ⟨10, _⟩ => ⟨S8192x512, .f32⟩
  | .hbm, ⟨11, _⟩ => ⟨S1024x1024, .f32⟩
  | .hbm, ⟨12, _⟩ => ⟨S8x512, .f32⟩
  | .hbm, ⟨13, _⟩ => ⟨S8x512, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1024x1024, .f32⟩
  | .local _ .vmem, ⟨14, _⟩ => ⟨S8x512, .f32⟩
  | .local _ .vmem, ⟨15, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 103
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x1024, .f32⟩
  | .hbm, ⟨47, _⟩ => ⟨S8192x1024, .f32⟩
  | .hbm, ⟨48, _⟩ => ⟨S1024x1024, .f32⟩
  | .hbm, ⟨49, _⟩ => ⟨S1024x1024, .f32⟩
  | .hbm, ⟨50, _⟩ => ⟨S8192x1024, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S512, .f32⟩
  | .hbm, ⟨61, _⟩ => ⟨S8192x512, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x512, .f32⟩
  | .hbm, ⟨66, _⟩ => ⟨S8192x512, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S512, .f32⟩
  | .hbm, ⟨86, _⟩ => ⟨S8192x512, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x512, .f32⟩
  | .hbm, ⟨91, _⟩ => ⟨S8192x512, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2x4x704 : Shape := ⟨4, ![8192, 2, 4, 704]⟩
abbrev S4x2x8192x704 : Shape := ⟨4, ![4, 2, 8192, 704]⟩
abbrev S1024x8x704 : Shape := ⟨3, ![1024, 8, 704]⟩
abbrev S8x1024x704 : Shape := ⟨3, ![8, 1024, 704]⟩
abbrev S8x352x1024 : Shape := ⟨3, ![8, 352, 1024]⟩
abbrev S4x8192x704 : Shape := ⟨3, ![4, 8192, 704]⟩
abbrev S8x1024 : Shape := ⟨2, ![8, 1024]⟩
abbrev S512x1024 : Shape := ⟨2, ![512, 1024]⟩
abbrev S1x2x512x704 : Shape := ⟨4, ![1, 2, 512, 704]⟩
abbrev S1x1024x704 : Shape := ⟨3, ![1, 1024, 704]⟩
abbrev S2x352x1024 : Shape := ⟨3, ![2, 352, 1024]⟩
abbrev S1x512x704 : Shape := ⟨3, ![1, 512, 704]⟩
abbrev S2x2x512x704 : Shape := ⟨4, ![2, 2, 512, 704]⟩
abbrev S2x512x704 : Shape := ⟨3, ![2, 512, 704]⟩
abbrev S512x704 : Shape := ⟨2, ![512, 704]⟩
abbrev S1024x704 : Shape := ⟨2, ![1024, 704]⟩
abbrev S704x1024 : Shape := ⟨2, ![704, 1024]⟩
abbrev S1x1x512x256 : Shape := ⟨4, ![1, 1, 512, 256]⟩
abbrev S512x256 : Shape := ⟨2, ![512, 256]⟩
abbrev S256x1024 : Shape := ⟨2, ![256, 1024]⟩
abbrev S1x512x256 : Shape := ⟨3, ![1, 512, 256]⟩
abbrev S1x1x512x192 : Shape := ⟨4, ![1, 1, 512, 192]⟩
abbrev S512x192 : Shape := ⟨2, ![512, 192]⟩
abbrev S192x1024 : Shape := ⟨2, ![192, 1024]⟩
abbrev S1x512x192 : Shape := ⟨3, ![1, 512, 192]⟩
abbrev S512 : Shape := ⟨1, ![512]⟩
abbrev S512x1 : Shape := ⟨2, ![512, 1]⟩
abbrev S64x8x1024 : Shape := ⟨3, ![64, 8, 1024]⟩

abbrev nBuf : Space → Nat
  | .hbm => 38
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x5632, .bf16⟩
  | .hbm, ⟨23, _⟩ => ⟨S8192x2x4x704, .bf16⟩
  | .hbm, ⟨24, _⟩ => ⟨S4x2x8192x704, .bf16⟩
  | .hbm, ⟨25, _⟩ => ⟨S1x1024, .f32⟩
  | .hbm, ⟨26, _⟩ => ⟨S1024x5632, .bf16⟩
  | .hbm, ⟨27, _⟩ => ⟨S1024x8x704, .bf16⟩
  | .hbm, ⟨28, _⟩ => ⟨S8x1024x704, .bf16⟩
  | .hbm, ⟨29, _⟩ => ⟨S2816x1024, .bf16⟩
  | .hbm, ⟨30, _⟩ => ⟨S8x352x1024, .bf16⟩
  | .hbm, ⟨31, _⟩ => ⟨S8192x1024, .f32⟩
  | .hbm, ⟨32, _⟩ => ⟨S4x2x8192x704, .bf16⟩
  | .hbm, ⟨33, _⟩ => ⟨S4x8192x704, .bf16⟩
  | .hbm, ⟨34, _⟩ => ⟨S8x1024, .f32⟩
  | .hbm, ⟨35, _⟩ => ⟨S8192x1024, .bf16⟩
  | .hbm, ⟨36, _⟩ => ⟨S_, .f32⟩
  | .hbm, ⟨37, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x2x512x704, .bf16⟩
  | .local _ .vmem, ⟨8, _⟩ => ⟨S1x2x512x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S2x352x1024, .bf16⟩
  | .local _ .vmem, ⟨14, _⟩ => ⟨S2x352x1024, .bf16⟩
  | .local _ .vmem, ⟨15, _⟩ => ⟨S512x1024, .f32⟩
  | .local _ .vmem, ⟨16, _⟩ => ⟨S512x1024, .f32⟩
  | .local _ .vmem, ⟨17, _⟩ => ⟨S1x2x512x704, .bf16⟩
  | .local _ .vmem, ⟨18, _⟩ => ⟨S1x2x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S8x1024, .f32⟩
  | .local _ .vmem, ⟨22, _⟩ => ⟨S512x1024, .bf16⟩
  | .local _ .vmem, ⟨23, _⟩ => ⟨S512x1024, .bf16⟩
  | .local _ .vmem, ⟨24, _⟩ => ⟨S2x2x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_cst_2 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![65], ![false]⟩

def k0_off1 (i : grid0.Coords) : Fin 4 → Nat :=
  let c1_i32_22 : BitVec 32 := 1#32
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v44 : BitVec 32 := Scalar.subi c1_i32_22 v43
  let v45 : Index := Scalar.indexCast v44
  let c0 : Index := 0#32
  let c0_23 : Index := 0#32
  let c0_24 : Index := 0#32
  ![v45.toNat, 0, 0, 0]
def k0_off2 (i : grid0.Coords) : Fin 4 → Nat :=
  let arg0 : BitVec 32 := BitVec.ofNat 32 (i 0).val
  let c2_i32_43 : BitVec 32 := 2#32
  let c0_i32_44 : BitVec 32 := 0#32
  let v71 : BitVec 1 := Scalar.cmpi .eq c2_i32_43 c0_i32_44
  let c1_i32_45 : BitVec 32 := 1#32
  let v72 : BitVec 32 := Scalar.select v71 c1_i32_45 c2_i32_43
  let v73 : BitVec 32 := Scalar.remsi arg0 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let v113 : Index := Scalar.indexCast v80
  let c0_70 : Index := 0#32
  let c0_71 : Index := 0#32
  let c0_72 : Index := 0#32
  ![v113.toNat, 0, 0, 0]
def k0_off3 (i : grid0.Coords) : Fin 4 → Nat :=
  let arg0 : BitVec 32 := BitVec.ofNat 32 (i 0).val
  let c2_i32_43 : BitVec 32 := 2#32
  let c0_i32_44 : BitVec 32 := 0#32
  let v71 : BitVec 1 := Scalar.cmpi .eq c2_i32_43 c0_i32_44
  let c1_i32_45 : BitVec 32 := 1#32
  let v72 : BitVec 32 := Scalar.select v71 c1_i32_45 c2_i32_43
  let v73 : BitVec 32 := Scalar.remsi arg0 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let v117 : Index := Scalar.indexCast v80
  let c1_73 : Index := 1#32
  let c0_74 : Index := 0#32
  let c0_75 : Index := 0#32
  ![v117.toNat, 1, 0, 0]
def k0_off4 (i : grid0.Coords) : Fin 4 → Nat :=
  let arg0 : BitVec 32 := BitVec.ofNat 32 (i 0).val
  let c2_i32_43 : BitVec 32 := 2#32
  let c0_i32_44 : BitVec 32 := 0#32
  let v71 : BitVec 1 := Scalar.cmpi .eq c2_i32_43 c0_i32_44
  let c1_i32_45 : BitVec 32 := 1#32
  let v72 : BitVec 32 := Scalar.select v71 c1_i32_45 c2_i32_43
  let v73 : BitVec 32 := Scalar.remsi arg0 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let v153 : Index := Scalar.indexCast v80
  let c0_97 : Index := 0#32
  let c0_98 : Index := 0#32
  let c256_99 : Index := 256#32
  ![v153.toNat, 0, 0, 256]
def k0_off5 (i : grid0.Coords) : Fin 4 → Nat :=
  let arg0 : BitVec 32 := BitVec.ofNat 32 (i 0).val
  let c2_i32_43 : BitVec 32 := 2#32
  let c0_i32_44 : BitVec 32 := 0#32
  let v71 : BitVec 1 := Scalar.cmpi .eq c2_i32_43 c0_i32_44
  let c1_i32_45 : BitVec 32 := 1#32
  let v72 : BitVec 32 := Scalar.select v71 c1_i32_45 c2_i32_43
  let v73 : BitVec 32 := Scalar.remsi arg0 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let v157 : Index := Scalar.indexCast v80
  let c1_100 : Index := 1#32
  let c0_101 : Index := 0#32
  let c256_102 : Index := 256#32
  ![v157.toNat, 1, 0, 256]
def k0_off6 (i : grid0.Coords) : Fin 4 → Nat :=
  let arg0 : BitVec 32 := BitVec.ofNat 32 (i 0).val
  let c2_i32_43 : BitVec 32 := 2#32
  let c0_i32_44 : BitVec 32 := 0#32
  let v71 : BitVec 1 := Scalar.cmpi .eq c2_i32_43 c0_i32_44
  let c1_i32_45 : BitVec 32 := 1#32
  let v72 : BitVec 32 := Scalar.select v71 c1_i32_45 c2_i32_43
  let v73 : BitVec 32 := Scalar.remsi arg0 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let v193 : Index := Scalar.indexCast v80
  let c0_124 : Index := 0#32
  let c0_125 : Index := 0#32
  let c512_126 : Index := 512#32
  ![v193.toNat, 0, 0, 512]
def k0_off7 (i : grid0.Coords) : Fin 4 → Nat :=
  let arg0 : BitVec 32 := BitVec.ofNat 32 (i 0).val
  let c2_i32_43 : BitVec 32 := 2#32
  let c0_i32_44 : BitVec 32 := 0#32
  let v71 : BitVec 1 := Scalar.cmpi .eq c2_i32_43 c0_i32_44
  let c1_i32_45 : BitVec 32 := 1#32
  let v72 : BitVec 32 := Scalar.select v71 c1_i32_45 c2_i32_43
  let v73 : BitVec 32 := Scalar.remsi arg0 v72
  let c0_i32_47 : BitVec 32 := 0#32
  let v75 : BitVec 1 := Scalar.cmpi .slt v73 c0_i32_47
  let c0_i32_48 : BitVec 32 := 0#32
  let v76 : BitVec 1 := Scalar.cmpi .slt v72 c0_i32_48
  let v77 : BitVec 1 := Scalar.xori v75 v76
  let c0_i32_46 : BitVec 32 := 0#32
  let v74 : BitVec 1 := Scalar.cmpi .ne v73 c0_i32_46
  let v78 : BitVec 1 := Scalar.andi v77 v74
  let v79 : BitVec 32 := Scalar.addi v73 v72
  let v80 : BitVec 32 := Scalar.select v78 v79 v73
  let v197 : Index := Scalar.indexCast v80
  let c1_127 : Index := 1#32
  let c0_128 : Index := 0#32
  let c512_129 : Index := 512#32
  ![v197.toNat, 1, 0, 512]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg0 : BitVec 32 := BitVec.ofNat 32 (i 0).val
  let c1_i32_130 : BitVec 32 := 1#32
  let v201 : BitVec 32 := Scalar.subi arg0 c1_i32_130
  let c0_i32_131 : BitVec 32 := 0#32
  let v202 : BitVec 32 := Scalar.maxsi v201 c0_i32_131
  let c4_i32_132 : BitVec 32 := 4#32
  let c0_i32_133 : BitVec 32 := 0#32
  let v203 : BitVec 1 := Scalar.cmpi .eq c4_i32_132 c0_i32_133
  let c1_i32_134 : BitVec 32 := 1#32
  let v204 : BitVec 32 := Scalar.select v203 c1_i32_134 c4_i32_132
  let v205 : BitVec 32 := Scalar.remsi v202 v204
  let c0_i32_136 : BitVec 32 := 0#32
  let v207 : BitVec 1 := Scalar.cmpi .slt v205 c0_i32_136
  let c0_i32_137 : BitVec 32 := 0#32
  let v208 : BitVec 1 := Scalar.cmpi .slt v204 c0_i32_137
  let v209 : BitVec 1 := Scalar.xori v207 v208
  let c0_i32_135 : BitVec 32 := 0#32
  let v206 : BitVec 1 := Scalar.cmpi .ne v205 c0_i32_135
  let v210 : BitVec 1 := Scalar.andi v209 v206
  let v211 : BitVec 32 := Scalar.addi v205 v204
  let v212 : BitVec 32 := Scalar.select v210 v211 v205
  let c3_i32 : BitVec 32 := 3#32
  let v213 : BitVec 1 := Scalar.cmpi .eq v212 c3_i32
  let c0_i32_138 : BitVec 32 := 0#32
  let v214 : BitVec 1 := Scalar.cmpi .sgt arg0 c0_i32_138
  let v215 : BitVec 1 := Scalar.andi v213 v214
  let v216 : BitVec 32 := Scalar.extui v215
  let c0_i32_139 : BitVec 32 := 0#32
  let v217 : BitVec 1 := Scalar.cmpi .ne v216 c0_i32_139
  v217

def k0_cond2 (i : grid0.Coords) : BitVec 1 :=
  let arg0 : BitVec 32 := BitVec.ofNat 32 (i 0).val
  let c63_i32 : BitVec 32 := 63#32
  let v3 : BitVec 32 := Scalar.minsi arg0 c63_i32
  let c4_i32 : BitVec 32 := 4#32
  let c0_i32_1 : BitVec 32 := 0#32
  let v4 : BitVec 1 := Scalar.cmpi .eq c4_i32 c0_i32_1
  let c1_i32 : BitVec 32 := 1#32
  let v5 : BitVec 32 := Scalar.select v4 c1_i32 c4_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_5 : BitVec 32 := 0#32
  let v14 : BitVec 1 := Scalar.cmpi .eq v13 c0_i32_5
  let c64_i32 : BitVec 32 := 64#32
  let v15 : BitVec 1 := Scalar.cmpi .slt arg0 c64_i32
  let v16 : BitVec 1 := Scalar.andi v14 v15
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_4 (i : grid0.Coords) : Fin 4 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c63_i32_3 : BitVec 32 := 63#32
  let v11 : BitVec 32 := Scalar.minsi arg0 c63_i32_3
  let c4_i32_4 : BitVec 32 := 4#32
  let v12 : BitVec 32 := Scalar.divsi v11 c4_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v11 c4_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  let c0_i32_13 : BitVec 32 := 0#32
  ![v10.toNat, c0_i32_11.toNat, v28.toNat, c0_i32_12.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![v11.toNat, c0_i32_5.toNat, c0_i32_6.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.addi v11 c4_i32_5
  let c0_i32_6 : BitVec 32 := 0#32
  let c0_i32_7 : BitVec 32 := 0#32
  let c0_i32_8 : BitVec 32 := 0#32
  ![v12.toNat, c0_i32_6.toNat, c0_i32_7.toNat]

def cc0_transform_7 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![v10.toNat, c0_i32_3.toNat, c0_i32_4.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_9 (i : grid0.Coords) : Fin 4 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c63_i32_3 : BitVec 32 := 63#32
  let v11 : BitVec 32 := Scalar.minsi arg0 c63_i32_3
  let c4_i32_4 : BitVec 32 := 4#32
  let v12 : BitVec 32 := Scalar.divsi v11 c4_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v11 c4_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  let c0_i32_13 : BitVec 32 := 0#32
  ![v10.toNat, c0_i32_11.toNat, v28.toNat, c0_i32_12.toNat]

def cc0_transform_10 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c63_i32_3 : BitVec 32 := 63#32
  let v11 : BitVec 32 := Scalar.minsi arg0 c63_i32_3
  let c4_i32_4 : BitVec 32 := 4#32
  let v12 : BitVec 32 := Scalar.divsi v11 c4_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi v11 c4_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  ![v10.toNat, v28.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1024x2816 : Shape := ⟨2, ![1024, 2816]⟩
abbrev S8192x2x4x704 : Shape := ⟨4, ![8192, 2, 4, 704]⟩
abbrev S4x2x8192x704 : Shape := ⟨4, ![4, 2, 8192, 704]⟩
abbrev S8192x1x4x704 : Shape := ⟨4, ![8192, 1, 4, 704]⟩
abbrev S4x1x8192x704 : Shape := ⟨4, ![4, 1, 8192, 704]⟩
abbrev S4x8192x704 : Shape := ⟨3, ![4, 8192, 704]⟩

abbrev nBuf : Space → Nat
  | .hbm => 150
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S2816x1024, .f32⟩
  | 4 => ⟨S8192x1024, .f32⟩
  | 5 => ⟨S8192x1024, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S8192x5632, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S_, .f32⟩
  | 59 => ⟨S8192x5632, .f32⟩
  | 60 => ⟨S_, .f32⟩
  | 61 => ⟨S8192x5632, .f32⟩
  | 62 => ⟨S8192x5632, .f32⟩
  | 63 => ⟨S8192x1024, .f32⟩
  | 64 => ⟨S8192x1024, .f32⟩
  | 65 => ⟨S_, .f32⟩
  | 66 => ⟨S1024, .f32⟩
  | 67 => ⟨S1x1024, .f32⟩
  | 68 => ⟨S8192x1024, .f32⟩
  | 69 => ⟨S8192x1024, .f32⟩
  | 70 => ⟨S_, .f32⟩
  | 71 => ⟨S1024, .f32⟩
  | 72 => ⟨S8192x1024, .f32⟩
  | 73 => ⟨S_, .f32⟩
  | 74 => ⟨S8192, .f32⟩
  | 75 => ⟨S8192x1, .f32⟩
  | 76 => ⟨S8192x1024, .f32⟩
  | 77 => ⟨S8192x1024, .f32⟩
  | 78 => ⟨S8192x1024, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192x1, .f32⟩
  | 99 => ⟨S8192x1, .f32⟩
  | 100 => ⟨S8192x1, .f32⟩
  | 101 => ⟨S8192x1024, .f32⟩
  | 102 => ⟨S8192x1024, .f32⟩
  | 103 => ⟨S1x1024, .f32⟩
  | 104 => ⟨S8192x1024, .f32⟩
  | 105 => ⟨S8192x1024, .f32⟩
  | 106 => ⟨S8192x5632, .f32⟩
  | 107 => ⟨S8192x2816, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S_, .f32⟩
  | 117 => ⟨S8192x2816, .f32⟩
  | 118 => ⟨S8192x2816, .f32⟩
  | 119 => ⟨S8192x2816, .f32⟩
  | 120 => ⟨S8192x2816, .f32⟩
  | 121 => ⟨S8192x2816, .f32⟩
  | 122 => ⟨S8192x2816, .f32⟩
  | 123 => ⟨S_, .f32⟩
  | 124 => ⟨S8192x1024, .f32⟩
  | 125 => ⟨S8192x1024, .f32⟩
  | 126 => ⟨S1024x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S_, .f32⟩
  | 3 => ⟨S8192x5632, .f32⟩
  | 4 => ⟨S8192x2816, .f32⟩
  | 5 => ⟨S8192x2816, .f32⟩
  | 6 => ⟨S8192x2816, .f32⟩
  | 7 => ⟨S8192x2816, .f32⟩
  | 8 => ⟨S_, .f32⟩
  | 9 => ⟨S8192x5632, .f32⟩
  | 10 => ⟨S8192x5632, .f32⟩
  | 11 => ⟨S8192x5632, .bf16⟩
  | 12 => ⟨S8192x2x4x704, .bf16⟩
  | 13 => ⟨S4x2x8192x704, .bf16⟩
  | 14 => ⟨S8192x2816, .bf16⟩
  | 15 => ⟨S8192x1x4x704, .bf16⟩
  | 16 => ⟨S4x1x8192x704, .bf16⟩
  | 17 => ⟨S4x8192x704, .bf16⟩
  | 18 => ⟨S_, .f32⟩
  | 19 => ⟨S8192x1024, .f32⟩
  | 20 => ⟨S8192x1024, .f32⟩
  | 21 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_v72_2 : Ref sig .tc := ⟨.hbm, 115, rfl⟩
abbrev main_call2_cst_1 : Ref sig .tc := ⟨.hbm, 116, rfl⟩
abbrev main_call2_v6 : Ref sig .tc := ⟨.hbm, 117, rfl⟩
abbrev main_call2_v7 : Ref sig .tc := ⟨.hbm, 118, rfl⟩
abbrev main_v72_1 : Ref sig .tc := ⟨.hbm, 119, rfl⟩
abbrev main_v72_0 : Ref sig .tc := ⟨.hbm, 120, rfl⟩
abbrev main_v73 : Ref sig .tc := ⟨.hbm, 121, rfl⟩
abbrev main_v74 : Ref sig .tc := ⟨.hbm, 122, rfl⟩
abbrev main_cst_15 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_16 : Ref sig .tc := ⟨.hbm, 130, rfl⟩
abbrev main_v81 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v82 : Ref sig .tc := ⟨.hbm, 135, rfl⟩
abbrev main_cst_17 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_18 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩

abbrev nD : Nat := 1
abbrev τ : Topo := Topo.v7x

variable {F : FTy → Type} [FloatOps F]
-- ==== Kernel10.lean ====
abbrev S8192x1536 : Shape := ⟨2, ![8192, 1536]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S8192x512 : Shape := ⟨2, ![8192, 512]⟩
abbrev S1024x512 : Shape := ⟨2, ![1024, 512]⟩
abbrev S1x128 : Shape := ⟨2, ![1, 128]⟩
abbrev S128 : Shape := ⟨1, ![128]⟩
abbrev S128x1 : Shape := ⟨2, ![128, 1]⟩

abbrev nBuf : Space → Nat
  | .hbm => 27
  | .vmem => 9
  | .smem => 0
  | _ => 0

abbrev bufTy : (tb : Table) → Fin (tcTables nBuf tb) → BufTy
  | .hbm, ⟨0, _⟩ => ⟨S8192x1536, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S_, .f32⟩
  | .hbm, ⟨17, _⟩ => ⟨S_, .f32⟩
  | .hbm, ⟨18, _⟩ => ⟨S4x128x128, .i1⟩
  | .hbm, ⟨19, _⟩ => ⟨S4x128x128, .f32⟩
  | .hbm, ⟨20, _⟩ => ⟨S4x128x128, .f32⟩
  | .hbm, ⟨21, _⟩ => ⟨S4x128x128, .bf16⟩
  | .hbm, ⟨22, _⟩ => ⟨S128x4, .f32⟩
  | .hbm, ⟨23, _⟩ => ⟨S128x4x128, .f32⟩
  | .hbm, ⟨24, _⟩ => ⟨S128x512, .f32⟩
  | .hbm, ⟨25, _⟩ => ⟨S1x512, .f32⟩
  | .hbm, ⟨26, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S4x128x128, .bf16⟩
  | .local _ .vmem, ⟨6, _⟩ => ⟨S128x512, .f32⟩
  | .local _ .vmem, ⟨7, _⟩ => ⟨S1024x512, .f32⟩
  | .local _ .vmem, ⟨8, _⟩ => ⟨S1024x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel10Ideal.lean ====
variable {F : FTy → Type} [FloatOps F] [Named F]
def κ : String → Option EReal := fun
  | "c" => some ((8943 / 200000 : ℝ) : EReal)
  | _ => none
-- ==== Reference10Ideal.lean ====
abbrev S8192x1536 : Shape := ⟨2, ![8192, 1536]⟩
abbrev S512 : Shape := ⟨1, ![512]⟩
abbrev S4x128x128 : Shape := ⟨3, ![4, 128, 128]⟩
abbrev S4x128 : Shape := ⟨2, ![4, 128]⟩
abbrev S4x2048x1536 : Shape := ⟨3, ![4, 2048, 1536]⟩
abbrev S4x2048x512 : Shape := ⟨3, ![4, 2048, 512]⟩
abbrev S_ : Shape := ⟨0, ![]⟩
abbrev S4x16x128x4x128 : Shape := ⟨5, ![4, 16, 128, 4, 128]⟩
abbrev S4x16x128x4 : Shape := ⟨4, ![4, 16, 128, 4]⟩
abbrev S4x16x128x4x1 : Shape := ⟨5, ![4, 16, 128, 4, 1]⟩
abbrev S1x1x1x4x128 : Shape := ⟨5, ![1, 1, 1, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S8192x512 : Shape := ⟨2, ![8192, 512]⟩

abbrev nBuf : Space → Nat
  | .hbm => 88
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S4x2048x1536, .f32⟩
  | .hbm, ⟨5, _⟩ => ⟨S4x2048x512, .f32⟩
  | .hbm, ⟨6, _⟩ => ⟨S4x2048x512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S_, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S_, .f32⟩
  | .hbm, ⟨20, _⟩ => ⟨S4x2048x512, .f32⟩
  | .hbm, ⟨21, _⟩ => ⟨S4x2048x512, .f32⟩
  | .hbm, ⟨22, _⟩ => ⟨S_, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x2048x512, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S4x2048x512, .f32⟩
  | .hbm, ⟨34, _⟩ => ⟨S_, .f32⟩
  | .hbm, ⟨35, _⟩ => ⟨S4x2048x512, .f32⟩
  | .hbm, ⟨36, _⟩ => ⟨S4x2048x512, .f32⟩
  | .hbm, ⟨37, _⟩ => ⟨S4x2048x512, .f32⟩
  | .hbm, ⟨38, _⟩ => ⟨S_, .f32⟩
  | .hbm, ⟨39, _⟩ => ⟨S4x2048x512, .f32⟩
  | .hbm, ⟨40, _⟩ => ⟨S4x2048x512, .f32⟩
  | .hbm, ⟨41, _⟩ => ⟨S_, .f32⟩
  | .hbm, ⟨42, _⟩ => ⟨S4x2048x512, .f32⟩
  | .hbm, ⟨43, _⟩ => ⟨S4x2048x512, .f32⟩
  | .hbm, ⟨44, _⟩ => ⟨S4x2048x512, .f32⟩
  | .hbm, ⟨45, _⟩ => ⟨S4x16x128x4x128, .f32⟩
  | .hbm, ⟨46, _⟩ => ⟨S4x128, .f32⟩
  | .hbm, ⟨47, _⟩ => ⟨S4x16x128x4x128, .f32⟩
  | .hbm, ⟨48, _⟩ => ⟨S_, .f32⟩
  | .hbm, ⟨49, _⟩ => ⟨S4x16x128x4, .f32⟩
  | .hbm, ⟨50, _⟩ => ⟨S4x16x128x4x1, .f32⟩
  | .hbm, ⟨51, _⟩ => ⟨S_, .f32⟩
  | .hbm, ⟨52, _⟩ => ⟨S4x16x128x4x1, .f32⟩
  | .hbm, ⟨53, _⟩ => ⟨S4x16x128x4x1, .f32⟩
  | .hbm, ⟨54, _⟩ => ⟨S_, .f32⟩
  | .hbm, ⟨55, _⟩ => ⟨S4x16x128x4x1, .f32⟩
  | .hbm, ⟨56, _⟩ => ⟨S4x16x128x4x1, .f32⟩
  | .hbm, ⟨57, _⟩ => ⟨S4x16x128x4x1, .f32⟩
  | .hbm, ⟨58, _⟩ => ⟨S4x16x128x4x128, .f32⟩
  | .hbm, ⟨59, _⟩ => ⟨S4x16x128x4x128, .f32⟩
  | .hbm, ⟨60, _⟩ => ⟨S1x1x1x4x128, .f32⟩
  | .hbm, ⟨61, _⟩ => ⟨S4x16x128x4x128, .f32⟩
  | .hbm, ⟨62, _⟩ => ⟨S4x16x128x4x128, .f32⟩
  | .hbm, ⟨63, _⟩ => ⟨S_, .i1⟩
  | .hbm, ⟨64, _⟩ => ⟨S128x128, .i1⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S_, .i1⟩
  | .hbm, ⟨72, _⟩ => ⟨S128x128, .i1⟩
  | .hbm, ⟨73, _⟩ => ⟨S128x128, .i1⟩
  | .hbm, ⟨74, _⟩ => ⟨S1x128x128, .i1⟩
  | .hbm, ⟨75, _⟩ => ⟨S_, .f32⟩
  | .hbm, ⟨76, _⟩ => ⟨S4x128x128, .f32⟩
  | .hbm, ⟨77, _⟩ => ⟨S4x128x128, .i1⟩
  | .hbm, ⟨78, _⟩ => ⟨S4x128x128, .f32⟩
  | .hbm, ⟨79, _⟩ => ⟨S4x4x16x128x128, .f32⟩
  | .hbm, ⟨80, _⟩ => ⟨S4x16x128x4x128, .f32⟩
  | .hbm, ⟨81, _⟩ => ⟨S128x4, .f32⟩
  | .hbm, ⟨82, _⟩ => ⟨S1x1x128x4x1, .f32⟩
  | .hbm, ⟨83, _⟩ => ⟨S4x16x128x4x128, .f32⟩
  | .hbm, ⟨84, _⟩ => ⟨S4x16x128x4x128, .f32⟩
  | .hbm, ⟨85, _⟩ => ⟨S4x2048x512, .f32⟩
  | .hbm, ⟨86, _⟩ => ⟨S4x2048x512, .f32⟩
  | .hbm, ⟨87, _⟩ => ⟨S8192x512, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c : Ref sig .tc := ⟨.hbm, 63, rfl⟩
abbrev main_v46 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S1024x1024 : Shape := ⟨2, ![1024, 1024]⟩
abbrev S1024x1 : Shape := ⟨2, ![1024, 1]⟩
abbrev S128x8x1024 : Shape := ⟨3, ![128, 8, 1024]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x1024, .f32⟩
  | .local _ .vmem, ⟨8, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference11Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel12.lean ====
abbrev S3520x128 : Shape := ⟨2, ![3520, 128]⟩

abbrev nBuf : Space → Nat
  | .hbm => 7
  | .vmem => 7
  | .smem => 0
  | _ => 0

abbrev bufTy : (tb : Table) → Fin (tcTables nBuf tb) → BufTy
  | .hbm, ⟨0, _⟩ => ⟨S3520x128, .f32⟩
  | .hbm, ⟨1, _⟩ => ⟨S3520x128, .f32⟩
  | .hbm, ⟨2, _⟩ => ⟨S3520x128, .f32⟩
  | .hbm, ⟨3, _⟩ => ⟨S3520x128, .f32⟩
  | .hbm, ⟨4, _⟩ => ⟨S3520x128, .f32⟩
  | .hbm, ⟨5, _⟩ => ⟨S3520x128, .f32⟩
  | .hbm, ⟨6, _⟩ => ⟨S3520x128, .f32⟩
  | .local _ .vmem, ⟨0, _⟩ => ⟨S3520x128, .f32⟩
  | .local _ .vmem, ⟨1, _⟩ => ⟨S3520x128, .f32⟩
  | .local _ .vmem, ⟨2, _⟩ => ⟨S3520x128, .f32⟩
  | .local _ .vmem, ⟨3, _⟩ => ⟨S3520x128, .f32⟩
  | .local _ .vmem, ⟨4, _⟩ => ⟨S3520x128, .f32⟩
  | .local _ .vmem, ⟨5, _⟩ => ⟨S3520x128, .f32⟩
  | .local _ .vmem, ⟨6, _⟩ => ⟨S3520x128, .f32⟩
  | _, _ => ⟨S3520x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3520x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3520x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3520x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3520x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3520x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3520x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3520x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S3520x128 : Shape := ⟨2, ![3520, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3520x128, .f32⟩
  | .hbm, ⟨1, _⟩ => ⟨S3520x128, .f32⟩
  | .hbm, ⟨2, _⟩ => ⟨S3520x128, .f32⟩
  | .hbm, ⟨3, _⟩ => ⟨S3520x128, .f32⟩
  | .hbm, ⟨4, _⟩ => ⟨S_, .f32⟩
  | .hbm, ⟨5, _⟩ => ⟨S3520x128, .f32⟩
  | .hbm, ⟨6, _⟩ => ⟨S3520x128, .f32⟩
  | .hbm, ⟨7, _⟩ => ⟨S_, .f32⟩
  | .hbm, ⟨8, _⟩ => ⟨S3520x128, .f32⟩
  | .hbm, ⟨9, _⟩ => ⟨S3520x128, .f32⟩
  | .hbm, ⟨10, _⟩ => ⟨S3520x128, .f32⟩
  | .hbm, ⟨11, _⟩ => ⟨S_, .f32⟩
  | .hbm, ⟨12, _⟩ => ⟨S3520x128, .f32⟩
  | .hbm, ⟨13, _⟩ => ⟨S3520x128, .f32⟩
  | .hbm, ⟨14, _⟩ => ⟨S3520x128, .f32⟩
  | .hbm, ⟨15, _⟩ => ⟨S_, .f32⟩
  | .hbm, ⟨16, _⟩ => ⟨S3520x128, .f32⟩
  | .hbm, ⟨17, _⟩ => ⟨S3520x128, .f32⟩
  | .hbm, ⟨18, _⟩ => ⟨S3520x128, .f32⟩
  | .hbm, ⟨19, _⟩ => ⟨S_, .f32⟩
  | .hbm, ⟨20, _⟩ => ⟨S3520x128, .f32⟩
  | .hbm, ⟨21, _⟩ => ⟨S3520x128, .f32⟩
  | .hbm, ⟨22, _⟩ => ⟨S_, .f32⟩
  | .hbm, ⟨23, _⟩ => ⟨S3520x128, .f32⟩
  | .hbm, ⟨24, _⟩ => ⟨S3520x128, .f32⟩
  | .hbm, ⟨25, _⟩ => ⟨S3520x128, .f32⟩
  | .hbm, ⟨26, _⟩ => ⟨S_, .f32⟩
  | .hbm, ⟨27, _⟩ => ⟨S3520x128, .f32⟩
  | .hbm, ⟨28, _⟩ => ⟨S3520x128, .f32⟩
  | .hbm, ⟨29, _⟩ => ⟨S3520x128, .f32⟩
  | .hbm, ⟨30, _⟩ => ⟨S_, .f32⟩
  | .hbm, ⟨31, _⟩ => ⟨S3520x128, .f32⟩
  | .hbm, ⟨32, _⟩ => ⟨S3520x128, .f32⟩
  | .hbm, ⟨33, _⟩ => ⟨S3520x128, .f32⟩
  | .hbm, ⟨34, _⟩ => ⟨S_, .f32⟩
  | .hbm, ⟨35, _⟩ => ⟨S3520x128, .f32⟩
  | .hbm, ⟨36, _⟩ => ⟨S3520x128, .f32⟩
  | _, _ => ⟨S3520x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S8x704x1024 : Shape := ⟨3, ![8, 704, 1024]⟩
abbrev S2x704x1024 : Shape := ⟨3, ![2, 704, 1024]⟩
abbrev S8x352x1024 : Shape := ⟨3, ![8, 352, 1024]⟩
abbrev S1x352x1024 : Shape := ⟨3, ![1, 352, 1024]⟩
abbrev S352x1024 : Shape := ⟨2, ![352, 1024]⟩
abbrev S1x704x1024 : Shape := ⟨3, ![1, 704, 1024]⟩
abbrev S704x1024 : Shape := ⟨2, ![704, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S1x704x1024, .f32⟩
  | .hbm, ⟨9, _⟩ => ⟨S704x1024, .f32⟩
  | .hbm, ⟨10, _⟩ => ⟨S1x704x1024, .f32⟩
  | .hbm, ⟨11, _⟩ => ⟨S704x1024, .f32⟩
  | .hbm, ⟨12, _⟩ => ⟨S1x704x1024, .f32⟩
  | .hbm, ⟨13, _⟩ => ⟨S704x1024, .f32⟩
  | .hbm, ⟨14, _⟩ => ⟨S1x704x1024, .f32⟩
  | .hbm, ⟨15, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1x704x1024, .f32⟩
  | .hbm, ⟨8, _⟩ => ⟨S704x1024, .f32⟩
  | .hbm, ⟨9, _⟩ => ⟨S1x704x1024, .f32⟩
  | .hbm, ⟨10, _⟩ => ⟨S704x1024, .f32⟩
  | .hbm, ⟨11, _⟩ => ⟨S1x704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S_, .f32⟩
  | .hbm, ⟨44, _⟩ => ⟨S704x1024, .f32⟩
  | .hbm, ⟨45, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel14.lean ====
abbrev S8x704x1024 : Shape := ⟨3, ![8, 704, 1024]⟩
abbrev S2x704x1024 : Shape := ⟨3, ![2, 704, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 13
  | .vmem => 32
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S8x352x1024, .bf16⟩
  | .local _ .vmem, ⟨17, _⟩ => ⟨S8x352x1024, .bf16⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x352x1024, .f32⟩
  | .local _ .vmem, ⟨28, _⟩ => ⟨S1x352x1024, .f32⟩
  | .local _ .vmem, ⟨29, _⟩ => ⟨S1x352x1024, .f32⟩
  | .local _ .vmem, ⟨30, _⟩ => ⟨S1x352x1024, .f32⟩
  | .local _ .vmem, ⟨31, _⟩ => ⟨S1x352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x352x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference14Ideal.lean ====
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.FfnFwdRun.lean ====
module

public import proofs.«01_k».proof.Proof.Gen.Kernel4Ideal.Skeleton
public import proofs.«01_k».proof.Proof.Gen.Kernel4Ideal.Points
public import proofs.«01_k».proof.Proof.Gen.Kernel4Ideal.Launch
public import Idealize.ShloMosaic.Lib.Pipeline.FrameBody
public import Idealize.ShloMosaic.Lib.Ring
public import Idealize.ShloMosaic.Lib.Tactic
public import Idealize.ShloMosaic.Lib.WordCmp

/-! # The forward feed-forward body at one grid point

The grid of `ffn_fwd` runs the row tiles outside and the four column tiles of the hidden width inside. The
body has two cases. At a row tile's first column tile it normalises the tile into the second output and
copies the tile into the first. At every column tile it then reads the normalised tile back, adds its part
of the product to the first output and stores its two blocks of the third.

Each case is one run of the body on arbitrary staging buffers: what its stores leave in each output, as
the list of its stores, with the proof that the body reaches its end with just those. The text is that of
both printed programs, so the statements are for any reading `F` of the floats. -/

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is a row tile's first column tile. -/
abbrev atHead (i : grid0.Coords) : Prop := k0_cond1 i = 1#1

theorem atHead_iff : ∀ t : Fin cfg0.N, atHead (grid0.coords t) ↔ t.val % 4 = 0 :=
  (by decide +kernel : ∀ t : Fin grid0.N, atHead (grid0.coords t) ↔ t.val % 4 = 0)

section
variable (c : Dev nD) (i : grid0.Coords)
  (b2 : Memref sig .tc .vmem S1024x1024 .f32) (h2 : b2.IsWhole) (b3 : Memref sig .tc .vmem S1x1024 .f32) (h3 : b3.IsWhole)
  (b4 : Memref sig .tc .vmem S1x1024x704 .bf16) (h4 : b4.IsWhole) (b5 : Memref sig .tc .vmem S1x1024x704 .bf16) (h5 : b5.IsWhole)
  (b6 : Memref sig .tc .vmem S2x352x1024 .bf16) (h6 : b6.IsWhole) (b7 : Memref sig .tc .vmem S1024x1024 .f32) (h7 : b7.IsWhole)
  (b8 : Memref sig .tc .vmem S1024x1024 .bf16) (h8 : b8.IsWhole) (b9 : Memref sig .tc .vmem S1x2x1024x704 .bf16) (h9 : b9.IsWhole)
  (x : Vec F S1024x1024 .f32) (g : Vec F S1x1024 .f32) (wg wu : Vec F S1x1024x704 .bf16) (wo : Vec F S2x352x1024 .bf16)

/-- The five inputs' buffers at their contents. -/
abbrev held : sProp 𝕄 :=
  iprop(owns (c : Thread nD τ) b2 fullShare x ∗ owns (c : Thread nD τ) b3 fullShare g ∗ owns (c : Thread nD τ) b4 fullShare wg
    ∗ owns (c : Thread nD τ) b5 fullShare wu ∗ owns (c : Thread nD τ) b6 fullShare wo)

set_option maxHeartbeats 4000000 in
/-- A row tile's first column tile: all three outputs are stored whole, whatever they held. -/
def runFirst (hc : atHead i) :
    Σ' (L7 : List (View.Piece (Elt F) S1024x1024 .f32)) (L8 : List (View.Piece (Elt F) S1024x1024 .bf16)),
      { L9 : List (View.Piece (Elt F) S1x2x1024x704 .bf16) // ∀ (E : Set ℕ) (K : PUnit → sProp 𝕄),
        iprop(held c b2 b3 b4 b5 b6 x g wg wu wo ∗ (∃ d, owns (c : Thread nD τ) b7 fullShare d)
            ∗ (∃ d, owns (c : Thread nD τ) b8 fullShare d) ∗ (∃ d, owns (c : Thread nD τ) b9 fullShare d)
            ∗ (iprop(held c b2 b3 b4 b5 b6 x g wg wu wo
                ∗ (∃ f, b7.view.loc (c : Thread nD τ) ↦[b7.view.set]{fullShare} b7.view.writes (Elt F) f L7)
                ∗ (∃ f, b8.view.loc (c : Thread nD τ) ↦[b8.view.set]{fullShare} b8.view.writes (Elt F) f L8)
                ∗ (∃ f, b9.view.loc (c : Thread nD τ) ↦[b9.view.set]{fullShare} b9.view.writes (Elt F) f L9)) -∗ K ⟨⟩))
          ⊢ wp frame (wpE (defs₀ (F := F)) Variants.none c none) E
              (cc0_ffn_fwd i b2 h2 b3 h3 b4 h4 b5 h5 b6 h6 b7 h7 b8 h8 b9 h9) K } := by
  refine ⟨?_, ?_, ?_, fun E K => ?run⟩
  case run =>
    simp only [cc0_ffn_fwd_eq_skeleton, k0_part1_eq_skeleton, k0_part2_eq_skeleton]
    unfold cc0_ffn_fwd_skel
    simp only [k0_part1_eq_skeleton, k0_part2_eq_skeleton]
    unfold k0_part1_skel k0_part2_skel
    unfold held owns
    iintro ⟨⟨⟨%f2, %e2, H2⟩, ⟨%f3, %e3, H3⟩, ⟨%f4, %e4, H4⟩, ⟨%f5, %e5, H5⟩, ⟨%f6, %e6, H6⟩⟩, ⟨%d7, %f7, -, H7⟩, ⟨%d8, %f8, -, H8⟩, ⟨%d9, %f9, -, H9⟩, Hk⟩
    obtain rfl := h2.eq_unread e2; obtain rfl := h3.eq_unread e3; obtain rfl := h4.eq_unread e4
    obtain rfl := h5.eq_unread e5; obtain rfl := h6.eq_unread e6
    sl_exec (disch := sl_exact hc)
    sl_step
    iapply Hk
    isplitl [H2 H3 H4 H5 H6]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      iexists _; isplitr; · ipureintro; exact h6.read_unread _
      iexact H6
    isplitl [H7]; · iexists _; iexact H7
    isplitl [H8]; · iexists _; iexact H8
    iexists _; iexact H9

set_option maxHeartbeats 4000000 in
/-- A later column tile: the first output is added to, the second only read, the third stored whole. -/
def runLater (hc : ¬atHead i) (o : Vec F S1024x1024 .f32) (xn : Vec F S1024x1024 .bf16) :
    Σ' (L7 : List (View.Piece (Elt F) S1024x1024 .f32)),
      { L9 : List (View.Piece (Elt F) S1x2x1024x704 .bf16) // ∀ (E : Set ℕ) (K : PUnit → sProp 𝕄),
        iprop(held c b2 b3 b4 b5 b6 x g wg wu wo ∗ owns (c : Thread nD τ) b7 fullShare o
            ∗ owns (c : Thread nD τ) b8 fullShare xn ∗ (∃ d, owns (c : Thread nD τ) b9 fullShare d)
            ∗ (iprop(held c b2 b3 b4 b5 b6 x g wg wu wo
                ∗ (∃ f, b7.view.loc (c : Thread nD τ) ↦[b7.view.set]{fullShare} b7.view.writes (Elt F) f L7)
                ∗ owns (c : Thread nD τ) b8 fullShare xn
                ∗ (∃ f, b9.view.loc (c : Thread nD τ) ↦[b9.view.set]{fullShare} b9.view.writes (Elt F) f L9)) -∗ K ⟨⟩))
          ⊢ wp frame (wpE (defs₀ (F := F)) Variants.none c none) E
              (cc0_ffn_fwd i b2 h2 b3 h3 b4 h4 b5 h5 b6 h6 b7 h7 b8 h8 b9 h9) K } := by
  refine ⟨?_, ?_, fun E K => ?run⟩
  case run =>
    simp only [cc0_ffn_fwd_eq_skeleton]
    unfold cc0_ffn_fwd_skel
    simp only [k0_part1_eq_skeleton, k0_part2_eq_skeleton]
    unfold k0_part1_skel k0_part2_skel
    unfold held owns
    iintro ⟨⟨⟨%f2, %e2, H2⟩, ⟨%f3, %e3, H3⟩, ⟨%f4, %e4, H4⟩, ⟨%f5, %e5, H5⟩, ⟨%f6, %e6, H6⟩⟩, ⟨%f7, %e7, H7⟩, ⟨%f8, %e8, H8⟩, ⟨%d9, %f9, -, H9⟩, Hk⟩
    obtain rfl := h2.eq_unread e2; obtain rfl := h3.eq_unread e3; obtain rfl := h4.eq_unread e4
    obtain rfl := h5.eq_unread e5; obtain rfl := h6.eq_unread e6; obtain rfl := h7.eq_unread e7
    obtain rfl := h8.eq_unread e8
    sl_exec (disch := sl_exact hc)
    sl_step
    iapply Hk
    isplitl [H2 H3 H4 H5 H6]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      iexists _; isplitr; · ipureintro; exact h6.read_unread _
      iexact H6
    isplitl [H7]; · iexists _; iexact H7
    isplitl [H8]
    · iexists _; isplitr; · ipureintro; exact h8.read_unread _
      iexact H8
    iexists _; iexact H9

end

end Cert.Kernel4Ideal.Ffn

end
-- ==== Proof.FfnFwdFrame.lean ====
module

public import proofs.«01_k».proof.Proof.FfnFwdRun
public import Idealize.ShloMosaic.Lib.Pipeline.TableIdle

/-! # The forward feed-forward call runs and leaves its arguments alone

What the three outputs' buffers hold after each grid point, the body's triple at every point, and the
launch. The second output (the normalised rows) is stored at a row tile's first column tile only, kept
through the other three and written back after the last: its contents are carried through those points.
-/

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The arrays after the host's preparation. -/
abbrev V (c : Dev nD) (b : Ref sig .tc) : Buf (Elt F) ((c : Thread nD τ).loc b) :=
  StableHlo.after hostOps0 (fun b => m (c, b)) b

theorem fresh : (hostOps0 : List (HloOp τ sig (Elt F))).Forall fun op => op.fresh = ∅ := by
  simp only [List.Forall]; repeat' constructor

set_option maxHeartbeats 800000 in
theorem prep : Pipeline.HMain (Ix := Unit) (Name := ℕ) (U := UR sig nD τ) (Lvl := ℕ) cfgs 0 defs₀ Variants.none m
    (main (F := F)) (V m) :=
  Pipeline.hmain_prefix cfgs 0 defs₀ Variants.none m main hostOps0 hostOps0_sub fresh main_chain

/-- The preparation writes no buffer but its own six results. -/
theorem V_of {b : Ref sig .tc} (c : Dev nD) (h : ∀ r ∈ [main_v0, main_v1, main_v2, main_v3, main_v4, main_v5], b ≠ r) :
    V m c b = m ((c : Thread nD τ).loc b) :=
  StableHlo.after_of_forall_not_mem (b := Proc.devRef .tc b) _ _ (List.forall_iff_forall_mem.mp (by
    simp only [List.mem_cons, List.not_mem_nil, or_false, forall_eq_or_imp, forall_eq] at h
    simp only [hostOps0, List.Forall, StableHlo.unary_writes, StableHlo.reshape_writes, Finset.mem_singleton]
    obtain ⟨a, b, c, d, e, f⟩ := h
    exact ⟨StableHlo.devRef_ne_of_ne a, StableHlo.devRef_ne_of_ne b, StableHlo.devRef_ne_of_ne c,
      StableHlo.devRef_ne_of_ne d, StableHlo.devRef_ne_of_ne e, StableHlo.devRef_ne_of_ne f⟩))

/-- Window `w`'s block at point `t`, read off its array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The staging buffers at a point -/

abbrev s0 (t : Fin cfg0.N) : Memref sig .tc .vmem S1024x1024 .f32 := win0_0.stage (cfg0.slots t 0)
abbrev s1 (t : Fin cfg0.N) : Memref sig .tc .vmem S1x1024 .f32 := win0_1.stage (cfg0.slots t 1)
abbrev s2 (t : Fin cfg0.N) : Memref sig .tc .vmem S1x1024x704 .bf16 := win0_2.stage (cfg0.slots t 2)
abbrev s3 (t : Fin cfg0.N) : Memref sig .tc .vmem S1x1024x704 .bf16 := win0_3.stage (cfg0.slots t 3)
abbrev s4 (t : Fin cfg0.N) : Memref sig .tc .vmem S2x352x1024 .bf16 := win0_4.stage (cfg0.slots t 4)
abbrev s5 (t : Fin cfg0.N) : Memref sig .tc .vmem S1024x1024 .f32 := win0_5.stage (cfg0.slots t 5)
abbrev s6 (t : Fin cfg0.N) : Memref sig .tc .vmem S1024x1024 .bf16 := win0_6.stage (cfg0.slots t 6)
abbrev s7 (t : Fin cfg0.N) : Memref sig .tc .vmem S1x2x1024x704 .bf16 := win0_7.stage (cfg0.slots t 7)

/-- The body's run at a row tile's first column tile. -/
abbrev atFirst (c : Dev nD) (t : Fin cfg0.N) (h : t.val % 4 = 0) :=
  runFirst c (grid0.coords t) (s0 t) (hstage0_0 ((cfg0.slots t 0).cast nbuf0_0)) (s1 t) (hstage0_1 ((cfg0.slots t 1).cast nbuf0_1))
    (s2 t) (hstage0_2 ((cfg0.slots t 2).cast nbuf0_2)) (s3 t) (hstage0_3 ((cfg0.slots t 3).cast nbuf0_3))
    (s4 t) (hstage0_4 ((cfg0.slots t 4).cast nbuf0_4)) (s5 t) (hstage0_5 ((cfg0.slots t 5).cast nbuf0_5))
    (s6 t) (hstage0_6 ((cfg0.slots t 6).cast nbuf0_6)) (s7 t) (hstage0_7 ((cfg0.slots t 7).cast nbuf0_7))
    (iblk m c 0 t) (iblk m c 1 t) (iblk m c 2 t) (iblk m c 3 t) (iblk m c 4 t) ((atHead_iff t).mpr h)

/-- The body's run at a later column tile, over what the point before left in the first two outputs. -/
abbrev atLater (c : Dev nD) (t : Fin cfg0.N) (h : ¬t.val % 4 = 0) (o : Vec F S1024x1024 .f32) (xn : Vec F S1024x1024 .bf16) :=
  runLater c (grid0.coords t) (s0 t) (hstage0_0 ((cfg0.slots t 0).cast nbuf0_0)) (s1 t) (hstage0_1 ((cfg0.slots t 1).cast nbuf0_1))
    (s2 t) (hstage0_2 ((cfg0.slots t 2).cast nbuf0_2)) (s3 t) (hstage0_3 ((cfg0.slots t 3).cast nbuf0_3))
    (s4 t) (hstage0_4 ((cfg0.slots t 4).cast nbuf0_4)) (s5 t) (hstage0_5 ((cfg0.slots t 5).cast nbuf0_5))
    (s6 t) (hstage0_6 ((cfg0.slots t 6).cast nbuf0_6)) (s7 t) (hstage0_7 ((cfg0.slots t 7).cast nbuf0_7))
    (iblk m c 0 t) (iblk m c 1 t) (iblk m c 2 t) (iblk m c 3 t) (iblk m c 4 t) (fun h' => h ((atHead_iff t).mp h')) o xn

/-! ## What the outputs hold -/

abbrev Outs (F : FTy → Type) [FloatOps F] := Vec F S1024x1024 .f32 × Vec F S1024x1024 .bf16 × Vec F S1x2x1024x704 .bf16

/-- A list of stores read back. -/
abbrev readO (L : List (View.Piece (Elt F) S1024x1024 .f32)) : Vec F S1024x1024 .f32 :=
  (Memref.whole cc0_stg5_0 : Memref sig .tc .vmem S1024x1024 .f32).view.read (Elt F)
    ((Memref.whole cc0_stg5_0 : Memref sig .tc .vmem S1024x1024 .f32).view.writes (Elt F) (Memref.whole cc0_stg5_0 : Memref sig .tc .vmem S1024x1024 .f32).view.junk L)
abbrev readN (L : List (View.Piece (Elt F) S1024x1024 .bf16)) : Vec F S1024x1024 .bf16 :=
  (Memref.whole cc0_stg6_0 : Memref sig .tc .vmem S1024x1024 .bf16).view.read (Elt F)
    ((Memref.whole cc0_stg6_0 : Memref sig .tc .vmem S1024x1024 .bf16).view.writes (Elt F) (Memref.whole cc0_stg6_0 : Memref sig .tc .vmem S1024x1024 .bf16).view.junk L)
abbrev readG (L : List (View.Piece (Elt F) S1x2x1024x704 .bf16)) : Vec F S1x2x1024x704 .bf16 :=
  (Memref.whole cc0_stg7_0 : Memref sig .tc .vmem S1x2x1024x704 .bf16).view.read (Elt F)
    ((Memref.whole cc0_stg7_0 : Memref sig .tc .vmem S1x2x1024x704 .bf16).view.writes (Elt F) (Memref.whole cc0_stg7_0 : Memref sig .tc .vmem S1x2x1024x704 .bf16).view.junk L)

def firstOuts (c : Dev nD) (t : Fin cfg0.N) (h : t.val % 4 = 0) : Outs F :=
  (readO (atFirst m c t h).1, readN (atFirst m c t h).2.1, readG (atFirst m c t h).2.2.1)

def laterOuts (c : Dev nD) (t : Fin cfg0.N) (h : ¬t.val % 4 = 0) (p : Outs F) : Outs F :=
  (readO (atLater m c t h p.1 p.2.1).1, p.2.1, readG (atLater m c t h p.1 p.2.1).2.1)

/-- A later column tile keeps the second output. -/
theorem later_keeps (c : Dev nD) (t : Fin cfg0.N) (h : ¬t.val % 4 = 0) (p : Outs F) : (laterOuts m c t h p).2.1 = p.2.1 := by
  unfold laterOuts; dsimp only

/-- After the body at point `n`: the three outputs' buffers. -/
def outs (c : Dev nD) : (n : ℕ) → n < cfg0.N → Outs F
  | 0, hn => firstOuts m c ⟨0, hn⟩ (Nat.zero_mod _)
  | n + 1, hn =>
    if h : (n + 1) % 4 = 0 then firstOuts m c ⟨n + 1, hn⟩ h
    else laterOuts m c ⟨n + 1, hn⟩ h (outs c n (Nat.lt_of_succ_lt hn))

theorem outs_first (c : Dev nD) (t : Fin cfg0.N) (h : t.val % 4 = 0) : outs m c t.val t.isLt = firstOuts m c t h := by
  obtain ⟨n, hn⟩ := t
  cases n with
  | zero => rfl
  | succ n => exact dif_pos h

abbrev prev (c : Dev nD) (t : Fin cfg0.N) : Outs F := outs m c (t.val - 1) (Nat.lt_of_le_of_lt (Nat.sub_le _ _) t.isLt)

theorem outs_later (c : Dev nD) (t : Fin cfg0.N) (h : ¬t.val % 4 = 0) :
    outs m c t.val t.isLt = laterOuts m c t h (prev m c t) := by
  obtain ⟨n, hn⟩ := t
  cases n with
  | zero => exact absurd (Nat.zero_mod _) h
  | succ n => exact dif_neg h

/-! ## Every store list covers its block -/

theorem coverO (c : Dev nD) (t : Fin cfg0.N) (h : t.val % 4 = 0) (y) : ∃ p ∈ (atFirst m c t h).1, y ∈ p.1.set :=
  View.cover_of_tiledL _ S1024x1024.size (by sl_kernel_rfl) y
theorem coverN (c : Dev nD) (t : Fin cfg0.N) (h : t.val % 4 = 0) (y) : ∃ p ∈ (atFirst m c t h).2.1, y ∈ p.1.set :=
  View.cover_of_tiledL _ S1024x1024.size (by sl_kernel_rfl) y
theorem coverG (c : Dev nD) (t : Fin cfg0.N) (h : t.val % 4 = 0) (y) : ∃ p ∈ (atFirst m c t h).2.2.1, y ∈ p.1.set :=
  View.cover_of_tiledBy _ ![1, 1, 1024, 64] (by sl_kernel_rfl) y
theorem coverO' (c : Dev nD) (t : Fin cfg0.N) (h : ¬t.val % 4 = 0) (o xn) (y) : ∃ p ∈ (atLater m c t h o xn).1, y ∈ p.1.set :=
  View.cover_of_tiledL _ S1024x1024.size (by sl_kernel_rfl) y
theorem coverG' (c : Dev nD) (t : Fin cfg0.N) (h : ¬t.val % 4 = 0) (o xn) (y) : ∃ p ∈ (atLater m c t h o xn).2.1, y ∈ p.1.set :=
  View.cover_of_tiledBy _ ![1, 1, 1024, 64] (by sl_kernel_rfl) y

/-! ## The pipeline's data and the body's triple -/

/-- The arrays as the region finds them; after the body each input's buffer at its block, the outputs' at
    `outs`; the arrays several windows read are shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t.val t.isLt).1
    | ⟨6, _⟩ => (outs m c t.val t.isLt).2.1
    | ⟨7, _⟩ => (outs m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outs m c t.val t.isLt).1 := by dsimp only [dats]
theorem after6 (c : Dev nD) (t : Fin cfg0.N) : (dats m 0 c).after 6 t = (outs m c t.val t.isLt).2.1 := by dsimp only [dats]
theorem after7 (c : Dev nD) (t : Fin cfg0.N) : (dats m 0 c).after 7 t = (outs m c t.val t.isLt).2.2 := by dsimp only [dats]

theorem before0 (c : Dev nD) (t : Fin cfg0.N) (d) : (dats m 0 c).before 0 t d = iblk m c 0 t :=
  (dats m 0 c).before_in_eq_fetched 0 rfl (fun _ => rfl) (fun _ _ _ => rfl) (fun t => after0 m c t) t d
theorem before1 (c : Dev nD) (t : Fin cfg0.N) (d) : (dats m 0 c).before 1 t d = iblk m c 1 t :=
  (dats m 0 c).before_in_eq_fetched 1 rfl (fun _ => rfl) (fun _ _ _ => rfl) (fun t => after1 m c t) t d
theorem before2 (c : Dev nD) (t : Fin cfg0.N) (d) : (dats m 0 c).before 2 t d = iblk m c 2 t :=
  (dats m 0 c).before_in_eq_fetched 2 rfl (fun _ => rfl) (fun _ _ _ => rfl) (fun t => after2 m c t) t d
theorem before3 (c : Dev nD) (t : Fin cfg0.N) (d) : (dats m 0 c).before 3 t d = iblk m c 3 t :=
  (dats m 0 c).before_in_eq_fetched 3 rfl (fun _ => rfl) (fun _ _ _ => rfl) (fun t => after3 m c t) t d
theorem before4 (c : Dev nD) (t : Fin cfg0.N) (d) : (dats m 0 c).before 4 t d = iblk m c 4 t :=
  (dats m 0 c).before_in_eq_fetched 4 rfl (fun _ => rfl) (fun _ _ _ => rfl) (fun t => after4 m c t) t d

/-- The first output at a later column tile: what the point before left. -/
theorem before5 (c : Dev nD) (t : Fin cfg0.N) (h : ¬t.val % 4 = 0) (d) : (dats m 0 c).before 5 t d = (prev m c t).1 := by
  have hN : t.val < 32 := lt_of_lt_of_eq t.isLt N_0
  rw [Dat.before_out_kept _ 5 rfl t (by omega) (Bool.eq_false_iff.mpr fun h => by have := (flush0_5 _).mp h; dsimp only at this; omega)
    (fun _ => rfl) (fun _ _ => rfl)]
  dsimp only [dats]

/-- The second output's buffer holds nothing of the body's exactly at the first column tiles. -/
theorem fresh6 : ∀ t : Fin cfg0.N, cfg0.fresh 6 t.val = decide (t.val % 4 = 0) := by decide +kernel
theorem idle6 : ∀ t : Fin cfg0.N, cfg0.idle 6 (cfg0.grid.coords t) = !decide (t.val % 4 = 0) := by decide +kernel

/-- The second output at a later column tile: what the point before left. -/
theorem before6 (c : Dev nD) (t : Fin cfg0.N) (h : ¬t.val % 4 = 0) (d) : (dats m 0 c).before 6 t d = (prev m c t).2.1 := by
  rw [Dat.before_out_traj (dats m 0 c) 6 rfl (fun _ _ => rfl) (fun t hz hi hf => ?_) _ t rfl d,
    if_neg (by rw [fresh6]; simpa using h), after6]
  rw [fresh6] at hf
  rw [after6, after6, outs_later m c t (by simpa using hf), later_keeps]

def bodyPre (c : Dev nD) (t : Fin cfg0.N) : sProp 𝕄 :=
  iprop((dats m 0 c).Φ t.castSucc ∗ (dats m 0 c).owesAt () t.castSucc
    ∗ (∃ d, owns (c : Thread nD τ) (s0 t) fullShare ((dats m 0 c).before 0 t d))
    ∗ (∃ d, owns (c : Thread nD τ) (s1 t) fullShare ((dats m 0 c).before 1 t d))
    ∗ (∃ d, owns (c : Thread nD τ) (s2 t) fullShare ((dats m 0 c).before 2 t d))
    ∗ (∃ d, owns (c : Thread nD τ) (s3 t) fullShare ((dats m 0 c).before 3 t d))
    ∗ (∃ d, owns (c : Thread nD τ) (s4 t) fullShare ((dats m 0 c).before 4 t d))
    ∗ (∃ d, owns (c : Thread nD τ) (s5 t) fullShare ((dats m 0 c).before 5 t d))
    ∗ (∃ d, owns (c : Thread nD τ) (s6 t) fullShare ((dats m 0 c).before 6 t d))
    ∗ (∃ d, owns (c : Thread nD τ) (s7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-- A window that is never idle is left at its stated contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The second output at a later column tile, idle there: its buffer as the point before left it is what is
    asked for, written back after this point or not. -/
theorem leaves6 (c : Dev nD) (t : Fin cfg0.N) (h : ¬t.val % 4 = 0) :
    owns (c : Thread nD τ) (s6 t) fullShare (prev m c t).2.1 ⊢ ((dats m 0 c).leavesExact 6 t : sProp 𝕄) := by
  have hi : cfg0.idle 6 (cfg0.grid.coords t) = true := by rw [idle6]; simpa using h
  unfold Dat.leavesExact
  rw [hi]
  cases hf : (cfg0.win 6).flush t
  · dsimp only
    iintro H
    iexists (prev m c t).2.1
    rw [before6 m c t h]
    iexact H
  · dsimp only
    rw [after6, outs_later m c t h, later_keeps]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = (dats m 0 c).Φ t.castSucc from rfl,
    leaves_live m c 0 t rfl, leaves_live m c 1 t rfl, leaves_live m c 2 t rfl, leaves_live m c 3 t rfl, leaves_live m c 4 t rfl,
    leaves_live m c 5 t rfl, leaves_live m c 7 t rfl, after0, after1, after2, after3, after4, after5, after7]
  by_cases h : t.val % 4 = 0
  · rw [leaves_live m c 6 t (by rw [idle6]; simpa using h), after6, outs_first m c t h]
    unfold firstOuts; dsimp only
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atFirst m c t h).2.2.2 Set.univ _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    iintro ⟨⟨H0, H1, H2, H3, H4⟩, ⟨%f5, H5⟩, ⟨%f6, H6⟩, ⟨%f7, H7⟩⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverO m c t h)
    isplitl [H6]
    · unfold owns; iexists _; isplitr
      swap; · iexact H6
      ipureintro; exact View.read_writes_of_cover _ _ _ _ _ (coverN m c t h)
    unfold owns; iexists _; isplitr
    swap; · iexact H7
    ipureintro; exact View.read_writes_of_cover _ _ _ _ _ (coverG m c t h)
  · simp only [before5 m c t h, before6 m c t h]
    rw [outs_later m c t h]
    unfold laterOuts; dsimp only
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atLater m c t h (prev m c t).1 (prev m c t).2.1).2.2 Set.univ _)
    isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexact H6
    isplitl [H7]; · iexists _; iexact H7
    iintro ⟨⟨H0, H1, H2, H3, H4⟩, ⟨%f5, H5⟩, H6, ⟨%f7, H7⟩⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverO' m c t h _ _)
    isplitl [H6]
    · iapply (leaves6 m c t h); iexact H6
    unfold owns; iexists _; isplitr
    swap; · iexact H7
    ipureintro; exact View.read_writes_of_cover _ _ _ _ _ (coverG' m c t h _ _)

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option backward.isDefEq.respectTransparency.types false in
set_option maxHeartbeats 800000 in
/-- Every run ends with each window's array at what the data say, and the counters at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl) (V := V m)
    (hmain := prep m) (hA := A_eq m) (hΦ := fun _ _ => rfl)

/-- The arguments end as they were launched. -/
theorem args (c : Dev nD) {r} (h : Pipeline.FramePost cfgs (dats (F := F) m) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_of m c (by decide)))),
    ((h c).2 main_arg1 (Pipeline.mem_restRefs_of main_arg1 (by decide) (by decide))).trans (V_of m c (by decide)),
    ((h c).2 main_arg2 (Pipeline.mem_restRefs_of main_arg2 (by decide) (by decide))).trans (V_of m c (by decide)),
    ((h c).2 main_arg3 (Pipeline.mem_restRefs_of main_arg3 (by decide) (by decide))).trans (V_of m c (by decide))⟩

/-- The frame claim, for any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args m c h.1, h.2⟩) (run_main m ρ)

end Cert.Kernel4Ideal.Ffn

end
-- ==== Proof.FfnFwdKernel.lean ====
module

public import proofs.«01_k».proof.Defs
public import proofs.«01_k».proof.Proof.FfnFwdFrame
public import proofs.«01_k».proof.Proof.Gen.Kernel4

/-! # The same frame for the program as compiled

The program as compiled and the one read at the extended reals have one text: their bodies' table and their
`main` are the same terms, so the one frame serves both. -/

@[expose] public section

namespace Cert.Kernel4Ideal.Ffn

open Idealize.ShloMosaic Idealize.SL.Sem

/-- The two programs' tables of bodies agree, label by label. -/
theorem bodies : @Cert.Kernel4.defs₀ Bits _ Cert.Kernel4.Gen.facts = @Cert.Kernel4Ideal.defs₀ Bits _ Cert.Kernel4Ideal.Gen.facts :=
  congrArg Defs.onTc (funext fun l => funext fun a => match l, a with
    | 0, (_, _) => rfl
    | ⟨_ + 1, h⟩, _ => absurd h (Nat.not_lt.2 (Nat.le_add_left _ _)))

theorem tables : @Cert.Kernel4.defs Bits _ Cert.Kernel4.Gen.facts = @Cert.Kernel4Ideal.defs Bits _ Cert.Kernel4Ideal.Gen.facts :=
  congrArg (Pipeline.defs _) bodies

theorem frame_kernel : Cert.quiescent_Kernel4 (hKernel4 := Cert.Kernel4.Gen.facts) := fun m ρ _ => by
  rw [tables]
  exact frame (F := Bits) m ρ

end Cert.Kernel4Ideal.Ffn

end
-- ==== Proof.Whole.lean ====
/- Loads and stores of the whole of a buffer. -/
module

public import Idealize.ShloMosaic.Lib.Pipeline.ReadBack
public import Idealize.ShloMosaic.Lib.Pipeline.ValueKit
public import Idealize.ShloMosaic.Lib.Pipeline.ValueKit.Acc

@[expose] public section

namespace Cert.Whole

open Idealize.ShloMosaic Idealize.SL.Sem

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

variable {sig : RefSig} {sp : Space} {s : Shape} {e : EltTy} {κ : Kind}

/-- A buffer that holds `x`, loaded whole. -/
theorem load {M : Memref sig κ sp s e} (h : M.IsWhole) {off : Fin s.rank → ℕ} (h0 : off = fun _ => 0)
    (inb : ∀ a, off a + s.size a ≤ s.size a) (x : Vec Ideal s e) :
    View.readAt (Elt Ideal) M.view (Rect.unit off s.size inb).toLoadRect (h.unread x) = x := by
  rw [View.readAt_eq_ld, h.read_unread, View.ld_unit_zero h0]

/-- A buffer just stored whole, loaded whole. -/
theorem reload {v : View sig κ sp s e} {off : Fin s.rank → ℕ} (inb : ∀ a, off a + s.size a ≤ s.size a) (w : Vec Ideal s e)
    (L : List (View.Piece (Elt Ideal) s e)) :
    v.readCov (⟨Rect.unit off s.size inb, w⟩ :: L) (Rect.unit off s.size inb).toLoadRect = w :=
  View.readCov_cons_toLoadRect v (Rect.unit off s.size inb) w L

/-- What stores left whose last one is of the whole buffer. -/
theorem stored {off : Fin s.rank → ℕ} (h0 : off = fun _ => 0) (inb : ∀ a, off a + s.size a ≤ s.size a) (w : Vec Ideal s e)
    (L : List (View.Piece (Elt Ideal) s e)) :
    View.canon ((⟨Rect.unit off s.size inb, w⟩ : View.Piece (Elt Ideal) s e) :: L) = w :=
  View.canon_cons_unit_zero h0 inb w L

end Cert.Whole

end
-- ==== Proof.FfnFwdBody.lean ====
/- What the forward feed-forward body leaves in its outputs at one grid point, index by index: the first output's tile with
   the tile's part of the product added, the normalised tile, and the two hidden products. -/
module

public import proofs.«01_k».proof.Proof.FfnFwdFrame
public import proofs.«01_k».proof.Proof.Whole
public import Idealize.ShloMosaic.Lib.Pointwise
public import Idealize.ShloMosaic.Lib.ValueIdx
public import Idealize.ShloMosaic.Lib.Pipeline.ReadBack
public import Idealize.ShloMosaic.Lib.Pipeline.ValueKit

@[expose] public section

set_option maxRecDepth 16384

noncomputable section

namespace Cert.Kernel4Ideal.Ffn

open Idealize.ShloMosaic Idealize.ShloMosaic.TcCoe Idealize.SL.Sem
open Cert.Kernel4Ideal Cert.Kernel4Ideal.Gen

/-! ## The vector operations index by index -/

/-- The hidden width's columns of one tile, taken from a weight block: the piece of 256 from `o`, and the last 192. -/
def cut (w : Vec Ideal S1x1024x704 .bf16) (o : ℕ) (h : o + 256 ≤ 704) : Vec Ideal S1x1024x256 .bf16 := fun i =>
  w (ix3 0 (i 1) ⟨o + (i 2).val, by have : (i 2).val < 256 := (i 2).isLt; omega⟩)
def cutLast (w : Vec Ideal S1x1024x704 .bf16) : Vec Ideal S1x1024x192 .bf16 := fun i =>
  w (ix3 0 (i 1) ⟨512 + (i 2).val, by have : (i 2).val < 192 := (i 2).isLt; omega⟩)

/-- One entry of the product of the normalised tile with a weight block. -/
def hid (xn : Vec Ideal S1024x1024 .bf16) (w : Vec Ideal S1x1024x704 .bf16) (p : Fin 1024) (f : Fin 704) : EReal :=
  ∑ k : Fin 1024, xn (ix2 p k) * w (ix3 0 k f)

/-- The gated activation of two hidden entries. -/
def gated (a b : EReal) : EReal := a * Ideal.logistic a * b

/-- One term of the second product. -/
def term (xn : Vec Ideal S1024x1024 .bf16) (wg wu : Vec Ideal S1x1024x704 .bf16) (wo : Vec Ideal S2x352x1024 .bf16)
    (p q : Fin 1024) (f : Fin 704) : EReal :=
  gated (hid xn wg p f) (hid xn wu p f) * wo (ix3 ⟨f.val / 352, by omega⟩ ⟨f.val % 352, Nat.mod_lt _ (by decide)⟩ q)

/-- The body's update of the first output. -/
def step (o : Vec Ideal S1024x1024 .f32) (xn : Vec Ideal S1024x1024 .bf16) (wg wu : Vec Ideal S1x1024x704 .bf16)
    (wo : Vec Ideal S2x352x1024 .bf16) : Vec Ideal S1024x1024 .f32 :=
  k0_pay2 (k0_pay5 wo)
    (k0_pay15 (k0_pay4 xn) (k0_pay5 wo) (k0_pay10 xn wo (cut wg 0 (by decide)) (cut wu 0 (by decide)))
      (cut wg 256 (by decide)) (cut wu 256 (by decide)))
    (k0_pay16 (k0_pay4 xn) (cutLast wg)) (k0_pay17 (k0_pay4 xn) (cutLast wu)) o

theorem step_of {o o' : Vec Ideal S1024x1024 .f32} {xn xn' : Vec Ideal S1024x1024 .bf16} (wg wu : Vec Ideal S1x1024x704 .bf16)
    {wo wo' : Vec Ideal S2x352x1024 .bf16} (h5 : wo' = wo) (h4 : xn' = xn) (h0 : o' = o) :
    k0_pay2 (k0_pay5 wo')
      (k0_pay15 (k0_pay4 xn') (k0_pay5 wo') (k0_pay10 xn' wo' (cut wg 0 (by decide)) (cut wu 0 (by decide)))
        (cut wg 256 (by decide)) (cut wu 256 (by decide)))
      (k0_pay16 (k0_pay4 xn') (cutLast wg)) (k0_pay17 (k0_pay4 xn') (cutLast wu)) o' = step o xn wg wu wo := by
  subst h5 h4 h0; rfl

theorem pay4 (xn : Vec Ideal S1024x1024 .bf16) : k0_pay4 xn = xn := by
  funext i
  obtain ⟨p, q, rfl⟩ : ∃ (p q : Fin 1024), i = ix2 p q := ⟨i 0, i 1, eq_ix2 i⟩
  pointwise [k0_pay4]

theorem pay5 (wo : Vec Ideal S2x352x1024 .bf16) (f : Fin 704) (q : Fin 1024) :
    k0_pay5 wo (ix2 f q) = wo (ix3 ⟨f.val / 352, by omega⟩ ⟨f.val % 352, Nat.mod_lt _ (by decide)⟩ q) := by
  pointwise [k0_pay5]

theorem pay6 (xn : Vec Ideal S1024x1024 .bf16) (w : Vec Ideal S1x1024x256 .bf16) (p : Fin 1024) (f : Fin 256) :
    k0_pay6 xn w (ix2 p f) = ∑ k : Fin 1024, xn (ix2 p k) * w (ix3 0 k f) := by
  pointwise [k0_pay6, k0_pay4]
theorem pay7 (xn : Vec Ideal S1024x1024 .bf16) (w : Vec Ideal S1x1024x256 .bf16) : k0_pay7 xn w = k0_pay6 xn w := rfl
theorem pay11 (xn : Vec Ideal S1024x1024 .bf16) (w : Vec Ideal S1x1024x256 .bf16) : k0_pay11 (k0_pay4 xn) w = k0_pay6 xn w := rfl
theorem pay12 (xn : Vec Ideal S1024x1024 .bf16) (w : Vec Ideal S1x1024x256 .bf16) : k0_pay12 (k0_pay4 xn) w = k0_pay6 xn w := rfl
theorem pay16 (xn : Vec Ideal S1024x1024 .bf16) (w : Vec Ideal S1x1024x192 .bf16) (p : Fin 1024) (f : Fin 192) :
    k0_pay16 (k0_pay4 xn) w (ix2 p f) = ∑ k : Fin 1024, xn (ix2 p k) * w (ix3 0 k f) := by
  pointwise [k0_pay16, k0_pay4]
theorem pay17 (xn : Vec Ideal S1024x1024 .bf16) (w : Vec Ideal S1x1024x192 .bf16) :
    k0_pay17 (k0_pay4 xn) w = k0_pay16 (k0_pay4 xn) w := rfl

theorem cut_hid (xn : Vec Ideal S1024x1024 .bf16) (w : Vec Ideal S1x1024x704 .bf16) (o : ℕ) (h : o + 256 ≤ 704) (p : Fin 1024)
    (f : Fin 256) : k0_pay6 xn (cut w o h) (ix2 p f) = hid xn w p ⟨o + f.val, by omega⟩ := by
  rw [pay6]; rfl
theorem cutLast_hid (xn : Vec Ideal S1024x1024 .bf16) (w : Vec Ideal S1x1024x704 .bf16) (p : Fin 1024)
    (f : Fin 192) : k0_pay16 (k0_pay4 xn) (cutLast w) (ix2 p f) = hid xn w p ⟨512 + f.val, by omega⟩ := by
  rw [pay16]; rfl

/-- The half. -/
abbrev half : EReal := Ideal.ofBits .f32 0x3F000000#32

theorem sum704 (f : Fin 704 → EReal) : ∑ k, f k
    = ((∑ k : Fin 256, f ⟨k.val, by omega⟩) + ∑ k : Fin 256, f ⟨256 + k.val, by omega⟩) + ∑ k : Fin 192, f ⟨512 + k.val, by omega⟩ := by
  rw [Fin.sum_univ_add (a := 512) (b := 192) f, Fin.sum_univ_add (a := 256) (b := 256)]
  rfl

theorem step_apply (o : Vec Ideal S1024x1024 .f32) (xn : Vec Ideal S1024x1024 .bf16) (wg wu : Vec Ideal S1x1024x704 .bf16)
    (wo : Vec Ideal S2x352x1024 .bf16) (p q : Fin 1024) :
    step o xn wg wu wo (ix2 p q) = o (ix2 p q) + half * ∑ f : Fin 704, term xn wg wu wo p q f := by
  have e1 : k0_pay10 xn wo (cut wg 0 (by decide)) (cut wu 0 (by decide)) (ix2 p q)
      = ∑ f : Fin 256, term xn wg wu wo p q ⟨f.val, by omega⟩ := by
    pointwise [k0_pay10]
    refine Finset.sum_congr rfl fun f _ => ?_
    rw [pay7, cut_hid, cut_hid, pay5]
    simp only [Nat.zero_add]
    rfl
  have e2 : k0_pay15 (k0_pay4 xn) (k0_pay5 wo) (k0_pay10 xn wo (cut wg 0 (by decide)) (cut wu 0 (by decide)))
      (cut wg 256 (by decide)) (cut wu 256 (by decide)) (ix2 p q)
      = (∑ f : Fin 256, term xn wg wu wo p q ⟨f.val, by omega⟩) + ∑ f : Fin 256, term xn wg wu wo p q ⟨256 + f.val, by omega⟩ := by
    rw [← e1]
    pointwise [k0_pay15]
    refine congrArg (_ + ·) (Finset.sum_congr rfl fun f _ => ?_)
    rw [pay11, pay12, cut_hid, cut_hid, pay5]
    rfl
  have e3 : k0_pay2 (k0_pay5 wo)
      (k0_pay15 (k0_pay4 xn) (k0_pay5 wo) (k0_pay10 xn wo (cut wg 0 (by decide)) (cut wu 0 (by decide)))
        (cut wg 256 (by decide)) (cut wu 256 (by decide)))
      (k0_pay16 (k0_pay4 xn) (cutLast wg)) (k0_pay17 (k0_pay4 xn) (cutLast wu)) o (ix2 p q)
      = o (ix2 p q) + half * (((∑ f : Fin 256, term xn wg wu wo p q ⟨f.val, by omega⟩)
          + ∑ f : Fin 256, term xn wg wu wo p q ⟨256 + f.val, by omega⟩) + ∑ f : Fin 192, term xn wg wu wo p q ⟨512 + f.val, by omega⟩) := by
    rw [← e2]
    pointwise [k0_pay2]
    refine congrArg (o (ix2 p q) + half * ·) (congrArg (_ + ·) (Finset.sum_congr rfl fun f _ => ?_))
    rw [pay17, cutLast_hid, cutLast_hid, pay5]
    rfl
  rw [sum704]
  exact e3

/-- The normalised tile, entry by entry. -/
def rms (x : Vec Ideal S1024x1024 .f32) (g : Vec Ideal S1x1024 .f32) (p q : Fin 1024) : EReal :=
  x (ix2 p q) * Ideal.rsqrt (Ideal.div (∑ k : Fin 1024, x (ix2 p k) * x (ix2 p k)) (Ideal.ofBits .f32 0x44800000#32)
    + Ideal.ofBits .f32 0x358637BD#32) * g (ix2 0 q)

theorem pay3_apply (x : Vec Ideal S1024x1024 .f32) (g : Vec Ideal S1x1024 .f32) (p q : Fin 1024) :
    k0_pay3 x g (ix2 p q) = rms x g p q := by
  pointwise [k0_pay3]
  rfl

/-! ## The two cases of the body -/

/-- The pair of hidden products of one tile. -/
def hidden (xn : Vec Ideal S1024x1024 .bf16) (wg wu : Vec Ideal S1x1024x704 .bf16) : Vec Ideal S1x2x1024x704 .bf16 := fun i =>
  hid xn (if (i 1).val = 0 then wg else wu) (i 2) (i 3)

theorem ld_cut (w : Vec Ideal S1x1024x704 .bf16) {b : Memref sig .tc .vmem S1x1024x704 .bf16} (h : b.IsWhole) (o : ℕ)
    (ho : o + 256 ≤ 704) (inb : ∀ a, (![0, 0, o] : Fin 3 → ℕ) a + (![1, 1024, 256] : Fin 3 → ℕ) a ≤ S1x1024x704.size a) :
    View.readAt (Elt Ideal) b.view (Rect.unit (s := S1x1024x704) ![0, 0, o] ![1, 1024, 256] inb).toLoadRect (h.unread w)
      = cut w o ho := by
  rw [View.readAt_eq_ld, h.read_unread]
  funext i
  refine View.ld_unit_apply_of _ _ _ _ _ _ fun a => ?_
  have h0 : (i 0).val < 1 := (i 0).isLt
  fin_cases a <;> simp [ix3] <;> omega

theorem ld_cutLast (w : Vec Ideal S1x1024x704 .bf16) {b : Memref sig .tc .vmem S1x1024x704 .bf16} (h : b.IsWhole)
    (inb : ∀ a, (![0, 0, 512] : Fin 3 → ℕ) a + (![1, 1024, 192] : Fin 3 → ℕ) a ≤ S1x1024x704.size a) :
    View.readAt (Elt Ideal) b.view (Rect.unit (s := S1x1024x704) ![0, 0, 512] ![1, 1024, 192] inb).toLoadRect (h.unread w)
      = cutLast w := by
  rw [View.readAt_eq_ld, h.read_unread]
  funext i
  refine View.ld_unit_apply_of _ _ _ _ _ _ fun a => ?_
  have h0 : (i 0).val < 1 := (i 0).isLt
  fin_cases a <;> simp [ix3] <;> omega

/-- The pair of products inside one of the six stored rectangles. -/
theorem hidden_emb (xn : Vec Ideal S1024x1024 .bf16) (wg wu : Vec Ideal S1x1024x704 .bf16) (b o n : ℕ) (ho : o + n ≤ 704)
    (inb : ∀ a, (![0, b, 0, o] : Fin 4 → ℕ) a + (![1, 1, 1024, n] : Fin 4 → ℕ) a ≤ S1x2x1024x704.size a)
    (y : (⟨4, ![1, 1, 1024, n]⟩ : Shape).Idx) :
    hidden xn wg wu ((Rect.unit (s := S1x2x1024x704) ![0, b, 0, o] ![1, 1, 1024, n] inb).emb y)
      = hid xn (if b = 0 then wg else wu) (y 2) ⟨o + (y 3).val, by have : (y 3).val < n := (y 3).isLt; omega⟩ := by
  have e (a) := ValueKit.rect_emb_unit_val (s := S1x2x1024x704) ![0, b, 0, o] ![1, 1, 1024, n] inb y a
  have e1 : (((Rect.unit (s := S1x2x1024x704) ![0, b, 0, o] ![1, 1, 1024, n] inb).emb y) 1).val = b := by
    have h1 : (y 1).val < 1 := (y 1).isLt
    refine (e 1).trans ?_
    show b + (y 1).val = b
    omega
  unfold hidden
  rw [e1]
  exact congrArg₂ (hid xn _) (Fin.ext ((e 2).trans (Nat.zero_add _))) (Fin.ext (e 3))

theorem pay8_apply (xn : Vec Ideal S1024x1024 .bf16) (w : Vec Ideal S1x1024x256 .bf16) (a b : Fin 1) (p : Fin 1024) (f : Fin 256) :
    k0_pay8 xn w (ix4 a b p f) = k0_pay6 xn w (ix2 p f) := by pointwise [k0_pay8]
theorem pay18_apply (xn : Vec Ideal S1024x1024 .bf16) (w : Vec Ideal S1x1024x192 .bf16) (a b : Fin 1) (p : Fin 1024) (f : Fin 192) :
    k0_pay18 (k0_pay4 xn) w (ix4 a b p f) = k0_pay16 (k0_pay4 xn) w (ix2 p f) := by pointwise [k0_pay18]

theorem store_cut (xn : Vec Ideal S1024x1024 .bf16) (w : Vec Ideal S1x1024x704 .bf16) (o : ℕ) (ho : o + 256 ≤ 704)
    (y : S1x1x1024x256.Idx) : k0_pay8 xn (cut w o ho) y
      = hid xn w (y 2) ⟨o + (y 3).val, by have : (y 3).val < 256 := (y 3).isLt; omega⟩ := by
  obtain ⟨a, b, p, f, rfl⟩ : ∃ (a b : Fin 1) (p : Fin 1024) (f : Fin 256), y = ix4 a b p f := ⟨y 0, y 1, y 2, y 3, eq_ix4 y⟩
  rw [pay8_apply, cut_hid]; rfl
theorem store_cutLast (xn : Vec Ideal S1024x1024 .bf16) (w : Vec Ideal S1x1024x704 .bf16)
    (y : S1x1x1024x192.Idx) : k0_pay18 (k0_pay4 xn) (cutLast w) y
      = hid xn w (y 2) ⟨512 + (y 3).val, by have : (y 3).val < 192 := (y 3).isLt; omega⟩ := by
  obtain ⟨a, b, p, f, rfl⟩ : ∃ (a b : Fin 1) (p : Fin 1024) (f : Fin 192), y = ix4 a b p f := ⟨y 0, y 1, y 2, y 3, eq_ix4 y⟩
  rw [pay18_apply, cutLast_hid]; rfl

/-- The six stores of hidden products are the pair of products. -/
theorem gu_canon (xn : Vec Ideal S1024x1024 .bf16) (wg wu : Vec Ideal S1x1024x704 .bf16)
    {L : List (View.Piece (Elt Ideal) S1x2x1024x704 .bf16)} (hc : ∀ y, ∃ p ∈ L, y ∈ p.1.set)
    (e : L = [⟨Rect.unit ![0, 1, 0, 512] ![1, 1, 1024, 192] inb_S1x2x1024x704_S1x1x1024x192_0_1_0_512, k0_pay1 (k0_pay17 (k0_pay4 xn) (cutLast wu))⟩,
      ⟨Rect.unit ![0, 0, 0, 512] ![1, 1, 1024, 192] inb_S1x2x1024x704_S1x1x1024x192_0_0_0_512, k0_pay18 (k0_pay4 xn) (cutLast wg)⟩,
      ⟨Rect.unit ![0, 1, 0, 256] ![1, 1, 1024, 256] inb_S1x2x1024x704_S1x1x1024x256_0_1_0_256, k0_pay14 (k0_pay4 xn) (cut wu 256 (by decide))⟩,
      ⟨Rect.unit ![0, 0, 0, 256] ![1, 1, 1024, 256] inb_S1x2x1024x704_S1x1x1024x256_0_0_0_256, k0_pay13 (k0_pay4 xn) (cut wg 256 (by decide))⟩,
      ⟨Rect.unit ![0, 1, 0, 0] ![1, 1, 1024, 256] inb_S1x2x1024x704_S1x1x1024x256_0_1_0_0, k0_pay9 xn (cut wu 0 (by decide))⟩,
      ⟨Rect.unit ![0, 0, 0, 0] ![1, 1, 1024, 256] inb_S1x2x1024x704_S1x1x1024x256_0_0_0_0, k0_pay8 xn (cut wg 0 (by decide))⟩]) :
    View.canon L = hidden xn wg wu := by
  funext y
  refine View.canon_apply_of_pieces (hidden xn wg wu) L ?_ y (hc y)
  subst e
  simp only [List.forall_mem_cons, List.not_mem_nil, false_imp_iff, implies_true, and_true]
  exact ⟨fun y => (store_cutLast xn wu y).trans (hidden_emb xn wg wu 1 512 192 (by decide) _ y).symm,
    fun y => (store_cutLast xn wg y).trans (hidden_emb xn wg wu 0 512 192 (by decide) _ y).symm,
    fun y => (store_cut xn wu 256 (by decide) y).trans (hidden_emb xn wg wu 1 256 256 (by decide) _ y).symm,
    fun y => (store_cut xn wg 256 (by decide) y).trans (hidden_emb xn wg wu 0 256 256 (by decide) _ y).symm,
    fun y => (store_cut xn wu 0 (by decide) y).trans (hidden_emb xn wg wu 1 0 256 (by decide) _ y).symm,
    fun y => (store_cut xn wg 0 (by decide) y).trans (hidden_emb xn wg wu 0 0 256 (by decide) _ y).symm⟩

section
variable (c : Dev nD) (i : grid0.Coords)
  (b2 : Memref sig .tc .vmem S1024x1024 .f32) (h2 : b2.IsWhole) (b3 : Memref sig .tc .vmem S1x1024 .f32) (h3 : b3.IsWhole)
  (b4 : Memref sig .tc .vmem S1x1024x704 .bf16) (h4 : b4.IsWhole) (b5 : Memref sig .tc .vmem S1x1024x704 .bf16) (h5 : b5.IsWhole)
  (b6 : Memref sig .tc .vmem S2x352x1024 .bf16) (h6 : b6.IsWhole) (b7 : Memref sig .tc .vmem S1024x1024 .f32) (h7 : b7.IsWhole)
  (b8 : Memref sig .tc .vmem S1024x1024 .bf16) (h8 : b8.IsWhole) (b9 : Memref sig .tc .vmem S1x2x1024x704 .bf16) (h9 : b9.IsWhole)
  (x : Vec Ideal S1024x1024 .f32) (g : Vec Ideal S1x1024 .f32) (wg wu : Vec Ideal S1x1024x704 .bf16) (wo : Vec Ideal S2x352x1024 .bf16)

theorem later_o (hc : ¬atHead i) (o : Vec Ideal S1024x1024 .f32) (xn : Vec Ideal S1024x1024 .bf16) :
    View.canon (runLater c i b2 h2 b3 h3 b4 h4 b5 h5 b6 h6 b7 h7 b8 h8 b9 h9 x g wg wu wo hc o xn).1 = step o xn wg wu wo := by
  unfold runLater; dsimp only; sl_unfold_words
  refine (Whole.stored Whole.zero2 _ _ _).trans ?_
  rw [ld_cut wg h4 0 (by decide), ld_cut wu h5 0 (by decide), ld_cut wg h4 256 (by decide), ld_cut wu h5 256 (by decide),
    ld_cutLast wg h4, ld_cutLast wu h5]
  exact step_of wg wu (Whole.load h6 Whole.zero3 _ _) (Whole.load h8 Whole.zero2 _ _) (Whole.load h7 Whole.zero2 _ _)

theorem later_gu (hc : ¬atHead i) (o : Vec Ideal S1024x1024 .f32) (xn : Vec Ideal S1024x1024 .bf16)
    (hcov : ∀ y, ∃ p ∈ (runLater c i b2 h2 b3 h3 b4 h4 b5 h5 b6 h6 b7 h7 b8 h8 b9 h9 x g wg wu wo hc o xn).2.1, y ∈ p.1.set) :
    View.canon (runLater c i b2 h2 b3 h3 b4 h4 b5 h5 b6 h6 b7 h7 b8 h8 b9 h9 x g wg wu wo hc o xn).2.1 = hidden xn wg wu := by
  refine gu_canon xn wg wu hcov ?_
  unfold runLater; dsimp only; sl_unfold_words
  rw [ld_cut wg h4 0 (by decide), ld_cut wu h5 0 (by decide), ld_cut wg h4 256 (by decide), ld_cut wu h5 256 (by decide),
    ld_cutLast wg h4, ld_cutLast wu h5]
  erw [Whole.load h8 Whole.zero2]

theorem first_n (hc : atHead i) :
    View.canon (runFirst c i b2 h2 b3 h3 b4 h4 b5 h5 b6 h6 b7 h7 b8 h8 b9 h9 x g wg wu wo hc).2.1 = k0_pay3 x g := by
  unfold runFirst; dsimp only; sl_unfold_words
  refine (Whole.stored Whole.zero2 _ _ _).trans ?_
  exact congrArg₂ k0_pay3 (Whole.load h2 Whole.zero2 _ _) (Whole.load h3 Whole.zero2 _ _)

theorem first_o (hc : atHead i) :
    View.canon (runFirst c i b2 h2 b3 h3 b4 h4 b5 h5 b6 h6 b7 h7 b8 h8 b9 h9 x g wg wu wo hc).1 = step x (k0_pay3 x g) wg wu wo := by
  unfold runFirst; dsimp only; sl_unfold_words
  refine (Whole.stored Whole.zero2 _ _ _).trans ?_
  rw [ld_cut wg h4 0 (by decide), ld_cut wu h5 0 (by decide), ld_cut wg h4 256 (by decide), ld_cut wu h5 256 (by decide),
    ld_cutLast wg h4, ld_cutLast wu h5]
  exact step_of wg wu (Whole.load h6 Whole.zero3 _ _)
    ((Whole.reload _ _ _).trans (congrArg₂ k0_pay3 (Whole.load h2 Whole.zero2 _ _) (Whole.load h3 Whole.zero2 _ _)))
    ((Whole.reload _ _ _).trans (Whole.load h2 Whole.zero2 _ _))

theorem first_gu (hc : atHead i)
    (hcov : ∀ y, ∃ p ∈ (runFirst c i b2 h2 b3 h3 b4 h4 b5 h5 b6 h6 b7 h7 b8 h8 b9 h9 x g wg wu wo hc).2.2.1, y ∈ p.1.set) :
    View.canon (runFirst c i b2 h2 b3 h3 b4 h4 b5 h5 b6 h6 b7 h7 b8 h8 b9 h9 x g wg wu wo hc).2.2.1 = hidden (k0_pay3 x g) wg wu := by
  refine gu_canon _ wg wu hcov ?_
  unfold runFirst; dsimp only; sl_unfold_words
  rw [ld_cut wg h4 0 (by decide), ld_cut wu h5 0 (by decide), ld_cut wg h4 256 (by decide), ld_cut wu h5 256 (by decide),
    ld_cutLast wg h4, ld_cutLast wu h5]
  erw [Whole.reload, Whole.load h2 Whole.zero2, Whole.load h3 Whole.zero2]

end

end Cert.Kernel4Ideal.Ffn

end
-- ==== Proof.FfnFwdGrid.lean ====
/- The forward feed-forward call over its grid: the three outputs as functions of the arrays the region finds. Over the four
   column tiles of a row tile the first output takes half of each tile's part of the product, which together are half of the
   whole product. -/
module

public import proofs.«01_k».proof.Proof.FfnFwdBody

@[expose] public section

set_option maxRecDepth 16384

noncomputable section

namespace Cert.Kernel4Ideal.Ffn

open Idealize.ShloMosaic Idealize.ShloMosaic.TcCoe Idealize.SL.Sem
open Idealize.ShloMosaic.Pipeline (Dat)
open Cert.Kernel4Ideal Cert.Kernel4Ideal.Gen

theorem idx : ∀ t : Fin cfg0.N, win0_0.index t = ![t.val / 4, 0] ∧ win0_1.index t = ![0, 0]
    ∧ win0_2.index t = ![t.val % 4, 0, 0] ∧ win0_3.index t = ![t.val % 4 + 4, 0, 0] ∧ win0_4.index t = ![t.val % 4, 0, 0]
    ∧ win0_5.index t = ![t.val / 4, 0] ∧ win0_6.index t = ![t.val / 4, 0] ∧ win0_7.index t = ![t.val % 4, 0, t.val / 4, 0]
    ∧ (win0_5.flush t = true → t.val % 4 = 3) ∧ (win0_6.flush t = true → t.val % 4 = 3) :=
  (by decide +kernel : ∀ t : Fin grid0.N, win0_0.index t = ![t.val / 4, 0] ∧ win0_1.index t = ![0, 0]
    ∧ win0_2.index t = ![t.val % 4, 0, 0] ∧ win0_3.index t = ![t.val % 4 + 4, 0, 0] ∧ win0_4.index t = ![t.val % 4, 0, 0]
    ∧ win0_5.index t = ![t.val / 4, 0] ∧ win0_6.index t = ![t.val / 4, 0] ∧ win0_7.index t = ![t.val % 4, 0, t.val / 4, 0]
    ∧ (win0_5.flush t = true → t.val % 4 = 3) ∧ (win0_6.flush t = true → t.val % 4 = 3))

theorem lt32 (t : Fin cfg0.N) : t.val < 32 := lt_of_lt_of_eq t.isLt N_0

variable (m : (ℓ : Loc nD τ sig) → Buf (Elt Ideal) ℓ) (c : Dev nD)

/-! ## The arrays by their types -/

abbrev xs : Vec Ideal S8192x1024 .f32 := V m c main_arg0
abbrev gs : Vec Ideal S1x1024 .f32 := V m c main_v0
abbrev wi : Vec Ideal S8x1024x704 .bf16 := V m c main_v3
abbrev wo : Vec Ideal S8x352x1024 .bf16 := V m c main_v5

abbrev xAt (t : Fin cfg0.N) : Vec Ideal S1024x1024 .f32 := iblk m c 0 t
abbrev gAt (t : Fin cfg0.N) : Vec Ideal S1x1024 .f32 := iblk m c 1 t
abbrev wgAt (t : Fin cfg0.N) : Vec Ideal S1x1024x704 .bf16 := iblk m c 2 t
abbrev wuAt (t : Fin cfg0.N) : Vec Ideal S1x1024x704 .bf16 := iblk m c 3 t
abbrev woAt (t : Fin cfg0.N) : Vec Ideal S2x352x1024 .bf16 := iblk m c 4 t

/-- The row of the whole array that is row `p` of the point's tile. -/
abbrev row' (t : Fin cfg0.N) (p : Fin 1024) : Fin 8192 := ⟨t.val / 4 * 1024 + p.val, by have := lt32 t; omega⟩
abbrev col (t : Fin cfg0.N) : Fin 4 := ⟨t.val % 4, Nat.mod_lt _ (by decide)⟩

theorem xAt_apply (t : Fin cfg0.N) (p q : Fin 1024) : xAt m c t (ix2 p q) = xs m c (ix2 (row' t p) q) := by
  blk_ext [xAt, iblk, idx t]
theorem gAt_apply (t : Fin cfg0.N) (q : Fin 1024) : gAt m c t (ix2 0 q) = gs m c (ix2 0 q) := by
  blk_ext [gAt, iblk, idx t]
theorem wgAt_apply (t : Fin cfg0.N) (k : Fin 1024) (f : Fin 704) :
    wgAt m c t (ix3 0 k f) = wi m c (ix3 ⟨(col t).val, by omega⟩ k f) := by
  blk_ext [wgAt, iblk, idx t]
theorem wuAt_apply (t : Fin cfg0.N) (k : Fin 1024) (f : Fin 704) :
    wuAt m c t (ix3 0 k f) = wi m c (ix3 ⟨(col t).val + 4, by omega⟩ k f) := by
  blk_ext [wuAt, iblk, idx t]
theorem woAt_apply (t : Fin cfg0.N) (d : Fin 2) (f : Fin 352) (q : Fin 1024) :
    woAt m c t (ix3 d f q) = wo m c (ix3 ⟨(col t).val * 2 + d.val, by omega⟩ f q) := by
  blk_ext [woAt, iblk, idx t]

/-! ## The results, entry by entry -/

/-- The normalised row. -/
def normed (r : Fin 8192) (q : Fin 1024) : EReal :=
  xs m c (ix2 r q) * Ideal.rsqrt (Ideal.div (∑ k : Fin 1024, xs m c (ix2 r k) * xs m c (ix2 r k)) (Ideal.ofBits .f32 0x44800000#32)
    + Ideal.ofBits .f32 0x358637BD#32) * gs m c (ix2 0 q)

/-- A hidden entry: the first four blocks are the gate's, the last four the other factor's. -/
def hiddenAt (r : Fin 8192) (d : Fin 8) (f : Fin 704) : EReal := ∑ k : Fin 1024, normed m c r k * wi m c (ix3 d k f)

/-- One column tile's part of the product. -/
def tile (r : Fin 8192) (q : Fin 1024) (j : Fin 4) : EReal :=
  ∑ f : Fin 704, gated (hiddenAt m c r ⟨j.val, by omega⟩ f) (hiddenAt m c r ⟨j.val + 4, by omega⟩ f)
    * wo m c (ix3 ⟨j.val * 2 + f.val / 352, by omega⟩ ⟨f.val % 352, Nat.mod_lt _ (by decide)⟩ q)

/-- The first output after the column tiles up to `j`. -/
def upTo (r : Fin 8192) (q : Fin 1024) : ℕ → EReal
  | 0 => xs m c (ix2 r q) + half * tile m c r q 0
  | j + 1 => upTo r q j + half * tile m c r q ⟨(j + 1) % 4, Nat.mod_lt _ (by decide)⟩

theorem rms_at (t : Fin cfg0.N) (p q : Fin 1024) : rms (xAt m c t) (gAt m c t) p q = normed m c (row' t p) q := by
  unfold rms normed
  rw [gAt_apply]
  simp only [xAt_apply]

/-- The pair of products and the update at a point, once its normalised tile is known. -/
theorem hid_g (t : Fin cfg0.N) (xn : Vec Ideal S1024x1024 .bf16) (h : ∀ p q, xn (ix2 p q) = normed m c (row' t p) q)
    (p : Fin 1024) (f : Fin 704) : hid xn (wgAt m c t) p f = hiddenAt m c (row' t p) ⟨(col t).val, by omega⟩ f := by
  unfold hid hiddenAt
  simp only [h, wgAt_apply]
theorem hid_u (t : Fin cfg0.N) (xn : Vec Ideal S1024x1024 .bf16) (h : ∀ p q, xn (ix2 p q) = normed m c (row' t p) q)
    (p : Fin 1024) (f : Fin 704) : hid xn (wuAt m c t) p f = hiddenAt m c (row' t p) ⟨(col t).val + 4, by omega⟩ f := by
  unfold hid hiddenAt
  simp only [h, wuAt_apply]

theorem step_at (t : Fin cfg0.N) (o : Vec Ideal S1024x1024 .f32) (xn : Vec Ideal S1024x1024 .bf16)
    (h : ∀ p q, xn (ix2 p q) = normed m c (row' t p) q) (p q : Fin 1024) :
    step o xn (wgAt m c t) (wuAt m c t) (woAt m c t) (ix2 p q) = o (ix2 p q) + half * tile m c (row' t p) q (col t) := by
  rw [step_apply]
  unfold tile term
  simp only [hid_g m c t xn h, hid_u m c t xn h, woAt_apply]

/-! ## The outputs at each point -/

theorem first_eq (t : Fin cfg0.N) (h : t.val % 4 = 0) : firstOuts m c t h
    = (step (xAt m c t) (k0_pay3 (xAt m c t) (gAt m c t)) (wgAt m c t) (wuAt m c t) (woAt m c t), k0_pay3 (xAt m c t) (gAt m c t),
        hidden (k0_pay3 (xAt m c t) (gAt m c t)) (wgAt m c t) (wuAt m c t)) := by
  unfold firstOuts readO readN readG
  rw [View.read_writes_eq_canon _ _ _ (coverO m c t h), View.read_writes_eq_canon _ _ _ (coverN m c t h),
    View.read_writes_eq_canon _ _ _ (coverG m c t h)]
  rw [first_o, first_n, first_gu (hcov := coverG m c t h)]

theorem later_eq (t : Fin cfg0.N) (h : ¬t.val % 4 = 0) (o : Outs Ideal) : laterOuts m c t h o
    = (step o.1 o.2.1 (wgAt m c t) (wuAt m c t) (woAt m c t), o.2.1, hidden o.2.1 (wgAt m c t) (wuAt m c t)) := by
  unfold laterOuts readO readG
  rw [View.read_writes_eq_canon _ _ _ (coverO' m c t h _ _), View.read_writes_eq_canon _ _ _ (coverG' m c t h _ _)]
  rw [later_o, later_gu (hcov := coverG' m c t h _ _)]

theorem normed_first (t : Fin cfg0.N) (h : t.val % 4 = 0) (p q : Fin 1024) :
    (firstOuts m c t h).2.1 (ix2 p q) = normed m c (row' t p) q := by
  rw [first_eq]
  exact (pay3_apply _ _ p q).trans (rms_at m c t p q)

theorem normed_outs : ∀ (n : ℕ) (hn : n < cfg0.N) (p q : Fin 1024), (outs m c n hn).2.1 (ix2 p q) = normed m c (row' ⟨n, hn⟩ p) q := by
  intro n
  induction n with
  | zero => exact fun hn => normed_first m c ⟨0, hn⟩ (Nat.zero_mod _)
  | succ n ih =>
    intro hn p q
    by_cases h : (n + 1) % 4 = 0
    · rw [outs_first m c ⟨n + 1, hn⟩ h]
      exact normed_first _ _ _ h p q
    · rw [outs_later m c ⟨n + 1, hn⟩ h, later_eq]
      refine (ih (Nat.lt_of_succ_lt hn) p q).trans (congrArg (normed m c · q) (Fin.ext ?_))
      show n / 4 * 1024 + p.val = (n + 1) / 4 * 1024 + p.val
      omega

theorem acc_outs : ∀ (n : ℕ) (hn : n < cfg0.N) (p q : Fin 1024),
    (outs m c n hn).1 (ix2 p q) = upTo m c (row' ⟨n, hn⟩ p) q (n % 4) := by
  intro n
  have atFirst (t : Fin cfg0.N) (h : t.val % 4 = 0) (p q : Fin 1024) : (firstOuts m c t h).1 (ix2 p q) = upTo m c (row' t p) q (t.val % 4) := by
    rw [first_eq, h]
    refine (step_at m c t _ _ (fun p q => (pay3_apply _ _ p q).trans (rms_at m c t p q)) p q).trans ?_
    rw [xAt_apply, show col t = 0 from Fin.ext h]
    rfl
  induction n with
  | zero =>
    intro hn p q
    exact atFirst ⟨0, hn⟩ (Nat.zero_mod _) p q
  | succ n ih =>
    intro hn p q
    by_cases h : (n + 1) % 4 = 0
    · rw [outs_first m c ⟨n + 1, hn⟩ h]
      exact atFirst _ _ p q
    · have er (p : Fin 1024) : row' ⟨n, Nat.lt_of_succ_lt hn⟩ p = row' ⟨n + 1, hn⟩ p := Fin.ext (by
        show n / 4 * 1024 + p.val = (n + 1) / 4 * 1024 + p.val
        omega)
      rw [outs_later m c ⟨n + 1, hn⟩ h, later_eq]
      refine (step_at m c ⟨n + 1, hn⟩ _ _ (fun p q => (normed_outs m c n (Nat.lt_of_succ_lt hn) p q).trans (congrArg (normed m c · q) (er p))) p q).trans ?_
      rw [show (prev m c ⟨n + 1, hn⟩).1 (ix2 p q) = _ from ih (Nat.lt_of_succ_lt hn) p q, er, show (n + 1) % 4 = n % 4 + 1 by omega]
      refine congrArg (_ + half * tile m c _ q ·) (Fin.ext ?_)
      show (n + 1) % 4 = (n % 4 + 1) % 4
      omega

theorem hidden_outs (t : Fin cfg0.N) : (outs m c t.val t.isLt).2.2 = hidden (outs m c t.val t.isLt).2.1 (wgAt m c t) (wuAt m c t) := by
  by_cases h : t.val % 4 = 0
  · rw [outs_first m c t h, first_eq]
  · rw [outs_later m c t h, later_eq]

/-! ## The arrays -/

def resO : Vec Ideal S8192x1024 .f32 := fun i => upTo m c (i 0) (i 1) 3
def resN : Vec Ideal S8192x1024 .bf16 := fun i => normed m c (i 0) (i 1)
def resG : Vec Ideal S4x2x8192x704 .bf16 := fun i =>
  hiddenAt m c (i 2) ⟨(i 1).val * 4 + (i 0).val, by have h0 : (i 0).val < 4 := (i 0).isLt; have h1 : (i 1).val < 2 := (i 1).isLt; omega⟩ (i 3)

theorem arr5 : (dats m 0 c).arrAt 5 cfg0.N = resO m c := by
  refine (dats m 0 c).arrAt_eq_of_covers 5 _ (by decide +kernel) fun t hf y => ?_
  have ht := (idx t).2.2.2.2.2.2.2.2.1 hf
  obtain ⟨p, q, rfl⟩ : ∃ (p q : Fin 1024), y = ix2 p q := ⟨y 0, y 1, eq_ix2 y⟩
  have e : (win0_5.blk t).view.emb (ix2 p q) = (ix2 (row' t p) q : S8192x1024.Idx) := by
    funext b; fin_cases b <;> refine Fin.ext ?_ <;> blk_simp [idx t] <;> rfl
  blk_simp [idx t]
  rw [after5, acc_outs, e, ht]
  rfl

theorem arr6 : (dats m 0 c).arrAt 6 cfg0.N = resN m c := by
  refine (dats m 0 c).arrAt_eq_of_covers 6 _ (by decide +kernel) fun t hf y => ?_
  obtain ⟨p, q, rfl⟩ : ∃ (p q : Fin 1024), y = ix2 p q := ⟨y 0, y 1, eq_ix2 y⟩
  have e : (win0_6.blk t).view.emb (ix2 p q) = (ix2 (row' t p) q : S8192x1024.Idx) := by
    funext b; fin_cases b <;> refine Fin.ext ?_ <;> blk_simp [idx t] <;> rfl
  blk_simp [idx t]
  rw [after6, normed_outs, e]
  rfl

theorem arr7 : (dats m 0 c).arrAt 7 cfg0.N = resG m c := by
  refine (dats m 0 c).arrAt_eq_of_covers 7 _ (by decide +kernel) fun t hf y => ?_
  obtain ⟨a, b, p, f, rfl⟩ : ∃ (a : Fin 1) (b : Fin 2) (p : Fin 1024) (f : Fin 704), y = ix4 a b p f := ⟨y 0, y 1, y 2, y 3, eq_ix4 y⟩
  obtain rfl : a = 0 := Subsingleton.elim _ _
  have e : (win0_7.blk t).view.emb (ix4 0 b p f) = (ix4 (col t) b (row' t p) f : S4x2x8192x704.Idx) := by
    funext b; fin_cases b <;> refine Fin.ext ?_ <;> blk_simp [idx t] <;> rfl
  blk_simp [idx t]
  rw [after7, hidden_outs, e]
  have hx := normed_outs m c t.val t.isLt
  fin_cases b
  · exact (hid_g m c t _ hx p f).trans (congrArg (hiddenAt m c (row' t p) · f) (Fin.ext (by show t.val % 4 = 0 * 4 + t.val % 4; omega)))
  · exact (hid_u m c t _ hx p f).trans (congrArg (hiddenAt m c (row' t p) · f) (Fin.ext (by show t.val % 4 + 4 = 1 * 4 + t.val % 4; omega)))

end Cert.Kernel4Ideal.Ffn

end
-- ==== Proof.FfnFwdRef.lean ====
/- The forward feed-forward reference read entry by entry. -/
module

public import proofs.«01_k».proof.Proof.Gen.Reference4Ideal.Read
public import Idealize.ShloMosaic.Lib.Pointwise
public import Idealize.ShloMosaic.Lib.ValueIdx
public import Idealize.ShloMosaic.Lib.IdealHost

@[expose] public section

set_option maxRecDepth 16384

noncomputable section

namespace Cert.Reference4Ideal.Ffn

open Cert.Reference4Ideal Cert.Reference4Ideal.Gen Cert.Reference4Ideal.Read Idealize.ShloMosaic

variable (x0 : Vec Ideal S8192x1024 .f32) (x1 : Vec Ideal S1024 .f32) (x2 : Vec Ideal S1024x5632 .f32)
  (x3 : Vec Ideal S2816x1024 .f32) (r : Fin 8192)

/-- The normalised row. -/
def normed (q : Fin 1024) : EReal :=
  x0 (ix2 r q) * Ideal.rsqrt (Ideal.div (∑ k : Fin 1024, x0 (ix2 r k) * x0 (ix2 r k)) (Ideal.ofBits .f32 0x44800000#32)
    + Ideal.ofBits .f32 0x358637BD#32) * x1 (ix1 q)

/-- A hidden entry. -/
def hidden (f : Fin 5632) : EReal := ∑ k : Fin 1024, normed x0 x1 r k * x2 (ix2 k f)

/-- A gated activation. -/
def act (f : Fin 2816) : EReal :=
  hidden x0 x1 x2 r ⟨f.val, by omega⟩ * Ideal.logistic (hidden x0 x1 x2 r ⟨f.val, by omega⟩) * hidden x0 x1 x2 r ⟨2816 + f.val, by omega⟩

theorem sum_eq (i : S8192.Idx) : val_main_v1 (F := Ideal) x0 i = ∑ k : Fin 1024, x0 (ix2 (i 0) k) * x0 (ix2 (i 0) k) := by
  rw [val_main_v1_apply, val_main_cst_apply]
  show Ideal.ofBits .f32 0x00000000#32 + _ = _
  rw [Ideal.ofBits_zero_f32, zero_add]
  refine Finset.sum_congr rfl fun k _ => ?_
  rw [val_main_v0_apply, show idx_main_v1 i k = ix2 (i 0) k from by funext a; fin_cases a <;> rfl]
  rfl

theorem normed_eq (q : Fin 1024) : val_main_v12 (F := Ideal) x0 x1 (ix2 r q) = normed x0 x1 r q := by
  simp only [val_main_v12_apply, val_main_v11_apply, val_main_v10_apply, val_main_v9_apply, val_main_v8_apply, val_main_v7_apply,
    val_main_v6_apply, val_main_v5_apply, val_main_v4_apply, val_main_v3_apply, val_main_v2_apply, val_main_cst_0_apply,
    val_main_cst_1_apply, sum_eq]
  rw [show idx_main_v10 (idx_main_v11 (ix2 r q)) = ix1 q from by funext a; fin_cases a; rfl]
  rfl

theorem normed_eq' (q : Fin 1024) : val_main_v25 (F := Ideal) x0 x1 (ix2 r q) = normed x0 x1 r q := normed_eq x0 x1 r q

theorem hidden_eq (f : Fin 5632) : val_main_v26 (F := Ideal) x0 x1 x2 (ix2 r f) = hidden x0 x1 x2 r f := by
  rw [val_main_v26_apply]
  refine Finset.sum_congr rfl fun k _ => congrArg₂ (· * ·) ?_ (congrArg x2 ?_)
  · rw [show lidx_main_v26 (ix2 r f) k = ix2 r k from by funext a; fin_cases a <;> rfl, normed_eq']
  · funext a; fin_cases a <;> rfl
theorem hidden_eq' (f : Fin 5632) : val_main_v36 (F := Ideal) x0 x1 x2 (ix2 r f) = hidden x0 x1 x2 r f := hidden_eq x0 x1 x2 r f

theorem act_eq (f : Fin 2816) : val_main_v30 (F := Ideal) x0 x1 x2 (ix2 r f) = act x0 x1 x2 r f := by
  simp only [val_main_v30_apply, val_main_v29_apply, val_main_v28_apply, val_main_v27_apply, val_main_call0_v5_apply,
    val_main_call0_v4_apply, val_main_call0_v3_apply, val_main_call0_v2_apply, val_main_call0_v1_apply, val_main_call0_v0_apply,
    val_main_call0_cst_apply, val_main_call0_cst_0_apply]
  rw [show idx_main_v27 (ix2 r f) = ix2 r ⟨f.val, by omega⟩ from by funext a; fin_cases a <;> rfl,
    show idx_main_v28 (ix2 r f) = ix2 r ⟨2816 + f.val, by omega⟩ from by funext a; fin_cases a <;> rfl, hidden_eq, hidden_eq]
  unfold act Ideal.logistic
  rw [← Ideal.ofBits_one_f32]
  rfl

theorem out_eq (q : Fin 1024) : val_main_v34 (F := Ideal) x0 x1 x2 x3 (ix2 r q)
    = x0 (ix2 r q) + Ideal.ofBits .f32 0x3F000000#32 * ∑ f : Fin 2816, act x0 x1 x2 r f * x3 (ix2 f q) := by
  have e : val_main_v31 (F := Ideal) x0 x1 x2 x3 (ix2 r q) = ∑ f : Fin 2816, act x0 x1 x2 r f * x3 (ix2 f q) := by
    rw [val_main_v31_apply]
    refine Finset.sum_congr rfl fun k _ => congrArg₂ (· * ·) ?_ (congrArg x3 ?_)
    · rw [show lidx_main_v31 (ix2 r q) k = ix2 r k from by funext a; fin_cases a <;> rfl, act_eq]
    · funext a; fin_cases a <;> rfl
  simp only [val_main_v34_apply, val_main_v33_apply, val_main_v32_apply, val_main_cst_5_apply]
  rw [e]
  rfl

theorem pair_eq (j : Fin 4) (p : Fin 2) (f : Fin 704) : val_main_v39 (F := Ideal) x0 x1 x2 (ix4 j p r f)
    = hidden x0 x1 x2 r ⟨p.val * 2816 + j.val * 704 + f.val, by omega⟩ := by
  rw [val_main_v39_apply, val_main_v38_apply, val_main_v37_apply]
  refine Eq.trans ?_ (hidden_eq' x0 x1 x2 r _)
  refine congrArg (val_main_v36 x0 x1 x2) ?_
  funext a; fin_cases a <;> refine Fin.ext ?_ <;> simp [ix2, ix4] <;> omega

end Cert.Reference4Ideal.Ffn

end
-- ==== Proof.FfnFwdValue.lean ====
/- The forward feed-forward call computes its reference. -/
module

public import proofs.«01_k».proof.Proof.FfnFwdGrid
public import proofs.«01_k».proof.Proof.FfnFwdRef
public import proofs.«01_k».proof.Proof.Gen.Reference4Ideal.Run
public import proofs.«01_k».proof.Defs
public import Idealize.ShloMosaic.Lib.StableHlo.ReadAt

@[expose] public section

set_option maxRecDepth 16384

noncomputable section

namespace Cert.Kernel4Ideal.Ffn

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S1024x5632 .f32 := m ((c : Thread nD τ).loc main_arg2)
abbrev a3 : Vec Ideal S2816x1024 .f32 := m ((c : Thread nD τ).loc main_arg3)

/-! ## The host's preparation -/

theorem xs_eq : xs m c = a0 m c := V_of m c (by decide)
theorem gs_eq (q : Fin 1024) : gs m c (ix2 0 q) = a1 m c (ix1 q) := by
  unfold gs V
  after_reads_at
theorem wi_eq (d : Fin 8) (k : Fin 1024) (f : Fin 704) :
    wi m c (ix3 d k f) = a2 m c (ix2 k ⟨d.val * 704 + f.val, by omega⟩) := by
  unfold wi V
  after_reads_at
theorem wo_eq (d : Fin 8) (f : Fin 352) (q : Fin 1024) :
    wo m c (ix3 d f q) = a3 m c (ix2 ⟨d.val * 352 + f.val, by omega⟩ q) := by
  unfold wo V
  after_reads_at

/-! ## The results -/

open Cert.Reference4Ideal.Read in
section

variable (r : Fin 8192) (q : Fin 1024)

theorem normed_same : normed m c r q = Reference4Ideal.Ffn.normed (a0 m c) (a1 m c) r q := by
  unfold normed Reference4Ideal.Ffn.normed
  rw [gs_eq, xs_eq]

theorem hidden_same (d : Fin 8) (f : Fin 704) :
    hiddenAt m c r d f = Reference4Ideal.Ffn.hidden (a0 m c) (a1 m c) (a2 m c) r ⟨d.val * 704 + f.val, by omega⟩ := by
  unfold hiddenAt Reference4Ideal.Ffn.hidden
  exact Finset.sum_congr rfl fun k _ => congrArg₂ (· * ·) (normed_same m c r k) (wi_eq m c d k f)

theorem tile_same (j : Fin 4) : tile m c r q j = ∑ f : Fin 704,
    Reference4Ideal.Ffn.act (a0 m c) (a1 m c) (a2 m c) r ⟨j.val * 704 + f.val, by omega⟩ * a3 m c (ix2 ⟨j.val * 704 + f.val, by omega⟩ q) := by
  unfold tile
  refine Finset.sum_congr rfl fun f _ => congrArg₂ (· * ·) ?_ ?_
  · rw [hidden_same, hidden_same]
    unfold gated Reference4Ideal.Ffn.act
    exact congrArg (fun t => _ * Reference4Ideal.Ffn.hidden (a0 m c) (a1 m c) (a2 m c) r t) (Fin.ext (by dsimp only; omega))
  · rw [wo_eq]
    exact congrArg (fun t => a3 m c (ix2 t q)) (Fin.ext (by dsimp only; omega))

/-- Half of a sum is the sum of the halves, whatever the summands: the half is a positive real number. -/
theorem half_add (x y : EReal) : half * (x + y) = half * x + half * y := by
  have e : half = ((1 / 2 : ℝ) : EReal) := by
    simp [half, Ideal.ofBits, Ideal.ieee]; rw [← EReal.coe_mul]; norm_num
  rw [e]
  exact EReal.left_distrib_of_nonneg_of_ne_top (EReal.coe_nonneg.mpr (by norm_num)) (EReal.coe_ne_top _) _ _

theorem upTo_eq : upTo m c r q 3
    = xs m c (ix2 r q) + half * (((tile m c r q 0 + tile m c r q 1) + tile m c r q 2) + tile m c r q 3) := by
  rw [half_add, half_add, half_add, ← add_assoc, ← add_assoc, ← add_assoc]
  rfl

theorem out_same : upTo m c r q 3 = val_main_v34 (F := Ideal) (a0 m c) (a1 m c) (a2 m c) (a3 m c) (ix2 r q) := by
  rw [upTo_eq, Reference4Ideal.Ffn.out_eq, xs_eq, Fin.sum_univ_tiles 4 704 rfl, Fin.sum_univ_four,
    tile_same, tile_same, tile_same, tile_same]

end

open Cert.Reference4Ideal.Read in
theorem sameO : resO m c = val_main_v34 (F := Ideal) (a0 m c) (a1 m c) (a2 m c) (a3 m c) := by
  funext i
  obtain ⟨r, q, rfl⟩ : ∃ (r : Fin 8192) (q : Fin 1024), i = ix2 r q := ⟨i 0, i 1, eq_ix2 i⟩
  exact out_same m c r q
open Cert.Reference4Ideal.Read in
theorem sameN : resN m c = val_main_v35 (F := Ideal) (a0 m c) (a1 m c) := by
  funext i
  obtain ⟨r, q, rfl⟩ : ∃ (r : Fin 8192) (q : Fin 1024), i = ix2 r q := ⟨i 0, i 1, eq_ix2 i⟩
  rw [val_main_v35_apply]
  exact (normed_same m c r q).trans (Reference4Ideal.Ffn.normed_eq _ _ r q).symm
open Cert.Reference4Ideal.Read in
theorem sameG : resG m c = val_main_v39 (F := Ideal) (a0 m c) (a1 m c) (a2 m c) := by
  funext i
  obtain ⟨j, p, r, f, rfl⟩ : ∃ (j : Fin 4) (p : Fin 2) (r : Fin 8192) (f : Fin 704), i = ix4 j p r f := ⟨i 0, i 1, i 2, i 3, eq_ix4 i⟩
  rw [Reference4Ideal.Ffn.pair_eq]
  refine (hidden_same m c r ⟨p.val * 4 + j.val, by omega⟩ f).trans ?_
  exact congrArg (Reference4Ideal.Ffn.hidden (a0 m c) (a1 m c) (a2 m c) r) (Fin.ext (by dsimp only; omega))

theorem algebraic : Cert.algebraic_Kernel4Ideal_Reference4Ideal (hKernel4Ideal := Kernel4Ideal.Gen.facts)
    (hReference4Ideal := Reference4Ideal.Gen.facts) := by
  intro m g m' g' _ ha
  refine ⟨fun c => Reference4Ideal.Read.val_main_v34 (F := Ideal) (a0 m c) (a1 m c) (a2 m c) (a3 m c),
    fun c => Reference4Ideal.Read.val_main_v35 (F := Ideal) (a0 m c) (a1 m c),
    fun c => Reference4Ideal.Read.val_main_v39 (F := Ideal) (a0 m c) (a1 m c) (a2 m c), ?_, ?_⟩
  · exact (θ_run Kernel4Ideal.defs _ _).mono (fun r h c => ⟨((h.1 c).1 5).trans ((arr5 m c).trans (sameO m c)),
      ((h.1 c).1 6).trans ((arr6 m c).trans (sameN m c)), ((h.1 c).1 7).trans ((arr7 m c).trans (sameG m c)), args m c h.1⟩)
      (run_main (F := Ideal) m g)
  · refine (θ_run Reference4Ideal.defs _ _).mono (fun r h c => ?_) (Reference4Ideal.Value.run (F := Ideal) m' g')
    obtain ⟨k0, k1, k2, k3⟩ := h c
    obtain ⟨e0, e1, e2, e3⟩ := ha c
    rw [Reference4Ideal.Read.val_main_v34_eq] at k0
    rw [Reference4Ideal.Read.val_main_v35_eq] at k1
    rw [Reference4Ideal.Read.val_main_v39_eq] at k2
    refine ⟨k0.trans ?_, k1.trans ?_, k2.trans ?_, k3⟩ <;> simp only [a0, a1, a2, a3, ← e0, ← e1, ← e2, ← e3]

end Cert.Kernel4Ideal.Ffn

end
-- ==== Proof.Rms.lean ====
/- The normalisation of one row by the root of its mean square. -/
module

public import Idealize.ShloMosaic.Lib.Pointwise
public import Idealize.ShloMosaic.Lib.ValueIdx

@[expose] public section

noncomputable section

namespace Cert.Rms

open Idealize.ShloMosaic

/-- The reciprocal root of a row's mean square, `N` the number of entries. -/
def scale {n : ℕ} (N : EReal) (x : Fin n → EReal) : EReal :=
  Ideal.rsqrt (Ideal.div (∑ k, x k * x k) N + Ideal.ofBits .f32 0x358637BD#32)

/-- The normalised row, times the gain. -/
def norm {n : ℕ} (N : EReal) (x g : Fin n → EReal) (q : Fin n) : EReal := x q * scale N x * g q

/-- What flows back through the normalisation of `x` with gain `g`, `d` flowing into its result. -/
def back {n : ℕ} (N : EReal) (x g d : Fin n → EReal) (q : Fin n) : EReal :=
  scale N x * (d q * g q - x q * scale N x * Ideal.div (∑ e, d e * g e * (x e * scale N x)) N)

/-- The two row lengths. -/
abbrev n1024 : EReal := Ideal.ofBits .f32 0x44800000#32
abbrev n512 : EReal := Ideal.ofBits .f32 0x44000000#32

/-- The index into a row vector kept as one row. -/
theorem one_row {n : ℕ} {α : Type} (f : (⟨2, ![1, n]⟩ : Shape).Idx → α) (q : Fin n) (a : Fin 1) : f (ix2 a q) = f (ix2 0 q) := by
  rw [Subsingleton.elim a 0]

end Cert.Rms

end
-- ==== Proof.MixIn.lean ====
/- The forward input projection of the mixing layer: each tile of the result is the normalised rows times the weights, and so
   is the reference's. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Rms
public import proofs.«01_k».proof.Proof.Whole
public import Idealize.ShloMosaic.Lib.StableHlo.ReadAt

@[expose] public section

set_option maxRecDepth 16384

noncomputable section

/-! ## The reference -/

namespace Cert.Reference5Ideal.MixIn

open Cert.Reference5Ideal Cert.Reference5Ideal.Gen Cert.Reference5Ideal.Read Idealize.ShloMosaic

variable (x0 : Vec Ideal S8192x1024 .f32) (x1 : Vec Ideal S1024 .f32) (x2 : Vec Ideal S1024x1536 .f32) (r : Fin 8192)

theorem sum_eq (i : S8192.Idx) : val_main_v1 (F := Ideal) x0 i = ∑ k : Fin 1024, x0 (ix2 (i 0) k) * x0 (ix2 (i 0) k) := by
  rw [val_main_v1_apply, val_main_cst_apply]
  show Ideal.ofBits .f32 0x00000000#32 + _ = _
  rw [Ideal.ofBits_zero_f32, zero_add]
  refine Finset.sum_congr rfl fun k _ => ?_
  rw [val_main_v0_apply, show idx_main_v1 i k = ix2 (i 0) k from by funext a; fin_cases a <;> rfl]
  rfl

theorem normed_eq (q : Fin 1024) : val_main_v12 (F := Ideal) x0 x1 (ix2 r q)
    = Rms.norm Rms.n1024 (fun k => x0 (ix2 r k)) (fun k => x1 (ix1 k)) q := by
  simp only [val_main_v12_apply, val_main_v11_apply, val_main_v10_apply, val_main_v9_apply, val_main_v8_apply, val_main_v7_apply,
    val_main_v6_apply, val_main_v5_apply, val_main_v4_apply, val_main_v3_apply, val_main_v2_apply, val_main_cst_0_apply,
    val_main_cst_1_apply, sum_eq]
  rw [show idx_main_v10 (idx_main_v11 (ix2 r q)) = ix1 q from by funext a; fin_cases a; rfl]
  rfl

theorem out_eq (f : Fin 1536) : val_main_v13 (F := Ideal) x0 x1 x2 (ix2 r f)
    = ∑ k : Fin 1024, Rms.norm Rms.n1024 (fun k => x0 (ix2 r k)) (fun k => x1 (ix1 k)) k * x2 (ix2 k f) := by
  rw [val_main_v13_apply]
  refine Finset.sum_congr rfl fun k _ => congrArg₂ (· * ·) ?_ (congrArg x2 ?_)
  · rw [show lidx_main_v13 (ix2 r f) k = ix2 r k from by funext a; fin_cases a <;> rfl, normed_eq]
  · funext a; fin_cases a <;> rfl

end Cert.Reference5Ideal.MixIn

/-! ## The kernel -/

namespace Cert.Kernel5Ideal.MixIn

open Idealize.ShloMosaic Idealize.ShloMosaic.TcCoe Idealize.SL.Sem
open Idealize.ShloMosaic.Pipeline (Dat)
open Cert.Kernel5Ideal Cert.Kernel5Ideal.Gen

theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, win0_0.index t = ![t.val, 0] ∧ win0_1.index t = ![0, 0]
    ∧ win0_2.index t = ![0, 0] ∧ win0_3.index t = ![t.val, 0])

theorem lt8 (t : Fin cfg0.N) : t.val < 8 := lt_of_lt_of_eq t.isLt N_0

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S1024x1536 .f32 := m ((c : Thread nD τ).loc main_arg2)

abbrev gs : Vec Ideal S1x1024 .f32 := V m c main_v0
abbrev ws : Vec Ideal S1024x1536 .bf16 := V m c main_v1

theorem gs_eq (q : Fin 1024) : gs m c (ix2 0 q) = a1 m c (ix1 q) := by
  unfold gs V
  after_reads_at
theorem ws_eq (k : Fin 1024) (f : Fin 1536) : ws m c (ix2 k f) = a2 m c (ix2 k f) := by
  unfold ws V
  after_reads_at

abbrev xAt (t : Fin cfg0.N) : Vec Ideal S1024x1024 .f32 := iblk m c 0 t
abbrev gAt (t : Fin cfg0.N) : Vec Ideal S1x1024 .f32 := iblk m c 1 t
abbrev wAt (t : Fin cfg0.N) : Vec Ideal S1024x1536 .bf16 := iblk m c 2 t

/-- The row of the whole array that is row `p` of the point's tile. -/
abbrev row' (t : Fin cfg0.N) (p : Fin 1024) : Fin 8192 := ⟨t.val * 1024 + p.val, by have := lt8 t; omega⟩

theorem xAt_apply (t : Fin cfg0.N) (p q : Fin 1024) : xAt m c t (ix2 p q) = a0 m c (ix2 (row' t p) q) := by
  rw [show a0 m c = V m c main_arg0 from (V_main_arg0 m c).symm]
  blk_ext [xAt, iblk, idx t]
theorem gAt_apply (t : Fin cfg0.N) (q : Fin 1024) : gAt m c t (ix2 0 q) = a1 m c (ix1 q) := by
  rw [← gs_eq]
  blk_ext [gAt, iblk, idx t]
theorem wAt_apply (t : Fin cfg0.N) (k : Fin 1024) (f : Fin 1536) : wAt m c t (ix2 k f) = a2 m c (ix2 k f) := by
  rw [← ws_eq]
  blk_ext [wAt, iblk, idx t]

/-- One tile of the product. -/
theorem pay1_apply (x : Vec Ideal S1024x1024 .f32) (g : Vec Ideal S1x1024 .f32) (w : Vec Ideal S1024x1536 .bf16)
    (p : Fin 1024) (f : Fin 1536) : k0_pay1 x g w (ix2 p f)
      = ∑ k : Fin 1024, Rms.norm Rms.n1024 (fun k => x (ix2 p k)) (fun k => g (ix2 0 k)) k * w (ix2 k f) := by
  pointwise [k0_pay1]
  rfl

/-- The result. -/
def res : Vec Ideal S8192x1536 .f32 := fun i =>
  ∑ k : Fin 1024, Rms.norm Rms.n1024 (fun k => a0 m c (ix2 (i 0) k)) (fun k => a1 m c (ix1 k)) k * a2 m c (ix2 k (i 1))

theorem arr3 : (dats m 0 c).arrAt 3 cfg0.N = res m c := by
  refine (dats m 0 c).arrAt_eq_of_covers 3 _ (by decide +kernel) fun t hf y => ?_
  obtain ⟨p, q, rfl⟩ : ∃ (p : Fin 1024) (q : Fin 1536), y = ix2 p q := ⟨y 0, y 1, eq_ix2 y⟩
  have e : (win0_3.blk t).view.emb (ix2 p q) = (ix2 (row' t p) q : S8192x1536.Idx) := by
    funext b; fin_cases b <;> refine Fin.ext ?_ <;> blk_simp [idx t] <;> rfl
  have eo : out0_3 (xAt m c t) (gAt m c t) (wAt m c t) = k0_pay1 (xAt m c t) (gAt m c t) (wAt m c t) := by
    unfold out0_3
    refine (Whole.stored Whole.zero2 _ _ _).trans ?_
    rw [View.ld_unit_zero Whole.zero2, View.ld_unit_zero Whole.zero2, View.ld_unit_zero Whole.zero2]
  blk_simp [idx t]
  rw [after0_3, e]
  refine (congrFun eo _).trans ?_
  rw [pay1_apply]
  simp only [xAt_apply, gAt_apply, wAt_apply]
  rfl

theorem same : res m c = Reference5Ideal.Read.val_main_v13 (F := Ideal) (a0 m c) (a1 m c) (a2 m c) := by
  funext i
  obtain ⟨r, q, rfl⟩ : ∃ (r : Fin 8192) (q : Fin 1536), i = ix2 r q := ⟨i 0, i 1, eq_ix2 i⟩
  exact (Reference5Ideal.MixIn.out_eq (a0 m c) (a1 m c) (a2 m c) r q).symm

theorem algebraic : Cert.algebraic_Kernel5Ideal_Reference5Ideal (hKernel5Ideal := Kernel5Ideal.Gen.facts)
    (hReference5Ideal := Reference5Ideal.Gen.facts) := by
  intro m g m' g' _ ha
  refine ⟨fun c => Reference5Ideal.Read.val_main_v13 (F := Ideal) (a0 m c) (a1 m c) (a2 m c), ?_, ?_⟩
  · exact (θ_run Kernel5Ideal.defs _ _).mono (fun r h c => ⟨(h c).1.trans ((arr3 m c).trans (same m c)), (h c).2⟩)
      (Value.run_blocks (F := Ideal) m g)
  · refine (θ_run Reference5Ideal.defs _ _).mono (fun r h c => ?_) (Reference5Ideal.Value.run (F := Ideal) m' g')
    obtain ⟨k0, k1⟩ := h c
    obtain ⟨e0, e1, e2⟩ := ha c
    rw [Reference5Ideal.Read.val_main_v13_eq] at k0
    refine ⟨k0.trans ?_, k1⟩
    simp only [a0, a1, a2, ← e0, ← e1, ← e2]

end Cert.Kernel5Ideal.MixIn

end
-- ==== Proof.MixOut.lean ====
/- The forward output projection of the mixing layer: each tile of the result is the residual plus the two normalised groups
   times their halves of the weights, and the reference's product over the joined groups is the same sum. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Rms
public import proofs.«01_k».proof.Proof.Whole
public import Idealize.ShloMosaic.Lib.StableHlo.ReadAt

@[expose] public section

set_option maxRecDepth 16384

noncomputable section

/-! ## The reference -/

namespace Cert.Reference6Ideal.MixOut

open Cert.Reference6Ideal Cert.Reference6Ideal.Gen Cert.Reference6Ideal.Read Idealize.ShloMosaic

variable (x0 x1 : Vec Ideal S8192x512 .f32) (x2 x3 : Vec Ideal S512 .f32) (x4 : Vec Ideal S1024x1024 .f32)
  (x5 : Vec Ideal S8192x1024 .f32) (r : Fin 8192)

theorem sum_eq (i : S8192.Idx) : val_main_v1 (F := Ideal) x0 i = ∑ k : Fin 512, x0 (ix2 (i 0) k) * x0 (ix2 (i 0) k) := by
  rw [val_main_v1_apply, val_main_cst_apply]
  show Ideal.ofBits .f32 0x00000000#32 + _ = _
  rw [Ideal.ofBits_zero_f32, zero_add]
  refine Finset.sum_congr rfl fun k _ => ?_
  rw [val_main_v0_apply, show idx_main_v1 i k = ix2 (i 0) k from by funext a; fin_cases a <;> rfl]
  rfl

theorem normed_eq (q : Fin 512) : val_main_v12 (F := Ideal) x0 x2 (ix2 r q)
    = Rms.norm Rms.n512 (fun k => x0 (ix2 r k)) (fun k => x2 (ix1 k)) q := by
  simp only [val_main_v12_apply, val_main_v11_apply, val_main_v10_apply, val_main_v9_apply, val_main_v8_apply, val_main_v7_apply,
    val_main_v6_apply, val_main_v5_apply, val_main_v4_apply, val_main_v3_apply, val_main_v2_apply, val_main_cst_0_apply,
    val_main_cst_1_apply, sum_eq]
  rw [show idx_main_v10 (idx_main_v11 (ix2 r q)) = ix1 q from by funext a; fin_cases a; rfl]
  rfl
/-- The second group is normalised by the same text. -/
theorem normed_eq' (q : Fin 512) : val_main_v25 (F := Ideal) x1 x3 (ix2 r q)
    = Rms.norm Rms.n512 (fun k => x1 (ix2 r k)) (fun k => x3 (ix1 k)) q := normed_eq x1 x3 r q

theorem joined_left (k : Fin 512) : val_main_v26 (F := Ideal) x0 x1 x2 x3 (ix2 r ⟨k.val, by omega⟩)
    = Rms.norm Rms.n512 (fun k => x0 (ix2 r k)) (fun k => x2 (ix1 k)) k := by
  rw [← normed_eq]
  unfold val_main_v26
  exact concatenate_pair_apply_left (t := S8192x1024) (s₁ := S8192x512) (s₂ := S8192x512) 1 _ _ _ _ rfl (ix2 r k)
    fun b : Fin 2 => by fin_cases b <;> rfl
theorem joined_right (k : Fin 512) : val_main_v26 (F := Ideal) x0 x1 x2 x3 (ix2 r ⟨512 + k.val, by omega⟩)
    = Rms.norm Rms.n512 (fun k => x1 (ix2 r k)) (fun k => x3 (ix1 k)) k := by
  rw [← normed_eq']
  unfold val_main_v26
  exact concatenate_pair_apply_right (t := S8192x1024) (s₁ := S8192x512) (s₂ := S8192x512) 1 _ _ _ _ rfl rfl (ix2 r k)
    (fun (b : Fin 2) hb => by fin_cases b; exacts [rfl, absurd rfl hb]) (Nat.add_comm _ _)

/-- One half of the product. -/
def part (x : Vec Ideal S8192x512 .f32) (g : Vec Ideal S512 .f32) (o : ℕ) (ho : o + 512 ≤ 1024) (q : Fin 1024) : EReal :=
  ∑ k : Fin 512, Rms.norm Rms.n512 (fun k => x (ix2 r k)) (fun k => g (ix1 k)) k * x4 (ix2 ⟨o + k.val, by omega⟩ q)

theorem out_eq (q : Fin 1024) : val_main_v28 (F := Ideal) x0 x1 x2 x3 x4 x5 (ix2 r q)
    = x5 (ix2 r q) + (part x4 r x0 x2 0 (by decide) q + part x4 r x1 x3 512 (by decide) q) := by
  rw [val_main_v28_apply, val_main_v27_apply, Fin.sum_univ_two_halves 512 512 rfl]
  refine congrArg (x5 (ix2 r q) + ·) (congrArg₂ (· + ·) (Finset.sum_congr rfl fun k _ => congrArg₂ (· * ·) ?_ (congrArg x4 ?_))
    (Finset.sum_congr rfl fun k _ => congrArg₂ (· * ·) ?_ (congrArg x4 ?_)))
  · refine Eq.trans (congrArg _ ?_) (joined_left x0 x1 x2 x3 r k)
    funext a; fin_cases a <;> rfl
  · funext a; fin_cases a <;> refine Fin.ext ?_ <;> simp [ix2]
  · refine Eq.trans (congrArg _ ?_) (joined_right x0 x1 x2 x3 r k)
    funext a; fin_cases a <;> rfl
  · funext a; fin_cases a <;> rfl

end Cert.Reference6Ideal.MixOut

/-! ## The kernel -/

namespace Cert.Kernel6Ideal.MixOut

open Idealize.ShloMosaic Idealize.ShloMosaic.TcCoe Idealize.SL.Sem
open Idealize.ShloMosaic.Pipeline (Dat)
open Cert.Kernel6Ideal Cert.Kernel6Ideal.Gen

theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![t.val, 0]
    ∧ win0_6.index t = ![t.val, 0] :=
  (by decide +kernel : ∀ t : Fin grid0.N, win0_0.index t = ![t.val, 0] ∧ win0_1.index t = ![t.val, 0]
    ∧ win0_2.index t = ![0, 0] ∧ win0_3.index t = ![0, 0] ∧ win0_4.index t = ![0, 0] ∧ win0_5.index t = ![t.val, 0]
    ∧ win0_6.index t = ![t.val, 0])

theorem lt8 (t : Fin cfg0.N) : t.val < 8 := lt_of_lt_of_eq t.isLt N_0

variable (m : (ℓ : Loc nD τ sig) → Buf (Elt Ideal) ℓ) (c : Dev nD)

abbrev a0 : Vec Ideal S8192x512 .f32 := m ((c : Thread nD τ).loc main_arg0)
abbrev a1 : Vec Ideal S8192x512 .f32 := m ((c : Thread nD τ).loc main_arg1)
abbrev a2 : Vec Ideal S512 .f32 := m ((c : Thread nD τ).loc main_arg2)
abbrev a3 : Vec Ideal S512 .f32 := m ((c : Thread nD τ).loc main_arg3)
abbrev a4 : Vec Ideal S1024x1024 .f32 := m ((c : Thread nD τ).loc main_arg4)
abbrev a5 : Vec Ideal S8192x1024 .f32 := m ((c : Thread nD τ).loc main_arg5)

abbrev gs : Vec Ideal S1x512 .f32 := V m c main_v0
abbrev gs' : Vec Ideal S1x512 .f32 := V m c main_v1
abbrev ws : Vec Ideal S1024x1024 .bf16 := V m c main_v2

theorem gs_eq (q : Fin 512) : gs m c (ix2 0 q) = a2 m c (ix1 q) := by
  unfold gs V
  after_reads_at
theorem gs'_eq (q : Fin 512) : gs' m c (ix2 0 q) = a3 m c (ix1 q) := by
  unfold gs' V
  after_reads_at
theorem ws_eq (k q : Fin 1024) : ws m c (ix2 k q) = a4 m c (ix2 k q) := by
  unfold ws V
  after_reads_at

abbrev yAt (t : Fin cfg0.N) : Vec Ideal S1024x512 .f32 := iblk m c 0 t
abbrev yAt' (t : Fin cfg0.N) : Vec Ideal S1024x512 .f32 := iblk m c 1 t
abbrev gAt (t : Fin cfg0.N) : Vec Ideal S1x512 .f32 := iblk m c 2 t
abbrev gAt' (t : Fin cfg0.N) : Vec Ideal S1x512 .f32 := iblk m c 3 t
abbrev wAt (t : Fin cfg0.N) : Vec Ideal S1024x1024 .bf16 := iblk m c 4 t
abbrev xAt (t : Fin cfg0.N) : Vec Ideal S1024x1024 .f32 := iblk m c 5 t

/-- The row of the whole array that is row `p` of the point's tile. -/
abbrev row' (t : Fin cfg0.N) (p : Fin 1024) : Fin 8192 := ⟨t.val * 1024 + p.val, by have := lt8 t; omega⟩

theorem yAt_apply (t : Fin cfg0.N) (p : Fin 1024) (q : Fin 512) : yAt m c t (ix2 p q) = a0 m c (ix2 (row' t p) q) := by
  rw [show a0 m c = V m c main_arg0 from (V_main_arg0 m c).symm]
  blk_ext [yAt, iblk, idx t]
theorem yAt'_apply (t : Fin cfg0.N) (p : Fin 1024) (q : Fin 512) : yAt' m c t (ix2 p q) = a1 m c (ix2 (row' t p) q) := by
  rw [show a1 m c = V m c main_arg1 from (V_main_arg1 m c).symm]
  blk_ext [yAt', iblk, idx t]
theorem gAt_apply (t : Fin cfg0.N) (q : Fin 512) : gAt m c t (ix2 0 q) = a2 m c (ix1 q) := by
  rw [← gs_eq]
  blk_ext [gAt, iblk, idx t]
theorem gAt'_apply (t : Fin cfg0.N) (q : Fin 512) : gAt' m c t (ix2 0 q) = a3 m c (ix1 q) := by
  rw [← gs'_eq]
  blk_ext [gAt', iblk, idx t]
theorem wAt_apply (t : Fin cfg0.N) (k q : Fin 1024) : wAt m c t (ix2 k q) = a4 m c (ix2 k q) := by
  rw [← ws_eq]
  blk_ext [wAt, iblk, idx t]
theorem xAt_apply (t : Fin cfg0.N) (p q : Fin 1024) : xAt m c t (ix2 p q) = a5 m c (ix2 (row' t p) q) := by
  rw [show a5 m c = V m c main_arg5 from (V_main_arg5 m c).symm]
  blk_ext [xAt, iblk, idx t]

/-- One group's part of one tile. -/
def part (y : Vec Ideal S1024x512 .f32) (g : Vec Ideal S1x512 .f32) (w : Vec Ideal S512x1024 .bf16) (p q : Fin 1024) : EReal :=
  ∑ k : Fin 512, Rms.norm Rms.n512 (fun k => y (ix2 p k)) (fun k => g (ix2 0 k)) k * w (ix2 k q)

theorem pay2_apply (y : Vec Ideal S1024x512 .f32) (g : Vec Ideal S1x512 .f32) (x : Vec Ideal S1024x1024 .f32)
    (w : Vec Ideal S512x1024 .bf16) (p q : Fin 1024) : k0_pay2 y g x w (ix2 p q) = x (ix2 p q) + part y g w p q := by
  pointwise [k0_pay2]
  rfl
theorem pay3_apply (y : Vec Ideal S1024x512 .f32) (g : Vec Ideal S1x512 .f32) (p : Fin 1024) (q : Fin 512) :
    k0_pay3 y g (ix2 p q) = Rms.norm Rms.n512 (fun k => y (ix2 p k)) (fun k => g (ix2 0 k)) q := by
  pointwise [k0_pay3]
  rfl
theorem pay1_apply (z : Vec Ideal S1024x1024 .f32) (n : Vec Ideal S1024x512 .bf16) (w : Vec Ideal S512x1024 .bf16) (p q : Fin 1024) :
    k0_pay1 z n w (ix2 p q) = z (ix2 p q) + ∑ k : Fin 512, n (ix2 p k) * w (ix2 k q) := by
  pointwise [k0_pay1]

theorem ld_w (w : Vec Ideal S1024x1024 .bf16) (o : ℕ) (ho : o + 512 ≤ 1024)
    (inb : ∀ a, (![o, 0] : Fin 2 → ℕ) a + S512x1024.size a ≤ S1024x1024.size a) (k : Fin 512) (q : Fin 1024) :
    View.ld w (Rect.unit (s := S1024x1024) ![o, 0] S512x1024.size inb) (ix2 k q) = w (ix2 ⟨o + k.val, by omega⟩ q) :=
  View.ld_unit_apply_of _ _ _ _ _ _ fun a => by fin_cases a <;> simp [ix2]

/-- The result. -/
def res : Vec Ideal S8192x1024 .f32 := fun i =>
  a5 m c (ix2 (i 0) (i 1)) + (Reference6Ideal.MixOut.part (a4 m c) (i 0) (a0 m c) (a2 m c) 0 (by decide) (i 1)
    + Reference6Ideal.MixOut.part (a4 m c) (i 0) (a1 m c) (a3 m c) 512 (by decide) (i 1))

theorem out_apply (t : Fin cfg0.N) (p q : Fin 1024) :
    out0_6 (yAt m c t) (yAt' m c t) (gAt m c t) (gAt' m c t) (wAt m c t) (xAt m c t) (ix2 p q) = res m c (ix2 (row' t p) q) := by
  unfold out0_6
  refine (congrFun (Whole.stored Whole.zero2 _ _ _) _).trans ?_
  rw [View.ld_unit_zero Whole.zero2, View.ld_unit_zero Whole.zero2, View.ld_unit_zero Whole.zero2, View.ld_unit_zero Whole.zero2,
    View.ld_unit_zero Whole.zero2, pay1_apply, pay2_apply, add_assoc, xAt_apply]
  refine congrArg (_ + ·) (congrArg₂ (· + ·) (Finset.sum_congr rfl fun k _ => congrArg₂ (· * ·) ?_ ?_)
    (Finset.sum_congr rfl fun k _ => congrArg₂ (· * ·) ?_ ?_))
  · simp only [yAt_apply, gAt_apply]; rfl
  · rw [ld_w _ 0 (by decide), wAt_apply]; rfl
  · rw [pay3_apply]; simp only [yAt'_apply, gAt'_apply]; rfl
  · rw [ld_w _ 512 (by decide), wAt_apply]; rfl

theorem arr6 : (dats m 0 c).arrAt 6 cfg0.N = res m c := by
  refine (dats m 0 c).arrAt_eq_of_covers 6 _ (by decide +kernel) fun t hf y => ?_
  obtain ⟨p, q, rfl⟩ : ∃ (p q : Fin 1024), y = ix2 p q := ⟨y 0, y 1, eq_ix2 y⟩
  have e : (win0_6.blk t).view.emb (ix2 p q) = (ix2 (row' t p) q : S8192x1024.Idx) := by
    funext b; fin_cases b <;> refine Fin.ext ?_ <;> blk_simp [idx t] <;> rfl
  blk_simp [idx t]
  rw [after0_6, e]
  exact out_apply m c t p q

theorem same : res m c = Reference6Ideal.Read.val_main_v28 (F := Ideal) (a0 m c) (a1 m c) (a2 m c) (a3 m c) (a4 m c) (a5 m c) := by
  funext i
  obtain ⟨r, q, rfl⟩ : ∃ (r : Fin 8192) (q : Fin 1024), i = ix2 r q := ⟨i 0, i 1, eq_ix2 i⟩
  exact (Reference6Ideal.MixOut.out_eq (a0 m c) (a1 m c) (a2 m c) (a3 m c) (a4 m c) (a5 m c) r q).symm

theorem algebraic : Cert.algebraic_Kernel6Ideal_Reference6Ideal (hKernel6Ideal := Kernel6Ideal.Gen.facts)
    (hReference6Ideal := Reference6Ideal.Gen.facts) := by
  intro m g m' g' _ ha
  refine ⟨fun c => Reference6Ideal.Read.val_main_v28 (F := Ideal) (a0 m c) (a1 m c) (a2 m c) (a3 m c) (a4 m c) (a5 m c), ?_, ?_⟩
  · exact (θ_run Kernel6Ideal.defs _ _).mono (fun r h c => ⟨(h c).1.trans ((arr6 m c).trans (same m c)), (h c).2⟩)
      (Value.run_blocks (F := Ideal) m g)
  · refine (θ_run Reference6Ideal.defs _ _).mono (fun r h c => ?_) (Reference6Ideal.Value.run (F := Ideal) m' g')
    obtain ⟨k0, k1⟩ := h c
    obtain ⟨e0, e1, e2, e3, e4, e5⟩ := ha c
    rw [Reference6Ideal.Read.val_main_v28_eq] at k0
    refine ⟨k0.trans ?_, k1⟩
    simp only [a0, a1, a2, a3, a4, a5, ← e0, ← e1, ← e2, ← e3, ← e4, ← e5]

end Cert.Kernel6Ideal.MixOut

end
-- ==== Proof.MixInBwdBody.lean ====
/- The backward input projection of the mixing layer, one grid point: what its body leaves in the three result blocks, as
   functions of the blocks it finds. -/
module

public import proofs.«01_k».proof.Proof.Gen.Kernel7Ideal.Frame
public import proofs.«01_k».proof.Proof.Rms
public import proofs.«01_k».proof.Proof.Whole

@[expose] public section

set_option maxRecDepth 16384

noncomputable section

namespace Cert.Kernel7Ideal.MixIn

open Idealize.ShloMosaic Idealize.ShloMosaic.TcCoe Idealize.ShloMosaic.Tactic Idealize.SL.Sem
open Cert.Kernel7Ideal Cert.Kernel7Ideal.Gen

/-! ## The three blocks of rows of the weights' gradient -/

theorem row_inb (b : Fin 3) : ∀ a, (![512 * b.val, 0] : Fin 2 → ℕ) a + S512x1024.size a ≤ S1536x1024.size a := by
  revert b; decide
/-- The rows of the weights' gradient that one of the three incoming gradients fills. -/
abbrev rowRect (b : Fin 3) : Rect S1536x1024 := Rect.unit ![512 * b.val, 0] S512x1024.size (row_inb b)

theorem row_disj (b b' : Fin 3) (h : b ≠ b') : LoadRect.disj (rowRect b) (rowRect b').toLoadRect = true := by
  revert b b'; decide

/-- Three blocks of rows, one below the other, and one block of an array. -/
def rows3 (f : Fin 3 → Vec Ideal S512x1024 .f32) : Vec Ideal S1536x1024 .f32 := fun i =>
  f ⟨(i 0).val / 512, by have := ValueIdx.idx2_lt0 i; omega⟩ (ix2 ⟨(i 0).val % 512, Nat.mod_lt _ (by decide)⟩ (i 1))
def ldRow (x : Vec Ideal S1536x1024 .f32) (b : Fin 3) : Vec Ideal S512x1024 .f32 := View.ld x (rowRect b)

theorem ldRow_apply (x : Vec Ideal S1536x1024 .f32) (b : Fin 3) (p : Fin 512) (q : Fin 1024) :
    ldRow x b (ix2 p q) = x (ix2 ⟨512 * b.val + p.val, by omega⟩ q) := by
  pointwise [ldRow]

/-- What the three stores leave, whatever stood there before. -/
theorem canon_rows3 (v : View sig .tc .vmem S1536x1024 .f32) (f : Fin 3 → Vec Ideal S512x1024 .f32)
    (L : List (View.Piece (Elt Ideal) S1536x1024 .f32)) :
    View.canon ((⟨rowRect 2, f 2⟩ : View.Piece (Elt Ideal) S1536x1024 .f32) :: ⟨rowRect 1, f 1⟩ :: ⟨rowRect 0, f 0⟩ :: L) = rows3 f := by
  have hy (b : Fin 3) : v.readCov ((⟨rowRect 2, f 2⟩ : View.Piece (Elt Ideal) S1536x1024 .f32) :: ⟨rowRect 1, f 1⟩ :: ⟨rowRect 0, f 0⟩ :: L)
      (rowRect b).toLoadRect = f b := by
    fin_cases b
    · refine (View.readCov_skip v _ _ _ _ (row_disj 2 0 (by decide))).trans ?_
      refine (View.readCov_skip v _ _ _ _ (row_disj 1 0 (by decide))).trans ?_
      exact View.readCov_cons_toLoadRect v (rowRect 0) (f 0) _
    · refine (View.readCov_skip v _ _ _ _ (row_disj 2 1 (by decide))).trans ?_
      exact View.readCov_cons_toLoadRect v (rowRect 1) (f 1) _
    · exact View.readCov_cons_toLoadRect v (rowRect 2) (f 2) _
  funext y
  have h0 := ValueIdx.idx2_lt0 y
  have e := hy ⟨(y 0).val / 512, by omega⟩
  rw [View.readCov_eq_canon'] at e
  have e' := congrFun e (ix2 ⟨(y 0).val % 512, Nat.mod_lt _ (by decide)⟩ (y 1))
  have hi : (rowRect ⟨(y 0).val / 512, by omega⟩).toLoadRect.idx (ix2 ⟨(y 0).val % 512, Nat.mod_lt _ (by decide)⟩ (y 1)) = y := by
    funext a
    refine Fin.ext ?_
    match a with
    | ⟨0, _⟩ => exact (ValueKit.rect_emb_unit_val (s := S1536x1024) _ S512x1024.size (row_inb _) _ 0).trans (Nat.div_add_mod _ 512)
    | ⟨1, _⟩ => exact (ValueKit.rect_emb_unit_val (s := S1536x1024) _ S512x1024.size (row_inb _) _ 1).trans (Nat.zero_add _)
  rw [hi] at e'
  exact e'

/-! ## The body's arithmetic -/

/-- The columns of the weights that meet one of the three incoming gradients. -/
def wcols (w : Vec Ideal S1024x1536 .bf16) (b : Fin 3) : Vec Ideal S1024x512 .bf16 := fun i =>
  w (ix2 (i 0) ⟨512 * b.val + (i 1).val, by have := ValueIdx.idx2_lt1 i; omega⟩)

theorem ld_w {M : Memref sig .tc .vmem S1024x1536 .bf16} (h : M.IsWhole) (w : Vec Ideal S1024x1536 .bf16) (b : Fin 3) {off : Fin 2 → ℕ}
    (ho : off = ![0, 512 * b.val]) (inb : ∀ a, off a + S1024x512.size a ≤ S1024x1536.size a) :
    View.readAt (Elt Ideal) M.view (Rect.unit (s := S1024x1536) off S1024x512.size inb).toLoadRect (h.unread w) = wcols w b := by
  subst ho
  rw [View.readAt_eq_ld, h.read_unread]
  funext i
  refine View.ld_unit_apply_of _ _ _ _ _ _ fun a => ?_
  fin_cases a <;> simp [ix2]

abbrev rowOf (x : Vec Ideal S512x1024 .f32) (p : Fin 512) : Fin 1024 → EReal := fun q => x (ix2 p q)
abbrev gainRow (g : Vec Ideal S1x1024 .f32) : Fin 1024 → EReal := fun q => g (ix2 0 q)

section
variable (x : Vec Ideal S512x1024 .f32) (g : Vec Ideal S1x1024 .f32) (d0 d1 d2 : Vec Ideal S512x512 .f32)
  (y : Vec Ideal S512x1024 .f32) (w : Vec Ideal S1024x1536 .bf16) (p : Fin 512) (q : Fin 1024)

/-- What flows back to the normalised row. -/
def dn : EReal := (∑ k : Fin 512, d0 (ix2 p k) * w (ix2 q ⟨512 * 0 + k.val, by omega⟩))
  + (∑ k : Fin 512, d1 (ix2 p k) * w (ix2 q ⟨512 * 1 + k.val, by omega⟩))
  + ∑ k : Fin 512, d2 (ix2 p k) * w (ix2 q ⟨512 * 2 + k.val, by omega⟩)

theorem pay4_apply : k0_pay4 g (ix2 0 q) = g (ix2 0 q) := by pointwise [k0_pay4]
theorem pay5_apply (a : Fin 1) : k0_pay5 x (ix2 p a) = Rms.scale Rms.n1024 (rowOf x p) := by
  pointwise [k0_pay5]
  rfl
theorem pay6_apply : k0_pay6 x (ix2 p q) = x (ix2 p q) * Rms.scale Rms.n1024 (rowOf x p) := by
  pointwise [k0_pay6]
  rw [pay5_apply]
theorem pay7_apply : k0_pay7 g x (ix2 p q) = Rms.norm Rms.n1024 (rowOf x p) (gainRow g) q := by
  pointwise [k0_pay7]
  rw [pay6_apply, pay4_apply]
  rfl

/-- One step of the weights' gradient. -/
abbrev dwStep (d : Vec Ideal S512x512 .f32) (old : Vec Ideal S512x1024 .f32) : Vec Ideal S512x1024 .f32 := k0_pay10 g x d old

theorem dwStep_apply (d : Vec Ideal S512x512 .f32) (old : Vec Ideal S512x1024 .f32) (k : Fin 512) : dwStep x g d old (ix2 k q)
    = old (ix2 k q) + ∑ p : Fin 512, d (ix2 p k) * Rms.norm Rms.n1024 (rowOf x p) (gainRow g) q := by
  pointwise [k0_pay10, k0_pay8]
  simp only [pay7_apply]

theorem pay14_apply : k0_pay14 (k0_pay9 d0 (wcols w 0)) (k0_pay11 d1) (wcols w 1) d2 (wcols w 2) (ix2 p q) = dn d0 d1 d2 w p q := by
  pointwise [k0_pay14, k0_pay9, k0_pay8, k0_pay11, k0_pay13, wcols]
  rfl

/-- The gradient of the input rows, and one step of the gain's. -/
def dxOf : Vec Ideal S512x1024 .f32 :=
  k0_pay17 (k0_pay4 g) (k0_pay5 x) (k0_pay6 x) (k0_pay9 d0 (wcols w 0)) (k0_pay11 d1) (wcols w 1) d2 (wcols w 2) y
def dgOf (old : Vec Ideal S8x1024 .f32) : Vec Ideal S8x1024 .f32 :=
  k0_pay1 (k0_pay16 (k0_pay6 x) (k0_pay9 d0 (wcols w 0)) (k0_pay11 d1) (wcols w 1) d2 (wcols w 2)) old

theorem dxOf_apply : dxOf x g d0 d1 d2 y w (ix2 p q)
    = y (ix2 p q) + Rms.back Rms.n1024 (rowOf x p) (gainRow g) (fun e => dn d0 d1 d2 w p e) q := by
  pointwise [dxOf, k0_pay17]
  simp only [pay14_apply, pay4_apply, pay5_apply, pay6_apply]
  rfl
theorem dgOf_apply (old : Vec Ideal S8x1024 .f32) (e : Fin 8) : dgOf x d0 d1 d2 w old (ix2 e q) = old (ix2 e q)
    + ∑ a : Fin 64, dn d0 d1 d2 w ⟨a.val * 8 + e.val, by omega⟩ q * (x (ix2 ⟨a.val * 8 + e.val, by omega⟩ q)
      * Rms.scale Rms.n1024 (rowOf x ⟨a.val * 8 + e.val, by omega⟩)) := by
  pointwise [dgOf, k0_pay1, k0_pay16]
  simp only [pay14_apply, pay6_apply]

theorem zero_dw (i : S1536x1024.Idx) : k0_pay2 (F := Ideal) i = 0 := by pointwise [k0_pay2]
theorem zero_dg (i : S8x1024.Idx) : k0_pay3 (F := Ideal) i = 0 := by pointwise [k0_pay3]

end

/-! ## The blocks after the body, at the first grid point (A) and at a later one (B) -/

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S512x512 .f32) (harg5 : arg5.IsWhole)
  (arg6 : Memref sig .tc .vmem S512x1024 .f32) (harg6 : arg6.IsWhole)
  (arg7 : Memref sig .tc .vmem S1024x1536 .bf16) (harg7 : arg7.IsWhole)
  (arg8 : Memref sig .tc .vmem S512x1024 .f32) (harg8 : arg8.IsWhole)
  (arg9 : Memref sig .tc .vmem S1536x1024 .f32) (harg9 : arg9.IsWhole)
  (arg10 : Memref sig .tc .vmem S8x1024 .f32) (harg10 : arg10.IsWhole)
  (x0 : Vec Ideal S512x1024 .f32) (x1 : Vec Ideal S1x1024 .f32) (x2 x3 x4 : Vec Ideal S512x512 .f32)
  (x5 : Vec Ideal S512x1024 .f32) (x6 : Vec Ideal S1024x1536 .bf16)
  (xo8 : Vec Ideal S1536x1024 .f32) (xo9 : Vec Ideal S8x1024 .f32)

abbrev three (d0 d1 d2 : Vec Ideal S512x512 .f32) (b : Fin 3) : Vec Ideal S512x512 .f32 := match b with
  | 0 => d0 | 1 => d1 | 2 => d2

theorem outA_7 (hc0 : cond0_0 i) :
    out0_A_7 c i arg1 harg1 arg2 harg2 arg3 harg3 arg4 harg4 arg5 harg5 arg6 harg6 arg7 harg7 arg8 harg8 arg9 harg9 arg10 harg10 hc0
      x0 x1 x2 x3 x4 x5 x6 = dxOf x0 x1 x2 x3 x4 x5 x6 := by
  have hc := cover0_A_7 c i arg1 harg1 arg2 harg2 arg3 harg3 arg4 harg4 arg5 harg5 arg6 harg6 arg7 harg7 arg8 harg8 arg9 harg9 arg10 harg10 hc0
    x0 x1 x2 x3 x4 x5 x6
  unfold out0_A_7
  rw [View.read_writes_eq_canon _ _ _ hc]
  unfold kernelRun0_A
  dsimp only
  sl_unfold_words
  refine (Whole.stored Whole.zero2 _ _ _).trans ?_
  rw [Whole.load harg1 Whole.zero2, Whole.load harg2 Whole.zero2, Whole.load harg3 Whole.zero2, Whole.load harg4 Whole.zero2,
    Whole.load harg5 Whole.zero2, Whole.load harg6 Whole.zero2, ld_w (off := ![0, 0]) harg7 x6 0 rfl, ld_w (off := ![0, 512]) harg7 x6 1 rfl, ld_w (off := ![0, 1024]) harg7 x6 2 rfl]
  rfl

theorem outB_7 (hc0 : ¬cond0_0 i) :
    out0_B_7 c i arg1 harg1 arg2 harg2 arg3 harg3 arg4 harg4 arg5 harg5 arg6 harg6 arg7 harg7 arg8 harg8 arg9 harg9 arg10 harg10 hc0
      x0 x1 x2 x3 x4 x5 x6 xo8 xo9 = dxOf x0 x1 x2 x3 x4 x5 x6 := by
  have hc := cover0_B_7 c i arg1 harg1 arg2 harg2 arg3 harg3 arg4 harg4 arg5 harg5 arg6 harg6 arg7 harg7 arg8 harg8 arg9 harg9 arg10 harg10 hc0
    x0 x1 x2 x3 x4 x5 x6 xo8 xo9
  unfold out0_B_7
  rw [View.read_writes_eq_canon _ _ _ hc]
  unfold kernelRun0_B
  dsimp only
  sl_unfold_words
  refine (Whole.stored Whole.zero2 _ _ _).trans ?_
  rw [Whole.load harg1 Whole.zero2, Whole.load harg2 Whole.zero2, Whole.load harg3 Whole.zero2, Whole.load harg4 Whole.zero2,
    Whole.load harg5 Whole.zero2, Whole.load harg6 Whole.zero2, ld_w (off := ![0, 0]) harg7 x6 0 rfl, ld_w (off := ![0, 512]) harg7 x6 1 rfl, ld_w (off := ![0, 1024]) harg7 x6 2 rfl]
  rfl

theorem outA_9 (hc0 : cond0_0 i) :
    out0_A_9 c i arg1 harg1 arg2 harg2 arg3 harg3 arg4 harg4 arg5 harg5 arg6 harg6 arg7 harg7 arg8 harg8 arg9 harg9 arg10 harg10 hc0
      x0 x1 x2 x3 x4 x5 x6 = dgOf x0 x2 x3 x4 x6 (k0_pay3 (F := Ideal)) := by
  have hc := cover0_A_9 c i arg1 harg1 arg2 harg2 arg3 harg3 arg4 harg4 arg5 harg5 arg6 harg6 arg7 harg7 arg8 harg8 arg9 harg9 arg10 harg10 hc0
    x0 x1 x2 x3 x4 x5 x6
  unfold out0_A_9
  rw [View.read_writes_eq_canon _ _ _ hc]
  unfold kernelRun0_A
  dsimp only
  sl_unfold_words
  refine (Whole.stored Whole.zero2 _ _ _).trans ?_
  rw [Whole.load harg1 Whole.zero2, Whole.load harg3 Whole.zero2, Whole.load harg4 Whole.zero2,
    Whole.load harg5 Whole.zero2, ld_w (off := ![0, 0]) harg7 x6 0 rfl, ld_w (off := ![0, 512]) harg7 x6 1 rfl, ld_w (off := ![0, 1024]) harg7 x6 2 rfl, Whole.reload]
  rfl

theorem outB_9 (hc0 : ¬cond0_0 i) :
    out0_B_9 c i arg1 harg1 arg2 harg2 arg3 harg3 arg4 harg4 arg5 harg5 arg6 harg6 arg7 harg7 arg8 harg8 arg9 harg9 arg10 harg10 hc0
      x0 x1 x2 x3 x4 x5 x6 xo8 xo9 = dgOf x0 x2 x3 x4 x6 xo9 := by
  have hc := cover0_B_9 c i arg1 harg1 arg2 harg2 arg3 harg3 arg4 harg4 arg5 harg5 arg6 harg6 arg7 harg7 arg8 harg8 arg9 harg9 arg10 harg10 hc0
    x0 x1 x2 x3 x4 x5 x6 xo8 xo9
  unfold out0_B_9
  rw [View.read_writes_eq_canon _ _ _ hc]
  unfold kernelRun0_B
  dsimp only
  sl_unfold_words
  refine (Whole.stored Whole.zero2 _ _ _).trans ?_
  rw [Whole.load harg1 Whole.zero2, Whole.load harg3 Whole.zero2, Whole.load harg4 Whole.zero2,
    Whole.load harg5 Whole.zero2, ld_w (off := ![0, 0]) harg7 x6 0 rfl, ld_w (off := ![0, 512]) harg7 x6 1 rfl, ld_w (off := ![0, 1024]) harg7 x6 2 rfl, Whole.load harg10 Whole.zero2]
  rfl

theorem dw_inb : ∀ a, (![0, 0] : Fin 2 → ℕ) a + S1536x1024.size a ≤ S1536x1024.size a := by decide
abbrev dwZero : View.Piece (Elt Ideal) S1536x1024 .f32 := ⟨Rect.unit ![0, 0] S1536x1024.size dw_inb, k0_pay2 (F := Ideal)⟩

theorem outA_8 (hc0 : cond0_0 i) :
    out0_A_8 c i arg1 harg1 arg2 harg2 arg3 harg3 arg4 harg4 arg5 harg5 arg6 harg6 arg7 harg7 arg8 harg8 arg9 harg9 arg10 harg10 hc0
      x0 x1 x2 x3 x4 x5 x6 = rows3 fun b => dwStep x0 x1 (three x2 x3 x4 b) (ldRow (k0_pay2 (F := Ideal)) b) := by
  have hc := cover0_A_8 c i arg1 harg1 arg2 harg2 arg3 harg3 arg4 harg4 arg5 harg5 arg6 harg6 arg7 harg7 arg8 harg8 arg9 harg9 arg10 harg10 hc0
    x0 x1 x2 x3 x4 x5 x6
  unfold out0_A_8
  rw [View.read_writes_eq_canon _ _ _ hc]
  unfold kernelRun0_A
  dsimp only
  sl_unfold_words
  rw [Whole.load harg1 Whole.zero2, Whole.load harg2 Whole.zero2, Whole.load harg3 Whole.zero2, Whole.load harg4 Whole.zero2,
    Whole.load harg5 Whole.zero2]
  have z0 : arg9.view.readCov [dwZero] (rowRect 0).toLoadRect = ldRow (k0_pay2 (F := Ideal)) 0 := View.readCov_fill _ _ _ _ _ (by decide)
  have z1 : arg9.view.readCov [dwZero] (rowRect 1).toLoadRect = ldRow (k0_pay2 (F := Ideal)) 1 := View.readCov_fill _ _ _ _ _ (by decide)
  have z2 : arg9.view.readCov [dwZero] (rowRect 2).toLoadRect = ldRow (k0_pay2 (F := Ideal)) 2 := View.readCov_fill _ _ _ _ _ (by decide)
  refine Eq.trans ?_ (canon_rows3 arg9.view (fun b => dwStep x0 x1 (three x2 x3 x4 b) (ldRow (k0_pay2 (F := Ideal)) b)) [dwZero])
  have e1 (f : Vec Ideal S512x1024 .f32) : arg9.view.readCov [⟨rowRect 0, f⟩, dwZero] (rowRect 1).toLoadRect = ldRow (k0_pay2 (F := Ideal)) 1 :=
    (View.readCov_skip _ _ _ _ _ (row_disj 0 1 (by decide))).trans z1
  have e2 (f f' : Vec Ideal S512x1024 .f32) : arg9.view.readCov [⟨rowRect 1, f'⟩, ⟨rowRect 0, f⟩, dwZero] (rowRect 2).toLoadRect
      = ldRow (k0_pay2 (F := Ideal)) 2 :=
    (View.readCov_skip _ _ _ _ _ (row_disj 1 2 (by decide))).trans ((View.readCov_skip _ _ _ _ _ (row_disj 0 2 (by decide))).trans z2)
  show View.canon [⟨rowRect 2, dwStep x0 x1 x4 (arg9.view.readCov [⟨rowRect 1, dwStep x0 x1 x3 (arg9.view.readCov [⟨rowRect 0,
      dwStep x0 x1 x2 (arg9.view.readCov [dwZero] (rowRect 0).toLoadRect)⟩, dwZero] (rowRect 1).toLoadRect)⟩,
      ⟨rowRect 0, dwStep x0 x1 x2 (arg9.view.readCov [dwZero] (rowRect 0).toLoadRect)⟩, dwZero] (rowRect 2).toLoadRect)⟩,
    ⟨rowRect 1, dwStep x0 x1 x3 (arg9.view.readCov [⟨rowRect 0,
      dwStep x0 x1 x2 (arg9.view.readCov [dwZero] (rowRect 0).toLoadRect)⟩, dwZero] (rowRect 1).toLoadRect)⟩,
    ⟨rowRect 0, dwStep x0 x1 x2 (arg9.view.readCov [dwZero] (rowRect 0).toLoadRect)⟩, dwZero] = _
  rw [e2, e1, z0]

theorem outB_8 (hc0 : ¬cond0_0 i) :
    out0_B_8 c i arg1 harg1 arg2 harg2 arg3 harg3 arg4 harg4 arg5 harg5 arg6 harg6 arg7 harg7 arg8 harg8 arg9 harg9 arg10 harg10 hc0
      x0 x1 x2 x3 x4 x5 x6 xo8 xo9 = rows3 fun b => dwStep x0 x1 (three x2 x3 x4 b) (ldRow xo8 b) := by
  have hc := cover0_B_8 c i arg1 harg1 arg2 harg2 arg3 harg3 arg4 harg4 arg5 harg5 arg6 harg6 arg7 harg7 arg8 harg8 arg9 harg9 arg10 harg10 hc0
    x0 x1 x2 x3 x4 x5 x6 xo8 xo9
  unfold out0_B_8
  rw [View.read_writes_eq_canon _ _ _ hc]
  unfold kernelRun0_B
  dsimp only
  sl_unfold_words
  rw [Whole.load harg1 Whole.zero2, Whole.load harg2 Whole.zero2, Whole.load harg3 Whole.zero2, Whole.load harg4 Whole.zero2,
    Whole.load harg5 Whole.zero2]
  refine Eq.trans ?_ (canon_rows3 arg9.view (fun b => dwStep x0 x1 (three x2 x3 x4 b) (ldRow xo8 b)) [])
  have e (b : Fin 3) : View.readAt (Elt Ideal) arg9.view (rowRect b).toLoadRect (harg9.unread xo8) = ldRow xo8 b := by
    rw [View.readAt_eq_ld, harg9.read_unread]; rfl
  rw [← e 0, ← e 1, ← e 2]
  rfl

end Cert.Kernel7Ideal.MixIn

end
-- ==== Proof.MixInBwdRef.lean ====
/- The reference gradient of the mixing layer's input projection: its three results, entry by entry. -/
module

public import proofs.«01_k».proof.Proof.Gen.Reference7Ideal.Read
public import proofs.«01_k».proof.Proof.Rms

@[expose] public section

set_option maxRecDepth 16384

noncomputable section

namespace Cert.Reference7Ideal.MixIn

open Cert.Reference7Ideal Cert.Reference7Ideal.Gen Cert.Reference7Ideal.Read Idealize.ShloMosaic

variable (x0 : Vec Ideal S8192x1024 .f32) (x1 : Vec Ideal S1024 .f32) (x2 x3 x4 : Vec Ideal S8192x512 .f32)
  (x5 : Vec Ideal S8192x1024 .f32) (x6 : Vec Ideal S1024x1536 .f32) (r : Fin 8192)

abbrev xRow : Fin 1024 → EReal := fun q => x0 (ix2 r q)
abbrev gRow : Fin 1024 → EReal := fun q => x1 (ix1 q)

/-- One of the three incoming gradients. -/
def grad (b : Fin 3) : Vec Ideal S8192x512 .f32 := match b with
  | 0 => x2 | 1 => x3 | 2 => x4

/-- What flows back to the normalised row. -/
def dnorm (q : Fin 1024) : EReal :=
  (∑ k : Fin 512, x2 (ix2 r k) * x6 (ix2 q ⟨512 * 0 + k.val, by omega⟩))
    + (∑ k : Fin 512, x3 (ix2 r k) * x6 (ix2 q ⟨512 * 1 + k.val, by omega⟩))
    + ∑ k : Fin 512, x4 (ix2 r k) * x6 (ix2 q ⟨512 * 2 + k.val, by omega⟩)

/-! ## The normalised rows -/

theorem sum_eq (i : S8192.Idx) : val_main_v1 (F := Ideal) x0 i = ∑ k : Fin 1024, x0 (ix2 (i 0) k) * x0 (ix2 (i 0) k) := by
  rw [val_main_v1_apply, val_main_cst_apply]
  show Ideal.ofBits .f32 0x00000000#32 + _ = _
  rw [Ideal.ofBits_zero_f32, zero_add]
  refine Finset.sum_congr rfl fun k _ => ?_
  rw [val_main_v0_apply, show idx_main_v1 i k = ix2 (i 0) k from by funext a; fin_cases a <;> rfl]
  rfl
theorem msq_eq (a : Fin 1) : val_main_v6 (F := Ideal) x0 (ix2 r a) = Ideal.div (∑ k, xRow x0 r k * xRow x0 r k) Rms.n1024 + Ideal.ofBits .f32 0x358637BD#32 := by
  simp only [val_main_v6_apply, val_main_v5_apply, val_main_v4_apply, val_main_v3_apply, val_main_v2_apply, val_main_cst_0_apply,
    val_main_cst_1_apply, sum_eq]
  rfl
theorem scale_eq (a : Fin 1) : val_main_v7 (F := Ideal) x0 (ix2 r a) = Rms.scale Rms.n1024 (xRow x0 r) := by
  rw [val_main_v7_apply, msq_eq]; rfl
theorem xh_eq (q : Fin 1024) : val_main_v12 (F := Ideal) x0 (ix2 r q) = x0 (ix2 r q) * Rms.scale Rms.n1024 (xRow x0 r) := by
  rw [val_main_v12_apply, val_main_v11_apply, show idx_main_v11 (ix2 r q) = ix2 r 0 from by funext a; fin_cases a <;> rfl, scale_eq]
  rfl
theorem norm_eq (q : Fin 1024) : val_main_v15 (F := Ideal) x0 x1 (ix2 r q) = Rms.norm Rms.n1024 (xRow x0 r) (gRow x1) q := by
  rw [val_main_v15_apply, xh_eq, val_main_v14_apply, val_main_v13_apply,
    show idx_main_v13 (idx_main_v14 (ix2 r q)) = ix1 q from by funext a; fin_cases a; rfl]
  rfl

/-! ## What flows back to the normalised rows -/

theorem cat_eq (b : Fin 3) (k : Fin 512) : val_main_v17 (F := Ideal) x2 x3 x4 (ix2 r ⟨b.val * 512 + k.val, by omega⟩) = grad x2 x3 x4 b (ix2 r k) := by
  unfold val_main_v17
  fin_cases b
  · refine concatenate_apply_piece (t := S8192x1536) (1 : Fin 2) [⟨S8192x512, x2⟩, ⟨S8192x512, x3⟩, ⟨S8192x512, x4⟩] _ _ 0 (by simp) S8192x512 x2 rfl rfl 0 rfl (ix2 r k) (fun b hb => ?_) ?_
    · fin_cases b
      · rfl
      · exact absurd rfl hb
    · show 0 + k.val = 0 * 512 + k.val; omega
  · refine concatenate_apply_piece (t := S8192x1536) (1 : Fin 2) [⟨S8192x512, x2⟩, ⟨S8192x512, x3⟩, ⟨S8192x512, x4⟩] _ _ 1 (by simp) S8192x512 x3 rfl rfl 512 rfl (ix2 r k) (fun b hb => ?_) ?_
    · fin_cases b
      · rfl
      · exact absurd rfl hb
    · show 512 + k.val = 1 * 512 + k.val; omega
  · refine concatenate_apply_piece (t := S8192x1536) (1 : Fin 2) [⟨S8192x512, x2⟩, ⟨S8192x512, x3⟩, ⟨S8192x512, x4⟩] _ _ 2 (by simp) S8192x512 x4 rfl rfl 1024 rfl (ix2 r k) (fun b hb => ?_) ?_
    · fin_cases b
      · rfl
      · exact absurd rfl hb
    · show 1024 + k.val = 2 * 512 + k.val; omega

theorem dnorm_eq (q : Fin 1024) : val_main_v20 (F := Ideal) x2 x3 x4 x6 (ix2 r q) = dnorm x2 x3 x4 x6 r q := by
  rw [val_main_v20_apply]
  have e (k : Fin 1536) : val_main_v17 (F := Ideal) x2 x3 x4 (lidx_main_v20 (ix2 r q) k) * x6 (ridx_main_v20 (ix2 r q) k)
      = val_main_v17 (F := Ideal) x2 x3 x4 (ix2 r k) * x6 (ix2 q k) := by
    rw [show lidx_main_v20 (ix2 r q) k = ix2 r k from by funext a; fin_cases a <;> rfl,
      show ridx_main_v20 (ix2 r q) k = ix2 q k from by funext a; fin_cases a <;> rfl]
  simp only [e]
  rw [Fin.sum_univ_tiles 3 512 rfl, Fin.sum_univ_three]
  unfold dnorm
  refine congrArg₂ (· + ·) (congrArg₂ (· + ·) ?_ ?_) ?_
  · refine Finset.sum_congr rfl fun k _ => congrArg₂ (· * ·) (cat_eq x2 x3 x4 r 0 k) (congrArg (fun t => x6 (ix2 q t)) (Fin.ext ?_))
    show 0 * 512 + k.val = 512 * 0 + k.val; omega
  · refine Finset.sum_congr rfl fun k _ => congrArg₂ (· * ·) (cat_eq x2 x3 x4 r 1 k) (congrArg (fun t => x6 (ix2 q t)) (Fin.ext ?_))
    show 1 * 512 + k.val = 512 * 1 + k.val; omega
  · refine Finset.sum_congr rfl fun k _ => congrArg₂ (· * ·) (cat_eq x2 x3 x4 r 2 k) (congrArg (fun t => x6 (ix2 q t)) (Fin.ext ?_))
    show 2 * 512 + k.val = 512 * 2 + k.val; omega

/-! ## The weights' and the gain's gradients -/

theorem dw_eq (b : Fin 3) (k : Fin 512) (q : Fin 1024) : val_main_v42 (F := Ideal) x0 x1 x2 x3 x4 (ix2 ⟨b.val * 512 + k.val, by omega⟩ q)
    = ∑ r : Fin 8192, grad x2 x3 x4 b (ix2 r k) * Rms.norm Rms.n1024 (xRow x0 r) (gRow x1) q := by
  rw [val_main_v42_apply, val_main_v19_apply, val_main_v18_apply]
  refine Finset.sum_congr rfl fun r _ => congrArg₂ (· * ·) ?_ ?_
  · rw [← cat_eq]
    exact congrArg (val_main_v17 (F := Ideal) x2 x3 x4) (by funext a; fin_cases a <;> rfl)
  · rw [← norm_eq]
    exact congrArg (val_main_v15 (F := Ideal) x0 x1) (by funext a; fin_cases a <;> rfl)

theorem gain_eq (q : Fin 1024) : val_main_v26 (F := Ideal) x0 x2 x3 x4 x6 (ix1 q)
    = ∑ r : Fin 8192, x0 (ix2 r q) * Rms.scale Rms.n1024 (xRow x0 r) * dnorm x2 x3 x4 x6 r q := by
  rw [val_main_v26_apply, val_main_cst_4_apply]
  show Ideal.ofBits .f32 0x00000000#32 + _ = _
  rw [Ideal.ofBits_zero_f32, zero_add, Fin.sum_univ_one, val_main_v23_apply,
    show idx_main_v23 (idx_main_v26 (ix1 q) 0) = ix1 q from by
      funext a; fin_cases a; refine Fin.ext ?_; show 0 * 1024 + q.val = q.val; omega,
    val_main_v22_apply, val_main_cst_3_apply]
  show Ideal.ofBits .f32 0x00000000#32 + _ = _
  rw [Ideal.ofBits_zero_f32, zero_add]
  refine Finset.sum_congr rfl fun r _ => ?_
  rw [val_main_v21_apply, show idx_main_v22 (ix1 q) r = ix2 r q from by funext a; fin_cases a <;> rfl, xh_eq, dnorm_eq]
  rfl

/-! ## What flows back to the row -/

theorem prod_eq (q : Fin 1024) : val_main_v25 (F := Ideal) x1 x2 x3 x4 x6 (ix2 r q) = dnorm x2 x3 x4 x6 r q * x1 (ix1 q) := by
  rw [val_main_v25_apply, val_main_v24_apply, val_main_v13_apply, dnorm_eq,
    show idx_main_v13 (idx_main_v24 (ix2 r q)) = ix1 q from by funext a; fin_cases a; rfl]
  rfl
theorem inner_eq : val_main_v28 (F := Ideal) x0 x1 x2 x3 x4 x6 (ix1 r) = ∑ e : Fin 1024, x0 (ix2 r e) * (dnorm x2 x3 x4 x6 r e * x1 (ix1 e)) := by
  rw [val_main_v28_apply, val_main_cst_5_apply]
  show Ideal.ofBits .f32 0x00000000#32 + _ = _
  rw [Ideal.ofBits_zero_f32, zero_add]
  refine Finset.sum_congr rfl fun e _ => ?_
  rw [val_main_v27_apply, show idx_main_v28 (ix1 r) e = ix2 r e from by funext a; fin_cases a <;> rfl, prod_eq]
  rfl

/-- The factor of the two equal terms that pass through the mean square. -/
def through : EReal :=
  Ideal.div ((∑ e, xRow x0 r e * (dnorm x2 x3 x4 x6 r e * gRow x1 e))
    * (Ideal.ofBits .f32 0xBF000000#32 * Ideal.div (Rms.scale Rms.n1024 (xRow x0 r))
      (Ideal.div (∑ k, xRow x0 r k * xRow x0 r k) Rms.n1024 + Ideal.ofBits .f32 0x358637BD#32))) Rms.n1024

theorem through_eq (q : Fin 1024) : val_main_v36 (F := Ideal) x0 x1 x2 x3 x4 x6 (ix2 r q) = through x0 x1 x2 x3 x4 x6 r := by
  rw [val_main_v36_apply, show idx_main_v36 (ix2 r q) = ix1 r from by funext a; fin_cases a; rfl, val_main_v35_apply, val_main_cst_7_apply]
  show Ideal.ofBits .f32 0x00000000#32 + _ = _
  rw [Ideal.ofBits_zero_f32, zero_add, Fin.sum_univ_one,
    show idx_main_v35 (ix1 r) 0 = ix2 r 0 from by funext a; fin_cases a <;> rfl]
  simp only [val_main_v34_apply, val_main_v33_apply, val_main_cst_6_apply, val_main_v32_apply, val_main_v29_apply, val_main_v10_apply,
    val_main_v9_apply, val_main_cst_2_apply, val_main_v8_apply]
  rw [show idx_main_v29 (ix2 r 0) = ix1 r from by
    funext a; fin_cases a; refine Fin.ext ?_; show r.val * 1 + 0 = r.val; omega, inner_eq, scale_eq, msq_eq]
  rfl

theorem dx_eq (q : Fin 1024) : val_main_v41 (F := Ideal) x0 x1 x2 x3 x4 x5 x6 (ix2 r q)
    = x5 (ix2 r q) + dnorm x2 x3 x4 x6 r q * gRow x1 q * Rms.scale Rms.n1024 (xRow x0 r) + xRow x0 r q * through x0 x1 x2 x3 x4 x6 r
      + through x0 x1 x2 x3 x4 x6 r * xRow x0 r q := by
  simp only [val_main_v41_apply, val_main_v40_apply, val_main_v39_apply, val_main_v38_apply, val_main_v37_apply, val_main_v31_apply,
    val_main_v30_apply]
  rw [through_eq, prod_eq, show idx_main_v30 (ix2 r q) = ix2 r 0 from by funext a; fin_cases a <;> rfl, scale_eq,
    add_assoc, add_assoc, ← add_assoc (dnorm x2 x3 x4 x6 r q * gRow x1 q * Rms.scale Rms.n1024 (xRow x0 r))]
  rfl

end Cert.Reference7Ideal.MixIn

end
-- ==== Proof.GateSpec.lean ====
/- The gradient of the gated mixing of one chunk of 128 tokens, four heads of 128 channels, element by element over the
   extended reals. A chunk's arrays are functions of the token, the head and the channel. -/
module

public import Idealize.ShloMosaic.PureOps.Ideal.Laws
public import Idealize.ShloMosaic.PureOps.Reduce

@[expose] public section

noncomputable section

namespace Cert.Gate

open Idealize.ShloMosaic

/-- The constants: the root of `2 / π` as rounded, a half, the number of a head's channels, the mean square's offset,
    and the two coefficients of the cubic, `c` and `3 c`. -/
def K : EReal := Ideal.ofBits .f32 0x3F4C422A#32
def half : EReal := Ideal.ofBits .f32 0x3F000000#32
def n : EReal := Ideal.ofBits .f32 0x43000000#32
def eps : EReal := Ideal.ofBits .f32 0x358637BD#32
def c : EReal := ((8943 / 200000 : ℝ) : EReal)
def c3 : EReal := ((26829 / 200000 : ℝ) : EReal)

/-- The inner `tanh`, the nonlinearity, its derivative. -/
def th (x : EReal) : EReal := Ideal.tanh (K * (x + c * x * x * x))
def act (x : EReal) : EReal := half * x * (1 + th x)
def act' (x : EReal) : EReal := half * (1 + th x) + half * x * (1 - th x * th x) * (K * (1 + c3 * x * x))

/-- A chunk's array: token, head, channel. -/
abbrev Arr := Fin 128 → Fin 4 → Fin 128 → EReal

/-- The reciprocal root of the mean square, the normalised values, those times the gain, the mixed values. -/
def msq (v : Arr) (t : Fin 128) (h : Fin 4) : EReal := Ideal.div (∑ d, act (v t h d) * act (v t h d)) n + eps
def r (v : Arr) (t : Fin 128) (h : Fin 4) : EReal := Ideal.rsqrt (msq v t h)
def xh (v : Arr) : Arr := fun t h d => act (v t h d) * r v t h
def nv (v : Arr) (g : Fin 4 → Fin 128 → EReal) : Arr := fun t h d => xh v t h d * g h d
def s (v : Arr) (g : Fin 4 → Fin 128 → EReal) (w : Fin 4 → Fin 128 → Fin 128 → EReal) (b : Arr) : Arr := fun t h d =>
  (∑ k, w h t k * nv v g k h d) + b t h d

/-- What flows back: into the mixed values, the normalised values times the gain, the gain's argument. -/
def ds (u dy : Arr) : Arr := fun t h d => dy t h d * act (u t h d)
def dn (u dy : Arr) (w : Fin 4 → Fin 128 → Fin 128 → EReal) : Arr := fun t h d => ∑ k, w h k t * ds u dy k h d
def dx (u dy : Arr) (g : Fin 4 → Fin 128 → EReal) (w : Fin 4 → Fin 128 → Fin 128 → EReal) : Arr := fun t h d =>
  dn u dy w t h d * g h d

/-- The five gradients of one chunk: of `u`, of `v`, and its shares of those of the weights, the gain and the bias (`ds`). -/
def du (u v dy : Arr) (g : Fin 4 → Fin 128 → EReal) (w : Fin 4 → Fin 128 → Fin 128 → EReal) (b : Arr) : Arr := fun t h d =>
  dy t h d * s v g w b t h d * act' (u t h d)
def dv (u v dy : Arr) (g : Fin 4 → Fin 128 → EReal) (w : Fin 4 → Fin 128 → Fin 128 → EReal) : Arr := fun t h d =>
  r v t h * (dx u dy g w t h d - xh v t h d * Ideal.div (∑ e, dx u dy g w t h e * xh v t h e) n) * act' (v t h d)
def dw (u v dy : Arr) (g : Fin 4 → Fin 128 → EReal) (h : Fin 4) (t k : Fin 128) : EReal :=
  ∑ d, ds u dy t h d * nv v g k h d
def dg (u v dy : Arr) (w : Fin 4 → Fin 128 → Fin 128 → EReal) : Arr := fun t h d => dn u dy w t h d * xh v t h d

/-! ## Sixty-four chunks -/

/-- The causal mask's bit, a token's place against an earlier one's; a weight under it; the bias along the channels. -/
def mask (t k : Fin 128) : BitVec 1 :=
  Scalar.select (IntOp.cmpi .sge (IntOp.addi (BitVec.ofNat 32 t.val) 0#32) (BitVec.ofNat 32 k.val)) 1#1 0#1
def masked (w : Fin 4 → Fin 128 → Fin 128 → EReal) : Fin 4 → Fin 128 → Fin 128 → EReal := fun h t k =>
  Scalar.select (mask t k) (w h t k) 0
def biases (b : Fin 4 → Fin 128 → EReal) : Arr := fun t h _ => b h t

variable (u v dy : Fin 64 → Arr) (g : Fin 4 → Fin 128 → EReal) (w : Fin 4 → Fin 128 → Fin 128 → EReal)
  (b : Fin 4 → Fin 128 → EReal)

/-- The gradients of the whole: of `u` and of `v` chunk by chunk, of the gain, of the weights, of the bias. -/
def duAll (C : Fin 64) : Arr := du (u C) (v C) (dy C) g (masked w) (biases b)
def dvAll (C : Fin 64) : Arr := dv (u C) (v C) (dy C) g (masked w)
def dgAll (h : Fin 4) (d : Fin 128) : EReal := ∑ C, ∑ t, dg (u C) (v C) (dy C) (masked w) t h d
def dwAll : Fin 4 → Fin 128 → Fin 128 → EReal := masked fun h t k => ∑ C, dw (u C) (v C) (dy C) g h t k
def dbAll (h : Fin 4) (t : Fin 128) : EReal := ∑ C, ∑ d, ds (u C) (dy C) t h d

/-- The gated mixing itself: the nonlinearity of `u` times the mixed values of `v`. -/
def fwdAll (C : Fin 64) : Arr := fun t h d => act (u C t h d) * s (v C) g (masked w) (biases b) t h d

end Cert.Gate

end
-- ==== Proof.GateReal.lean ====
/- Real numbers among the extended reals, and the two identities of the gate's gradient that hold of real numbers only: the
   derivative of the nonlinearity written two ways, and the gradient of the normalisation written two ways. -/
module

public import proofs.«01_k».proof.Proof.GateSpec
public import Idealize.ShloMosaic.Lib.IdealHost

@[expose] public section

noncomputable section

namespace Cert.Gate

open Idealize.ShloMosaic

/-- An extended real that is a real number. -/
def IsReal (x : EReal) : Prop := ∃ r : ℝ, x = r

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem coe_sum {ι : Type} (s : Finset ι) (f : ι → ℝ) : ∑ i ∈ s, ((f i : ℝ) : EReal) = ((∑ i ∈ s, f i : ℝ) : EReal) :=
  (map_sum (⟨⟨Real.toEReal, rfl⟩, EReal.coe_add⟩ : ℝ →+ EReal) f s).symm
theorem IsReal.sum {ι : Type} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩
theorem IsReal.tanh {x : EReal} : IsReal x → IsReal (Ideal.tanh x) := by
  rintro ⟨a, rfl⟩; exact ⟨Real.tanh a, rfl⟩
theorem IsReal.select {x y : EReal} (b : BitVec 1) (hx : IsReal x) (hy : IsReal y) : IsReal (Scalar.select b x y) := by
  unfold Scalar.select; split <;> assumption
theorem div_real (a : ℝ) {b : ℝ} (h : b ≠ 0) : Ideal.div a b = ((a / b : ℝ) : EReal) := by
  rw [Ideal.div_coe h, ← EReal.coe_mul, mul_one_div]

/-- An extended real whose absolute value is below infinity is a real number. -/
theorem IsReal.of_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x using EReal.rec with
  | bot => simp [Ideal.cmp] at h
  | coe r => exact IsReal.coe r
  | top => simp [Ideal.cmp] at h

/-! ## The constants -/

theorem half_eq : half = ((1 / 2 : ℝ) : EReal) := by
  simp [half, Ideal.ofBits, Ideal.ieee]; rw [← EReal.coe_mul]; norm_num
theorem n_eq : n = ((128 : ℝ) : EReal) := by
  simp [n, Ideal.ofBits, Ideal.ieee]; rw [← EReal.coe_mul]; norm_num
theorem three_eq : Ideal.ofBits .f32 0x40400000#32 = ((3 : ℝ) : EReal) := by
  simp [Ideal.ofBits, Ideal.ieee]; rw [← EReal.coe_mul]; norm_num
theorem neg_half_eq : Ideal.ofBits .f32 0xBF000000#32 = ((-(1 / 2) : ℝ) : EReal) := by
  simp [Ideal.ofBits, Ideal.ieee]; rw [← EReal.coe_mul]; norm_num
theorem K_real : IsReal K := by
  simp [K, Ideal.ofBits, Ideal.ieee]; exact IsReal.coe _
theorem eps_pos : ∃ e : ℝ, 0 < e ∧ eps = e := by
  refine ⟨8796093 * (1 / 8796093022208), by norm_num, ?_⟩
  simp [eps, Ideal.ofBits, Ideal.ieee]; norm_num
theorem c_div : Ideal.div (Ideal.ofBits .f32 0x472EAB00#32) (Ideal.ofBits .f32 0x49742400#32) = c := by
  have h1 : Ideal.ofBits .f32 0x472EAB00#32 = ((44715 : ℝ) : EReal) := by
    simp [Ideal.ofBits, Ideal.ieee]; rw [← EReal.coe_mul]; norm_num
  have h2 : Ideal.ofBits .f32 0x49742400#32 = ((1000000 : ℝ) : EReal) := by
    simp [Ideal.ofBits, Ideal.ieee]; rw [← EReal.coe_mul]; norm_num
  rw [h1, h2, div_real _ (by norm_num), c]; norm_num

/-! ## The nonlinearity -/

theorem th_eq (x : EReal) : Ideal.tanh (K * (x + c * (x * x * x))) = th x := by
  rw [th, mul_assoc x x x, ← mul_assoc c, ← mul_assoc (c * x)]
theorem act_eq (x : EReal) : x * (half * (1 + th x)) = act x := by
  rw [act, ← mul_assoc, mul_comm x]

theorem IsReal.th {x : EReal} (h : IsReal x) : IsReal (th x) :=
  (K_real.mul (h.add ((((IsReal.coe _).mul h).mul h).mul h))).tanh
theorem IsReal.act {x : EReal} (h : IsReal x) : IsReal (act x) := by
  rw [Gate.act, half_eq]; exact ((IsReal.coe _).mul h).mul (IsReal.one.add h.th)

/-- What flows back through the nonlinearity, in the three terms that its rule of differentiation leaves. -/
theorem act_back {x y : EReal} (hx : IsReal x) (hy : IsReal y) :
    y * (half * (1 + th x)) + K * (half * (x * y) * ((1 + th x) * (1 - th x)))
      + c * (K * (half * (x * y) * ((1 + th x) * (1 - th x)))) * (Ideal.ofBits .f32 0x40400000#32 * (x * x))
      = y * act' x := by
  obtain ⟨t, ht⟩ := hx.th
  obtain ⟨k, hk⟩ := K_real
  obtain ⟨x, rfl⟩ := hx
  obtain ⟨y, rfl⟩ := hy
  rw [act', ht, hk, three_eq, half_eq, c, c3, ← EReal.coe_one]
  norm_cast
  ring

/-! ## The normalisation -/

/-- The mean square is a positive real number, and its reciprocal root squares to its reciprocal. -/
theorem msq_real {v : Arr} (hv : ∀ t h d, IsReal (v t h d)) (t : Fin 128) (h : Fin 4) :
    ∃ q : ℝ, 0 < q ∧ msq v t h = q := by
  obtain ⟨e, he, hee⟩ := eps_pos
  choose a ha using fun d => (hv t h d).act
  refine ⟨(∑ d, a d * a d) / 128 + e, add_pos_of_nonneg_of_pos (div_nonneg (Finset.sum_nonneg fun d _ => mul_self_nonneg _) (by norm_num)) he, ?_⟩
  have : (∑ d, act (v t h d) * act (v t h d)) = ((∑ d, a d * a d : ℝ) : EReal) := by
    rw [← coe_sum]; exact Finset.sum_congr rfl fun d _ => by rw [ha d, EReal.coe_mul]
  rw [msq, this, n_eq, div_real _ (by norm_num), hee, EReal.coe_add]

theorem r_real {v : Arr} (hv : ∀ t h d, IsReal (v t h d)) (t : Fin 128) (h : Fin 4) :
    ∃ q : ℝ, 0 < q ∧ msq v t h = q ∧ r v t h = (((Real.sqrt q)⁻¹ : ℝ) : EReal) := by
  obtain ⟨q, h0, hq⟩ := msq_real hv t h
  exact ⟨q, h0, hq, by rw [r, hq, Ideal.rsqrt_coe, if_neg (not_lt.2 h0.le), if_neg h0.ne']⟩

/-- What flows back through the normalisation `a ↦ a * r`, in the three terms that its rule of differentiation leaves: through
    the factor, and twice through the mean square. -/
theorem norm_back {v x : Arr} (hv : ∀ t h d, IsReal (v t h d)) (hx : ∀ t h d, IsReal (x t h d)) (t : Fin 128) (h : Fin 4)
    (d : Fin 128) :
    let w := Ideal.div ((∑ e, act (v t h e) * x t h e)
      * (Ideal.ofBits .f32 0xBF000000#32 * Ideal.div (r v t h) (msq v t h))) n
    x t h d * r v t h + act (v t h d) * w + w * act (v t h d)
      = r v t h * (x t h d - xh v t h d * Ideal.div (∑ e, x t h e * xh v t h e) n) := by
  obtain ⟨q, h0, hq, hr⟩ := r_real hv t h
  choose a ha using fun d => (hv t h d).act
  choose y hy using fun d => hx t h d
  have e1 : (∑ e, act (v t h e) * x t h e) = ((∑ e, a e * y e : ℝ) : EReal) := by
    rw [← coe_sum]; exact Finset.sum_congr rfl fun d _ => by rw [ha d, hy d, EReal.coe_mul]
  have e2 : (∑ e, x t h e * xh v t h e) = (((∑ e, a e * y e) * (Real.sqrt q)⁻¹ : ℝ) : EReal) := by
    rw [Finset.sum_mul, ← coe_sum]
    exact Finset.sum_congr rfl fun d _ => by rw [xh, ha d, hy d, hr]; norm_cast; ring
  have hs : (Real.sqrt q)⁻¹ * (Real.sqrt q)⁻¹ = q⁻¹ := by
    rw [← mul_inv, Real.mul_self_sqrt h0.le]
  intro w
  simp only [w]
  rw [e1, e2]
  simp only [xh, ha, hy, hr, hq, neg_half_eq, n_eq]
  rw [div_real _ h0.ne']
  simp only [← EReal.coe_mul, div_real _ (show (128 : ℝ) ≠ 0 by norm_num)]
  norm_cast
  rw [div_eq_mul_inv _ q, ← hs]
  ring

/-! ## Real arguments give real values on the way -/

theorem IsReal.masked {w : Fin 4 → Fin 128 → Fin 128 → EReal} (hw : ∀ h t k, IsReal (w h t k)) (h : Fin 4) (t k : Fin 128) :
    IsReal (Gate.masked w h t k) := IsReal.select _ (hw h t k) IsReal.zero

variable {u v dy : Arr} {g : Fin 4 → Fin 128 → EReal} {w : Fin 4 → Fin 128 → Fin 128 → EReal} {b : Arr}
  (hu : ∀ t h d, IsReal (u t h d)) (hv : ∀ t h d, IsReal (v t h d)) (hy : ∀ t h d, IsReal (dy t h d))
  (hg : ∀ h d, IsReal (g h d)) (hw : ∀ h t k, IsReal (w h t k)) (hb : ∀ t h d, IsReal (b t h d))
include hv hg hw hb in
theorem s_real (t : Fin 128) (h : Fin 4) (d : Fin 128) : IsReal (s v g w b t h d) := by
  refine (IsReal.sum _ fun k => (hw h t k).mul (((hv k h d).act.mul ?_).mul (hg h d))).add (hb t h d)
  obtain ⟨q, _, _, hr⟩ := r_real hv k h
  exact ⟨_, hr⟩
include hu hy hg hw in
theorem dx_real (t : Fin 128) (h : Fin 4) (d : Fin 128) : IsReal (dx u dy g w t h d) :=
  (IsReal.sum _ fun k => (hw h k t).mul ((hy k h d).mul (hu k h d).act)).mul (hg h d)
include hu hv hy hg hw in
theorem dv_pre_real (t : Fin 128) (h : Fin 4) (d : Fin 128) :
    IsReal (r v t h * (dx u dy g w t h d - xh v t h d * Ideal.div (∑ e, dx u dy g w t h e * xh v t h e) n)) := by
  obtain ⟨q, _, _, hr⟩ := r_real hv t h
  have hr' : IsReal (r v t h) := ⟨_, hr⟩
  obtain ⟨a, ha⟩ := IsReal.sum Finset.univ fun e => (dx_real hu hy hg hw t h e).mul ((hv t h e).act.mul hr')
  refine hr'.mul ((dx_real hu hy hg hw t h d).sub (((hv t h d).act.mul hr').mul ?_))
  rw [n_eq]
  simp only [xh, ha]
  rw [div_real _ (by norm_num)]
  exact IsReal.coe _

end Cert.Gate
end
-- ==== Proof.RmsGrad.lean ====
/- The gradient of the normalisation of one row, written two ways that agree for real numbers: in three terms, as the rule of
   differentiation leaves it, and in one. And the gradient of the gate, likewise. -/
module

public import proofs.«01_k».proof.Proof.Rms
public import proofs.«01_k».proof.Proof.GateReal

@[expose] public section

noncomputable section

namespace Cert.Rms

open Idealize.ShloMosaic
open Cert.Gate (IsReal div_real coe_sum)

/-- A row's mean square, kept above zero. -/
def msq {n : ℕ} (N : EReal) (x : Fin n → EReal) : EReal := Ideal.div (∑ k, x k * x k) N + Ideal.ofBits .f32 0x358637BD#32

theorem n1024_eq : n1024 = ((1024 : ℝ) : EReal) := by
  simp [n1024, Ideal.ofBits, Ideal.ieee]; rw [← EReal.coe_mul]; norm_num
theorem n512_eq : n512 = ((512 : ℝ) : EReal) := by
  simp [n512, Ideal.ofBits, Ideal.ieee]; rw [← EReal.coe_mul]; norm_num

section
variable {n : ℕ} {N : EReal} {ν : ℝ} (hN : N = ν) (hν : 0 < ν) {x g d : Fin n → EReal} (hx : ∀ q, IsReal (x q))
include hN hν hx

theorem scale_eq : ∃ q : ℝ, 0 < q ∧ msq N x = q ∧ scale N x = (((Real.sqrt q)⁻¹ : ℝ) : EReal) := by
  obtain ⟨e, he, hee⟩ := Gate.eps_pos
  choose a ha using hx
  have h1 : (∑ k, x k * x k) = ((∑ k, a k * a k : ℝ) : EReal) := by
    rw [← coe_sum]; exact Finset.sum_congr rfl fun k _ => by rw [ha k, EReal.coe_mul]
  have h2 : msq N x = (((∑ k, a k * a k) / ν + e : ℝ) : EReal) := by
    rw [msq, h1, hN, div_real _ hν.ne', EReal.coe_add]
    exact congrArg _ hee
  have h3 : 0 < (∑ k, a k * a k) / ν + e :=
    add_pos_of_nonneg_of_pos (div_nonneg (Finset.sum_nonneg fun k _ => mul_self_nonneg _) hν.le) he
  refine ⟨_, h3, h2, ?_⟩
  show Ideal.rsqrt (msq N x) = _
  rw [h2, Ideal.rsqrt_coe, if_neg (not_lt.2 h3.le), if_neg h3.ne']

theorem scale_real : IsReal (scale N x) := by
  obtain ⟨q, _, _, h⟩ := scale_eq hN hν hx
  exact ⟨_, h⟩

/-- What flows back through the normalisation, in three terms and in one. -/
theorem back_eq (hg : ∀ q, IsReal (g q)) (hd : ∀ q, IsReal (d q)) (y : EReal) (q : Fin n) :
    let w := Ideal.div ((∑ e, x e * (d e * g e)) * (Ideal.ofBits .f32 0xBF000000#32 * Ideal.div (scale N x) (msq N x))) N
    y + d q * g q * scale N x + x q * w + w * x q = y + back N x g d q := by
  obtain ⟨s, h0, hm, hs⟩ := scale_eq hN hν hx
  choose a ha using hx
  choose b hb using hg
  choose u hu using hd
  have e1 : (∑ e, x e * (d e * g e)) = ((∑ e, a e * (u e * b e) : ℝ) : EReal) := by
    rw [← coe_sum]; exact Finset.sum_congr rfl fun e _ => by rw [ha e, hb e, hu e, EReal.coe_mul, EReal.coe_mul]
  have e2 : (∑ e, d e * g e * (x e * scale N x)) = (((∑ e, a e * (u e * b e)) * (Real.sqrt s)⁻¹ : ℝ) : EReal) := by
    rw [Finset.sum_mul, ← coe_sum]
    exact Finset.sum_congr rfl fun e _ => by rw [ha e, hb e, hu e, hs]; norm_cast; ring
  have hq : (Real.sqrt s)⁻¹ * (Real.sqrt s)⁻¹ = s⁻¹ := by rw [← mul_inv, Real.mul_self_sqrt h0.le]
  intro w
  simp only [w, back]
  rw [add_assoc, add_assoc, ← add_assoc (d q * g q * scale N x)]
  refine congrArg (y + ·) ?_
  rw [e1, e2]
  simp only [ha, hb, hu, hs, hm, Gate.neg_half_eq]
  simp only [hN]
  rw [div_real _ h0.ne']
  simp only [← EReal.coe_mul, div_real _ hν.ne']
  norm_cast
  rw [div_eq_mul_inv _ s, ← hq]
  ring

end

/-- The logistic function of a real number is a real number. -/
theorem logistic_real {x : EReal} (h : IsReal x) : IsReal (Ideal.logistic x) := by
  obtain ⟨a, rfl⟩ := h
  have e : Ideal.exp (-(a : EReal)) = ((Real.exp (-a) : ℝ) : EReal) := rfl
  rw [Ideal.logistic, e, ← EReal.coe_one, ← EReal.coe_add, div_real _ (by positivity)]
  exact IsReal.coe _

/-- What flows back through `a ↦ a * logistic a`, in two terms and in one. -/
theorem silu_back {a d : EReal} (ha : IsReal a) (hd : IsReal d) :
    d * Ideal.logistic a + a * d * (Ideal.logistic a * (1 - Ideal.logistic a)) = d * (Ideal.logistic a * (1 + a * (1 - Ideal.logistic a))) := by
  obtain ⟨s, hs⟩ := logistic_real ha
  obtain ⟨a, rfl⟩ := ha
  obtain ⟨d, rfl⟩ := hd
  rw [hs, ← EReal.coe_one]
  norm_cast
  ring

end Cert.Rms

end
-- ==== Proof.MixInBwd.lean ====
/- The backward input projection of the mixing layer computes its reference, for arguments that are real numbers. -/
module

public import proofs.«01_k».proof.Proof.MixInBwdBody
public import proofs.«01_k».proof.Proof.MixInBwdRef
public import proofs.«01_k».proof.Proof.RmsGrad
public import proofs.«01_k».proof.Proof.Gen.Reference7Ideal.Run
public import proofs.«01_k».proof.Proof.Gen.Pre_finite7
public import proofs.«01_k».proof.Defs
public import Idealize.ShloMosaic.Lib.StableHlo.ReadAt
public import Idealize.ShloMosaic.Lib.Pipeline.ValueKit.Acc

@[expose] public section

set_option maxRecDepth 16384

noncomputable section

namespace Cert.Kernel7Ideal.MixIn

open Idealize.ShloMosaic Idealize.ShloMosaic.TcCoe Idealize.SL.Sem
open Idealize.ShloMosaic.Pipeline (Dat)
open Cert.Kernel7Ideal Cert.Kernel7Ideal.Gen
open Cert.Gate (IsReal)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0])

theorem lt16 (t : Fin cfg0.N) : t.val < 16 := lt_of_lt_of_eq t.isLt N_0

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S8192x512 .f32 := m ((c : Thread nD τ).loc main_arg2)
abbrev a3 : Vec Ideal S8192x512 .f32 := m ((c : Thread nD τ).loc main_arg3)
abbrev a4 : Vec Ideal S8192x512 .f32 := m ((c : Thread nD τ).loc main_arg4)
abbrev a5 : Vec Ideal S8192x1024 .f32 := m ((c : Thread nD τ).loc main_arg5)
abbrev a6 : Vec Ideal S1024x1536 .f32 := m ((c : Thread nD τ).loc main_arg6)

/-! ## The blocks of a grid point -/

abbrev gs : Vec Ideal S1x1024 .f32 := V m c main_v0
abbrev ws : Vec Ideal S1024x1536 .bf16 := V m c main_v1

theorem gs_eq (q : Fin 1024) : gs m c (ix2 0 q) = a1 m c (ix1 q) := by
  show V m c main_v0 _ = _
  unfold V V0
  simp only [List.flatten_cons, List.flatten_nil, List.cons_append, List.nil_append]
  after_reads_at
theorem ws_eq (k : Fin 1024) (f : Fin 1536) : ws m c (ix2 k f) = a6 m c (ix2 k f) := by
  show V m c main_v1 _ = _
  unfold V V0
  simp only [List.flatten_cons, List.flatten_nil, List.cons_append, List.nil_append]
  after_reads_at

variable (t : Fin cfg0.N)

abbrev xAt : Vec Ideal S512x1024 .f32 := iblk m c 0 t
abbrev gAt : Vec Ideal S1x1024 .f32 := iblk m c 1 t
abbrev d0At : Vec Ideal S512x512 .f32 := iblk m c 2 t
abbrev d1At : Vec Ideal S512x512 .f32 := iblk m c 3 t
abbrev d2At : Vec Ideal S512x512 .f32 := iblk m c 4 t
abbrev yAt : Vec Ideal S512x1024 .f32 := iblk m c 5 t
abbrev wAt : Vec Ideal S1024x1536 .bf16 := iblk m c 6 t

/-- The row of the whole array that is row `p` of the point's tile. -/
abbrev row' (p : Fin 512) : Fin 8192 := ⟨t.val * 512 + p.val, by have := lt16 t; omega⟩

theorem xAt_apply (p : Fin 512) (q : Fin 1024) : xAt m c t (ix2 p q) = a0 m c (ix2 (row' t p) q) := by
  rw [show a0 m c = V m c main_arg0 from (V_main_arg0 m c).symm]
  blk_ext [xAt, iblk, idx t]
theorem gAt_apply (q : Fin 1024) : gAt m c t (ix2 0 q) = a1 m c (ix1 q) := by
  rw [← gs_eq]
  blk_ext [gAt, iblk, idx t]
theorem d0At_apply (p q : Fin 512) : d0At m c t (ix2 p q) = a2 m c (ix2 (row' t p) q) := by
  rw [show a2 m c = V m c main_arg2 from (V_main_arg2 m c).symm]
  blk_ext [d0At, iblk, idx t]
theorem d1At_apply (p q : Fin 512) : d1At m c t (ix2 p q) = a3 m c (ix2 (row' t p) q) := by
  rw [show a3 m c = V m c main_arg3 from (V_main_arg3 m c).symm]
  blk_ext [d1At, iblk, idx t]
theorem d2At_apply (p q : Fin 512) : d2At m c t (ix2 p q) = a4 m c (ix2 (row' t p) q) := by
  rw [show a4 m c = V m c main_arg4 from (V_main_arg4 m c).symm]
  blk_ext [d2At, iblk, idx t]
theorem yAt_apply (p : Fin 512) (q : Fin 1024) : yAt m c t (ix2 p q) = a5 m c (ix2 (row' t p) q) := by
  rw [show a5 m c = V m c main_arg5 from (V_main_arg5 m c).symm]
  blk_ext [yAt, iblk, idx t]
theorem wAt_apply (k : Fin 1024) (f : Fin 1536) : wAt m c t (ix2 k f) = a6 m c (ix2 k f) := by
  rw [← ws_eq]
  blk_ext [wAt, iblk, idx t]

/-! ## A grid point's shares, in terms of the arguments -/

abbrev xRow (r : Fin 8192) : Fin 1024 → EReal := Reference7Ideal.MixIn.xRow (a0 m c) r
abbrev gRow : Fin 1024 → EReal := Reference7Ideal.MixIn.gRow (a1 m c)
abbrev grad (b : Fin 3) : Vec Ideal S8192x512 .f32 := Reference7Ideal.MixIn.grad (a2 m c) (a3 m c) (a4 m c) b
abbrev dnorm (r : Fin 8192) (q : Fin 1024) : EReal := Reference7Ideal.MixIn.dnorm (a2 m c) (a3 m c) (a4 m c) (a6 m c) r q

theorem rowOf_eq (p : Fin 512) : rowOf (xAt m c t) p = xRow m c (row' t p) := funext fun q => xAt_apply m c t p q
theorem gainRow_eq : gainRow (gAt m c t) = gRow m c := funext fun q => gAt_apply m c t q
theorem three_eq (b : Fin 3) (p k : Fin 512) : three (d0At m c t) (d1At m c t) (d2At m c t) b (ix2 p k) = grad m c b (ix2 (row' t p) k) := by
  fin_cases b
  · exact d0At_apply m c t p k
  · exact d1At_apply m c t p k
  · exact d2At_apply m c t p k
theorem dn_eq (p : Fin 512) (q : Fin 1024) : dn (d0At m c t) (d1At m c t) (d2At m c t) (wAt m c t) p q = dnorm m c (row' t p) q := by
  unfold dn dnorm Reference7Ideal.MixIn.dnorm
  simp only [d0At_apply, d1At_apply, d2At_apply, wAt_apply]

/-- What one row adds to the weights' gradient and to the gain's. -/
def dwTerm (b : Fin 3) (k : Fin 512) (q : Fin 1024) (r : Fin 8192) : EReal := grad m c b (ix2 r k) * Rms.norm Rms.n1024 (xRow m c r) (gRow m c) q
def dgTerm (q : Fin 1024) (r : Fin 8192) : EReal := dnorm m c r q * (a0 m c (ix2 r q) * Rms.scale Rms.n1024 (xRow m c r))

theorem dwStep_eq (b : Fin 3) (old : Vec Ideal S512x1024 .f32) (k : Fin 512) (q : Fin 1024) :
    dwStep (xAt m c t) (gAt m c t) (three (d0At m c t) (d1At m c t) (d2At m c t) b) old (ix2 k q)
      = old (ix2 k q) + ∑ p : Fin 512, dwTerm m c b k q (row' t p) := by
  rw [dwStep_apply]
  simp only [three_eq, rowOf_eq, gainRow_eq]
  rfl
theorem dgOf_eq (old : Vec Ideal S8x1024 .f32) (e : Fin 8) (q : Fin 1024) :
    dgOf (xAt m c t) (d0At m c t) (d1At m c t) (d2At m c t) (wAt m c t) old (ix2 e q)
      = old (ix2 e q) + ∑ a : Fin 64, dgTerm m c q (row' t ⟨a.val * 8 + e.val, by omega⟩) := by
  rw [dgOf_apply]
  simp only [dn_eq, rowOf_eq, xAt_apply]
  rfl

/-! ## The three result arrays -/

/-- The gradient of the input. -/
def resX : Vec Ideal S8192x1024 .f32 := fun i =>
  a5 m c i + Rms.back Rms.n1024 (xRow m c (i 0)) (gRow m c) (dnorm m c (i 0)) (i 1)

theorem after7 : (dats m 0 c).after 7 t = dxOf (xAt m c t) (gAt m c t) (d0At m c t) (d1At m c t) (d2At m c t) (yAt m c t) (wAt m c t) := by
  rw [after0_7]
  by_cases h0 : t.val % 16 = 0
  · rw [outsAt0_A m c t h0]; dsimp only; rw [outA_7]
  · rw [outsAt0_B m c t h0]; dsimp only; rw [outB_7]

omit t in
theorem arr7 : (dats m 0 c).arrAt 7 cfg0.N = resX m c := by
  refine (dats m 0 c).arrAt_eq_of_covers 7 _ (by decide +kernel) fun t hf y => ?_
  obtain ⟨p, q, rfl⟩ : ∃ (p : Fin 512) (q : Fin 1024), y = ix2 p q := ⟨y 0, y 1, eq_ix2 y⟩
  have e : (win0_7.blk t).view.emb (ix2 p q) = (ix2 (row' t p) q : S8192x1024.Idx) := by
    funext b; fin_cases b <;> refine Fin.ext ?_ <;> blk_simp [idx t] <;> rfl
  blk_simp [idx t]
  rw [after7, e, dxOf_apply, yAt_apply, rowOf_eq, gainRow_eq]
  simp only [dn_eq]
  rfl

/-- The last grid point. -/
def tLast : Fin cfg0.N := ⟨15, by rw [show cfg0.N = 16 from N_0]; decide⟩

omit t in
/-- A sum that the first point starts from zero and each point adds a term to. -/
theorem sum_points (f : (n : ℕ) → n < cfg0.N → EReal) (g : Fin cfg0.N → EReal)
    (h0 : ∀ t : Fin cfg0.N, t.val % 16 = 0 → f t.val t.isLt = 0 + g t)
    (hs : ∀ t : Fin cfg0.N, ¬t.val % 16 = 0 → f t.val t.isLt = f (t.val - 1) (Nat.lt_of_le_of_lt (Nat.sub_le _ _) t.isLt) + g t) :
    f tLast.val tLast.isLt = ∑ t, g t := by
  rw [Pipeline.eq_sum_fin_of_reset_step_last f 16 0 g h0 hs (by rw [show cfg0.N = 16 from N_0]) tLast (show 16 = cfg0.N from N_0.symm), zero_add]

omit t in
theorem rows3_apply (f : Fin 3 → Vec Ideal S512x1024 .f32) (b : Fin 3) (k : Fin 512) (q : Fin 1024) :
    rows3 f (ix2 ⟨512 * b.val + k.val, by omega⟩ q) = f b (ix2 k q) := by
  have e1 : (512 * b.val + k.val) / 512 = b.val := by omega
  have e2 : (512 * b.val + k.val) % 512 = k.val := by omega
  show f ⟨(512 * b.val + k.val) / 512, _⟩ (ix2 ⟨(512 * b.val + k.val) % 512, _⟩ q) = _
  simp only [e1, e2]

omit t in
theorem after8 (b : Fin 3) (k : Fin 512) (q : Fin 1024) : (dats m 0 c).after 8 tLast (ix2 ⟨512 * b.val + k.val, by omega⟩ q)
    = ∑ t : Fin cfg0.N, ∑ p : Fin 512, dwTerm m c b k q (row' t p) := by
  rw [after0_8]
  refine sum_points (fun n hn => (outsAt0 m c n hn).2.1 (ix2 ⟨512 * b.val + k.val, by omega⟩ q))
    (fun t => ∑ p : Fin 512, dwTerm m c b k q (row' t p)) (fun t h0 => ?_) fun t h0 => ?_
  · rw [outsAt0_A m c t h0]; dsimp only; rw [outA_8, rows3_apply, dwStep_eq m c t b, ldRow_apply, zero_dw]
  · rw [outsAt0_B m c t h0]; dsimp only; rw [outB_8, rows3_apply, dwStep_eq m c t b, ldRow_apply]
omit t in
theorem after9 (e : Fin 8) (q : Fin 1024) : (dats m 0 c).after 9 tLast (ix2 e q)
    = ∑ t : Fin cfg0.N, ∑ a : Fin 64, dgTerm m c q (row' t ⟨a.val * 8 + e.val, by omega⟩) := by
  rw [after0_9]
  refine sum_points (fun n hn => (outsAt0 m c n hn).2.2 (ix2 e q))
    (fun t => ∑ a : Fin 64, dgTerm m c q (row' t ⟨a.val * 8 + e.val, by omega⟩)) (fun t h0 => ?_) fun t h0 => ?_
  · rw [outsAt0_A m c t h0]; dsimp only; rw [outA_9, dgOf_eq m c t, zero_dg]
  · rw [outsAt0_B m c t h0]; dsimp only; rw [outB_9, dgOf_eq m c t]

omit t in
/-- A sum over the points and their rows is one over all the rows. -/
theorem sum_all (f : Fin 8192 → EReal) : ∑ t : Fin cfg0.N, ∑ p : Fin 512, f (row' t p) = ∑ r, f r := by
  rw [Fin.sum_univ_tiles 16 512 rfl f]
  exact Fintype.sum_equiv (finCongr N_0) _ _ fun t => rfl

omit t in
theorem arr8 (b : Fin 3) (k : Fin 512) (q : Fin 1024) : (dats m 0 c).arrAt 8 cfg0.N (ix2 ⟨512 * b.val + k.val, by omega⟩ q)
    = ∑ r : Fin 8192, dwTerm m c b k q r := by
  have e : (dats m 0 c).arrAt 8 cfg0.N = (dats m 0 c).after 8 tLast := by
    refine (dats m 0 c).arrAt_eq_of_after_last 8 tLast (by decide +kernel) _ fun j => ?_
    blk_simp
  rw [e, after8, sum_all]
omit t in
theorem arr9 (e : Fin 8) (q : Fin 1024) : (dats m 0 c).arrAt 9 cfg0.N (ix2 e q)
    = ∑ t : Fin cfg0.N, ∑ a : Fin 64, dgTerm m c q (row' t ⟨a.val * 8 + e.val, by omega⟩) := by
  have e : (dats m 0 c).arrAt 9 cfg0.N = (dats m 0 c).after 9 tLast := by
    refine (dats m 0 c).arrAt_eq_of_after_last 9 tLast (by decide +kernel) _ fun j => ?_
    blk_simp
  rw [e, after9]

omit t in
/-- The rows of a tile fall into eight partial sums, one row of the array each. -/
theorem gain_sum (q : Fin 1024) : (∑ e : Fin 8, ∑ t : Fin cfg0.N, ∑ a : Fin 64, dgTerm m c q (row' t ⟨a.val * 8 + e.val, by omega⟩))
    = ∑ r, dgTerm m c q r := by
  rw [← sum_all, Finset.sum_comm]
  refine Finset.sum_congr rfl fun t _ => ?_
  rw [Finset.sum_comm, Fin.sum_univ_tiles 64 8 rfl]

/-! ## The host code after the launch -/

omit t

abbrev tail (b : Ref sig .tc) := Pipeline.afterTail₀ cfgs (dats (F := Ideal) m) 0 (V0 m) [hostOps1] c b
abbrev arrs := Pipeline.withArrays (cfgs 0).spec c (V0 m c) fun w => (dats (F := Ideal) m 0 c).arrAt w (cfgs 0).N

theorem arr_inj : Function.Injective (Pipeline.arrRef spec0) := by decide

theorem arrs_arr (w : Fin 10) : arrs m c (Proc.devRef .tc (Pipeline.arrRef spec0 w)) = (dats m 0 c).arrAt w cfg0.N :=
  Pipeline.withArrays_arr spec0 arr_inj c (V0 m c) (fun w => (dats (F := Ideal) m 0 c).arrAt w (cfgs 0).N) w

theorem tail_gain (q : Fin 1024) : tail m c main_v3 (ix1 q) = ∑ r, dgTerm m c q r := by
  unfold tail Pipeline.afterTail₀
  simp only [List.flatten_cons, List.flatten_nil, List.cons_append, List.nil_append]
  after_reads_at
  show (∑ x : Fin 8, arrs m c (Proc.devRef .tc (Pipeline.arrRef spec0 9)) (ix2 x q) : EReal) = _
  rw [arrs_arr]
  simp only [arr9]
  exact gain_sum m c q

/-! ## The reference's results -/

structure Reals : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)
  h6 : ∀ i, IsReal (a6 m c i)

theorem reals (hp : Cert.Pre_Kernel7Ideal_finite7 (hPre_finite7 := Pre_finite7.Gen.facts) m) : Reals m c := by
  obtain ⟨p0, p1, p2, p3, p4, p5, p6⟩ := hp c
  exact ⟨fun i => .of_lt (congrFun p0 i), fun i => .of_lt (congrFun p1 i), fun i => .of_lt (congrFun p2 i),
    fun i => .of_lt (congrFun p3 i), fun i => .of_lt (congrFun p4 i), fun i => .of_lt (congrFun p6 i)⟩

variable {m c} in
theorem dnorm_real (h : Reals m c) (r : Fin 8192) (q : Fin 1024) : IsReal (dnorm m c r q) :=
  .add (.add (.sum _ fun k => (h.h2 _).mul (h.h6 _)) (.sum _ fun k => (h.h3 _).mul (h.h6 _))) (.sum _ fun k => (h.h4 _).mul (h.h6 _))

open Cert.Reference7Ideal.Read in
theorem sameX (h : Reals m c) : resX m c = val_main_v41 (F := Ideal) (a0 m c) (a1 m c) (a2 m c) (a3 m c) (a4 m c) (a5 m c) (a6 m c) := by
  funext i
  obtain ⟨r, q, rfl⟩ : ∃ (r : Fin 8192) (q : Fin 1024), i = ix2 r q := ⟨i 0, i 1, eq_ix2 i⟩
  rw [Reference7Ideal.MixIn.dx_eq]
  exact (Rms.back_eq Rms.n1024_eq (by norm_num) (fun q => h.h0 _) (fun q => h.h1 _) (dnorm_real h r) (a5 m c (ix2 r q)) q).symm

open Cert.Reference7Ideal.Read in
theorem sameW : (dats m 0 c).arrAt 8 cfg0.N = val_main_v42 (F := Ideal) (a0 m c) (a1 m c) (a2 m c) (a3 m c) (a4 m c) := by
  funext i
  obtain ⟨b, k, q, rfl⟩ : ∃ (b : Fin 3) (k : Fin 512) (q : Fin 1024), i = ix2 ⟨512 * b.val + k.val, by omega⟩ q := by
    have h0 := ValueIdx.idx2_lt0 i
    refine ⟨⟨(i 0).val / 512, by omega⟩, ⟨(i 0).val % 512, by omega⟩, i 1, (eq_ix2 i).trans ?_⟩
    exact congrArg (ix2 · (i 1)) (Fin.ext (Nat.div_add_mod _ 512).symm)
  refine (arr8 m c b k q).trans ((Reference7Ideal.MixIn.dw_eq _ _ _ _ _ b k q).symm.trans ?_)
  exact congrArg (fun j => val_main_v42 (F := Ideal) (a0 m c) (a1 m c) (a2 m c) (a3 m c) (a4 m c) (ix2 j q)) (Fin.ext (by
    show b.val * 512 + k.val = 512 * b.val + k.val; omega))

open Cert.Reference7Ideal.Read in
theorem sameGain : tail m c main_v3 = val_main_v26 (F := Ideal) (a0 m c) (a2 m c) (a3 m c) (a4 m c) (a6 m c) := by
  funext i
  obtain ⟨q, rfl⟩ : ∃ q : Fin 1024, i = ix1 q := ⟨i 0, eq_ix1 i⟩
  rw [Reference7Ideal.MixIn.gain_eq]
  refine (tail_gain m c q).trans ?_
  exact Finset.sum_congr (M := EReal) rfl fun r _ => mul_comm (G := EReal) _ _

/-! ## The claim -/

theorem algebraic : Cert.algebraic_Kernel7Ideal_Reference7Ideal_pre_finite7 (hKernel7Ideal := Kernel7Ideal.Gen.facts)
    (hReference7Ideal := Reference7Ideal.Gen.facts) (hPre_finite7 := Pre_finite7.Gen.facts) := by
  intro m g m' g' hp ha
  refine ⟨fun c => Reference7Ideal.Read.val_main_v41 (F := Ideal) (a0 m c) (a1 m c) (a2 m c) (a3 m c) (a4 m c) (a5 m c) (a6 m c),
    fun c => Reference7Ideal.Read.val_main_v42 (F := Ideal) (a0 m c) (a1 m c) (a2 m c) (a3 m c) (a4 m c),
    fun c => Reference7Ideal.Read.val_main_v26 (F := Ideal) (a0 m c) (a2 m c) (a3 m c) (a4 m c) (a6 m c), ?_, ?_⟩
  · refine (θ_run Kernel7Ideal.defs _ _).mono (fun r h c => ?_) (θ_run_and (run_main (F := Ideal) m g) (Gen.frame (F := Ideal) m g))
    have hr := reals m c hp
    exact ⟨((h.1 c).1 7).trans ((arr7 m c).trans (sameX m c hr)), ((h.1 c).1 8).trans (sameW m c),
      ((h.1 c).2 main_v3 (Pipeline.mem_restRefs_of main_v3 (by decide) (by decide))).trans (sameGain m c), h.2.1 c⟩
  · refine (θ_run Reference7Ideal.defs _ _).mono (fun r h c => ?_) (Reference7Ideal.Value.run (F := Ideal) m' g')
    obtain ⟨k0, k1, k2, k3⟩ := h c
    obtain ⟨e0, e1, e2, e3, e4, e5, e6⟩ := ha c
    rw [Reference7Ideal.Read.val_main_v41_eq] at k0
    rw [Reference7Ideal.Read.val_main_v42_eq] at k1
    rw [Reference7Ideal.Read.val_main_v26_eq] at k2
    refine ⟨k0.trans ?_, k1.trans ?_, k2.trans ?_, k3⟩
    · simp only [a0, a1, a2, a3, a4, a5, a6, ← e0, ← e1, ← e2, ← e3, ← e4, ← e5, ← e6]
    · simp only [a0, a1, a2, a3, a4, ← e0, ← e1, ← e2, ← e3, ← e4]
    · simp only [a0, a2, a3, a4, a6, ← e0, ← e2, ← e3, ← e4, ← e6]

end Cert.Kernel7Ideal.MixIn

end
-- ==== Proof.MixOutBwdRef.lean ====
/- The reference gradient of the mixing layer's output projection: its five results, entry by entry. -/
module

public import proofs.«01_k».proof.Proof.Gen.Reference8Ideal.Read
public import proofs.«01_k».proof.Proof.Rms

@[expose] public section

set_option maxRecDepth 16384

noncomputable section

namespace Cert.Reference8Ideal.MixOut

open Cert.Reference8Ideal Cert.Reference8Ideal.Gen Cert.Reference8Ideal.Read Idealize.ShloMosaic

variable (y y' : Vec Ideal S8192x512 .f32) (g g' : Vec Ideal S512 .f32) (w : Vec Ideal S1024x1024 .f32)
  (d : Vec Ideal S8192x1024 .f32) (b : Fin 2) (r : Fin 8192)

abbrev yRow : Fin 512 → EReal := fun q => y (ix2 r q)
abbrev gRow : Fin 512 → EReal := fun q => g (ix1 q)

/-- What flows back to a normalised row of one of the two inputs. -/
def dnorm (q : Fin 512) : EReal := ∑ k : Fin 1024, d (ix2 r k) * w (ix2 ⟨512 * b.val + q.val, by omega⟩ k)

/-! ## The normalised rows -/

theorem sum_eq (i : S8192.Idx) : val_main_v1 (F := Ideal) y i = ∑ k : Fin 512, y (ix2 (i 0) k) * y (ix2 (i 0) k) := by
  rw [val_main_v1_apply, val_main_cst_apply]
  show Ideal.ofBits .f32 0x00000000#32 + _ = _
  rw [Ideal.ofBits_zero_f32, zero_add]
  refine Finset.sum_congr rfl fun k _ => ?_
  rw [val_main_v0_apply, show idx_main_v1 i k = ix2 (i 0) k from by funext a; fin_cases a <;> rfl]
  rfl
theorem msq_eq (a : Fin 1) : val_main_v6 (F := Ideal) y (ix2 r a) = Ideal.div (∑ k, yRow y r k * yRow y r k) Rms.n512 + Ideal.ofBits .f32 0x358637BD#32 := by
  simp only [val_main_v6_apply, val_main_v5_apply, val_main_v4_apply, val_main_v3_apply, val_main_v2_apply, val_main_cst_0_apply,
    val_main_cst_1_apply, sum_eq]
  rfl
theorem scale_eq (a : Fin 1) : val_main_v7 (F := Ideal) y (ix2 r a) = Rms.scale Rms.n512 (yRow y r) := by
  rw [val_main_v7_apply, msq_eq]; rfl
theorem xh_eq (q : Fin 512) : val_main_v12 (F := Ideal) y (ix2 r q) = y (ix2 r q) * Rms.scale Rms.n512 (yRow y r) := by
  rw [val_main_v12_apply, val_main_v11_apply, show idx_main_v11 (ix2 r q) = ix2 r 0 from by funext a; fin_cases a <;> rfl, scale_eq]
  rfl
theorem norm_eq (q : Fin 512) : val_main_v15 (F := Ideal) y g (ix2 r q) = Rms.norm Rms.n512 (yRow y r) (gRow g) q := by
  rw [val_main_v15_apply, xh_eq, val_main_v14_apply, val_main_v13_apply,
    show idx_main_v13 (idx_main_v14 (ix2 r q)) = ix1 q from by funext a; fin_cases a; rfl]
  rfl

/-! ## The weights' gradient -/

/-- One of the two inputs, or its gain. -/
abbrev two {α : Type} (u v : α) (b : Fin 2) : α := match b with
  | 0 => u | 1 => v

theorem cat_eq (k : Fin 512) : val_main_v32 (F := Ideal) y y' g g' (ix2 r ⟨512 * b.val + k.val, by omega⟩)
    = Rms.norm Rms.n512 (yRow (two y y' b) r) (gRow (two g g' b)) k := by
  unfold val_main_v32
  fin_cases b
  · refine Eq.trans (concatenate_apply_piece (t := S8192x1024) (1 : Fin 2) [⟨S8192x512, val_main_v15 (F := Ideal) y g⟩,
      ⟨S8192x512, val_main_v31 (F := Ideal) y' g'⟩] _ _ 0 (by simp) S8192x512 (val_main_v15 (F := Ideal) y g) rfl rfl 0 rfl (ix2 r k)
      (fun b hb => ?_) ?_) (norm_eq y g r k)
    · fin_cases b
      · rfl
      · exact absurd rfl hb
    · show 0 + k.val = 512 * 0 + k.val; omega
  · refine Eq.trans (concatenate_apply_piece (t := S8192x1024) (1 : Fin 2) [⟨S8192x512, val_main_v15 (F := Ideal) y g⟩,
      ⟨S8192x512, val_main_v31 (F := Ideal) y' g'⟩] _ _ 1 (by simp) S8192x512 (val_main_v31 (F := Ideal) y' g') rfl rfl 512 rfl (ix2 r k)
      (fun b hb => ?_) ?_) (norm_eq y' g' r k)
    · fin_cases b
      · rfl
      · exact absurd rfl hb
    · show 512 + k.val = 512 * 1 + k.val; omega

theorem dw_eq (k : Fin 512) (q : Fin 1024) : val_main_v35 (F := Ideal) y y' g g' d (ix2 ⟨512 * b.val + k.val, by omega⟩ q)
    = ∑ r : Fin 8192, d (ix2 r q) * Rms.norm Rms.n512 (yRow (two y y' b) r) (gRow (two g g' b)) k := by
  rw [val_main_v35_apply, val_main_v34_apply]
  refine Finset.sum_congr rfl fun r _ => congrArg₂ (· * ·) ?_ ?_
  · exact congrArg d (by funext a; fin_cases a <;> rfl)
  · rw [← cat_eq]
    exact congrArg (val_main_v32 (F := Ideal) y y' g g') (by funext a; fin_cases a <;> rfl)

/-! ## The first input's gradient and its gain's -/

theorem first_eq (q : Fin 512) : val_main_v37 (F := Ideal) w d (ix2 r q) = dnorm w d 0 r q := by
  rw [val_main_v37_apply, val_main_v36_apply]
  refine Finset.sum_congr rfl fun k _ => congrArg₂ (· * ·) (congrArg d ?_) (congrArg w ?_)
  · funext a; fin_cases a <;> rfl
  · funext a
    fin_cases a
    · refine Fin.ext ?_; show q.val = 512 * 0 + q.val; omega
    · rfl

theorem gain_eq (q : Fin 512) : val_main_v64 (F := Ideal) y w d (ix1 q)
    = ∑ r : Fin 8192, y (ix2 r q) * Rms.scale Rms.n512 (yRow y r) * dnorm w d 0 r q := by
  rw [val_main_v64_apply, val_main_cst_13_apply]
  show Ideal.ofBits .f32 0x00000000#32 + _ = _
  rw [Ideal.ofBits_zero_f32, zero_add, Fin.sum_univ_one, val_main_v61_apply,
    show idx_main_v61 (idx_main_v64 (ix1 q) 0) = ix1 q from by
      funext a; fin_cases a; refine Fin.ext ?_; show 0 * 512 + q.val = q.val; omega,
    val_main_v60_apply, val_main_cst_12_apply]
  show Ideal.ofBits .f32 0x00000000#32 + _ = _
  rw [Ideal.ofBits_zero_f32, zero_add]
  refine Finset.sum_congr rfl fun r _ => ?_
  rw [val_main_v59_apply, show idx_main_v60 (ix1 q) r = ix2 r q from by funext a; fin_cases a <;> rfl, xh_eq, first_eq]
  rfl

theorem prod_eq (q : Fin 512) : val_main_v63 (F := Ideal) g w d (ix2 r q) = dnorm w d 0 r q * g (ix1 q) := by
  rw [val_main_v63_apply, val_main_v62_apply, val_main_v13_apply, first_eq,
    show idx_main_v13 (idx_main_v62 (ix2 r q)) = ix1 q from by funext a; fin_cases a; rfl]
  rfl
theorem inner_eq : val_main_v66 (F := Ideal) y g w d (ix1 r) = ∑ e : Fin 512, y (ix2 r e) * (dnorm w d 0 r e * g (ix1 e)) := by
  rw [val_main_v66_apply, val_main_cst_14_apply]
  show Ideal.ofBits .f32 0x00000000#32 + _ = _
  rw [Ideal.ofBits_zero_f32, zero_add]
  refine Finset.sum_congr rfl fun e _ => ?_
  rw [val_main_v65_apply, show idx_main_v66 (ix1 r) e = ix2 r e from by funext a; fin_cases a <;> rfl, prod_eq]
  rfl

/-- The factor of the two equal terms that pass through the mean square. -/
def through : EReal :=
  Ideal.div ((∑ e, yRow y r e * (dnorm w d b r e * gRow g e))
    * (Ideal.ofBits .f32 0xBF000000#32 * Ideal.div (Rms.scale Rms.n512 (yRow y r))
      (Ideal.div (∑ k, yRow y r k * yRow y r k) Rms.n512 + Ideal.ofBits .f32 0x358637BD#32))) Rms.n512

theorem through_eq (q : Fin 512) : val_main_v74 (F := Ideal) y g w d (ix2 r q) = through y g w d 0 r := by
  rw [val_main_v74_apply, show idx_main_v74 (ix2 r q) = ix1 r from by funext a; fin_cases a; rfl, val_main_v73_apply, val_main_cst_16_apply]
  show Ideal.ofBits .f32 0x00000000#32 + _ = _
  rw [Ideal.ofBits_zero_f32, zero_add, Fin.sum_univ_one,
    show idx_main_v73 (ix1 r) 0 = ix2 r 0 from by funext a; fin_cases a <;> rfl]
  simp only [val_main_v72_apply, val_main_v71_apply, val_main_cst_15_apply, val_main_v70_apply, val_main_v67_apply, val_main_v10_apply,
    val_main_v9_apply, val_main_cst_2_apply, val_main_v8_apply]
  rw [show idx_main_v67 (ix2 r 0) = ix1 r from by
    funext a; fin_cases a; refine Fin.ext ?_; show r.val * 1 + 0 = r.val; omega, inner_eq, scale_eq, msq_eq]
  rfl

theorem dy_eq (q : Fin 512) : val_main_v78 (F := Ideal) y g w d (ix2 r q)
    = dnorm w d 0 r q * gRow g q * Rms.scale Rms.n512 (yRow y r) + yRow y r q * through y g w d 0 r + through y g w d 0 r * yRow y r q := by
  simp only [val_main_v78_apply, val_main_v77_apply, val_main_v76_apply, val_main_v75_apply, val_main_v69_apply, val_main_v68_apply]
  rw [through_eq, prod_eq, show idx_main_v68 (ix2 r q) = ix2 r 0 from by funext a; fin_cases a <;> rfl, scale_eq]
  rfl

/-! ## The second input's: the first's, with the two halves of the weights exchanged -/

/-- The weights with their two blocks of rows exchanged. -/
def swap : Vec Ideal S1024x1024 .f32 := fun i => w (ix2 ⟨((i 0).val + 512) % 1024, Nat.mod_lt _ (by decide)⟩ (i 1))

theorem dnorm_swap (q : Fin 512) : dnorm (swap w) d 0 r q = dnorm w d 1 r q := by
  refine Finset.sum_congr rfl fun k _ => congrArg (d (ix2 r k) * ·) (congrArg (fun j => w (ix2 j k)) (Fin.ext ?_))
  show (512 * 0 + q.val + 512) % 1024 = 512 * 1 + q.val
  omega
theorem second_eq : val_main_v38 (F := Ideal) w d = val_main_v37 (F := Ideal) (swap w) d := by
  funext i
  obtain ⟨r, q, rfl⟩ : ∃ (r : Fin 8192) (q : Fin 512), i = ix2 r q := ⟨i 0, i 1, eq_ix2 i⟩
  rw [first_eq, dnorm_swap, val_main_v38_apply, val_main_v36_apply]
  refine Finset.sum_congr rfl fun k _ => congrArg₂ (· * ·) (congrArg d ?_) (congrArg w ?_)
  · funext a; fin_cases a <;> rfl
  · funext a
    fin_cases a
    · refine Fin.ext ?_; show 512 + q.val = 512 * 1 + q.val; omega
    · rfl

theorem gain_second : val_main_v44 (F := Ideal) y w d = val_main_v64 (F := Ideal) y (swap w) d := by
  unfold val_main_v44 val_main_v41 val_main_v40 val_main_v39
  rw [second_eq]
  rfl
theorem dy_second : val_main_v58 (F := Ideal) y g w d = val_main_v78 (F := Ideal) y g (swap w) d := by
  unfold val_main_v58 val_main_v57 val_main_v56 val_main_v55 val_main_v54 val_main_v53 val_main_v52 val_main_v50 val_main_v49
    val_main_v47 val_main_v46 val_main_v45 val_main_v43
  rw [second_eq]
  rfl
theorem through_swap : through y g (swap w) d 0 r = through y g w d 1 r := by
  unfold through
  simp only [dnorm_swap]

/-- The gain's gradient and the input's, for both inputs. -/
theorem gain_two (q : Fin 512) : two (val_main_v64 (F := Ideal) y w d) (val_main_v44 (F := Ideal) y w d) b (ix1 q)
    = ∑ r : Fin 8192, y (ix2 r q) * Rms.scale Rms.n512 (yRow y r) * dnorm w d b r q := by
  fin_cases b
  · exact gain_eq y w d q
  · show val_main_v44 (F := Ideal) y w d (ix1 q) = _
    rw [gain_second, gain_eq]
    simp only [dnorm_swap]
    rfl
theorem dy_two (q : Fin 512) : two (val_main_v78 (F := Ideal) y g w d) (val_main_v58 (F := Ideal) y g w d) b (ix2 r q)
    = dnorm w d b r q * gRow g q * Rms.scale Rms.n512 (yRow y r) + yRow y r q * through y g w d b r + through y g w d b r * yRow y r q := by
  fin_cases b
  · exact dy_eq y g w d r q
  · show val_main_v58 (F := Ideal) y g w d (ix2 r q) = _
    rw [dy_second, dy_eq, dnorm_swap, through_swap]
    rfl

end Cert.Reference8Ideal.MixOut

end
-- ==== Proof.MixOutBwdBody.lean ====
/- The backward output projection of the mixing layer, one grid point: what its body leaves in the five result blocks, as
   functions of the blocks it finds. -/
module

public import proofs.«01_k».proof.Proof.Gen.Kernel8Ideal.Frame
public import proofs.«01_k».proof.Proof.MixOutBwdRef
public import proofs.«01_k».proof.Proof.Whole

@[expose] public section

set_option maxRecDepth 16384

noncomputable section

namespace Cert.Kernel8Ideal.MixOut

open Idealize.ShloMosaic Idealize.ShloMosaic.TcCoe Idealize.ShloMosaic.Tactic Idealize.SL.Sem
open Cert.Kernel8Ideal Cert.Kernel8Ideal.Gen
open Cert.Reference8Ideal.MixOut (two)

/-! ## The two blocks of rows of the weights and of their gradient -/

theorem row_inb (b : Fin 2) : ∀ a, (![512 * b.val, 0] : Fin 2 → ℕ) a + S512x1024.size a ≤ S1024x1024.size a := by
  revert b; decide
/-- The rows of the weights' gradient that belong to one of the two inputs. -/
abbrev rowRect (b : Fin 2) : Rect S1024x1024 := Rect.unit ![512 * b.val, 0] S512x1024.size (row_inb b)

theorem row_disj (b b' : Fin 2) (h : b ≠ b') : LoadRect.disj (rowRect b) (rowRect b').toLoadRect = true := by
  revert b b'; decide

/-- Two blocks of rows, one below the other, and one block of an array. -/
def rows2 (f : Fin 2 → Vec Ideal S512x1024 .f32) : Vec Ideal S1024x1024 .f32 := fun i =>
  f ⟨(i 0).val / 512, by have := ValueIdx.idx2_lt0 i; omega⟩ (ix2 ⟨(i 0).val % 512, Nat.mod_lt _ (by decide)⟩ (i 1))
def ldRow (x : Vec Ideal S1024x1024 .f32) (b : Fin 2) : Vec Ideal S512x1024 .f32 := View.ld x (rowRect b)

theorem rows2_apply (f : Fin 2 → Vec Ideal S512x1024 .f32) (b : Fin 2) (k : Fin 512) (q : Fin 1024) :
    rows2 f (ix2 ⟨512 * b.val + k.val, by omega⟩ q) = f b (ix2 k q) := by
  have e1 : (512 * b.val + k.val) / 512 = b.val := by omega
  have e2 : (512 * b.val + k.val) % 512 = k.val := by omega
  show f ⟨(512 * b.val + k.val) / 512, _⟩ (ix2 ⟨(512 * b.val + k.val) % 512, _⟩ q) = _
  simp only [e1, e2]
theorem ldRow_apply (x : Vec Ideal S1024x1024 .f32) (b : Fin 2) (p : Fin 512) (q : Fin 1024) :
    ldRow x b (ix2 p q) = x (ix2 ⟨512 * b.val + p.val, by omega⟩ q) := by
  pointwise [ldRow]

/-- What the two stores leave, whatever stood there before. -/
theorem canon_rows2 (v : View sig .tc .vmem S1024x1024 .f32) (f : Fin 2 → Vec Ideal S512x1024 .f32)
    (L : List (View.Piece (Elt Ideal) S1024x1024 .f32)) :
    View.canon ((⟨rowRect 1, f 1⟩ : View.Piece (Elt Ideal) S1024x1024 .f32) :: ⟨rowRect 0, f 0⟩ :: L) = rows2 f := by
  have hy (b : Fin 2) : v.readCov ((⟨rowRect 1, f 1⟩ : View.Piece (Elt Ideal) S1024x1024 .f32) :: ⟨rowRect 0, f 0⟩ :: L)
      (rowRect b).toLoadRect = f b := by
    fin_cases b
    · refine (View.readCov_skip v _ _ _ _ (row_disj 1 0 (by decide))).trans ?_
      exact View.readCov_cons_toLoadRect v (rowRect 0) (f 0) _
    · exact View.readCov_cons_toLoadRect v (rowRect 1) (f 1) _
  funext y
  have h0 := ValueIdx.idx2_lt0 y
  have e := hy ⟨(y 0).val / 512, by omega⟩
  rw [View.readCov_eq_canon'] at e
  have e' := congrFun e (ix2 ⟨(y 0).val % 512, Nat.mod_lt _ (by decide)⟩ (y 1))
  have hi : (rowRect ⟨(y 0).val / 512, by omega⟩).toLoadRect.idx (ix2 ⟨(y 0).val % 512, Nat.mod_lt _ (by decide)⟩ (y 1)) = y := by
    funext a
    refine Fin.ext ?_
    match a with
    | ⟨0, _⟩ => exact (ValueKit.rect_emb_unit_val (s := S1024x1024) _ S512x1024.size (row_inb _) _ 0).trans (Nat.div_add_mod _ 512)
    | ⟨1, _⟩ => exact (ValueKit.rect_emb_unit_val (s := S1024x1024) _ S512x1024.size (row_inb _) _ 1).trans (Nat.zero_add _)
  rw [hi] at e'
  exact e'

/-- The rows of the weights that belong to one of the two inputs. -/
def wrows (w : Vec Ideal S1024x1024 .bf16) (b : Fin 2) : Vec Ideal S512x1024 .bf16 := fun i =>
  w (ix2 ⟨512 * b.val + (i 0).val, by have := ValueIdx.idx2_lt0 i; omega⟩ (i 1))

theorem ld_w {M : Memref sig .tc .vmem S1024x1024 .bf16} (h : M.IsWhole) (w : Vec Ideal S1024x1024 .bf16) (b : Fin 2) {off : Fin 2 → ℕ}
    (ho : off = ![512 * b.val, 0]) (inb : ∀ a, off a + S512x1024.size a ≤ S1024x1024.size a) :
    View.readAt (Elt Ideal) M.view (Rect.unit (s := S1024x1024) off S512x1024.size inb).toLoadRect (h.unread w) = wrows w b := by
  subst ho
  rw [View.readAt_eq_ld, h.read_unread]
  funext i
  refine View.ld_unit_apply_of _ _ _ _ _ _ fun a => ?_
  fin_cases a <;> simp [ix2]

/-! ## The body's arithmetic, the same for both inputs -/

abbrev rowOf (y : Vec Ideal S512x512 .f32) (p : Fin 512) : Fin 512 → EReal := fun q => y (ix2 p q)
abbrev gainRow (g : Vec Ideal S1x512 .f32) : Fin 512 → EReal := fun q => g (ix2 0 q)

section
variable (y : Vec Ideal S512x512 .f32) (g : Vec Ideal S1x512 .f32) (d : Vec Ideal S512x1024 .f32) (w : Vec Ideal S1024x1024 .bf16)
  (b : Fin 2) (p q : Fin 512)

/-- What flows back to the normalised row. -/
def dn : EReal := ∑ k : Fin 1024, d (ix2 p k) * w (ix2 ⟨512 * b.val + q.val, by omega⟩ k)

theorem pay7_apply : k0_pay7 g (ix2 0 q) = g (ix2 0 q) := by pointwise [k0_pay7]
theorem pay8_apply (a : Fin 1) : k0_pay8 y (ix2 p a) = Rms.scale Rms.n512 (rowOf y p) := by
  pointwise [k0_pay8]
  rfl
theorem pay9_apply : k0_pay9 y (ix2 p q) = y (ix2 p q) * Rms.scale Rms.n512 (rowOf y p) := by
  pointwise [k0_pay9]
  rw [pay8_apply]
theorem pay10_apply : k0_pay10 d (wrows w b) (ix2 p q) = dn d w b p q := by
  pointwise [k0_pay10, k0_pay6, wrows]
  rfl
theorem pay12_apply : k0_pay12 d g (wrows w b) (ix2 p q) = dn d w b p q * g (ix2 0 q) := by
  pointwise [k0_pay12]
  rw [pay10_apply, pay7_apply]

/-- One step of the weights' gradient, the gradient of the input's rows, and one step of the gain's. -/
def dwStep (old : Vec Ideal S512x1024 .f32) : Vec Ideal S512x1024 .f32 := k0_pay11 d g y old
def dyOf : Vec Ideal S512x512 .f32 := k0_pay14 (k0_pay8 y) (k0_pay9 y) (k0_pay12 d g (wrows w b)) (k0_pay13 d g y (wrows w b))
def dgOf (old : Vec Ideal S8x512 .f32) : Vec Ideal S8x512 .f32 := k0_pay15 (k0_pay9 y) (k0_pay10 d (wrows w b)) old

theorem dwStep_apply (old : Vec Ideal S512x1024 .f32) (k : Fin 1024) : dwStep y g d old (ix2 q k)
    = old (ix2 q k) + ∑ p : Fin 512, Rms.norm Rms.n512 (rowOf y p) (gainRow g) q * d (ix2 p k) := by
  pointwise [dwStep, k0_pay11, k0_pay6]
  simp only [pay7_apply, pay9_apply]
  rfl
theorem dyOf_apply : dyOf y g d w b (ix2 p q) = Rms.back Rms.n512 (rowOf y p) (gainRow g) (fun e => dn d w b p e) q := by
  pointwise [dyOf, k0_pay14, k0_pay13]
  simp only [pay8_apply, pay9_apply, pay12_apply]
  rfl
theorem dgOf_apply (old : Vec Ideal S8x512 .f32) (e : Fin 8) : dgOf y d w b old (ix2 e q) = old (ix2 e q)
    + ∑ a : Fin 64, dn d w b ⟨a.val * 8 + e.val, by omega⟩ q * (y (ix2 ⟨a.val * 8 + e.val, by omega⟩ q)
      * Rms.scale Rms.n512 (rowOf y ⟨a.val * 8 + e.val, by omega⟩)) := by
  pointwise [dgOf, k0_pay15]
  simp only [pay9_apply, pay10_apply]

theorem zero_dw (i : S1024x1024.Idx) : k0_pay3 (F := Ideal) i = 0 := by pointwise [k0_pay3]
theorem zero_dgs (i : S8x512.Idx) : k0_pay4 (F := Ideal) i = 0 := by pointwise [k0_pay4]
theorem zero_dgg (i : S8x512.Idx) : k0_pay5 (F := Ideal) i = 0 := by pointwise [k0_pay5]

/-! The second input's text is the first's. -/

theorem second_dw (old : Vec Ideal S512x1024 .f32) : k0_pay20 (k0_pay6 d) g y old = dwStep y g d old := rfl
theorem second_dy : k0_pay1 (k0_pay16 g) (k0_pay17 y) (k0_pay18 y) (k0_pay19 (k0_pay6 d) (wrows w b)) = dyOf y g d w b := rfl
theorem second_dg (old : Vec Ideal S8x512 .f32) : k0_pay2 (k0_pay18 y) (k0_pay19 (k0_pay6 d) (wrows w b)) old = dgOf y d w b old := rfl

end

/-! ## The blocks after the body, at the first grid point (A) and at a later one (B) -/

variable (c : Dev nD) (i : grid0.Coords)
  (arg1 : Memref sig .tc .vmem S512x512 .f32) (harg1 : arg1.IsWhole)
  (arg2 : Memref sig .tc .vmem S512x512 .f32) (harg2 : arg2.IsWhole)
  (arg3 : Memref sig .tc .vmem S1x512 .f32) (harg3 : arg3.IsWhole)
  (arg4 : Memref sig .tc .vmem S1x512 .f32) (harg4 : arg4.IsWhole)
  (arg5 : Memref sig .tc .vmem S1024x1024 .bf16) (harg5 : arg5.IsWhole)
  (arg6 : Memref sig .tc .vmem S512x1024 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S1024x1024 .f32) (harg9 : arg9.IsWhole)
  (arg10 : Memref sig .tc .vmem S8x512 .f32) (harg10 : arg10.IsWhole)
  (arg11 : Memref sig .tc .vmem S8x512 .f32) (harg11 : arg11.IsWhole)
  (x0 x1 : Vec Ideal S512x512 .f32) (x2 x3 : Vec Ideal S1x512 .f32) (x4 : Vec Ideal S1024x1024 .bf16)
  (x5 : Vec Ideal S512x1024 .f32) (xo8 : Vec Ideal S1024x1024 .f32) (xo9 xo10 : Vec Ideal S8x512 .f32)

theorem outA_6 (hc0 : cond0_0 i) :
    out0_A_6 c i arg1 harg1 arg2 harg2 arg3 harg3 arg4 harg4 arg5 harg5 arg6 harg6 arg7 harg7 arg8 harg8 arg9 harg9 arg10 harg10 arg11 harg11 hc0
      x0 x1 x2 x3 x4 x5 = dyOf x0 x2 x5 x4 0 := by
  have hc := cover0_A_6 c i arg1 harg1 arg2 harg2 arg3 harg3 arg4 harg4 arg5 harg5 arg6 harg6 arg7 harg7 arg8 harg8 arg9 harg9 arg10 harg10 arg11 harg11 hc0
    x0 x1 x2 x3 x4 x5
  unfold out0_A_6
  rw [View.read_writes_eq_canon _ _ _ hc]
  unfold kernelRun0_A
  dsimp only
  sl_unfold_words
  refine (Whole.stored Whole.zero2 _ _ _).trans ?_
  rw [Whole.load harg6 Whole.zero2, Whole.load harg3 Whole.zero2, Whole.load harg1 Whole.zero2, ld_w (off := ![0, 0]) harg5 x4 0 rfl]
  rfl

theorem outB_6 (hc0 : ¬cond0_0 i) :
    out0_B_6 c i arg1 harg1 arg2 harg2 arg3 harg3 arg4 harg4 arg5 harg5 arg6 harg6 arg7 harg7 arg8 harg8 arg9 harg9 arg10 harg10 arg11 harg11 hc0
      x0 x1 x2 x3 x4 x5 xo8 xo9 xo10 = dyOf x0 x2 x5 x4 0 := by
  have hc := cover0_B_6 c i arg1 harg1 arg2 harg2 arg3 harg3 arg4 harg4 arg5 harg5 arg6 harg6 arg7 harg7 arg8 harg8 arg9 harg9 arg10 harg10 arg11 harg11 hc0
    x0 x1 x2 x3 x4 x5 xo8 xo9 xo10
  unfold out0_B_6
  rw [View.read_writes_eq_canon _ _ _ hc]
  unfold kernelRun0_B
  dsimp only
  sl_unfold_words
  refine (Whole.stored Whole.zero2 _ _ _).trans ?_
  rw [Whole.load harg6 Whole.zero2, Whole.load harg3 Whole.zero2, Whole.load harg1 Whole.zero2, ld_w (off := ![0, 0]) harg5 x4 0 rfl]
  rfl

theorem outA_7 (hc0 : cond0_0 i) :
    out0_A_7 c i arg1 harg1 arg2 harg2 arg3 harg3 arg4 harg4 arg5 harg5 arg6 harg6 arg7 harg7 arg8 harg8 arg9 harg9 arg10 harg10 arg11 harg11 hc0
      x0 x1 x2 x3 x4 x5 = dyOf x1 x3 x5 x4 1 := by
  have hc := cover0_A_7 c i arg1 harg1 arg2 harg2 arg3 harg3 arg4 harg4 arg5 harg5 arg6 harg6 arg7 harg7 arg8 harg8 arg9 harg9 arg10 harg10 arg11 harg11 hc0
    x0 x1 x2 x3 x4 x5
  unfold out0_A_7
  rw [View.read_writes_eq_canon _ _ _ hc]
  unfold kernelRun0_A
  dsimp only
  sl_unfold_words
  refine (Whole.stored Whole.zero2 _ _ _).trans ?_
  rw [Whole.load harg6 Whole.zero2, Whole.load harg4 Whole.zero2, Whole.load harg2 Whole.zero2, ld_w (off := ![512, 0]) harg5 x4 1 rfl]
  rfl

theorem outB_7 (hc0 : ¬cond0_0 i) :
    out0_B_7 c i arg1 harg1 arg2 harg2 arg3 harg3 arg4 harg4 arg5 harg5 arg6 harg6 arg7 harg7 arg8 harg8 arg9 harg9 arg10 harg10 arg11 harg11 hc0
      x0 x1 x2 x3 x4 x5 xo8 xo9 xo10 = dyOf x1 x3 x5 x4 1 := by
  have hc := cover0_B_7 c i arg1 harg1 arg2 harg2 arg3 harg3 arg4 harg4 arg5 harg5 arg6 harg6 arg7 harg7 arg8 harg8 arg9 harg9 arg10 harg10 arg11 harg11 hc0
    x0 x1 x2 x3 x4 x5 xo8 xo9 xo10
  unfold out0_B_7
  rw [View.read_writes_eq_canon _ _ _ hc]
  unfold kernelRun0_B
  dsimp only
  sl_unfold_words
  refine (Whole.stored Whole.zero2 _ _ _).trans ?_
  rw [Whole.load harg6 Whole.zero2, Whole.load harg4 Whole.zero2, Whole.load harg2 Whole.zero2, ld_w (off := ![512, 0]) harg5 x4 1 rfl]
  rfl

theorem outA_9 (hc0 : cond0_0 i) :
    out0_A_9 c i arg1 harg1 arg2 harg2 arg3 harg3 arg4 harg4 arg5 harg5 arg6 harg6 arg7 harg7 arg8 harg8 arg9 harg9 arg10 harg10 arg11 harg11 hc0
      x0 x1 x2 x3 x4 x5 = dgOf x0 x5 x4 0 (k0_pay4 (F := Ideal)) := by
  have hc := cover0_A_9 c i arg1 harg1 arg2 harg2 arg3 harg3 arg4 harg4 arg5 harg5 arg6 harg6 arg7 harg7 arg8 harg8 arg9 harg9 arg10 harg10 arg11 harg11 hc0
    x0 x1 x2 x3 x4 x5
  unfold out0_A_9
  rw [View.read_writes_eq_canon _ _ _ hc]
  unfold kernelRun0_A
  dsimp only
  sl_unfold_words
  refine (Whole.stored Whole.zero2 _ _ _).trans ?_
  rw [Whole.load harg6 Whole.zero2, Whole.load harg1 Whole.zero2, ld_w (off := ![0, 0]) harg5 x4 0 rfl, Whole.reload]
  rfl

theorem outB_9 (hc0 : ¬cond0_0 i) :
    out0_B_9 c i arg1 harg1 arg2 harg2 arg3 harg3 arg4 harg4 arg5 harg5 arg6 harg6 arg7 harg7 arg8 harg8 arg9 harg9 arg10 harg10 arg11 harg11 hc0
      x0 x1 x2 x3 x4 x5 xo8 xo9 xo10 = dgOf x0 x5 x4 0 xo9 := by
  have hc := cover0_B_9 c i arg1 harg1 arg2 harg2 arg3 harg3 arg4 harg4 arg5 harg5 arg6 harg6 arg7 harg7 arg8 harg8 arg9 harg9 arg10 harg10 arg11 harg11 hc0
    x0 x1 x2 x3 x4 x5 xo8 xo9 xo10
  unfold out0_B_9
  rw [View.read_writes_eq_canon _ _ _ hc]
  unfold kernelRun0_B
  dsimp only
  sl_unfold_words
  refine (Whole.stored Whole.zero2 _ _ _).trans ?_
  rw [Whole.load harg6 Whole.zero2, Whole.load harg1 Whole.zero2, ld_w (off := ![0, 0]) harg5 x4 0 rfl, Whole.load harg10 Whole.zero2]
  rfl

theorem outA_10 (hc0 : cond0_0 i) :
    out0_A_10 c i arg1 harg1 arg2 harg2 arg3 harg3 arg4 harg4 arg5 harg5 arg6 harg6 arg7 harg7 arg8 harg8 arg9 harg9 arg10 harg10 arg11 harg11 hc0
      x0 x1 x2 x3 x4 x5 = dgOf x1 x5 x4 1 (k0_pay5 (F := Ideal)) := by
  have hc := cover0_A_10 c i arg1 harg1 arg2 harg2 arg3 harg3 arg4 harg4 arg5 harg5 arg6 harg6 arg7 harg7 arg8 harg8 arg9 harg9 arg10 harg10 arg11 harg11 hc0
    x0 x1 x2 x3 x4 x5
  unfold out0_A_10
  rw [View.read_writes_eq_canon _ _ _ hc]
  unfold kernelRun0_A
  dsimp only
  sl_unfold_words
  refine (Whole.stored Whole.zero2 _ _ _).trans ?_
  rw [Whole.load harg6 Whole.zero2, Whole.load harg2 Whole.zero2, ld_w (off := ![512, 0]) harg5 x4 1 rfl, Whole.reload]
  rfl

theorem outB_10 (hc0 : ¬cond0_0 i) :
    out0_B_10 c i arg1 harg1 arg2 harg2 arg3 harg3 arg4 harg4 arg5 harg5 arg6 harg6 arg7 harg7 arg8 harg8 arg9 harg9 arg10 harg10 arg11 harg11 hc0
      x0 x1 x2 x3 x4 x5 xo8 xo9 xo10 = dgOf x1 x5 x4 1 xo10 := by
  have hc := cover0_B_10 c i arg1 harg1 arg2 harg2 arg3 harg3 arg4 harg4 arg5 harg5 arg6 harg6 arg7 harg7 arg8 harg8 arg9 harg9 arg10 harg10 arg11 harg11 hc0
    x0 x1 x2 x3 x4 x5 xo8 xo9 xo10
  unfold out0_B_10
  rw [View.read_writes_eq_canon _ _ _ hc]
  unfold kernelRun0_B
  dsimp only
  sl_unfold_words
  refine (Whole.stored Whole.zero2 _ _ _).trans ?_
  rw [Whole.load harg6 Whole.zero2, Whole.load harg2 Whole.zero2, ld_w (off := ![512, 0]) harg5 x4 1 rfl, Whole.load harg11 Whole.zero2]
  rfl

theorem dw_inb : ∀ a, (![0, 0] : Fin 2 → ℕ) a + S1024x1024.size a ≤ S1024x1024.size a := by decide
abbrev dwZero : View.Piece (Elt Ideal) S1024x1024 .f32 := ⟨Rect.unit ![0, 0] S1024x1024.size dw_inb, k0_pay3 (F := Ideal)⟩

theorem outA_8 (hc0 : cond0_0 i) :
    out0_A_8 c i arg1 harg1 arg2 harg2 arg3 harg3 arg4 harg4 arg5 harg5 arg6 harg6 arg7 harg7 arg8 harg8 arg9 harg9 arg10 harg10 arg11 harg11 hc0
      x0 x1 x2 x3 x4 x5 = rows2 fun b => dwStep (two x0 x1 b) (two x2 x3 b) x5 (ldRow (k0_pay3 (F := Ideal)) b) := by
  have hc := cover0_A_8 c i arg1 harg1 arg2 harg2 arg3 harg3 arg4 harg4 arg5 harg5 arg6 harg6 arg7 harg7 arg8 harg8 arg9 harg9 arg10 harg10 arg11 harg11 hc0
    x0 x1 x2 x3 x4 x5
  unfold out0_A_8
  rw [View.read_writes_eq_canon _ _ _ hc]
  unfold kernelRun0_A
  dsimp only
  sl_unfold_words
  rw [Whole.load harg6 Whole.zero2, Whole.load harg3 Whole.zero2, Whole.load harg1 Whole.zero2, Whole.load harg4 Whole.zero2, Whole.load harg2 Whole.zero2]
  have z0 : arg9.view.readCov [dwZero] (rowRect 0).toLoadRect = ldRow (k0_pay3 (F := Ideal)) 0 := View.readCov_fill _ _ _ _ _ (by decide)
  have z1 : arg9.view.readCov [dwZero] (rowRect 1).toLoadRect = ldRow (k0_pay3 (F := Ideal)) 1 := View.readCov_fill _ _ _ _ _ (by decide)
  refine Eq.trans ?_ (canon_rows2 arg9.view (fun b => dwStep (two x0 x1 b) (two x2 x3 b) x5 (ldRow (k0_pay3 (F := Ideal)) b)) [dwZero])
  have e1 (f : Vec Ideal S512x1024 .f32) : arg9.view.readCov [⟨rowRect 0, f⟩, dwZero] (rowRect 1).toLoadRect = ldRow (k0_pay3 (F := Ideal)) 1 :=
    (View.readCov_skip _ _ _ _ _ (row_disj 0 1 (by decide))).trans z1
  show View.canon [⟨rowRect 1, dwStep x1 x3 x5 (arg9.view.readCov [⟨rowRect 0,
      dwStep x0 x2 x5 (arg9.view.readCov [dwZero] (rowRect 0).toLoadRect)⟩, dwZero] (rowRect 1).toLoadRect)⟩,
    ⟨rowRect 0, dwStep x0 x2 x5 (arg9.view.readCov [dwZero] (rowRect 0).toLoadRect)⟩, dwZero] = _
  rw [e1, z0]

theorem outB_8 (hc0 : ¬cond0_0 i) :
    out0_B_8 c i arg1 harg1 arg2 harg2 arg3 harg3 arg4 harg4 arg5 harg5 arg6 harg6 arg7 harg7 arg8 harg8 arg9 harg9 arg10 harg10 arg11 harg11 hc0
      x0 x1 x2 x3 x4 x5 xo8 xo9 xo10 = rows2 fun b => dwStep (two x0 x1 b) (two x2 x3 b) x5 (ldRow xo8 b) := by
  have hc := cover0_B_8 c i arg1 harg1 arg2 harg2 arg3 harg3 arg4 harg4 arg5 harg5 arg6 harg6 arg7 harg7 arg8 harg8 arg9 harg9 arg10 harg10 arg11 harg11 hc0
    x0 x1 x2 x3 x4 x5 xo8 xo9 xo10
  unfold out0_B_8
  rw [View.read_writes_eq_canon _ _ _ hc]
  unfold kernelRun0_B
  dsimp only
  sl_unfold_words
  rw [Whole.load harg6 Whole.zero2, Whole.load harg3 Whole.zero2, Whole.load harg1 Whole.zero2, Whole.load harg4 Whole.zero2, Whole.load harg2 Whole.zero2]
  refine Eq.trans ?_ (canon_rows2 arg9.view (fun b => dwStep (two x0 x1 b) (two x2 x3 b) x5 (ldRow xo8 b)) [])
  have e (b : Fin 2) : View.readAt (Elt Ideal) arg9.view (rowRect b).toLoadRect (harg9.unread xo8) = ldRow xo8 b := by
    rw [View.readAt_eq_ld, harg9.read_unread]; rfl
  rw [← e 0, ← e 1]
  rfl

end Cert.Kernel8Ideal.MixOut

end
-- ==== Proof.MixOutBwd.lean ====
/- The backward output projection of the mixing layer computes its reference, for arguments that are real numbers. -/
module

public import proofs.«01_k».proof.Proof.MixOutBwdBody
public import proofs.«01_k».proof.Proof.RmsGrad
public import proofs.«01_k».proof.Proof.Gen.Reference8Ideal.Run
public import proofs.«01_k».proof.Proof.Gen.Pre_finite8
public import proofs.«01_k».proof.Defs
public import Idealize.ShloMosaic.Lib.StableHlo.ReadAt
public import Idealize.ShloMosaic.Lib.Pipeline.ValueKit.Acc

@[expose] public section

set_option maxRecDepth 16384

noncomputable section

namespace Cert.Kernel8Ideal.MixOut

open Idealize.ShloMosaic Idealize.ShloMosaic.TcCoe Idealize.SL.Sem
open Idealize.ShloMosaic.Pipeline (Dat)
open Cert.Kernel8Ideal Cert.Kernel8Ideal.Gen
open Cert.Reference8Ideal.MixOut (two)
open Cert.Gate (IsReal)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0])

theorem lt16 (t : Fin cfg0.N) : t.val < 16 := lt_of_lt_of_eq t.isLt N_0

variable (m : (ℓ : Loc nD τ sig) → Buf (Elt Ideal) ℓ) (c : Dev nD)

abbrev a0 : Vec Ideal S8192x512 .f32 := m ((c : Thread nD τ).loc main_arg0)
abbrev a1 : Vec Ideal S8192x512 .f32 := m ((c : Thread nD τ).loc main_arg1)
abbrev a2 : Vec Ideal S512 .f32 := m ((c : Thread nD τ).loc main_arg2)
abbrev a3 : Vec Ideal S512 .f32 := m ((c : Thread nD τ).loc main_arg3)
abbrev a4 : Vec Ideal S1024x1024 .f32 := m ((c : Thread nD τ).loc main_arg4)
abbrev a5 : Vec Ideal S8192x1024 .f32 := m ((c : Thread nD τ).loc main_arg5)

/-! ## The blocks of a grid point -/

abbrev g0s : Vec Ideal S1x512 .f32 := V m c main_v0
abbrev g1s : Vec Ideal S1x512 .f32 := V m c main_v1
abbrev ws : Vec Ideal S1024x1024 .bf16 := V m c main_v2

theorem g0s_eq (q : Fin 512) : g0s m c (ix2 0 q) = a2 m c (ix1 q) := by
  show V m c main_v0 _ = _
  unfold V V0
  simp only [List.flatten_cons, List.flatten_nil, List.cons_append, List.nil_append]
  after_reads_at
theorem g1s_eq (q : Fin 512) : g1s m c (ix2 0 q) = a3 m c (ix1 q) := by
  show V m c main_v1 _ = _
  unfold V V0
  simp only [List.flatten_cons, List.flatten_nil, List.cons_append, List.nil_append]
  after_reads_at
theorem ws_eq (k f : Fin 1024) : ws m c (ix2 k f) = a4 m c (ix2 k f) := by
  show V m c main_v2 _ = _
  unfold V V0
  simp only [List.flatten_cons, List.flatten_nil, List.cons_append, List.nil_append]
  after_reads_at

variable (t : Fin cfg0.N) (b : Fin 2)

abbrev y0At : Vec Ideal S512x512 .f32 := iblk m c 0 t
abbrev y1At : Vec Ideal S512x512 .f32 := iblk m c 1 t
abbrev g0At : Vec Ideal S1x512 .f32 := iblk m c 2 t
abbrev g1At : Vec Ideal S1x512 .f32 := iblk m c 3 t
abbrev wAt : Vec Ideal S1024x1024 .bf16 := iblk m c 4 t
abbrev dAt : Vec Ideal S512x1024 .f32 := iblk m c 5 t
abbrev yAt : Vec Ideal S512x512 .f32 := two (y0At m c t) (y1At m c t) b
abbrev gAt : Vec Ideal S1x512 .f32 := two (g0At m c t) (g1At m c t) b

/-- The row of the whole array that is row `p` of the point's tile. -/
abbrev row' (p : Fin 512) : Fin 8192 := ⟨t.val * 512 + p.val, by have := lt16 t; omega⟩

/-- One of the two inputs and its gain, as whole arrays. -/
abbrev yArr : Vec Ideal S8192x512 .f32 := two (a0 m c) (a1 m c) b
abbrev gArr : Vec Ideal S512 .f32 := two (a2 m c) (a3 m c) b

theorem y0At_apply (p q : Fin 512) : y0At m c t (ix2 p q) = a0 m c (ix2 (row' t p) q) := by
  rw [show a0 m c = V m c main_arg0 from (V_main_arg0 m c).symm]
  blk_ext [y0At, iblk, idx t]
theorem y1At_apply (p q : Fin 512) : y1At m c t (ix2 p q) = a1 m c (ix2 (row' t p) q) := by
  rw [show a1 m c = V m c main_arg1 from (V_main_arg1 m c).symm]
  blk_ext [y1At, iblk, idx t]
theorem g0At_apply (q : Fin 512) : g0At m c t (ix2 0 q) = a2 m c (ix1 q) := by
  rw [← g0s_eq]
  blk_ext [g0At, iblk, idx t]
theorem g1At_apply (q : Fin 512) : g1At m c t (ix2 0 q) = a3 m c (ix1 q) := by
  rw [← g1s_eq]
  blk_ext [g1At, iblk, idx t]
theorem wAt_apply (k f : Fin 1024) : wAt m c t (ix2 k f) = a4 m c (ix2 k f) := by
  rw [← ws_eq]
  blk_ext [wAt, iblk, idx t]
theorem dAt_apply (p : Fin 512) (q : Fin 1024) : dAt m c t (ix2 p q) = a5 m c (ix2 (row' t p) q) := by
  rw [show a5 m c = V m c main_arg5 from (V_main_arg5 m c).symm]
  blk_ext [dAt, iblk, idx t]
theorem yAt_apply (p q : Fin 512) : yAt m c t b (ix2 p q) = yArr m c b (ix2 (row' t p) q) := by
  fin_cases b
  · exact y0At_apply m c t p q
  · exact y1At_apply m c t p q
theorem gAt_apply (q : Fin 512) : gAt m c t b (ix2 0 q) = gArr m c b (ix1 q) := by
  fin_cases b
  · exact g0At_apply m c t q
  · exact g1At_apply m c t q

/-! ## A grid point's shares, in terms of the arguments -/

abbrev yRow (r : Fin 8192) : Fin 512 → EReal := Reference8Ideal.MixOut.yRow (yArr m c b) r
abbrev gRow : Fin 512 → EReal := Reference8Ideal.MixOut.gRow (gArr m c b)
abbrev dnorm (r : Fin 8192) (q : Fin 512) : EReal := Reference8Ideal.MixOut.dnorm (a4 m c) (a5 m c) b r q

theorem rowOf_eq (p : Fin 512) : rowOf (yAt m c t b) p = yRow m c b (row' t p) := funext fun q => yAt_apply m c t b p q
theorem gainRow_eq : gainRow (gAt m c t b) = gRow m c b := funext fun q => gAt_apply m c t b q
theorem dn_eq (p q : Fin 512) : dn (dAt m c t) (wAt m c t) b p q = dnorm m c b (row' t p) q := by
  unfold dn dnorm Reference8Ideal.MixOut.dnorm
  simp only [dAt_apply, wAt_apply]

/-- What one row adds to the weights' gradient and to a gain's. -/
def dwTerm (k : Fin 512) (q : Fin 1024) (r : Fin 8192) : EReal := Rms.norm Rms.n512 (yRow m c b r) (gRow m c b) k * a5 m c (ix2 r q)
def dgTerm (q : Fin 512) (r : Fin 8192) : EReal := dnorm m c b r q * (yArr m c b (ix2 r q) * Rms.scale Rms.n512 (yRow m c b r))

theorem dwStep_eq (old : Vec Ideal S512x1024 .f32) (k : Fin 512) (q : Fin 1024) :
    dwStep (yAt m c t b) (gAt m c t b) (dAt m c t) old (ix2 k q) = old (ix2 k q) + ∑ p : Fin 512, dwTerm m c b k q (row' t p) := by
  rw [dwStep_apply]
  simp only [rowOf_eq, gainRow_eq, dAt_apply]
  rfl
theorem dgOf_eq (old : Vec Ideal S8x512 .f32) (e : Fin 8) (q : Fin 512) :
    dgOf (yAt m c t b) (dAt m c t) (wAt m c t) b old (ix2 e q)
      = old (ix2 e q) + ∑ a : Fin 64, dgTerm m c b q (row' t ⟨a.val * 8 + e.val, by omega⟩) := by
  rw [dgOf_apply]
  simp only [dn_eq, rowOf_eq, yAt_apply]
  rfl

/-! ## The gradients of the two inputs -/

/-- The gradient of an input. -/
def resY : Vec Ideal S8192x512 .f32 := fun i => Rms.back Rms.n512 (yRow m c b (i 0)) (gRow m c b) (dnorm m c b (i 0)) (i 1)

theorem after6 : (dats m 0 c).after 6 t = dyOf (yAt m c t 0) (gAt m c t 0) (dAt m c t) (wAt m c t) 0 := by
  rw [after0_6]
  by_cases h0 : t.val % 16 = 0
  · rw [outsAt0_A m c t h0]; dsimp only; rw [outA_6]
  · rw [outsAt0_B m c t h0]; dsimp only; rw [outB_6]
theorem after7 : (dats m 0 c).after 7 t = dyOf (yAt m c t 1) (gAt m c t 1) (dAt m c t) (wAt m c t) 1 := by
  rw [after0_7]
  by_cases h0 : t.val % 16 = 0
  · rw [outsAt0_A m c t h0]; dsimp only; rw [outA_7]
  · rw [outsAt0_B m c t h0]; dsimp only; rw [outB_7]

theorem dyOf_eq (p q : Fin 512) : dyOf (yAt m c t b) (gAt m c t b) (dAt m c t) (wAt m c t) b (ix2 p q) = resY m c b (ix2 (row' t p) q) := by
  rw [dyOf_apply, rowOf_eq, gainRow_eq]
  simp only [dn_eq]
  rfl

omit t b in
theorem arr6 : (dats m 0 c).arrAt 6 cfg0.N = resY m c 0 := by
  refine (dats m 0 c).arrAt_eq_of_covers 6 _ (by decide +kernel) fun t hf y => ?_
  obtain ⟨p, q, rfl⟩ : ∃ (p q : Fin 512), y = ix2 p q := ⟨y 0, y 1, eq_ix2 y⟩
  have e : (win0_6.blk t).view.emb (ix2 p q) = (ix2 (row' t p) q : S8192x512.Idx) := by
    funext b; fin_cases b <;> refine Fin.ext ?_ <;> blk_simp [idx t] <;> rfl
  blk_simp [idx t]
  rw [after6, e, dyOf_eq m c t 0]
omit t b in
theorem arr7 : (dats m 0 c).arrAt 7 cfg0.N = resY m c 1 := by
  refine (dats m 0 c).arrAt_eq_of_covers 7 _ (by decide +kernel) fun t hf y => ?_
  obtain ⟨p, q, rfl⟩ : ∃ (p q : Fin 512), y = ix2 p q := ⟨y 0, y 1, eq_ix2 y⟩
  have e : (win0_7.blk t).view.emb (ix2 p q) = (ix2 (row' t p) q : S8192x512.Idx) := by
    funext b; fin_cases b <;> refine Fin.ext ?_ <;> blk_simp [idx t] <;> rfl
  blk_simp [idx t]
  rw [after7, e, dyOf_eq m c t 1]

/-! ## The sums over the grid -/

/-- The last grid point. -/
def tLast : Fin cfg0.N := ⟨15, by rw [show cfg0.N = 16 from N_0]; decide⟩

omit t b in
/-- A sum that the first point starts from zero and each point adds a term to. -/
theorem sum_points (f : (n : ℕ) → n < cfg0.N → EReal) (g : Fin cfg0.N → EReal)
    (h0 : ∀ t : Fin cfg0.N, t.val % 16 = 0 → f t.val t.isLt = 0 + g t)
    (hs : ∀ t : Fin cfg0.N, ¬t.val % 16 = 0 → f t.val t.isLt = f (t.val - 1) (Nat.lt_of_le_of_lt (Nat.sub_le _ _) t.isLt) + g t) :
    f tLast.val tLast.isLt = ∑ t, g t := by
  rw [Pipeline.eq_sum_fin_of_reset_step_last f 16 0 g h0 hs (by rw [show cfg0.N = 16 from N_0]) tLast (show 16 = cfg0.N from N_0.symm), zero_add]

omit t in
theorem after8 (k : Fin 512) (q : Fin 1024) : (dats m 0 c).after 8 tLast (ix2 ⟨512 * b.val + k.val, by omega⟩ q)
    = ∑ t : Fin cfg0.N, ∑ p : Fin 512, dwTerm m c b k q (row' t p) := by
  rw [after0_8]
  refine sum_points (fun n hn => (outsAt0 m c n hn).2.2.1 (ix2 ⟨512 * b.val + k.val, by omega⟩ q))
    (fun t => ∑ p : Fin 512, dwTerm m c b k q (row' t p)) (fun t h0 => ?_) fun t h0 => ?_
  · rw [outsAt0_A m c t h0]; dsimp only; rw [outA_8, rows2_apply, dwStep_eq m c t b, ldRow_apply, zero_dw]
  · rw [outsAt0_B m c t h0]; dsimp only; rw [outB_8, rows2_apply, dwStep_eq m c t b, ldRow_apply]

/-- The eight partial sums of a gain's gradient. -/
def gainOut (n : ℕ) (hn : n < cfg0.N) : Vec Ideal S8x512 .f32 := two (outsAt0 m c n hn).2.2.2.1 (outsAt0 m c n hn).2.2.2.2 b

omit t in
theorem gainOut_eq (e : Fin 8) (q : Fin 512) : gainOut m c b tLast.val tLast.isLt (ix2 e q)
    = ∑ t : Fin cfg0.N, ∑ a : Fin 64, dgTerm m c b q (row' t ⟨a.val * 8 + e.val, by omega⟩) := by
  refine sum_points (fun n hn => gainOut m c b n hn (ix2 e q))
    (fun t => ∑ a : Fin 64, dgTerm m c b q (row' t ⟨a.val * 8 + e.val, by omega⟩)) (fun t h0 => ?_) fun t h0 => ?_
  · unfold gainOut
    rw [outsAt0_A m c t h0]
    dsimp only
    rw [outA_9, outA_10]
    fin_cases b
    · exact (dgOf_eq m c t 0 _ e q).trans (congrArg (· + _) (zero_dgs _))
    · exact (dgOf_eq m c t 1 _ e q).trans (congrArg (· + _) (zero_dgg _))
  · unfold gainOut
    rw [outsAt0_B m c t h0]
    dsimp only
    rw [outB_9, outB_10]
    fin_cases b
    · exact dgOf_eq m c t 0 _ e q
    · exact dgOf_eq m c t 1 _ e q

omit t b in
/-- A sum over the points and their rows is one over all the rows. -/
theorem sum_all (f : Fin 8192 → EReal) : ∑ t : Fin cfg0.N, ∑ p : Fin 512, f (row' t p) = ∑ r, f r := by
  rw [Fin.sum_univ_tiles 16 512 rfl f]
  exact Fintype.sum_equiv (finCongr N_0) _ _ fun t => rfl

omit t in
theorem arr8 (k : Fin 512) (q : Fin 1024) : (dats m 0 c).arrAt 8 cfg0.N (ix2 ⟨512 * b.val + k.val, by omega⟩ q)
    = ∑ r : Fin 8192, dwTerm m c b k q r := by
  have e : (dats m 0 c).arrAt 8 cfg0.N = (dats m 0 c).after 8 tLast := by
    refine (dats m 0 c).arrAt_eq_of_after_last 8 tLast (by decide +kernel) _ fun j => ?_
    blk_simp
  rw [e, after8, sum_all]
omit t b in
theorem arr9 : (dats m 0 c).arrAt 9 cfg0.N = gainOut m c 0 tLast.val tLast.isLt := by
  refine ((dats m 0 c).arrAt_eq_of_after_last 9 tLast (by decide +kernel) ((dats m 0 c).after 9 tLast) fun j => ?_).trans (after0_9 m c tLast)
  blk_simp
omit t b in
theorem arr10 : (dats m 0 c).arrAt 10 cfg0.N = gainOut m c 1 tLast.val tLast.isLt := by
  refine ((dats m 0 c).arrAt_eq_of_after_last 10 tLast (by decide +kernel) ((dats m 0 c).after 10 tLast) fun j => ?_).trans (after0_10 m c tLast)
  blk_simp

omit t in
/-- The rows of a tile fall into eight partial sums, one row of the array each. -/
theorem gain_sum (q : Fin 512) : (∑ e : Fin 8, gainOut m c b tLast.val tLast.isLt (ix2 e q)) = ∑ r, dgTerm m c b q r := by
  simp only [gainOut_eq]
  rw [← sum_all, Finset.sum_comm]
  refine Finset.sum_congr rfl fun t _ => ?_
  rw [Finset.sum_comm, Fin.sum_univ_tiles 64 8 rfl]

/-! ## The host code after the launch -/

omit t b

abbrev tail (b : Ref sig .tc) := Pipeline.afterTail₀ cfgs (dats (F := Ideal) m) 0 (V0 m) [hostOps1] c b
abbrev arrs := Pipeline.withArrays (cfgs 0).spec c (V0 m c) fun w => (dats (F := Ideal) m 0 c).arrAt w (cfgs 0).N

theorem arr_inj : Function.Injective (Pipeline.arrRef spec0) := by decide

theorem arrs_arr (w : Fin 11) : arrs m c (Proc.devRef .tc (Pipeline.arrRef spec0 w)) = (dats m 0 c).arrAt w cfg0.N :=
  Pipeline.withArrays_arr spec0 arr_inj c (V0 m c) (fun w => (dats (F := Ideal) m 0 c).arrAt w (cfgs 0).N) w

theorem tail_gain0 (q : Fin 512) : tail m c main_v4 (ix1 q) = ∑ r, dgTerm m c 0 q r := by
  unfold tail Pipeline.afterTail₀
  simp only [List.flatten_cons, List.flatten_nil, List.cons_append, List.nil_append]
  after_reads_at
  show (∑ x : Fin 8, arrs m c (Proc.devRef .tc (Pipeline.arrRef spec0 9)) (ix2 x q) : EReal) = _
  rw [arrs_arr, arr9]
  exact gain_sum m c 0 q
theorem tail_gain1 (q : Fin 512) : tail m c main_v5 (ix1 q) = ∑ r, dgTerm m c 1 q r := by
  unfold tail Pipeline.afterTail₀
  simp only [List.flatten_cons, List.flatten_nil, List.cons_append, List.nil_append]
  after_reads_at
  show (∑ x : Fin 8, arrs m c (Proc.devRef .tc (Pipeline.arrRef spec0 10)) (ix2 x q) : EReal) = _
  rw [arrs_arr, arr10]
  exact gain_sum m c 1 q

/-! ## The reference's results -/

structure Reals : Prop where
  hy : ∀ b i, IsReal (yArr m c b i)
  hg : ∀ b i, IsReal (gArr m c b i)
  h4 : ∀ i, IsReal (a4 m c i)
  h5 : ∀ i, IsReal (a5 m c i)

theorem reals (hp : Cert.Pre_Kernel8Ideal_finite8 (hPre_finite8 := Pre_finite8.Gen.facts) m) : Reals m c := by
  obtain ⟨p0, p1, p2, p3, p4, p5⟩ := hp c
  refine ⟨fun b i => ?_, fun b i => ?_, fun i => .of_lt (congrFun p4 i), fun i => .of_lt (congrFun p5 i)⟩
  · fin_cases b
    · exact .of_lt (congrFun p0 i)
    · exact .of_lt (congrFun p1 i)
  · fin_cases b
    · exact .of_lt (congrFun p2 i)
    · exact .of_lt (congrFun p3 i)

open Cert.Reference8Ideal.Read

/-- The reference's gradient of an input, and of its gain. -/
abbrev refY (b : Fin 2) : Vec Ideal S8192x512 .f32 :=
  two (val_main_v78 (F := Ideal) (yArr m c b) (gArr m c b) (a4 m c) (a5 m c)) (val_main_v58 (F := Ideal) (yArr m c b) (gArr m c b) (a4 m c) (a5 m c)) b
abbrev refGain (b : Fin 2) : Vec Ideal S512 .f32 :=
  two (val_main_v64 (F := Ideal) (yArr m c b) (a4 m c) (a5 m c)) (val_main_v44 (F := Ideal) (yArr m c b) (a4 m c) (a5 m c)) b

theorem sameY (h : Reals m c) (b : Fin 2) : resY m c b = refY m c b := by
  funext i
  obtain ⟨r, q, rfl⟩ : ∃ (r : Fin 8192) (q : Fin 512), i = ix2 r q := ⟨i 0, i 1, eq_ix2 i⟩
  have e := Rms.back_eq Rms.n512_eq (by norm_num) (fun q => h.hy b (ix2 r q)) (fun q => h.hg b (ix1 q))
    (fun q => .sum _ fun k => (h.h5 _).mul (h.h4 _) : ∀ q, IsReal (dnorm m c b r q)) 0 q
  simp only [zero_add] at e
  exact e.symm.trans (Reference8Ideal.MixOut.dy_two _ _ _ _ b r q).symm

theorem sameW : (dats m 0 c).arrAt 8 cfg0.N = val_main_v35 (F := Ideal) (a0 m c) (a1 m c) (a2 m c) (a3 m c) (a5 m c) := by
  funext i
  obtain ⟨b, k, q, rfl⟩ : ∃ (b : Fin 2) (k : Fin 512) (q : Fin 1024), i = ix2 ⟨512 * b.val + k.val, by omega⟩ q := by
    have h0 := ValueIdx.idx2_lt0 i
    refine ⟨⟨(i 0).val / 512, by omega⟩, ⟨(i 0).val % 512, by omega⟩, i 1, (eq_ix2 i).trans ?_⟩
    exact congrArg (ix2 · (i 1)) (Fin.ext (Nat.div_add_mod _ 512).symm)
  refine (arr8 m c b k q).trans (Eq.trans ?_ (Reference8Ideal.MixOut.dw_eq _ _ _ _ _ b k q).symm)
  refine Finset.sum_congr (M := EReal) rfl fun r _ => (mul_comm (G := EReal) _ _).trans ?_
  fin_cases b <;> rfl

theorem sameGain (b : Fin 2) (q : Fin 512) : ∑ r, dgTerm m c b q r = refGain m c b (ix1 q) := by
  refine Eq.trans ?_ (Reference8Ideal.MixOut.gain_two _ _ _ b q).symm
  exact Finset.sum_congr (M := EReal) rfl fun r _ => mul_comm (G := EReal) _ _
theorem sameGain0 : tail m c main_v4 = refGain m c 0 := by
  funext i
  obtain ⟨q, rfl⟩ : ∃ q : Fin 512, i = ix1 q := ⟨i 0, eq_ix1 i⟩
  exact (tail_gain0 m c q).trans (sameGain m c 0 q)
theorem sameGain1 : tail m c main_v5 = refGain m c 1 := by
  funext i
  obtain ⟨q, rfl⟩ : ∃ q : Fin 512, i = ix1 q := ⟨i 0, eq_ix1 i⟩
  exact (tail_gain1 m c q).trans (sameGain m c 1 q)

/-! ## The claim -/

theorem algebraic : Cert.algebraic_Kernel8Ideal_Reference8Ideal_pre_finite8 (hKernel8Ideal := Kernel8Ideal.Gen.facts)
    (hReference8Ideal := Reference8Ideal.Gen.facts) (hPre_finite8 := Pre_finite8.Gen.facts) := by
  intro m g m' g' hp ha
  refine ⟨fun c => val_main_v78 (F := Ideal) (a0 m c) (a2 m c) (a4 m c) (a5 m c),
    fun c => val_main_v58 (F := Ideal) (a1 m c) (a3 m c) (a4 m c) (a5 m c),
    fun c => val_main_v35 (F := Ideal) (a0 m c) (a1 m c) (a2 m c) (a3 m c) (a5 m c),
    fun c => val_main_v64 (F := Ideal) (a0 m c) (a4 m c) (a5 m c),
    fun c => val_main_v44 (F := Ideal) (a1 m c) (a4 m c) (a5 m c), ?_, ?_⟩
  · refine (θ_run Kernel8Ideal.defs _ _).mono (fun r h c => ?_) (θ_run_and (run_main (F := Ideal) m g) (Gen.frame (F := Ideal) m g))
    have hr := reals m c hp
    exact ⟨((h.1 c).1 6).trans ((arr6 m c).trans (sameY m c hr 0)), ((h.1 c).1 7).trans ((arr7 m c).trans (sameY m c hr 1)),
      ((h.1 c).1 8).trans (sameW m c),
      ((h.1 c).2 main_v4 (Pipeline.mem_restRefs_of main_v4 (by decide) (by decide))).trans (sameGain0 m c),
      ((h.1 c).2 main_v5 (Pipeline.mem_restRefs_of main_v5 (by decide) (by decide))).trans (sameGain1 m c), h.2.1 c⟩
  · refine (θ_run Reference8Ideal.defs _ _).mono (fun r h c => ?_) (Reference8Ideal.Value.run (F := Ideal) m' g')
    obtain ⟨k0, k1, k2, k3, k4, k5⟩ := h c
    obtain ⟨e0, e1, e2, e3, e4, e5⟩ := ha c
    rw [val_main_v78_eq] at k0
    rw [val_main_v58_eq] at k1
    rw [val_main_v35_eq] at k2
    rw [val_main_v64_eq] at k3
    rw [val_main_v44_eq] at k4
    refine ⟨k0.trans ?_, k1.trans ?_, k2.trans ?_, k3.trans ?_, k4.trans ?_, k5⟩
    · simp only [a0, a2, a4, a5, ← e0, ← e2, ← e4, ← e5]
    · simp only [a1, a3, a4, a5, ← e1, ← e3, ← e4, ← e5]
    · simp only [a0, a1, a2, a3, a5, ← e0, ← e1, ← e2, ← e3, ← e5]
    · simp only [a0, a4, a5, ← e0, ← e4, ← e5]
    · simp only [a1, a4, a5, ← e1, ← e4, ← e5]

end Cert.Kernel8Ideal.MixOut

end
-- ==== Proof.FfnBwdRun.lean ====
module

public import proofs.«01_k».proof.Proof.Gen.Kernel9Ideal.Skeleton
public import proofs.«01_k».proof.Proof.Gen.Kernel9Ideal.Points
public import proofs.«01_k».proof.Proof.Gen.Kernel9Ideal.Launch
public import Idealize.ShloMosaic.Lib.Pipeline.FrameBody
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp
public import proofs.«01_k».proof.Proof.Whole

/-! # The backward feed-forward body at one grid point

The grid of `ffn_bwd` is one row of 65 points. At point `s` the body computes the gradients of step
`min s 63` (a row tile and one of its four chunks of the hidden width) and keeps them in a scratch buffer,
and multiplies those of step `max (s - 1) 0`, kept by the point before, by the first weights.

Three things happen at some points only before that: the running gain and the scratch are zeroed at the
first point, half of the incoming gradient is stored when a row tile begins, the running product is zeroed
when the kept step begins a row tile. One thing happens at some points only after it: the norm's own
gradient when the kept step ends a row tile. The first three are one lemma, `head`, whose contents say
"if"; the body is then run twice, with the last step and without. -/

@[expose] public section

set_option maxRecDepth 16384

noncomputable section

namespace Cert.Kernel9Ideal.Ffn

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The chunk of the step whose gradients were kept. -/
abbrev keptChunk (i : grid0.Coords) : BitVec 32 :=
  Scalar.select (Scalar.andi (Scalar.xori (Scalar.cmpi .slt (Scalar.remsi (Scalar.maxsi (Scalar.subi (BitVec.ofNat 32 (i 0).val) 1#32) 0#32) (Scalar.select (Scalar.cmpi .eq 4#32 0#32) 1#32 4#32)) 0#32)
        (Scalar.cmpi .slt (Scalar.select (Scalar.cmpi .eq 4#32 0#32) 1#32 4#32) 0#32))
      (Scalar.cmpi .ne (Scalar.remsi (Scalar.maxsi (Scalar.subi (BitVec.ofNat 32 (i 0).val) 1#32) 0#32) (Scalar.select (Scalar.cmpi .eq 4#32 0#32) 1#32 4#32)) 0#32))
    (Scalar.addi (Scalar.remsi (Scalar.maxsi (Scalar.subi (BitVec.ofNat 32 (i 0).val) 1#32) 0#32) (Scalar.select (Scalar.cmpi .eq 4#32 0#32) 1#32 4#32)) (Scalar.select (Scalar.cmpi .eq 4#32 0#32) 1#32 4#32))
    (Scalar.remsi (Scalar.maxsi (Scalar.subi (BitVec.ofNat 32 (i 0).val) 1#32) 0#32) (Scalar.select (Scalar.cmpi .eq 4#32 0#32) 1#32 4#32))

/-- The first point. -/
abbrev atStart (i : grid0.Coords) : Prop := k0_cond1 i = 1#1
/-- A row tile's first chunk is computed here. -/
abbrev atTile (i : grid0.Coords) : Prop := k0_cond2 i = 1#1
/-- A row tile's first chunk was kept by the point before. -/
abbrev atKeptTile (i : grid0.Coords) : Prop :=
  Scalar.cmpi .ne (Scalar.extui (Scalar.cmpi .eq (keptChunk i) 0#32)) (0#32 : BitVec 32) = 1#1
/-- A row tile's last chunk was kept by the point before. -/
abbrev atKeptEnd (i : grid0.Coords) : Prop := k0_cond4 i = 1#1

theorem atStart_iff : ∀ t : Fin cfg0.N, atStart (grid0.coords t) ↔ t.val = 0 :=
  (by decide +kernel : ∀ t : Fin grid0.N, atStart (grid0.coords t) ↔ t.val = 0)
theorem atTile_iff : ∀ t : Fin cfg0.N, atTile (grid0.coords t) ↔ t.val % 4 = 0 ∧ t.val < 64 :=
  (by decide +kernel : ∀ t : Fin grid0.N, atTile (grid0.coords t) ↔ t.val % 4 = 0 ∧ t.val < 64)
theorem atKeptTile_iff : ∀ t : Fin cfg0.N, atKeptTile (grid0.coords t) ↔ t.val % 4 = 1 ∨ t.val = 0 :=
  (by decide +kernel : ∀ t : Fin grid0.N, atKeptTile (grid0.coords t) ↔ t.val % 4 = 1 ∨ t.val = 0)
theorem atKeptEnd_iff : ∀ t : Fin cfg0.N, atKeptEnd (grid0.coords t) ↔ t.val % 4 = 0 ∧ 0 < t.val :=
  (by decide +kernel : ∀ t : Fin grid0.N, atKeptEnd (grid0.coords t) ↔ t.val % 4 = 0 ∧ 0 < t.val)

/-- A buffer stored whole holds what was stored. -/
theorem read_stored {sp : Space} {s : Shape} {e : EltTy} {κ : Kind} (v : View sig κ sp s e) {off : Fin s.rank → ℕ}
    (h0 : off = fun _ => 0) (inb : ∀ a, off a + s.size a ≤ s.size a) (w : s.Idx → Elt F e) (f : v.ty.Contents (Elt F)) :
    v.read (Elt F) (v.writes (Elt F) f [⟨Rect.unit off s.size inb, w⟩]) = w := by
  subst h0; funext y
  have h := v.read_writes_cons_emb f (Rect.whole s) w [] y
  rw [Rect.emb_whole_apply] at h
  exact h

section
variable (c : Dev nD) (i : grid0.Coords)
  (b1 : Memref sig .tc .vmem S512x1024 .f32) (h1 : b1.IsWhole) (b2 : Memref sig .tc .vmem S1x1024 .f32) (h2 : b2.IsWhole)
  (b3 : Memref sig .tc .vmem S512x1024 .f32) (h3 : b3.IsWhole) (b4 : Memref sig .tc .vmem S512x1024 .f32) (h4 : b4.IsWhole)
  (b5 : Memref sig .tc .vmem S1x2x512x704 .bf16) (h5 : b5.IsWhole) (b6 : Memref sig .tc .vmem S1x1024x704 .bf16) (h6 : b6.IsWhole)
  (b7 : Memref sig .tc .vmem S1x1024x704 .bf16) (h7 : b7.IsWhole) (b8 : Memref sig .tc .vmem S2x352x1024 .bf16) (h8 : b8.IsWhole)
  (b9 : Memref sig .tc .vmem S512x1024 .f32) (h9 : b9.IsWhole) (b10 : Memref sig .tc .vmem S1x2x512x704 .bf16) (h10 : b10.IsWhole)
  (b11 : Memref sig .tc .vmem S1x512x704 .bf16) (h11 : b11.IsWhole) (b12 : Memref sig .tc .vmem S8x1024 .f32) (h12 : b12.IsWhole)
  (b13 : Memref sig .tc .vmem S512x1024 .bf16) (h13 : b13.IsWhole) (b14 : Memref sig .tc .vmem S2x2x512x704 .bf16) (h14 : b14.IsWhole)

/-- The contents the rest of the body starts from: the running product, gain, half gradient and scratch. -/
abbrev dx1 (X : Vec F S512x1024 .f32) : Vec F S512x1024 .f32 := if atKeptTile i then k0_pay10 else X
abbrev gain1 (G : Vec F S8x1024 .f32) : Vec F S8x1024 .f32 := if atStart i then k0_pay7 else G
abbrev half1 (dy : Vec F S512x1024 .f32) (D : Vec F S512x1024 .bf16) : Vec F S512x1024 .bf16 := if atTile i then k0_pay9 dy else D
abbrev kept1 (H : Vec F S2x2x512x704 .bf16) : Vec F S2x2x512x704 .bf16 := if atStart i then k0_pay8 else H

set_option maxHeartbeats 4000000 in
theorem head (dy : Vec F S512x1024 .f32) (X : Vec F S512x1024 .f32) (G : Vec F S8x1024 .f32) (D : Vec F S512x1024 .bf16)
    (H : Vec F S2x2x512x704 .bf16) (E : Set ℕ) (K : BitVec 32 → sProp 𝕄) :
    iprop(owns (c : Thread nD τ) b4 fullShare dy ∗ owns (c : Thread nD τ) b9 fullShare X ∗ owns (c : Thread nD τ) b12 fullShare G
        ∗ owns (c : Thread nD τ) b13 fullShare D ∗ owns (c : Thread nD τ) b14 fullShare H
        ∗ (iprop(owns (c : Thread nD τ) b4 fullShare dy ∗ owns (c : Thread nD τ) b9 fullShare (dx1 i X)
            ∗ owns (c : Thread nD τ) b12 fullShare (gain1 i G) ∗ owns (c : Thread nD τ) b13 fullShare (half1 i dy D)
            ∗ owns (c : Thread nD τ) b14 fullShare (kept1 i H)) -∗ K (BitVec.ofNat 32 (i 0).val)))
      ⊢ wp frame (wpE (defs₀ (F := F)) Variants.none c none) E
          (k0_part1 i b1 h1 b2 h2 b3 h3 b4 h4 b5 h5 b6 h6 b7 h7 b8 h8 b9 h9 b10 h10 b11 h11 b12 h12 b13 h13 b14 h14) K := by
  unfold dx1 gain1 half1 kept1
  rw [k0_part1_eq_skeleton]
  unfold k0_part1_skel
  by_cases c1 : atStart i <;> by_cases c2 : atTile i <;> by_cases c3 : atKeptTile i <;>
  · unfold owns
    iintro ⟨⟨%f4, %e4, H4⟩, ⟨%f9, %e9, H9⟩, ⟨%f12, %e12, H12⟩, ⟨%f13, %e13, H13⟩, ⟨%f14, %e14, H14⟩, Hk⟩
    obtain rfl := h4.eq_unread e4; obtain rfl := h9.eq_unread e9; obtain rfl := h12.eq_unread e12
    obtain rfl := h13.eq_unread e13; obtain rfl := h14.eq_unread e14
    sl_exec (disch := first | sl_exact c1 | sl_exact c2 | sl_exact c3)
    sl_step
    iapply Hk
    isplitl [H4]
    · iexists _; isplitr; · ipureintro; exact h4.read_unread _
      iexact H4
    isplitl [H9]
    · iexists _; isplitr
      swap; · iexact H9
      ipureintro; first | (rw [if_neg c3]; exact h9.read_unread _) | (rw [if_pos c3]; exact read_stored (F := F) b9.view Whole.zero2 _ _ _)
    isplitl [H12]
    · iexists _; isplitr
      swap; · iexact H12
      ipureintro; first | (rw [if_neg c1]; exact h12.read_unread _) | (rw [if_pos c1]; exact read_stored (F := F) b12.view Whole.zero2 _ _ _)
    isplitl [H13]
    · iexists _; isplitr
      swap; · iexact H13
      ipureintro; first | (rw [if_neg c2]; exact h13.read_unread _) | (rw [if_pos c2]; exact (read_stored (F := F) b13.view Whole.zero2 _ _ _).trans (by rw [View.readAt_eq_ld, h4.read_unread, View.ld_unit_zero Whole.zero2]))
    iexists _; isplitr
    swap; · iexact H14
    ipureintro; first | (rw [if_neg c1]; exact h14.read_unread _) | (rw [if_pos c1]; exact read_stored (F := F) b14.view Whole.zero4 _ _ _)
variable (x : Vec F S512x1024 .f32) (g : Vec F S1x1024 .f32) (dy2 dy1 : Vec F S512x1024 .f32) (gu : Vec F S1x2x512x704 .bf16)
  (wg wu : Vec F S1x1024x704 .bf16) (wo : Vec F S2x352x1024 .bf16)

/-- The eight inputs' buffers at their contents. -/
abbrev held : sProp 𝕄 :=
  iprop(owns (c : Thread nD τ) b1 fullShare x
    ∗ owns (c : Thread nD τ) b2 fullShare g
    ∗ owns (c : Thread nD τ) b3 fullShare dy2
    ∗ owns (c : Thread nD τ) b4 fullShare dy1
    ∗ owns (c : Thread nD τ) b5 fullShare gu
    ∗ owns (c : Thread nD τ) b6 fullShare wg
    ∗ owns (c : Thread nD τ) b7 fullShare wu
    ∗ owns (c : Thread nD τ) b8 fullShare wo)

set_option maxHeartbeats 8000000 in
/-- A point where no row tile ends, over the contents `X G D H` that `head` leaves: the running gain is not touched. -/
def runPlain (hc : ¬atKeptEnd i) (X : Vec F S512x1024 .f32) (G : Vec F S8x1024 .f32) (D : Vec F S512x1024 .bf16)
    (H : Vec F S2x2x512x704 .bf16) :
    Σ' (L9 : List (View.Piece (Elt F) S512x1024 .f32)) (L10 : List (View.Piece (Elt F) S1x2x512x704 .bf16))
      (L11 : List (View.Piece (Elt F) S1x512x704 .bf16)),
      { L14 : List (View.Piece (Elt F) S2x2x512x704 .bf16) // ∀ (E : Set ℕ) (K : PUnit → sProp 𝕄) (X0 G0 D0 H0),
        dx1 i X0 = X → gain1 i G0 = G → half1 i dy1 D0 = D → kept1 i H0 = H →
        iprop(held c b1 b2 b3 b4 b5 b6 b7 b8 x g dy2 dy1 gu wg wu wo ∗ owns (c : Thread nD τ) b9 fullShare X0
            ∗ (∃ d, owns (c : Thread nD τ) b10 fullShare d) ∗ (∃ d, owns (c : Thread nD τ) b11 fullShare d)
            ∗ owns (c : Thread nD τ) b12 fullShare G0 ∗ owns (c : Thread nD τ) b13 fullShare D0 ∗ owns (c : Thread nD τ) b14 fullShare H0
            ∗ (iprop(held c b1 b2 b3 b4 b5 b6 b7 b8 x g dy2 dy1 gu wg wu wo
                ∗ (∃ f, b9.view.loc (c : Thread nD τ) ↦[b9.view.set]{fullShare} b9.view.writes (Elt F) f L9)
                ∗ (∃ f, b10.view.loc (c : Thread nD τ) ↦[b10.view.set]{fullShare} b10.view.writes (Elt F) f L10)
                ∗ (∃ f, b11.view.loc (c : Thread nD τ) ↦[b11.view.set]{fullShare} b11.view.writes (Elt F) f L11)
                ∗ owns (c : Thread nD τ) b12 fullShare G
                ∗ owns (c : Thread nD τ) b13 fullShare D
                ∗ b14.view.loc (c : Thread nD τ) ↦[b14.view.set]{fullShare} b14.view.writes (Elt F) (h14.unread H) L14) -∗ K ⟨⟩))
          ⊢ wp frame (wpE (defs₀ (F := F)) Variants.none c none) E (cc0_ffn_bwd i b1 h1 b2 h2 b3 h3 b4 h4 b5 h5 b6 h6 b7 h7 b8 h8 b9 h9 b10 h10 b11 h11 b12 h12 b13 h13 b14 h14) K } := by
  refine ⟨?_, ?_, ?_, ?_, fun E K X0 G0 D0 H0 eX eG eD eH => ?run⟩
  case run =>
    simp only [cc0_ffn_bwd_eq_skeleton]
    unfold cc0_ffn_bwd_skel
    rw [wp_bind]
    unfold held
    iintro ⟨⟨H1, H2, H3, H4, H5, H6, H7, H8⟩, H9, ⟨%d10, H10⟩, ⟨%d11, H11⟩, H12, H13, H14, Hk⟩
    iapply (head c i b1 h1 b2 h2 b3 h3 b4 h4 b5 h5 b6 h6 b7 h7 b8 h8 b9 h9 b10 h10 b11 h11 b12 h12 b13 h13 b14 h14 dy1 X0 G0 D0 H0 E _)
    isplitl [H4]; · iexact H4
    isplitl [H9]; · iexact H9
    isplitl [H12]; · iexact H12
    isplitl [H13]; · iexact H13
    isplitl [H14]; · iexact H14
    rw [eX, eG, eD, eH]
    iintro ⟨H4, H9, H12, H13, H14⟩
    simp only [k0_part2_eq_skeleton, k0_part3_eq_skeleton, k0_part4_eq_skeleton, k0_part5_eq_skeleton, k0_part6_eq_skeleton]
    unfold k0_part2_skel k0_part3_skel k0_part4_skel k0_part5_skel k0_part6_skel
    unfold owns
    irevert H1 H2 H3 H4 H5 H6 H7 H8 H9 H10 H11 H12 H13 H14 Hk
    iintro ⟨%f1, %e1, H1⟩ ⟨%f2, %e2, H2⟩ ⟨%f3, %e3, H3⟩ ⟨%f4, %e4, H4⟩ ⟨%f5, %e5, H5⟩ ⟨%f6, %e6, H6⟩ ⟨%f7, %e7, H7⟩ ⟨%f8, %e8, H8⟩ ⟨%f9, %e9, H9⟩ ⟨%f10, -, H10⟩ ⟨%f11, -, H11⟩ ⟨%f12, %e12, H12⟩ ⟨%f13, %e13, H13⟩ ⟨%f14, %e14, H14⟩ Hk
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h12.eq_unread e12; obtain rfl := h13.eq_unread e13; obtain rfl := h14.eq_unread e14
    sl_exec (disch := sl_exact hc)
    sl_step
    iapply Hk
    isplitl [H1 H2 H3 H4 H5 H6 H7 H8]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      iexists _; isplitr; · ipureintro; exact h8.read_unread _
      iexact H8
    isplitl [H9]; · iexists _; iexact H9
    isplitl [H10]; · iexists _; iexact H10
    isplitl [H11]; · iexists _; iexact H11
    isplitl [H12]
    · iexists _; isplitr; · ipureintro; exact h12.read_unread _
      iexact H12
    isplitl [H13]
    · iexists _; isplitr; · ipureintro; exact h13.read_unread _
      iexact H13
    iexact H14

set_option maxHeartbeats 8000000 in
/-- A point where the kept step ends a row tile: the norm's own gradient ends the row tile. -/
def runLast (hc : atKeptEnd i) (X : Vec F S512x1024 .f32) (G : Vec F S8x1024 .f32) (D : Vec F S512x1024 .bf16)
    (H : Vec F S2x2x512x704 .bf16) :
    Σ' (L9 : List (View.Piece (Elt F) S512x1024 .f32)) (L10 : List (View.Piece (Elt F) S1x2x512x704 .bf16))
      (L11 : List (View.Piece (Elt F) S1x512x704 .bf16)) (L12 : List (View.Piece (Elt F) S8x1024 .f32)),
      { L14 : List (View.Piece (Elt F) S2x2x512x704 .bf16) // ∀ (E : Set ℕ) (K : PUnit → sProp 𝕄) (X0 G0 D0 H0),
        dx1 i X0 = X → gain1 i G0 = G → half1 i dy1 D0 = D → kept1 i H0 = H →
        iprop(held c b1 b2 b3 b4 b5 b6 b7 b8 x g dy2 dy1 gu wg wu wo ∗ owns (c : Thread nD τ) b9 fullShare X0
            ∗ (∃ d, owns (c : Thread nD τ) b10 fullShare d) ∗ (∃ d, owns (c : Thread nD τ) b11 fullShare d)
            ∗ owns (c : Thread nD τ) b12 fullShare G0 ∗ owns (c : Thread nD τ) b13 fullShare D0 ∗ owns (c : Thread nD τ) b14 fullShare H0
            ∗ (iprop(held c b1 b2 b3 b4 b5 b6 b7 b8 x g dy2 dy1 gu wg wu wo
                ∗ (∃ f, b9.view.loc (c : Thread nD τ) ↦[b9.view.set]{fullShare} b9.view.writes (Elt F) f L9)
                ∗ (∃ f, b10.view.loc (c : Thread nD τ) ↦[b10.view.set]{fullShare} b10.view.writes (Elt F) f L10)
                ∗ (∃ f, b11.view.loc (c : Thread nD τ) ↦[b11.view.set]{fullShare} b11.view.writes (Elt F) f L11)
                ∗ (∃ f, b12.view.loc (c : Thread nD τ) ↦[b12.view.set]{fullShare} b12.view.writes (Elt F) f L12)
                ∗ owns (c : Thread nD τ) b13 fullShare D
                ∗ b14.view.loc (c : Thread nD τ) ↦[b14.view.set]{fullShare} b14.view.writes (Elt F) (h14.unread H) L14) -∗ K ⟨⟩))
          ⊢ wp frame (wpE (defs₀ (F := F)) Variants.none c none) E (cc0_ffn_bwd i b1 h1 b2 h2 b3 h3 b4 h4 b5 h5 b6 h6 b7 h7 b8 h8 b9 h9 b10 h10 b11 h11 b12 h12 b13 h13 b14 h14) K } := by
  refine ⟨?_, ?_, ?_, ?_, ?_, fun E K X0 G0 D0 H0 eX eG eD eH => ?run⟩
  case run =>
    simp only [cc0_ffn_bwd_eq_skeleton]
    unfold cc0_ffn_bwd_skel
    rw [wp_bind]
    unfold held
    iintro ⟨⟨H1, H2, H3, H4, H5, H6, H7, H8⟩, H9, ⟨%d10, H10⟩, ⟨%d11, H11⟩, H12, H13, H14, Hk⟩
    iapply (head c i b1 h1 b2 h2 b3 h3 b4 h4 b5 h5 b6 h6 b7 h7 b8 h8 b9 h9 b10 h10 b11 h11 b12 h12 b13 h13 b14 h14 dy1 X0 G0 D0 H0 E _)
    isplitl [H4]; · iexact H4
    isplitl [H9]; · iexact H9
    isplitl [H12]; · iexact H12
    isplitl [H13]; · iexact H13
    isplitl [H14]; · iexact H14
    rw [eX, eG, eD, eH]
    iintro ⟨H4, H9, H12, H13, H14⟩
    simp only [k0_part2_eq_skeleton, k0_part3_eq_skeleton, k0_part4_eq_skeleton, k0_part5_eq_skeleton, k0_part6_eq_skeleton]
    unfold k0_part2_skel k0_part3_skel k0_part4_skel k0_part5_skel k0_part6_skel
    unfold owns
    irevert H1 H2 H3 H4 H5 H6 H7 H8 H9 H10 H11 H12 H13 H14 Hk
    iintro ⟨%f1, %e1, H1⟩ ⟨%f2, %e2, H2⟩ ⟨%f3, %e3, H3⟩ ⟨%f4, %e4, H4⟩ ⟨%f5, %e5, H5⟩ ⟨%f6, %e6, H6⟩ ⟨%f7, %e7, H7⟩ ⟨%f8, %e8, H8⟩ ⟨%f9, %e9, H9⟩ ⟨%f10, -, H10⟩ ⟨%f11, -, H11⟩ ⟨%f12, %e12, H12⟩ ⟨%f13, %e13, H13⟩ ⟨%f14, %e14, H14⟩ Hk
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h12.eq_unread e12; obtain rfl := h13.eq_unread e13; obtain rfl := h14.eq_unread e14
    sl_exec (disch := sl_exact hc)
    sl_step
    iapply Hk
    isplitl [H1 H2 H3 H4 H5 H6 H7 H8]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      iexists _; isplitr; · ipureintro; exact h8.read_unread _
      iexact H8
    isplitl [H9]; · iexists _; iexact H9
    isplitl [H10]; · iexists _; iexact H10
    isplitl [H11]; · iexists _; iexact H11
    isplitl [H12]
    · iexists _; iexact H12
    isplitl [H13]
    · iexists _; isplitr; · ipureintro; exact h13.read_unread _
      iexact H13
    iexact H14

end

end Cert.Kernel9Ideal.Ffn

end
-- ==== Proof.FfnBwdFrame.lean ====
module

public import proofs.«01_k».proof.Proof.FfnBwdRun
public import Idealize.ShloMosaic.Lib.Pipeline.FrameSuffix
public import Idealize.ShloMosaic.Lib.Pipeline.TableIdle

/-! # The frame of the backward feed-forward call

What the outputs' buffers and the scratch hold after each grid point, by recursion over the points: every
point takes what the point before kept (the running product, the running gain, the half gradient and the
scratch), lets `head` reset what it resets there, and runs the body. Two outputs are not stored at every
point: the gain, written back once at the end, and the half gradient, written back when its row tile ends;
at such points their buffers keep what they held. The frame follows: every run ends, the arguments end as
they were launched, and the counters end at zero. -/

@[expose] public section

set_option maxRecDepth 16384

noncomputable section

namespace Cert.Kernel9Ideal.Ffn

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds, and the host's last lines -/

/-- The buffers after the host's preparation. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

set_option maxHeartbeats 800000 in
theorem prep : Pipeline.HMainK (Ix := Unit) (Name := ℕ) (U := UR sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact fresh0) main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  obtain rfl := List.mem_singleton.mp hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp fresh1) op hop

/-- The host's last lines write two buffers of their own. -/
theorem tail_writes {b : Ref sig .tc} (h0 : b ≠ main_cst_2) (h1 : b ≠ main_v24) :
    ∀ op ∈ (hostOps1 : List (HloOp τ sig (Elt F))), Proc.devRef .tc b ∉ op.writes :=
  List.forall_iff_forall_mem.mp (by
    simp only [hostOps1, List.Forall, StableHlo.nullary_writes, StableHlo.binary_writes, Finset.mem_singleton]
    exact ⟨StableHlo.devRef_ne_of_ne h0, StableHlo.devRef_ne_of_ne h1⟩)

theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact tail_writes ((by decide : ∀ w, Pipeline.arrRef spec0 w ≠ main_cst_2) w) ((by decide : ∀ w, Pipeline.arrRef spec0 w ≠ main_v24) w) op hop

/-- The preparation writes no argument. -/
theorem V_args (c : Dev nD) {b : Ref sig .tc} (h : b ∈ [main_arg0, main_arg1, main_arg2, main_arg3, main_arg4]) :
    V m c b = m ((c : Thread nD τ).loc b) :=
  StableHlo.after_of_forall_not_mem (b := Proc.devRef .tc b) _ _ (List.forall_iff_forall_mem.mp (by
    simp only [List.mem_cons, List.not_mem_nil, or_false] at h
    simp only [hostOps0, List.flatten_cons, List.flatten_nil, List.append_nil, List.Forall, StableHlo.nullary_writes, StableHlo.unary_writes, StableHlo.binary_writes, StableHlo.reshape_writes, Finset.mem_singleton]
    rcases h with rfl | rfl | rfl | rfl | rfl <;> (repeat' apply And.intro) <;> exact StableHlo.devRef_ne_of_ne (by decide)))

/-- An argument no window reads is as launched after the last lines too. -/
theorem W_args (dats : (p : Fin _) → (c : Dev nD) → Dat τ (Elt F) Unit ℕ (UR sig nD τ) ℕ (cfgs p) c) (c : Dev nD) {b : Ref sig .tc}
    (h : b ∈ [main_arg0, main_arg1, main_arg2, main_arg3, main_arg4]) (hw : ∀ w, Pipeline.arrRef spec0 w ≠ b)
    (h0 : b ≠ main_cst_2) (h1 : b ≠ main_v24) :
    Pipeline.afterTail₀ cfgs dats 0 (V0 m) [hostOps1] c b = m ((c : Thread nD τ).loc b) := by
  unfold Pipeline.afterTail₀
  rw [StableHlo.after_of_forall_not_mem (b := Proc.devRef .tc b) _ _ (by
      simpa only [List.flatten_cons, List.flatten_nil, List.append_nil] using tail_writes h0 h1),
    Pipeline.withArrays_of_ne _ c (V0 m c) _ b hw]
  exact V_args m c h

/-- Window `w`'s block at point `t`, read off its array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The staging buffers at a point -/

abbrev s0 (t : Fin cfg0.N) : Memref sig .tc .vmem S512x1024 .f32 := win0_0.stage (cfg0.slots t 0)
abbrev s1 (t : Fin cfg0.N) : Memref sig .tc .vmem S1x1024 .f32 := win0_1.stage (cfg0.slots t 1)
abbrev s2 (t : Fin cfg0.N) : Memref sig .tc .vmem S512x1024 .f32 := win0_2.stage (cfg0.slots t 2)
abbrev s3 (t : Fin cfg0.N) : Memref sig .tc .vmem S512x1024 .f32 := win0_3.stage (cfg0.slots t 3)
abbrev s4 (t : Fin cfg0.N) : Memref sig .tc .vmem S1x2x512x704 .bf16 := win0_4.stage (cfg0.slots t 4)
abbrev s5 (t : Fin cfg0.N) : Memref sig .tc .vmem S1x1024x704 .bf16 := win0_5.stage (cfg0.slots t 5)
abbrev s6 (t : Fin cfg0.N) : Memref sig .tc .vmem S1x1024x704 .bf16 := win0_6.stage (cfg0.slots t 6)
abbrev s7 (t : Fin cfg0.N) : Memref sig .tc .vmem S2x352x1024 .bf16 := win0_7.stage (cfg0.slots t 7)
abbrev s8 (t : Fin cfg0.N) : Memref sig .tc .vmem S512x1024 .f32 := win0_8.stage (cfg0.slots t 8)
abbrev s9 (t : Fin cfg0.N) : Memref sig .tc .vmem S1x2x512x704 .bf16 := win0_9.stage (cfg0.slots t 9)
abbrev s10 (t : Fin cfg0.N) : Memref sig .tc .vmem S1x512x704 .bf16 := win0_10.stage (cfg0.slots t 10)
abbrev s11 (t : Fin cfg0.N) : Memref sig .tc .vmem S8x1024 .f32 := win0_11.stage (cfg0.slots t 11)
abbrev s12 (t : Fin cfg0.N) : Memref sig .tc .vmem S512x1024 .bf16 := win0_12.stage (cfg0.slots t 12)
/-- The scratch: two slots of the two gradients. -/
abbrev sM : Memref sig .tc .vmem S2x2x512x704 .bf16 := Memref.whole cc0_scratch0

/-- What a point keeps for the next. -/
structure Kept (F : FTy → Type) [FloatOps F] where
  dx : Vec F S512x1024 .f32
  gain : Vec F S8x1024 .f32
  half : Vec F S512x1024 .bf16
  grads : Vec F S2x2x512x704 .bf16

/-- What a point leaves: what it keeps, and the two outputs it stores whole. -/
structure Left (F : FTy → Type) [FloatOps F] where
  kept : Kept F
  dgu : Vec F S1x2x512x704 .bf16
  act : Vec F S1x512x704 .bf16

/-- What `head` leaves of what the point before kept. -/
def begun (c : Dev nD) (t : Fin cfg0.N) (p : Kept F) : Kept F :=
  ⟨dx1 (grid0.coords t) p.dx, gain1 (grid0.coords t) p.gain, half1 (grid0.coords t) (iblk m c 3 t) p.half, kept1 (grid0.coords t) p.grads⟩

/-- The body's run at a point where no row tile ends. -/
abbrev plainAt (c : Dev nD) (t : Fin cfg0.N) (h : ¬atKeptEnd (grid0.coords t)) (q : Kept F) :=
  runPlain c (grid0.coords t) (s0 t) (hstage0_0 ((cfg0.slots t 0).cast nbuf0_0)) (s1 t) (hstage0_1 ((cfg0.slots t 1).cast nbuf0_1))
    (s2 t) (hstage0_2 ((cfg0.slots t 2).cast nbuf0_2)) (s3 t) (hstage0_3 ((cfg0.slots t 3).cast nbuf0_3))
    (s4 t) (hstage0_4 ((cfg0.slots t 4).cast nbuf0_4)) (s5 t) (hstage0_5 ((cfg0.slots t 5).cast nbuf0_5))
    (s6 t) (hstage0_6 ((cfg0.slots t 6).cast nbuf0_6)) (s7 t) (hstage0_7 ((cfg0.slots t 7).cast nbuf0_7))
    (s8 t) (hstage0_8 ((cfg0.slots t 8).cast nbuf0_8)) (s9 t) (hstage0_9 ((cfg0.slots t 9).cast nbuf0_9))
    (s10 t) (hstage0_10 ((cfg0.slots t 10).cast nbuf0_10)) (s11 t) (hstage0_11 ((cfg0.slots t 11).cast nbuf0_11))
    (s12 t) (hstage0_12 ((cfg0.slots t 12).cast nbuf0_12)) sM (Memref.isWhole_whole _)
    (iblk m c 0 t) (iblk m c 1 t) (iblk m c 2 t) (iblk m c 3 t) (iblk m c 4 t) (iblk m c 5 t) (iblk m c 6 t) (iblk m c 7 t) h q.dx q.gain q.half q.grads

/-- The body's run at a point where the kept step ends a row tile. -/
abbrev lastAt (c : Dev nD) (t : Fin cfg0.N) (h : atKeptEnd (grid0.coords t)) (q : Kept F) :=
  runLast c (grid0.coords t) (s0 t) (hstage0_0 ((cfg0.slots t 0).cast nbuf0_0)) (s1 t) (hstage0_1 ((cfg0.slots t 1).cast nbuf0_1))
    (s2 t) (hstage0_2 ((cfg0.slots t 2).cast nbuf0_2)) (s3 t) (hstage0_3 ((cfg0.slots t 3).cast nbuf0_3))
    (s4 t) (hstage0_4 ((cfg0.slots t 4).cast nbuf0_4)) (s5 t) (hstage0_5 ((cfg0.slots t 5).cast nbuf0_5))
    (s6 t) (hstage0_6 ((cfg0.slots t 6).cast nbuf0_6)) (s7 t) (hstage0_7 ((cfg0.slots t 7).cast nbuf0_7))
    (s8 t) (hstage0_8 ((cfg0.slots t 8).cast nbuf0_8)) (s9 t) (hstage0_9 ((cfg0.slots t 9).cast nbuf0_9))
    (s10 t) (hstage0_10 ((cfg0.slots t 10).cast nbuf0_10)) (s11 t) (hstage0_11 ((cfg0.slots t 11).cast nbuf0_11))
    (s12 t) (hstage0_12 ((cfg0.slots t 12).cast nbuf0_12)) sM (Memref.isWhole_whole _)
    (iblk m c 0 t) (iblk m c 1 t) (iblk m c 2 t) (iblk m c 3 t) (iblk m c 4 t) (iblk m c 5 t) (iblk m c 6 t) (iblk m c 7 t) h q.dx q.gain q.half q.grads

/-! ## What the buffers hold after a point -/

/-- The scratch after the stores `L` over contents `H`. -/
abbrev readS (H : Vec F S2x2x512x704 .bf16) (L : List (View.Piece (Elt F) S2x2x512x704 .bf16)) : Vec F S2x2x512x704 .bf16 :=
  sM.view.read (Elt F) (sM.view.writes (Elt F) ((Memref.isWhole_whole _ : sM.IsWhole).unread H) L)

def next (c : Dev nD) (t : Fin cfg0.N) (p : Kept F) : Left F :=
  if h : atKeptEnd (grid0.coords t) then
    ⟨⟨View.canon (lastAt m c t h (begun m c t p)).1, View.canon (lastAt m c t h (begun m c t p)).2.2.2.1, (begun m c t p).half,
      readS (begun m c t p).grads (lastAt m c t h (begun m c t p)).2.2.2.2.1⟩,
      View.canon (lastAt m c t h (begun m c t p)).2.1, View.canon (lastAt m c t h (begun m c t p)).2.2.1⟩
  else
    ⟨⟨View.canon (plainAt m c t h (begun m c t p)).1, (begun m c t p).gain, (begun m c t p).half,
      readS (begun m c t p).grads (plainAt m c t h (begun m c t p)).2.2.2.1⟩,
      View.canon (plainAt m c t h (begun m c t p)).2.1, View.canon (plainAt m c t h (begun m c t p)).2.2.1⟩

theorem next_last (c : Dev nD) (t : Fin cfg0.N) (h : atKeptEnd (grid0.coords t)) (p : Kept F) : next m c t p =
    ⟨⟨View.canon (lastAt m c t h (begun m c t p)).1, View.canon (lastAt m c t h (begun m c t p)).2.2.2.1, (begun m c t p).half,
      readS (begun m c t p).grads (lastAt m c t h (begun m c t p)).2.2.2.2.1⟩,
      View.canon (lastAt m c t h (begun m c t p)).2.1, View.canon (lastAt m c t h (begun m c t p)).2.2.1⟩ := dif_pos h

theorem next_plain (c : Dev nD) (t : Fin cfg0.N) (h : ¬atKeptEnd (grid0.coords t)) (p : Kept F) : next m c t p =
    ⟨⟨View.canon (plainAt m c t h (begun m c t p)).1, (begun m c t p).gain, (begun m c t p).half,
      readS (begun m c t p).grads (plainAt m c t h (begun m c t p)).2.2.2.1⟩,
      View.canon (plainAt m c t h (begun m c t p)).2.1, View.canon (plainAt m c t h (begun m c t p)).2.2.1⟩ := dif_neg h

/-- The half gradient is `head`'s. -/
theorem next_half (c : Dev nD) (t : Fin cfg0.N) (p : Kept F) : (next m c t p).kept.half = half1 (grid0.coords t) (iblk m c 3 t) p.half := by
  by_cases h : atKeptEnd (grid0.coords t)
  · rw [next_last m c t h]; rfl
  · rw [next_plain m c t h]; rfl

/-- The gain is kept where nothing is added to it. -/
theorem next_gain (c : Dev nD) (t : Fin cfg0.N) (h0 : ¬atStart (grid0.coords t)) (h : ¬atKeptEnd (grid0.coords t)) (p : Kept F) :
    (next m c t p).kept.gain = p.gain := by
  rw [next_plain m c t h]; exact if_neg h0

/-- Contents for the first point, which overwrites them. -/
def blank : Kept F := ⟨k0_pay10, k0_pay7, k0_pay9 k0_pay10, k0_pay8⟩

/-- After the body at point `n`. -/
def outs (c : Dev nD) : (n : ℕ) → n < cfg0.N → Left F
  | 0, hn => next m c ⟨0, hn⟩ blank
  | n + 1, hn => next m c ⟨n + 1, hn⟩ (outs c n (Nat.lt_of_succ_lt hn)).kept

/-- What the point before kept. -/
def prior (c : Dev nD) (t : Fin cfg0.N) : Kept F :=
  if t.val = 0 then blank else (outs m c (t.val - 1) (Nat.lt_of_le_of_lt (Nat.sub_le _ _) t.isLt)).kept

theorem outs_eq (c : Dev nD) (t : Fin cfg0.N) : outs m c t.val t.isLt = next m c t (prior m c t) := by
  obtain ⟨n, hn⟩ := t
  cases n with
  | zero => rfl
  | succ n => rfl

theorem prior_pos (c : Dev nD) (t : Fin cfg0.N) (h : ¬t.val = 0) :
    prior m c t = (outs m c (t.val - 1) (Nat.lt_of_le_of_lt (Nat.sub_le _ _) t.isLt)).kept := if_neg h

/-! ## The stores cover their blocks -/

theorem coverplain8 (c : Dev nD) (t : Fin cfg0.N) (h : ¬atKeptEnd (grid0.coords t)) (q : Kept F) (y) : ∃ p ∈ (plainAt m c t h q).1, y ∈ p.1.set :=
  View.cover_of_tiledL _ S512x1024.size (by sl_kernel_rfl) y
theorem coverplain9 (c : Dev nD) (t : Fin cfg0.N) (h : ¬atKeptEnd (grid0.coords t)) (q : Kept F) (y) : ∃ p ∈ (plainAt m c t h q).2.1, y ∈ p.1.set :=
  View.cover_of_tiledBy _ ![1, 1, 512, 64] (by sl_kernel_rfl) y
theorem coverplain10 (c : Dev nD) (t : Fin cfg0.N) (h : ¬atKeptEnd (grid0.coords t)) (q : Kept F) (y) : ∃ p ∈ (plainAt m c t h q).2.2.1, y ∈ p.1.set :=
  View.cover_of_tiledBy _ ![1, 512, 64] (by sl_kernel_rfl) y
theorem coverlast8 (c : Dev nD) (t : Fin cfg0.N) (h : atKeptEnd (grid0.coords t)) (q : Kept F) (y) : ∃ p ∈ (lastAt m c t h q).1, y ∈ p.1.set :=
  View.cover_of_tiledL _ S512x1024.size (by sl_kernel_rfl) y
theorem coverlast9 (c : Dev nD) (t : Fin cfg0.N) (h : atKeptEnd (grid0.coords t)) (q : Kept F) (y) : ∃ p ∈ (lastAt m c t h q).2.1, y ∈ p.1.set :=
  View.cover_of_tiledBy _ ![1, 1, 512, 64] (by sl_kernel_rfl) y
theorem coverlast10 (c : Dev nD) (t : Fin cfg0.N) (h : atKeptEnd (grid0.coords t)) (q : Kept F) (y) : ∃ p ∈ (lastAt m c t h q).2.2.1, y ∈ p.1.set :=
  View.cover_of_tiledBy _ ![1, 512, 64] (by sl_kernel_rfl) y
theorem coverlast11 (c : Dev nD) (t : Fin cfg0.N) (h : atKeptEnd (grid0.coords t)) (q : Kept F) (y) : ∃ p ∈ (lastAt m c t h q).2.2.2.1, y ∈ p.1.set :=
  View.cover_of_tiledL _ S8x1024.size (by sl_kernel_rfl) y

/-! ## The pipeline's data -/

/-- Between points: before the first what the launch hands over, later the scratch at what the point before left. -/
def PhiS (c : Dev nD) : (n : ℕ) → n ≤ cfg0.N → sProp 𝕄
  | 0, _ => Pipeline.ΦA spec0 c
  | n + 1, hn => iprop(owns (c : Thread nD τ) sM fullShare (outs m c n hn).kept.grads ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) sM fullShare (outs m c (n - 1) (by omega)).kept.grads ∗ (∃ r, prngReg c r)) := by
  cases n with
  | zero => exact absurd rfl hz
  | succ n => rfl

/-- What the launch hands over: the scratch at some contents. -/
theorem PhiA_eq (c : Dev nD) :
    (Pipeline.ΦA spec0 c : sProp 𝕄) = iprop((∃ d, owns (c : Thread nD τ) sM fullShare d) ∗ (∃ r, prngReg c r)) := by
  unfold Pipeline.ΦA; rw [scopedRest0_eq]; simp only [sM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).kept.dx
    | ⟨9, _⟩ => (outs m c t.val t.isLt).dgu
    | ⟨10, _⟩ => (outs m c t.val t.isLt).act
    | ⟨11, _⟩ => (outs m c t.val t.isLt).kept.gain
    | ⟨12, _⟩ => (outs m c t.val t.isLt).kept.half
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outs m c t.val t.isLt).kept.dx := by dsimp only [dats]
theorem after9 (c : Dev nD) (t : Fin cfg0.N) : (dats m 0 c).after 9 t = (outs m c t.val t.isLt).dgu := by dsimp only [dats]
theorem after10 (c : Dev nD) (t : Fin cfg0.N) : (dats m 0 c).after 10 t = (outs m c t.val t.isLt).act := by dsimp only [dats]
theorem after11 (c : Dev nD) (t : Fin cfg0.N) : (dats m 0 c).after 11 t = (outs m c t.val t.isLt).kept.gain := by dsimp only [dats]
theorem after12 (c : Dev nD) (t : Fin cfg0.N) : (dats m 0 c).after 12 t = (outs m c t.val t.isLt).kept.half := by dsimp only [dats]

theorem before0 (c : Dev nD) (t : Fin cfg0.N) (d) : (dats m 0 c).before 0 t d = iblk m c 0 t :=
  (dats m 0 c).before_in_eq_fetched 0 rfl (fun _ => rfl) (fun _ _ _ => rfl) (fun t => after0 m c t) t d
theorem before1 (c : Dev nD) (t : Fin cfg0.N) (d) : (dats m 0 c).before 1 t d = iblk m c 1 t :=
  (dats m 0 c).before_in_eq_fetched 1 rfl (fun _ => rfl) (fun _ _ _ => rfl) (fun t => after1 m c t) t d
theorem before2 (c : Dev nD) (t : Fin cfg0.N) (d) : (dats m 0 c).before 2 t d = iblk m c 2 t :=
  (dats m 0 c).before_in_eq_fetched 2 rfl (fun _ => rfl) (fun _ _ _ => rfl) (fun t => after2 m c t) t d
theorem before3 (c : Dev nD) (t : Fin cfg0.N) (d) : (dats m 0 c).before 3 t d = iblk m c 3 t :=
  (dats m 0 c).before_in_eq_fetched 3 rfl (fun _ => rfl) (fun _ _ _ => rfl) (fun t => after3 m c t) t d
theorem before4 (c : Dev nD) (t : Fin cfg0.N) (d) : (dats m 0 c).before 4 t d = iblk m c 4 t :=
  (dats m 0 c).before_in_eq_fetched 4 rfl (fun _ => rfl) (fun _ _ _ => rfl) (fun t => after4 m c t) t d
theorem before5 (c : Dev nD) (t : Fin cfg0.N) (d) : (dats m 0 c).before 5 t d = iblk m c 5 t :=
  (dats m 0 c).before_in_eq_fetched 5 rfl (fun _ => rfl) (fun _ _ _ => rfl) (fun t => after5 m c t) t d
theorem before6 (c : Dev nD) (t : Fin cfg0.N) (d) : (dats m 0 c).before 6 t d = iblk m c 6 t :=
  (dats m 0 c).before_in_eq_fetched 6 rfl (fun _ => rfl) (fun _ _ _ => rfl) (fun t => after6 m c t) t d
theorem before7 (c : Dev nD) (t : Fin cfg0.N) (d) : (dats m 0 c).before 7 t d = iblk m c 7 t :=
  (dats m 0 c).before_in_eq_fetched 7 rfl (fun _ => rfl) (fun _ _ _ => rfl) (fun t => after7 m c t) t d

/-! ## The buffers kept from point to point -/

theorem flush8 : ∀ t : Fin cfg0.N, (cfg0.win 8).flush t = true ↔ t.val % 4 = 0 ∧ 0 < t.val := by decide +kernel
theorem fresh11 : ∀ t : Fin cfg0.N, cfg0.fresh 11 t.val = decide (t.val = 0) := by decide +kernel
theorem idle11 : ∀ t : Fin cfg0.N, cfg0.idle 11 (cfg0.grid.coords t) = !decide (t.val % 4 = 0) := by decide +kernel
theorem fresh12 : ∀ t : Fin cfg0.N, cfg0.fresh 12 t.val = decide (t.val % 4 = 0 ∧ t.val < 64) := by decide +kernel
theorem idle12 : ∀ t : Fin cfg0.N, cfg0.idle 12 (cfg0.grid.coords t) = !decide (t.val % 4 = 0 ∧ t.val < 64) := by decide +kernel

/-- The running product, where it is not reset. -/
theorem before8 (c : Dev nD) (t : Fin cfg0.N) (h : ¬(t.val % 4 = 1 ∨ t.val = 0)) (d) : (dats m 0 c).before 8 t d = (prior m c t).dx := by
  have hN : t.val < 65 := lt_of_lt_of_eq t.isLt N_0
  rw [Dat.before_out_kept _ 8 rfl t (by omega) (Bool.eq_false_iff.mpr fun h => by have := (flush8 _).mp h; dsimp only at this; omega)
    (fun _ => rfl) (fun _ _ => rfl), prior_pos m c t (by omega)]
  dsimp only [dats]

theorem dx1_before (c : Dev nD) (t : Fin cfg0.N) (d) :
    dx1 (grid0.coords t) ((dats m 0 c).before 8 t d) = (begun m c t (prior m c t)).dx := by
  unfold begun dx1
  by_cases h : atKeptTile (grid0.coords t)
  · rw [if_pos h]; exact (if_pos h).symm
  · rw [if_neg h, before8 m c t (fun h' => h ((atKeptTile_iff t).mpr h'))]; exact (if_neg h).symm

/-- The running gain after the first point. -/
theorem before11 (c : Dev nD) (t : Fin cfg0.N) (h : ¬t.val = 0) (d) : (dats m 0 c).before 11 t d = (prior m c t).gain := by
  rw [Dat.before_out_traj (dats m 0 c) 11 rfl (fun _ _ => rfl) (fun t hz hi hf => ?_) _ t rfl d,
    if_neg (by rw [fresh11]; simpa using h), after11, prior_pos m c t h]
  rw [idle11] at hi
  have hi' : ¬t.val % 4 = 0 := by simpa using hi
  rw [after11, after11, outs_eq m c t, next_gain m c t (fun h => by have := (atStart_iff t).mp h; omega)
    (fun h => by have := (atKeptEnd_iff t).mp h; omega), prior_pos m c t (by omega)]

theorem gain1_before (c : Dev nD) (t : Fin cfg0.N) (d) :
    gain1 (grid0.coords t) ((dats m 0 c).before 11 t d) = (begun m c t (prior m c t)).gain := by
  unfold begun gain1
  by_cases h : atStart (grid0.coords t)
  · rw [if_pos h]; exact (if_pos h).symm
  · rw [if_neg h, before11 m c t (fun h' => h ((atStart_iff t).mpr h'))]; exact (if_neg h).symm

/-- The half gradient where it is not stored. -/
theorem before12 (c : Dev nD) (t : Fin cfg0.N) (h : ¬(t.val % 4 = 0 ∧ t.val < 64)) (d) : (dats m 0 c).before 12 t d = (prior m c t).half := by
  rw [Dat.before_out_traj (dats m 0 c) 12 rfl (fun _ _ => rfl) (fun t hz hi hf => ?_) _ t rfl d,
    if_neg (by rw [fresh12]; simpa using h), after12, prior_pos m c t (by omega)]
  rw [fresh12] at hf
  have hf' : ¬(t.val % 4 = 0 ∧ t.val < 64) := by simpa using hf
  rw [after12, after12, outs_eq m c t, next_half, prior_pos m c t (by omega)]
  exact if_neg fun h => hf' ((atTile_iff t).mp h)

theorem half1_before (c : Dev nD) (t : Fin cfg0.N) (d) :
    half1 (grid0.coords t) (iblk m c 3 t) ((dats m 0 c).before 12 t d) = (begun m c t (prior m c t)).half := by
  unfold begun half1
  by_cases h : atTile (grid0.coords t)
  · rw [if_pos h]; exact (if_pos h).symm
  · rw [if_neg h, before12 m c t (fun h' => h ((atTile_iff t).mpr h'))]; exact (if_neg h).symm

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- The scratch comes to a point as the point before left it; the first point overwrites it. -/
theorem phi_in (c : Dev nD) (t : Fin cfg0.N) : (dats m 0 c).Φ t.castSucc ⊢
    iprop(∃ s, ⌜kept1 (grid0.coords t) s = (begun m c t (prior m c t)).grads⌝ ∗ owns (c : Thread nD τ) sM fullShare s ∗ (∃ r, prngReg c r)) := by
  rw [PhiS_castSucc]
  by_cases h : t.val = 0
  · rw [PhiS_zero m c _ _ h, PhiA_eq]
    iintro ⟨⟨%d, Hd⟩, Hg⟩
    iexists d
    isplitr
    · ipureintro
      unfold begun kept1
      rw [if_pos ((atStart_iff t).mpr h)]; exact (if_pos ((atStart_iff t).mpr h)).symm
    isplitl [Hd]; · iexact Hd
    iexact Hg
  · rw [PhiS_pos m c _ _ h]
    iintro ⟨Hd, Hg⟩
    iexists _
    isplitr
    swap
    · isplitl [Hd]; · iexact Hd
      iexact Hg
    ipureintro
    unfold begun
    rw [prior_pos m c t h]

/-- A window that is not idle is left at its stated contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The gain's buffer as the recursion states it is what the pipeline asks for, stored at this point or not. -/
theorem leaves11 (c : Dev nD) (t : Fin cfg0.N) :
    owns (c : Thread nD τ) (s11 t) fullShare (outs m c t.val t.isLt).kept.gain ⊢ ((dats m 0 c).leavesExact 11 t : sProp 𝕄) := by
  by_cases h : t.val % 4 = 0
  · rw [leaves_live m c 11 t (by rw [idle11]; simpa using h), after11]
  · have hi : cfg0.idle 11 (cfg0.grid.coords t) = true := by rw [idle11]; simpa using h
    rw [← after11 m c t]
    unfold Dat.leavesExact
    rw [hi]
    cases hf : (cfg0.win 11).flush t
    · dsimp only
      iintro H
      iexists (prior m c t).gain
      rw [before11 m c t (by omega), after11, outs_eq m c t, next_gain m c t (fun h => by have := (atStart_iff t).mp h; omega)
        (fun h => by have := (atKeptEnd_iff t).mp h; omega)]
      iexact H
    · dsimp only; exact .rfl

theorem leaves12 (c : Dev nD) (t : Fin cfg0.N) :
    owns (c : Thread nD τ) (s12 t) fullShare (outs m c t.val t.isLt).kept.half ⊢ ((dats m 0 c).leavesExact 12 t : sProp 𝕄) := by
  by_cases h : t.val % 4 = 0 ∧ t.val < 64
  · rw [leaves_live m c 12 t (by rw [idle12]; simpa using h), after12]
  · have hi : cfg0.idle 12 (cfg0.grid.coords t) = true := by rw [idle12, decide_eq_false h]; rfl
    rw [← after12 m c t]
    unfold Dat.leavesExact
    rw [hi]
    cases hf : (cfg0.win 12).flush t
    · dsimp only
      iintro H
      iexists (prior m c t).half
      rw [before12 m c t h, after12, outs_eq m c t, next_half, half1, if_neg fun h' => h ((atTile_iff t).mp h')]
      iexact H
    · dsimp only; exact .rfl

/-! ## The body's triple -/

def bodyPre (c : Dev nD) (t : Fin cfg0.N) : sProp 𝕄 :=
  iprop((dats m 0 c).Φ t.castSucc ∗ (dats m 0 c).owesAt () t.castSucc
    ∗ (∃ d, owns (c : Thread nD τ) (s0 t) fullShare ((dats m 0 c).before 0 t d))
    ∗ (∃ d, owns (c : Thread nD τ) (s1 t) fullShare ((dats m 0 c).before 1 t d))
    ∗ (∃ d, owns (c : Thread nD τ) (s2 t) fullShare ((dats m 0 c).before 2 t d))
    ∗ (∃ d, owns (c : Thread nD τ) (s3 t) fullShare ((dats m 0 c).before 3 t d))
    ∗ (∃ d, owns (c : Thread nD τ) (s4 t) fullShare ((dats m 0 c).before 4 t d))
    ∗ (∃ d, owns (c : Thread nD τ) (s5 t) fullShare ((dats m 0 c).before 5 t d))
    ∗ (∃ d, owns (c : Thread nD τ) (s6 t) fullShare ((dats m 0 c).before 6 t d))
    ∗ (∃ d, owns (c : Thread nD τ) (s7 t) fullShare ((dats m 0 c).before 7 t d))
    ∗ (∃ d, owns (c : Thread nD τ) (s8 t) fullShare ((dats m 0 c).before 8 t d))
    ∗ (∃ d, owns (c : Thread nD τ) (s9 t) fullShare ((dats m 0 c).before 9 t d))
    ∗ (∃ d, owns (c : Thread nD τ) (s10 t) fullShare ((dats m 0 c).before 10 t d))
    ∗ (∃ d, owns (c : Thread nD τ) (s11 t) fullShare ((dats m 0 c).before 11 t d))
    ∗ (∃ d, owns (c : Thread nD τ) (s12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    show (dats m 0 c).Φ t.succ = iprop(owns (c : Thread nD τ) sM fullShare (outs m c t.val t.isLt).kept.grads ∗ (∃ r, prngReg c r)) from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl, leaves_live m c 10 t rfl,
    after0, after1, after2, after3, after4, after5, after6, after7, after8, after9, after10]
  by_cases h : atKeptEnd (grid0.coords t)
  · rw [outs_eq m c t, next_last m c t h]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    ihave ⟨%s, %es, Hs, Hg⟩ := (phi_in m c t) $$ HΦ
    iapply ((lastAt m c t h (begun m c t (prior m c t))).2.2.2.2.2 Set.univ _ _ _ _ s (dx1_before m c t d8) (gain1_before m c t d11) (half1_before m c t d12) es)
    isplitl [H0 H1 H2 H3 H4 H5 H6 H7]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexists _; iexact H9
    isplitl [H10]; · iexists _; iexact H10
    isplitl [H11]; · iexact H11
    isplitl [H12]; · iexact H12
    isplitl [Hs]; · iexact Hs
    iintro ⟨Hin, ⟨%f8, H8⟩, ⟨%f9, H9⟩, ⟨%f10, H10⟩, ⟨%f11, H11⟩, H12, Hs⟩
    unfold held
    icases Hin with ⟨H0, H1, H2, H3, H4, H5, H6, H7⟩
    isplitl [Hs Hg]
    · isplitl [Hs]
      · unfold owns; iexists _; isplitr
        swap; · iexact Hs
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (coverlast8 m c t h _)
    isplitl [H9]
    · unfold owns; iexists _; isplitr
      swap; · iexact H9
      ipureintro; exact View.read_writes_eq_canon _ _ _ (coverlast9 m c t h _)
    isplitl [H10]
    · unfold owns; iexists _; isplitr
      swap; · iexact H10
      ipureintro; exact View.read_writes_eq_canon _ _ _ (coverlast10 m c t h _)
    isplitl [H11]
    · iapply (leaves11 m c t)
      rw [outs_eq, next_last m c t h]
      unfold owns; iexists _; isplitr
      swap; · iexact H11
      ipureintro; exact View.read_writes_eq_canon _ _ _ (coverlast11 m c t h _)
    iapply (leaves12 m c t)
    rw [outs_eq, next_last m c t h]
    iexact H12
  · rw [outs_eq m c t, next_plain m c t h]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    ihave ⟨%s, %es, Hs, Hg⟩ := (phi_in m c t) $$ HΦ
    iapply ((plainAt m c t h (begun m c t (prior m c t))).2.2.2.2 Set.univ _ _ _ _ s (dx1_before m c t d8) (gain1_before m c t d11) (half1_before m c t d12) es)
    isplitl [H0 H1 H2 H3 H4 H5 H6 H7]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexists _; iexact H9
    isplitl [H10]; · iexists _; iexact H10
    isplitl [H11]; · iexact H11
    isplitl [H12]; · iexact H12
    isplitl [Hs]; · iexact Hs
    iintro ⟨Hin, ⟨%f8, H8⟩, ⟨%f9, H9⟩, ⟨%f10, H10⟩, H11, H12, Hs⟩
    unfold held
    icases Hin with ⟨H0, H1, H2, H3, H4, H5, H6, H7⟩
    isplitl [Hs Hg]
    · isplitl [Hs]
      · unfold owns; iexists _; isplitr
        swap; · iexact Hs
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (coverplain8 m c t h _)
    isplitl [H9]
    · unfold owns; iexists _; isplitr
      swap; · iexact H9
      ipureintro; exact View.read_writes_eq_canon _ _ _ (coverplain9 m c t h _)
    isplitl [H10]
    · unfold owns; iexists _; isplitr
      swap; · iexact H10
      ipureintro; exact View.read_writes_eq_canon _ _ _ (coverplain10 m c t h _)
    isplitl [H11]
    · iapply (leaves11 m c t)
      rw [outs_eq, next_plain m c t h]
      iexact H11
    iapply (leaves12 m c t)
    rw [outs_eq, next_plain m c t h]
    iexact H12

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 65 := N_0; omega), PhiA_eq]
  iintro ⟨Hs, Hg⟩
  isplitl [Hs]
  · iexists _; iexact Hs
  iexact Hg

set_option backward.isDefEq.respectTransparency.types false in
set_option maxHeartbeats 800000 in
/-- Every run ends with each window's array at what the data say, every other buffer as the host's last lines leave
    it, and the counters at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := tail_sub) (hfresh := tail_fresh) (hkeep := tail_keeps) (hmain := prep m) (hA := A_eq m) (hin := hin m) (hout := hout m)

/-- The arguments end as they were launched. -/
theorem args (c : Dev nD) {r} (h : Pipeline.FramePost cfgs (dats (F := F) m) 0 (Pipeline.afterTail₀ cfgs (dats m) 0 (V0 m) [hostOps1]) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_args m c (by decide)))),
    ((h c).2 main_arg1 (Pipeline.mem_restRefs_of main_arg1 (by decide) (by decide))).trans (W_args m _ c (by decide) (by decide) (by decide) (by decide)),
    ((h c).2 main_arg2 (Pipeline.mem_restRefs_of main_arg2 (by decide) (by decide))).trans (W_args m _ c (by decide) (by decide) (by decide) (by decide)),
    ((h c).2 main_arg3 (Pipeline.mem_restRefs_of main_arg3 (by decide) (by decide))).trans (W_args m _ c (by decide) (by decide) (by decide) (by decide)),
    ((h c).1 2).trans (((dats m 0 c).arrAt_in 2 rfl _).trans ((A_eq m c 2).trans (V_args m c (by decide))))⟩

/-- The frame claim, for any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args m c h.1, h.2⟩) (run_main m ρ)

end Cert.Kernel9Ideal.Ffn

end
-- ==== Proof.FfnBwdKernel.lean ====
module

public import proofs.«01_k».proof.Defs
public import proofs.«01_k».proof.Proof.FfnBwdFrame
public import proofs.«01_k».proof.Proof.Gen.Kernel9

/-! # The same frame for the program as compiled

The program as compiled and the one read at the extended reals have one text: their bodies' table and their
`main` are the same terms, so the one frame serves both. -/

@[expose] public section

namespace Cert.Kernel9Ideal.Ffn

open Idealize.ShloMosaic Idealize.SL.Sem

/-- The two programs' tables of bodies agree, label by label. -/
theorem bodies : @Cert.Kernel9.defs₀ Bits _ Cert.Kernel9.Gen.facts = @Cert.Kernel9Ideal.defs₀ Bits _ Cert.Kernel9Ideal.Gen.facts :=
  congrArg Defs.onTc (funext fun l => funext fun a => match l, a with
    | 0, (_, _) => rfl
    | ⟨_ + 1, h⟩, _ => absurd h (Nat.not_lt.2 (Nat.le_add_left _ _)))

theorem tables : @Cert.Kernel9.defs Bits _ Cert.Kernel9.Gen.facts = @Cert.Kernel9Ideal.defs Bits _ Cert.Kernel9Ideal.Gen.facts :=
  congrArg (Pipeline.defs _) bodies

theorem frame_kernel : Cert.quiescent_Kernel9 (hKernel9 := Cert.Kernel9.Gen.facts) := fun m ρ _ => by
  rw [tables]
  exact frame (F := Bits) m ρ

end Cert.Kernel9Ideal.Ffn

end
-- ==== Proof.FfnBwdBody.lean ====
/- What the backward feed-forward body leaves at one grid point, index by index: the two gradients of the hidden products and
   the gated activation of the computed step, the running product of the kept one, and the normalisation's own gradient. -/
module

public import proofs.«01_k».proof.Proof.FfnBwdFrame
public import proofs.«01_k».proof.Proof.Rms
public import Idealize.ShloMosaic.Lib.Pointwise
public import Idealize.ShloMosaic.Lib.ValueIdx

@[expose] public section

set_option maxRecDepth 16384

noncomputable section

namespace Cert.Kernel9Ideal.Ffn

open Idealize.ShloMosaic Idealize.ShloMosaic.TcCoe Idealize.SL.Sem
open Cert.Kernel9Ideal Cert.Kernel9Ideal.Gen

/-! ## The gate, number by number -/

abbrev halfC : EReal := Ideal.ofBits .f32 0x3F000000#32

/-- The gated activation, and what flows back through it to its two factors. -/
def gated (a b : EReal) : EReal := a * Ideal.logistic a * b
def gateGrad (d a b : EReal) : EReal := d * b * (Ideal.logistic a * (1 + a * (1 - Ideal.logistic a)))
def upGrad (d a : EReal) : EReal := d * (a * Ideal.logistic a)

/-- What flows back to an activation: the half gradient times the second weights. -/
def back (D : Vec Ideal S512x1024 .bf16) (wo : Vec Ideal S2x352x1024 .bf16) (p : Fin 512) (f : Fin 704) : EReal :=
  ∑ k : Fin 1024, D (ix2 p k) * wo (ix3 ⟨f.val / 352, by omega⟩ ⟨f.val % 352, Nat.mod_lt _ (by decide)⟩ k)

/-- The two gradients of the hidden products. -/
def grad (D : Vec Ideal S512x1024 .bf16) (wo : Vec Ideal S2x352x1024 .bf16) (gu : Vec Ideal S1x2x512x704 .bf16) (b : ℕ)
    (p : Fin 512) (f : Fin 704) : EReal :=
  if b = 0 then gateGrad (back D wo p f) (gu (ix4 0 0 p f)) (gu (ix4 0 1 p f)) else upGrad (back D wo p f) (gu (ix4 0 0 p f))

/-- The activation. -/
def actOf (gu : Vec Ideal S1x2x512x704 .bf16) (p : Fin 512) (f : Fin 704) : EReal := gated (gu (ix4 0 0 p f)) (gu (ix4 0 1 p f))

/-- `n` columns from `o` of one of the two hidden products. -/
def cut (gu : Vec Ideal S1x2x512x704 .bf16) (b : Fin 2) (o n : ℕ) (h : o + n ≤ 704) : Vec Ideal ⟨4, ![1, 1, 512, n]⟩ .bf16 := fun i =>
  gu (ix4 0 b (i 2) ⟨o + (i 3).val, by have : (i 3).val < n := (i 3).isLt; omega⟩)

variable (D : Vec Ideal S512x1024 .bf16) (wo : Vec Ideal S2x352x1024 .bf16) (gu : Vec Ideal S1x2x512x704 .bf16)

theorem pay12 : k0_pay12 D = D := by
  funext i
  obtain ⟨p, q, rfl⟩ : ∃ (p : Fin 512) (q : Fin 1024), i = ix2 p q := ⟨i 0, i 1, eq_ix2 i⟩
  pointwise [k0_pay12]
theorem pay13 (f : Fin 704) (q : Fin 1024) :
    k0_pay13 wo (ix2 f q) = wo (ix3 ⟨f.val / 352, by omega⟩ ⟨f.val % 352, Nat.mod_lt _ (by decide)⟩ q) := by
  pointwise [k0_pay13]

theorem pay16 (p : Fin 512) (f : Fin 256) : k0_pay16 D wo (ix2 p f) = back D wo p ⟨0 + f.val, by omega⟩ := by
  pointwise [k0_pay16]
  simp only [pay12, pay13, back, Nat.zero_add]
theorem pay31 (p : Fin 512) (f : Fin 256) : k0_pay31 (k0_pay12 D) (k0_pay13 wo) (ix2 p f) = back D wo p ⟨256 + f.val, by omega⟩ := by
  pointwise [k0_pay31]
  simp only [pay12, pay13, back]
theorem pay44 (p : Fin 512) (f : Fin 192) : k0_pay44 (k0_pay12 D) (k0_pay13 wo) (ix2 p f) = back D wo p ⟨512 + f.val, by omega⟩ := by
  pointwise [k0_pay44]
  simp only [pay12, pay13, back]

/-! ### The three pieces of each gradient and of the activation -/

abbrev g0 := cut gu 0 0 256 (by decide)
abbrev u0 := cut gu 1 0 256 (by decide)
abbrev g1 := cut gu 0 256 256 (by decide)
abbrev u1 := cut gu 1 256 256 (by decide)
abbrev g2 := cut gu 0 512 192 (by decide)
abbrev u2 := cut gu 1 512 192 (by decide)

abbrev dg0 := k0_pay25 (k0_pay17 (g0 gu)) (k0_pay21 D wo (u0 gu)) (k0_pay22 (g0 gu)) (k0_pay23 (F := Ideal))
abbrev du0 := k0_pay26 (k0_pay20 D wo (g0 gu))
abbrev dg1 := k0_pay38 (k0_pay29 (g1 gu)) (k0_pay30 (u1 gu)) (k0_pay31 (k0_pay12 D) (k0_pay13 wo)) (k0_pay32 (g1 gu))
abbrev du1 := k0_pay39 (k0_pay31 (k0_pay12 D) (k0_pay13 wo)) (k0_pay33 (g1 gu))
abbrev dg2 := k0_pay50 (k0_pay12 D) (k0_pay13 wo) (k0_pay42 (g2 gu)) (u2 gu)
abbrev du2 := k0_pay51 (k0_pay12 D) (k0_pay13 wo) (k0_pay42 (g2 gu))
abbrev ac0 := k0_pay19 (g0 gu) (u0 gu)
abbrev ac1 := k0_pay35 (k0_pay34 (g1 gu) (u1 gu))
abbrev ac2 := k0_pay47 (k0_pay42 (g2 gu)) (u2 gu)

theorem dg0_apply (a b : Fin 1) (p : Fin 512) (f : Fin 256) : dg0 D wo gu (ix4 a b p f) = grad D wo gu 0 p ⟨0 + f.val, by omega⟩ := by
  pointwise [k0_pay25, k0_pay24, k0_pay17, k0_pay14, k0_pay21, k0_pay15, k0_pay22, k0_pay23]
  rw [pay16]; simp only [grad, gateGrad, upGrad, g0, u0, cut, Nat.zero_add, if_true, one_ne_zero, if_false]; rfl
theorem du0_apply (a b : Fin 1) (p : Fin 512) (f : Fin 256) : du0 D wo gu (ix4 a b p f) = grad D wo gu 1 p ⟨0 + f.val, by omega⟩ := by
  pointwise [k0_pay26, k0_pay20, k0_pay18, k0_pay17, k0_pay14]
  rw [pay16]; simp only [grad, gateGrad, upGrad, g0, u0, cut, Nat.zero_add, if_true, one_ne_zero, if_false]; rfl
theorem dg1_apply (a b : Fin 1) (p : Fin 512) (f : Fin 256) : dg1 D wo gu (ix4 a b p f) = grad D wo gu 0 p ⟨256 + f.val, by omega⟩ := by
  pointwise [k0_pay38, k0_pay37, k0_pay29, k0_pay30, k0_pay32]
  rw [pay31]; rfl
theorem du1_apply (a b : Fin 1) (p : Fin 512) (f : Fin 256) : du1 D wo gu (ix4 a b p f) = grad D wo gu 1 p ⟨256 + f.val, by omega⟩ := by
  pointwise [k0_pay39, k0_pay36, k0_pay33, k0_pay29, k0_pay32]
  rw [pay31]; rfl
theorem dg2_apply (a b : Fin 1) (p : Fin 512) (f : Fin 192) : dg2 D wo gu (ix4 a b p f) = grad D wo gu 0 p ⟨512 + f.val, by omega⟩ := by
  pointwise [k0_pay50, k0_pay49, k0_pay42, k0_pay43, k0_pay45]
  rw [pay44]; rfl
theorem du2_apply (a b : Fin 1) (p : Fin 512) (f : Fin 192) : du2 D wo gu (ix4 a b p f) = grad D wo gu 1 p ⟨512 + f.val, by omega⟩ := by
  pointwise [k0_pay51, k0_pay48, k0_pay42, k0_pay46, k0_pay45]
  rw [pay44]; rfl
theorem ac0_apply (a : Fin 1) (p : Fin 512) (f : Fin 256) : ac0 gu (ix3 a p f) = actOf gu p ⟨0 + f.val, by omega⟩ := by
  pointwise [k0_pay19, k0_pay18, k0_pay17, k0_pay14, k0_pay15]
  simp only [actOf, gated, g0, u0, cut, Nat.zero_add]; rfl
theorem ac1_apply (a : Fin 1) (p : Fin 512) (f : Fin 256) : ac1 gu (ix3 a p f) = actOf gu p ⟨256 + f.val, by omega⟩ := by
  pointwise [k0_pay35, k0_pay34, k0_pay33, k0_pay32, k0_pay29, k0_pay30]
  rfl
theorem ac2_apply (a : Fin 1) (p : Fin 512) (f : Fin 192) : ac2 gu (ix3 a p f) = actOf gu p ⟨512 + f.val, by omega⟩ := by
  pointwise [k0_pay47, k0_pay42, k0_pay43, k0_pay46, k0_pay45]
  rfl

/-! ## The running product and the normalisation's gradient -/

/-- The kept step's part of the product, added where there is one. -/
theorem pay11_apply (s : BitVec 32) (h : Vec Ideal S1x2x512x704 .bf16) (wg wu : Vec Ideal S1x1024x704 .bf16) (X : Vec Ideal S512x1024 .f32)
    (p : Fin 512) (q : Fin 1024) (hs : Scalar.cmpi .sgt s 0#32 = 1#1) : k0_pay11 s h wg wu X (ix2 p q) = X (ix2 p q)
      + ((∑ f : Fin 704, h (ix4 0 0 p f) * wg (ix3 0 q f)) + ∑ f : Fin 704, h (ix4 0 1 p f) * wu (ix3 0 q f)) := by
  pointwise [k0_pay11]
  rw [hs]
  rfl

/-- A row of the tile. -/
abbrev rowOf (x : Vec Ideal S512x1024 .f32) (p : Fin 512) : Fin 1024 → EReal := fun q => x (ix2 p q)
abbrev gainRow (g : Vec Ideal S1x1024 .f32) : Fin 1024 → EReal := fun q => g (ix2 0 q)

theorem pay2_apply (x : Vec Ideal S512x1024 .f32) (p : Fin 512) (a : Fin 1) : k0_pay2 x (ix2 p a) = Rms.scale Rms.n1024 (rowOf x p) := by
  pointwise [k0_pay2]
  rfl
theorem pay3_apply (x : Vec Ideal S512x1024 .f32) (p : Fin 512) (q : Fin 1024) :
    k0_pay3 x (ix2 p q) = x (ix2 p q) * Rms.scale Rms.n1024 (rowOf x p) := by
  pointwise [k0_pay3]
  rw [pay2_apply]
theorem pay4 (d : Vec Ideal S512x1024 .f32) : k0_pay4 d = d := by
  funext i
  obtain ⟨p, q, rfl⟩ : ∃ (p : Fin 512) (q : Fin 1024), i = ix2 p q := ⟨i 0, i 1, eq_ix2 i⟩
  pointwise [k0_pay4]
theorem pay5_apply (g : Vec Ideal S1x1024 .f32) (x d dy : Vec Ideal S512x1024 .f32) (p : Fin 512) (q : Fin 1024) :
    k0_pay5 g x d dy (ix2 p q) = dy (ix2 p q) + Rms.back Rms.n1024 (rowOf x p) (gainRow g) (rowOf d p) q := by
  pointwise [k0_pay5]
  simp only [pay2_apply, pay3_apply, pay4]
  rfl
theorem pay6_apply (x d : Vec Ideal S512x1024 .f32) (G : Vec Ideal S8x1024 .f32) (b : Fin 8) (q : Fin 1024) :
    k0_pay6 x d G (ix2 b q) = G (ix2 b q) + ∑ a : Fin 64, d (ix2 ⟨a.val * 8 + b.val, by omega⟩ q)
      * (x (ix2 ⟨a.val * 8 + b.val, by omega⟩ q) * Rms.scale Rms.n1024 (rowOf x ⟨a.val * 8 + b.val, by omega⟩)) := by
  pointwise [k0_pay6]
  simp only [pay3_apply, pay4]
theorem pay7_apply (b : Fin 8) (q : Fin 1024) : k0_pay7 (F := Ideal) (ix2 b q) = 0 := by
  pointwise [k0_pay7]
theorem pay9_apply (dy : Vec Ideal S512x1024 .f32) (p : Fin 512) (q : Fin 1024) : k0_pay9 dy (ix2 p q) = halfC * dy (ix2 p q) := by
  pointwise [k0_pay9]
theorem pay10_apply (p : Fin 512) (q : Fin 1024) : k0_pay10 (F := Ideal) (ix2 p q) = 0 := by
  pointwise [k0_pay10]

end Cert.Kernel9Ideal.Ffn

end
-- ==== Proof.FfnBwdStores.lean ====
/- The stores of the backward feed-forward body, put together: the blocks it leaves, as functions of the blocks it found. -/
module

public import proofs.«01_k».proof.Proof.FfnBwdBody

@[expose] public section

set_option maxRecDepth 16384

noncomputable section

namespace Cert.Kernel9Ideal.Ffn

open Idealize.ShloMosaic Idealize.ShloMosaic.TcCoe Idealize.SL.Sem
open Cert.Kernel9Ideal Cert.Kernel9Ideal.Gen

section
variable (D : Vec Ideal S512x1024 .bf16) (wo : Vec Ideal S2x352x1024 .bf16) (gu : Vec Ideal S1x2x512x704 .bf16)

/-- Both gradients of one step, and its activation. -/
def grads : Vec Ideal S1x2x512x704 .bf16 := fun i => grad D wo gu (i 1).val (i 2) (i 3)
def acts : Vec Ideal S1x512x704 .bf16 := fun i => actOf gu (i 1) (i 2)
/-- The same gradients, wherever a slot holds them. -/
def inSlot : Vec Ideal S2x2x512x704 .bf16 := fun i => grad D wo gu (i 1).val (i 2) (i 3)
/-- One slot of the scratch. -/
def slot (e : Fin 2) (H : Vec Ideal S2x2x512x704 .bf16) : Vec Ideal S1x2x512x704 .bf16 := fun i => H (ix4 e (i 1) (i 2) (i 3))

theorem ld_cut {b : Memref sig .tc .vmem S1x2x512x704 .bf16} (h : b.IsWhole) (β : Fin 2) (o n : ℕ) (ho : o + n ≤ 704)
    (inb : ∀ a, (![0, β.val, 0, o] : Fin 4 → ℕ) a + (![1, 1, 512, n] : Fin 4 → ℕ) a ≤ S1x2x512x704.size a) :
    View.readAt (Elt Ideal) b.view (Rect.unit (s := S1x2x512x704) ![0, β.val, 0, o] ![1, 1, 512, n] inb).toLoadRect (h.unread gu)
      = cut gu β o n ho := by
  rw [View.readAt_eq_ld, h.read_unread]
  funext i
  refine View.ld_unit_apply_of _ _ _ _ _ _ fun a => ?_
  have h0 : (i 0).val < 1 := (i 0).isLt
  have h1 : (i 1).val < 1 := (i 1).isLt
  fin_cases a <;> simp [ix4] <;> omega

theorem ld_slot (e : Fin 2) (H : Vec Ideal S2x2x512x704 .bf16) {b : Memref sig .tc .vmem S2x2x512x704 .bf16} (h : b.IsWhole)
    {off : Fin 4 → ℕ} (ho : off = ![e.val, 0, 0, 0]) (inb : ∀ a, off a + (![1, 2, 512, 704] : Fin 4 → ℕ) a ≤ S2x2x512x704.size a) :
    View.readAt (Elt Ideal) b.view (Rect.unit (s := S2x2x512x704) off ![1, 2, 512, 704] inb).toLoadRect (h.unread H) = slot e H := by
  subst ho
  rw [View.readAt_eq_ld, h.read_unread]
  funext i
  refine View.ld_unit_apply_of _ _ _ _ _ _ fun a => ?_
  have h0 : (i 0).val < 1 := (i 0).isLt
  fin_cases a <;> simp [ix4] <;> omega

/-- The gradients inside one of the stored rectangles. -/
theorem grads_emb (b : Fin 2) (o n : ℕ) (ho : o + n ≤ 704)
    (inb : ∀ a, (![0, b.val, 0, o] : Fin 4 → ℕ) a + (![1, 1, 512, n] : Fin 4 → ℕ) a ≤ S1x2x512x704.size a)
    (y : (⟨4, ![1, 1, 512, n]⟩ : Shape).Idx) :
    grads D wo gu ((Rect.unit (s := S1x2x512x704) ![0, b.val, 0, o] ![1, 1, 512, n] inb).emb y)
      = grad D wo gu b.val (y 2) ⟨o + (y 3).val, by have : (y 3).val < n := (y 3).isLt; omega⟩ := by
  have e (a) := ValueKit.rect_emb_unit_val (s := S1x2x512x704) ![0, b.val, 0, o] ![1, 1, 512, n] inb y a
  have h1 : (y 1).val < 1 := (y 1).isLt
  have e1 : (((Rect.unit (s := S1x2x512x704) ![0, b.val, 0, o] ![1, 1, 512, n] inb).emb y) 1).val = b.val := by
    refine (e 1).trans ?_
    show b.val + (y 1).val = b.val
    omega
  unfold grads
  rw [e1]
  exact congrArg₂ (grad D wo gu b.val) (Fin.ext ((e 2).trans (Nat.zero_add _))) (Fin.ext (e 3))

theorem inSlot_emb (e b : Fin 2) (o n : ℕ) (ho : o + n ≤ 704) {off : Fin 4 → ℕ} (hoff : off = ![e.val, b.val, 0, o])
    (inb : ∀ a, off a + (![1, 1, 512, n] : Fin 4 → ℕ) a ≤ S2x2x512x704.size a)
    (y : (⟨4, ![1, 1, 512, n]⟩ : Shape).Idx) :
    inSlot D wo gu ((Rect.unit (s := S2x2x512x704) off ![1, 1, 512, n] inb).emb y)
      = grad D wo gu b.val (y 2) ⟨o + (y 3).val, by have : (y 3).val < n := (y 3).isLt; omega⟩ := by
  subst hoff
  have e (a) := ValueKit.rect_emb_unit_val (s := S2x2x512x704) ![e.val, b.val, 0, o] ![1, 1, 512, n] inb y a
  have h1 : (y 1).val < 1 := (y 1).isLt
  have e1 := (e 1).trans (show b.val + (y 1).val = b.val by omega)
  unfold inSlot
  rw [e1]
  exact congrArg₂ (grad D wo gu b.val) (Fin.ext ((e 2).trans (Nat.zero_add _))) (Fin.ext (e 3))

theorem acts_emb (o n : ℕ) (ho : o + n ≤ 704)
    (inb : ∀ a, (![0, 0, o] : Fin 3 → ℕ) a + (![1, 512, n] : Fin 3 → ℕ) a ≤ S1x512x704.size a)
    (y : (⟨3, ![1, 512, n]⟩ : Shape).Idx) :
    acts gu ((Rect.unit (s := S1x512x704) ![0, 0, o] ![1, 512, n] inb).emb y)
      = actOf gu (y 1) ⟨o + (y 2).val, by have : (y 2).val < n := (y 2).isLt; omega⟩ := by
  have e (a) := ValueKit.rect_emb_unit_val (s := S1x512x704) ![0, 0, o] ![1, 512, n] inb y a
  unfold acts
  exact congrArg₂ (actOf gu) (Fin.ext ((e 1).trans (Nat.zero_add _))) (Fin.ext (e 2))

/-! A stored block, read at any of its indices. -/
theorem at4 {n : ℕ} {v : Vec Ideal ⟨4, ![1, 1, 512, n]⟩ .bf16} {w : Fin 512 → Fin n → EReal}
    (h : ∀ (a b : Fin 1) p f, v (ix4 a b p f) = w p f) (y : (⟨4, ![1, 1, 512, n]⟩ : Shape).Idx) : v y = w (y 2) (y 3) := by
  obtain ⟨a, b, p, f, rfl⟩ : ∃ (a b : Fin 1) (p : Fin 512) (f : Fin n), y = ix4 a b p f := ⟨y 0, y 1, y 2, y 3, eq_ix4 y⟩
  exact h a b p f
theorem at3 {n : ℕ} {v : Vec Ideal ⟨3, ![1, 512, n]⟩ .bf16} {w : Fin 512 → Fin n → EReal}
    (h : ∀ (a : Fin 1) p f, v (ix3 a p f) = w p f) (y : (⟨3, ![1, 512, n]⟩ : Shape).Idx) : v y = w (y 1) (y 2) := by
  obtain ⟨a, p, f, rfl⟩ : ∃ (a : Fin 1) (p : Fin 512) (f : Fin n), y = ix3 a p f := ⟨y 0, y 1, y 2, eq_ix3 y⟩
  exact h a p f

variable {D' : Vec Ideal S512x1024 .bf16} {wo' : Vec Ideal S2x352x1024 .bf16}
  {a0 b0 a1 b1 : Vec Ideal S1x1x512x256 .bf16} {a2 b2 : Vec Ideal S1x1x512x192 .bf16}

/-- The six stores of gradients are the two gradients. -/
theorem grads_canon (hD : D' = D) (hwo : wo' = wo) (ha0 : a0 = g0 gu) (hb0 : b0 = u0 gu) (ha1 : a1 = g1 gu) (hb1 : b1 = u1 gu)
    (ha2 : a2 = g2 gu) (hb2 : b2 = u2 gu)
    {L : List (View.Piece (Elt Ideal) S1x2x512x704 .bf16)} (hc : ∀ y, ∃ p ∈ L, y ∈ p.1.set)
    (e : L = [⟨Rect.unit ![0, 1, 0, 512] ![1, 1, 512, 192] inb_S1x2x512x704_S1x1x512x192_0_1_0_512, k0_pay51 (k0_pay12 D') (k0_pay13 wo') (k0_pay42 a2)⟩,
      ⟨Rect.unit ![0, 0, 0, 512] ![1, 1, 512, 192] inb_S1x2x512x704_S1x1x512x192_0_0_0_512, k0_pay50 (k0_pay12 D') (k0_pay13 wo') (k0_pay42 a2) b2⟩,
      ⟨Rect.unit ![0, 1, 0, 256] ![1, 1, 512, 256] inb_S1x2x512x704_S1x1x512x256_0_1_0_256, k0_pay39 (k0_pay31 (k0_pay12 D') (k0_pay13 wo')) (k0_pay33 a1)⟩,
      ⟨Rect.unit ![0, 0, 0, 256] ![1, 1, 512, 256] inb_S1x2x512x704_S1x1x512x256_0_0_0_256, k0_pay38 (k0_pay29 a1) (k0_pay30 b1) (k0_pay31 (k0_pay12 D') (k0_pay13 wo')) (k0_pay32 a1)⟩,
      ⟨Rect.unit ![0, 1, 0, 0] ![1, 1, 512, 256] inb_S1x2x512x704_S1x1x512x256_0_1_0_0, k0_pay26 (k0_pay20 D' wo' a0)⟩,
      ⟨Rect.unit ![0, 0, 0, 0] ![1, 1, 512, 256] inb_S1x2x512x704_S1x1x512x256_0_0_0_0, k0_pay25 (k0_pay17 a0) (k0_pay21 D' wo' b0) (k0_pay22 a0) (k0_pay23 (F := Ideal))⟩]) :
    View.canon L = grads D wo gu := by
  funext y
  refine View.canon_apply_of_pieces (grads D wo gu) L ?_ y (hc y)
  subst e hD hwo ha0 hb0 ha1 hb1 ha2 hb2
  simp only [List.forall_mem_cons, List.not_mem_nil, false_imp_iff, implies_true, and_true]
  exact ⟨fun y => (at4 (du2_apply D' wo' gu) y).trans (grads_emb D' wo' gu 1 512 192 (by decide) _ y).symm,
    fun y => (at4 (dg2_apply D' wo' gu) y).trans (grads_emb D' wo' gu 0 512 192 (by decide) _ y).symm,
    fun y => (at4 (du1_apply D' wo' gu) y).trans (grads_emb D' wo' gu 1 256 256 (by decide) _ y).symm,
    fun y => (at4 (dg1_apply D' wo' gu) y).trans (grads_emb D' wo' gu 0 256 256 (by decide) _ y).symm,
    fun y => (at4 (du0_apply D' wo' gu) y).trans (grads_emb D' wo' gu 1 0 256 (by decide) _ y).symm,
    fun y => (at4 (dg0_apply D' wo' gu) y).trans (grads_emb D' wo' gu 0 0 256 (by decide) _ y).symm⟩

/-- The three stores of the activation. -/
theorem acts_canon (ha0 : a0 = g0 gu) (hb0 : b0 = u0 gu) (ha1 : a1 = g1 gu) (hb1 : b1 = u1 gu) (ha2 : a2 = g2 gu) (hb2 : b2 = u2 gu)
    {L : List (View.Piece (Elt Ideal) S1x512x704 .bf16)} (hc : ∀ y, ∃ p ∈ L, y ∈ p.1.set)
    (e : L = [⟨Rect.unit ![0, 0, 512] ![1, 512, 192] inb_S1x512x704_S1x512x192_0_0_512, k0_pay47 (k0_pay42 a2) b2⟩,
      ⟨Rect.unit ![0, 0, 256] ![1, 512, 256] inb_S1x512x704_S1x512x256_0_0_256, k0_pay35 (k0_pay34 a1 b1)⟩,
      ⟨Rect.unit ![0, 0, 0] ![1, 512, 256] inb_S1x512x704_S1x512x256_0_0_0, k0_pay19 a0 b0⟩]) :
    View.canon L = acts gu := by
  funext y
  refine View.canon_apply_of_pieces (acts gu) L ?_ y (hc y)
  subst e ha0 hb0 ha1 hb1 ha2 hb2
  simp only [List.forall_mem_cons, List.not_mem_nil, false_imp_iff, implies_true, and_true]
  exact ⟨fun y => (at3 (ac2_apply gu) y).trans (acts_emb gu 512 192 (by decide) _ y).symm,
    fun y => (at3 (ac1_apply gu) y).trans (acts_emb gu 256 256 (by decide) _ y).symm,
    fun y => (at3 (ac0_apply gu) y).trans (acts_emb gu 0 256 (by decide) _ y).symm⟩

/-- Where one of the six stores into a slot lies. -/
theorem mem_piece (e b : Fin 2) (o n : ℕ) {off : Fin 4 → ℕ} (hoff : off = ![e.val, b.val, 0, o])
    (inb : ∀ a, off a + (![1, 1, 512, n] : Fin 4 → ℕ) a ≤ S2x2x512x704.size a) (p : Fin 512) (f : Fin 704) (h : o ≤ f.val) (h' : f.val < o + n) :
    (ix4 e b p f : S2x2x512x704.Idx) ∈ (Rect.unit (s := S2x2x512x704) off ![1, 1, 512, n] inb).set := by
  subst hoff
  rw [Rect.mem_set_unit]
  intro a
  fin_cases a <;> simp [ix4] <;> omega

/-- The six stores into a slot leave the two gradients there. -/
theorem inSlot_writes (hD : D' = D) (hwo : wo' = wo) (ha0 : a0 = g0 gu) (hb0 : b0 = u0 gu) (ha1 : a1 = g1 gu) (hb1 : b1 = u1 gu)
    (ha2 : a2 = g2 gu) (hb2 : b2 = u2 gu) (e : Fin 2) {o2 o3 o4 o5 o6 o7 : Fin 4 → ℕ}
    (h2 : o2 = ![e.val, 0, 0, 0]) (h3 : o3 = ![e.val, 1, 0, 0]) (h4 : o4 = ![e.val, 0, 0, 256]) (h5 : o5 = ![e.val, 1, 0, 256])
    (h6 : o6 = ![e.val, 0, 0, 512]) (h7 : o7 = ![e.val, 1, 0, 512]) (H : Vec Ideal S2x2x512x704 .bf16)
    {L : List (View.Piece (Elt Ideal) S2x2x512x704 .bf16)} {i7 i6 i5 i4 i3 i2}
    (hL : L = [⟨Rect.unit o7 ![1, 1, 512, 192] i7, k0_pay1 (k0_pay48 (k0_pay12 D') (k0_pay13 wo') (k0_pay42 a2))⟩,
      ⟨Rect.unit o6 ![1, 1, 512, 192] i6, k0_pay52 (k0_pay12 D') (k0_pay13 wo') (k0_pay42 a2) b2⟩,
      ⟨Rect.unit o5 ![1, 1, 512, 256] i5, k0_pay41 (k0_pay31 (k0_pay12 D') (k0_pay13 wo')) (k0_pay33 a1)⟩,
      ⟨Rect.unit o4 ![1, 1, 512, 256] i4, k0_pay40 (k0_pay29 a1) (k0_pay30 b1) (k0_pay31 (k0_pay12 D') (k0_pay13 wo')) (k0_pay32 a1)⟩,
      ⟨Rect.unit o3 ![1, 1, 512, 256] i3, k0_pay28 (k0_pay20 D' wo' a0)⟩,
      ⟨Rect.unit o2 ![1, 1, 512, 256] i2, k0_pay27 (k0_pay17 a0) (k0_pay21 D' wo' b0) (k0_pay22 a0) (k0_pay23 (F := Ideal))⟩]) :
    slot e (readS H L) = grads D wo gu := by
  funext y
  obtain ⟨a, b, p, f, rfl⟩ : ∃ (a : Fin 1) (b : Fin 2) (p : Fin 512) (f : Fin 704), y = ix4 a b p f := ⟨y 0, y 1, y 2, y 3, eq_ix4 y⟩
  show sM.view.read (Elt Ideal) (sM.view.writes (Elt Ideal) _ L) (ix4 e b p f) = inSlot D wo gu (ix4 e b p f)
  have hm : ∃ q ∈ L, (ix4 e b p f : S2x2x512x704.Idx) ∈ q.1.set := by
    subst hL
    simp only [List.exists_mem_cons_iff]
    have hf := f.isLt
    match b with
    | 0 =>
      by_cases c1 : f.val < 256
      · exact .inr (.inr (.inr (.inr (.inr (.inl (mem_piece e 0 0 256 h2 _ p f (by omega) (by omega)))))))
      · by_cases c2 : f.val < 512
        · exact .inr (.inr (.inr (.inl (mem_piece e 0 256 256 h4 _ p f (by omega) (by omega)))))
        · exact .inr (.inl (mem_piece e 0 512 192 h6 _ p f (by omega) (by omega)))
    | 1 =>
      by_cases c1 : f.val < 256
      · exact .inr (.inr (.inr (.inr (.inl (mem_piece e 1 0 256 h3 _ p f (by omega) (by omega))))))
      · by_cases c2 : f.val < 512
        · exact .inr (.inr (.inl (mem_piece e 1 256 256 h5 _ p f (by omega) (by omega))))
        · exact .inl (mem_piece e 1 512 192 h7 _ p f (by omega) (by omega))
  rw [View.read_writes_apply_eq_canon _ _ _ _ hm]
  refine View.canon_apply_of_pieces (inSlot D wo gu) L ?_ _ hm
  subst hL hD hwo ha0 hb0 ha1 hb1 ha2 hb2
  simp only [List.forall_mem_cons, List.not_mem_nil, false_imp_iff, implies_true, and_true]
  exact ⟨fun y => (at4 (du2_apply D' wo' gu) y).trans (inSlot_emb D' wo' gu e 1 512 192 (by decide) h7 _ y).symm,
    fun y => (at4 (dg2_apply D' wo' gu) y).trans (inSlot_emb D' wo' gu e 0 512 192 (by decide) h6 _ y).symm,
    fun y => (at4 (du1_apply D' wo' gu) y).trans (inSlot_emb D' wo' gu e 1 256 256 (by decide) h5 _ y).symm,
    fun y => (at4 (dg1_apply D' wo' gu) y).trans (inSlot_emb D' wo' gu e 0 256 256 (by decide) h4 _ y).symm,
    fun y => (at4 (du0_apply D' wo' gu) y).trans (inSlot_emb D' wo' gu e 1 0 256 (by decide) h3 _ y).symm,
    fun y => (at4 (dg0_apply D' wo' gu) y).trans (inSlot_emb D' wo' gu e 0 0 256 (by decide) h2 _ y).symm⟩

end

/-! ## The two runs -/

section
variable (c : Dev nD) (i : grid0.Coords)
  (b1 : Memref sig .tc .vmem S512x1024 .f32) (h1 : b1.IsWhole) (b2 : Memref sig .tc .vmem S1x1024 .f32) (h2 : b2.IsWhole)
  (b3 : Memref sig .tc .vmem S512x1024 .f32) (h3 : b3.IsWhole) (b4 : Memref sig .tc .vmem S512x1024 .f32) (h4 : b4.IsWhole)
  (b5 : Memref sig .tc .vmem S1x2x512x704 .bf16) (h5 : b5.IsWhole) (b6 : Memref sig .tc .vmem S1x1024x704 .bf16) (h6 : b6.IsWhole)
  (b7 : Memref sig .tc .vmem S1x1024x704 .bf16) (h7 : b7.IsWhole) (b8 : Memref sig .tc .vmem S2x352x1024 .bf16) (h8 : b8.IsWhole)
  (b9 : Memref sig .tc .vmem S512x1024 .f32) (h9 : b9.IsWhole) (b10 : Memref sig .tc .vmem S1x2x512x704 .bf16) (h10 : b10.IsWhole)
  (b11 : Memref sig .tc .vmem S1x512x704 .bf16) (h11 : b11.IsWhole) (b12 : Memref sig .tc .vmem S8x1024 .f32) (h12 : b12.IsWhole)
  (b13 : Memref sig .tc .vmem S512x1024 .bf16) (h13 : b13.IsWhole) (b14 : Memref sig .tc .vmem S2x2x512x704 .bf16) (h14 : b14.IsWhole)
  (x : Vec Ideal S512x1024 .f32) (g : Vec Ideal S1x1024 .f32) (dy2 dy1 : Vec Ideal S512x1024 .f32) (gu : Vec Ideal S1x2x512x704 .bf16)
  (wg wu : Vec Ideal S1x1024x704 .bf16) (wo : Vec Ideal S2x352x1024 .bf16)
  (X : Vec Ideal S512x1024 .f32) (G : Vec Ideal S8x1024 .f32) (D : Vec Ideal S512x1024 .bf16) (H : Vec Ideal S2x2x512x704 .bf16)

/-- The step's number, as the body reads it. -/
abbrev stepNo : BitVec 32 := BitVec.ofNat 32 (i 0).val

theorem pay11_of (s : BitVec 32) {h h' : Vec Ideal S1x2x512x704 .bf16} {wg wg' wu wu' : Vec Ideal S1x1024x704 .bf16} {X X' : Vec Ideal S512x1024 .f32}
    (e : h = h') (e1 : wg = wg') (e2 : wu = wu') (e3 : X = X') : k0_pay11 s h wg wu X = k0_pay11 s h' wg' wu' X' := by
  subst e e1 e2 e3; rfl
theorem pay5_of {g g' : Vec Ideal S1x1024 .f32} {x x' d d' y y' : Vec Ideal S512x1024 .f32} (e : g = g') (e1 : x = x') (e2 : d = d') (e3 : y = y') :
    k0_pay5 g x d y = k0_pay5 g' x' d' y' := by
  subst e e1 e2 e3; rfl
theorem pay6_of {x x' d d' : Vec Ideal S512x1024 .f32} {G G' : Vec Ideal S8x1024 .f32} (e1 : x = x') (e2 : d = d') (e3 : G = G') :
    k0_pay6 x d G = k0_pay6 x' d' G' := by
  subst e1 e2 e3; rfl

theorem plain_dgu (hc : ¬atKeptEnd i) (hcov : ∀ y, ∃ p ∈ (runPlain c i b1 h1 b2 h2 b3 h3 b4 h4 b5 h5 b6 h6 b7 h7 b8 h8 b9 h9 b10 h10 b11 h11 b12 h12 b13 h13 b14 h14 x g dy2 dy1 gu wg wu wo hc X G D H).2.1, y ∈ p.1.set) :
    View.canon (runPlain c i b1 h1 b2 h2 b3 h3 b4 h4 b5 h5 b6 h6 b7 h7 b8 h8 b9 h9 b10 h10 b11 h11 b12 h12 b13 h13 b14 h14 x g dy2 dy1 gu wg wu wo hc X G D H).2.1 = grads D wo gu := by
  refine grads_canon (D' := ?D) (wo' := ?wo) (a0 := ?a0) (b0 := ?b0) (a1 := ?a1) (b1 := ?b1) (a2 := ?a2) (b2 := ?b2) D wo gu ?_ ?_ ?_ ?_ ?_ ?_ ?_ ?_ hcov ?e
  case e => unfold runPlain; dsimp only; sl_unfold_words; rfl
  exacts [Whole.load h13 Whole.zero2 _ _, Whole.load h8 Whole.zero3 _ _, ld_cut gu h5 0 0 256 (by decide) _, ld_cut gu h5 1 0 256 (by decide) _,
    ld_cut gu h5 0 256 256 (by decide) _, ld_cut gu h5 1 256 256 (by decide) _, ld_cut gu h5 0 512 192 (by decide) _, ld_cut gu h5 1 512 192 (by decide) _]

theorem plain_act (hc : ¬atKeptEnd i) (hcov : ∀ y, ∃ p ∈ (runPlain c i b1 h1 b2 h2 b3 h3 b4 h4 b5 h5 b6 h6 b7 h7 b8 h8 b9 h9 b10 h10 b11 h11 b12 h12 b13 h13 b14 h14 x g dy2 dy1 gu wg wu wo hc X G D H).2.2.1, y ∈ p.1.set) :
    View.canon (runPlain c i b1 h1 b2 h2 b3 h3 b4 h4 b5 h5 b6 h6 b7 h7 b8 h8 b9 h9 b10 h10 b11 h11 b12 h12 b13 h13 b14 h14 x g dy2 dy1 gu wg wu wo hc X G D H).2.2.1 = acts gu := by
  refine acts_canon (a0 := ?a0) (b0 := ?b0) (a1 := ?a1) (b1 := ?b1) (a2 := ?a2) (b2 := ?b2) gu ?_ ?_ ?_ ?_ ?_ ?_ hcov ?e
  case e => unfold runPlain; dsimp only; sl_unfold_words; rfl
  exacts [ld_cut gu h5 0 0 256 (by decide) _, ld_cut gu h5 1 0 256 (by decide) _,
    ld_cut gu h5 0 256 256 (by decide) _, ld_cut gu h5 1 256 256 (by decide) _, ld_cut gu h5 0 512 192 (by decide) _, ld_cut gu h5 1 512 192 (by decide) _]

theorem plain_slot (hc : ¬atKeptEnd i) (e : Fin 2) (o2 : k0_off2 i = ![e.val, 0, 0, 0]) (o3 : k0_off3 i = ![e.val, 1, 0, 0])
    (o4 : k0_off4 i = ![e.val, 0, 0, 256]) (o5 : k0_off5 i = ![e.val, 1, 0, 256]) (o6 : k0_off6 i = ![e.val, 0, 0, 512])
    (o7 : k0_off7 i = ![e.val, 1, 0, 512]) :
    slot e (readS H (runPlain c i b1 h1 b2 h2 b3 h3 b4 h4 b5 h5 b6 h6 b7 h7 b8 h8 b9 h9 b10 h10 b11 h11 b12 h12 b13 h13 b14 h14 x g dy2 dy1 gu wg wu wo hc X G D H).2.2.2.1) = grads D wo gu := by
  refine inSlot_writes (D' := ?D) (wo' := ?wo) (a0 := ?a0) (b0 := ?b0) (a1 := ?a1) (b1 := ?b1) (a2 := ?a2) (b2 := ?b2) D wo gu ?_ ?_ ?_ ?_ ?_ ?_ ?_ ?_ e o2 o3 o4 o5 o6 o7 H (i7 := k0_off7_inb i) (i6 := k0_off6_inb i)
    (i5 := k0_off5_inb i) (i4 := k0_off4_inb i) (i3 := k0_off3_inb i) (i2 := k0_off2_inb i) ?e
  case e => unfold runPlain; dsimp only; sl_unfold_words; rfl
  exacts [Whole.load h13 Whole.zero2 _ _, Whole.load h8 Whole.zero3 _ _, ld_cut gu h5 0 0 256 (by decide) _, ld_cut gu h5 1 0 256 (by decide) _,
    ld_cut gu h5 0 256 256 (by decide) _, ld_cut gu h5 1 256 256 (by decide) _, ld_cut gu h5 0 512 192 (by decide) _, ld_cut gu h5 1 512 192 (by decide) _]

theorem last_dgu (hc : atKeptEnd i) (hcov : ∀ y, ∃ p ∈ (runLast c i b1 h1 b2 h2 b3 h3 b4 h4 b5 h5 b6 h6 b7 h7 b8 h8 b9 h9 b10 h10 b11 h11 b12 h12 b13 h13 b14 h14 x g dy2 dy1 gu wg wu wo hc X G D H).2.1, y ∈ p.1.set) :
    View.canon (runLast c i b1 h1 b2 h2 b3 h3 b4 h4 b5 h5 b6 h6 b7 h7 b8 h8 b9 h9 b10 h10 b11 h11 b12 h12 b13 h13 b14 h14 x g dy2 dy1 gu wg wu wo hc X G D H).2.1 = grads D wo gu := by
  refine grads_canon (D' := ?D) (wo' := ?wo) (a0 := ?a0) (b0 := ?b0) (a1 := ?a1) (b1 := ?b1) (a2 := ?a2) (b2 := ?b2) D wo gu ?_ ?_ ?_ ?_ ?_ ?_ ?_ ?_ hcov ?e
  case e => unfold runLast; dsimp only; sl_unfold_words; rfl
  exacts [Whole.load h13 Whole.zero2 _ _, Whole.load h8 Whole.zero3 _ _, ld_cut gu h5 0 0 256 (by decide) _, ld_cut gu h5 1 0 256 (by decide) _,
    ld_cut gu h5 0 256 256 (by decide) _, ld_cut gu h5 1 256 256 (by decide) _, ld_cut gu h5 0 512 192 (by decide) _, ld_cut gu h5 1 512 192 (by decide) _]

theorem last_act (hc : atKeptEnd i) (hcov : ∀ y, ∃ p ∈ (runLast c i b1 h1 b2 h2 b3 h3 b4 h4 b5 h5 b6 h6 b7 h7 b8 h8 b9 h9 b10 h10 b11 h11 b12 h12 b13 h13 b14 h14 x g dy2 dy1 gu wg wu wo hc X G D H).2.2.1, y ∈ p.1.set) :
    View.canon (runLast c i b1 h1 b2 h2 b3 h3 b4 h4 b5 h5 b6 h6 b7 h7 b8 h8 b9 h9 b10 h10 b11 h11 b12 h12 b13 h13 b14 h14 x g dy2 dy1 gu wg wu wo hc X G D H).2.2.1 = acts gu := by
  refine acts_canon (a0 := ?a0) (b0 := ?b0) (a1 := ?a1) (b1 := ?b1) (a2 := ?a2) (b2 := ?b2) gu ?_ ?_ ?_ ?_ ?_ ?_ hcov ?e
  case e => unfold runLast; dsimp only; sl_unfold_words; rfl
  exacts [ld_cut gu h5 0 0 256 (by decide) _, ld_cut gu h5 1 0 256 (by decide) _,
    ld_cut gu h5 0 256 256 (by decide) _, ld_cut gu h5 1 256 256 (by decide) _, ld_cut gu h5 0 512 192 (by decide) _, ld_cut gu h5 1 512 192 (by decide) _]

theorem last_slot (hc : atKeptEnd i) (e : Fin 2) (o2 : k0_off2 i = ![e.val, 0, 0, 0]) (o3 : k0_off3 i = ![e.val, 1, 0, 0])
    (o4 : k0_off4 i = ![e.val, 0, 0, 256]) (o5 : k0_off5 i = ![e.val, 1, 0, 256]) (o6 : k0_off6 i = ![e.val, 0, 0, 512])
    (o7 : k0_off7 i = ![e.val, 1, 0, 512]) :
    slot e (readS H (runLast c i b1 h1 b2 h2 b3 h3 b4 h4 b5 h5 b6 h6 b7 h7 b8 h8 b9 h9 b10 h10 b11 h11 b12 h12 b13 h13 b14 h14 x g dy2 dy1 gu wg wu wo hc X G D H).2.2.2.2.1) = grads D wo gu := by
  refine inSlot_writes (D' := ?D) (wo' := ?wo) (a0 := ?a0) (b0 := ?b0) (a1 := ?a1) (b1 := ?b1) (a2 := ?a2) (b2 := ?b2) D wo gu ?_ ?_ ?_ ?_ ?_ ?_ ?_ ?_ e o2 o3 o4 o5 o6 o7 H (i7 := k0_off7_inb i) (i6 := k0_off6_inb i)
    (i5 := k0_off5_inb i) (i4 := k0_off4_inb i) (i3 := k0_off3_inb i) (i2 := k0_off2_inb i) ?e
  case e => unfold runLast; dsimp only; sl_unfold_words; rfl
  exacts [Whole.load h13 Whole.zero2 _ _, Whole.load h8 Whole.zero3 _ _, ld_cut gu h5 0 0 256 (by decide) _, ld_cut gu h5 1 0 256 (by decide) _,
    ld_cut gu h5 0 256 256 (by decide) _, ld_cut gu h5 1 256 256 (by decide) _, ld_cut gu h5 0 512 192 (by decide) _, ld_cut gu h5 1 512 192 (by decide) _]

theorem plain_dx (hc : ¬atKeptEnd i) (e : Fin 2) (o1 : k0_off1 i = ![e.val, 0, 0, 0]) :
    View.canon (runPlain c i b1 h1 b2 h2 b3 h3 b4 h4 b5 h5 b6 h6 b7 h7 b8 h8 b9 h9 b10 h10 b11 h11 b12 h12 b13 h13 b14 h14 x g dy2 dy1 gu wg wu wo hc X G D H).1 = k0_pay11 (stepNo i) (slot e H) wg wu X := by
  unfold runPlain; dsimp only; sl_unfold_words
  refine (Whole.stored Whole.zero2 _ _ _).trans ?_
  exact pay11_of (stepNo i) (ld_slot e H h14 o1 _) (Whole.load h6 Whole.zero3 _ _) (Whole.load h7 Whole.zero3 _ _) (Whole.load h9 Whole.zero2 _ _)

theorem last_dx (hc : atKeptEnd i) (e : Fin 2) (o1 : k0_off1 i = ![e.val, 0, 0, 0]) :
    View.canon (runLast c i b1 h1 b2 h2 b3 h3 b4 h4 b5 h5 b6 h6 b7 h7 b8 h8 b9 h9 b10 h10 b11 h11 b12 h12 b13 h13 b14 h14 x g dy2 dy1 gu wg wu wo hc X G D H).1 = k0_pay5 g x (k0_pay11 (stepNo i) (slot e H) wg wu X) dy2 := by
  unfold runLast; dsimp only; sl_unfold_words
  refine (Whole.stored Whole.zero2 _ _ _).trans ?_
  exact pay5_of (Whole.load h2 Whole.zero2 _ _) (Whole.load h1 Whole.zero2 _ _)
    ((Whole.reload _ _ _).trans (pay11_of (stepNo i) (ld_slot e H h14 o1 _) (Whole.load h6 Whole.zero3 _ _) (Whole.load h7 Whole.zero3 _ _) (Whole.load h9 Whole.zero2 _ _)))
    (Whole.load h3 Whole.zero2 _ _)

theorem last_gain (hc : atKeptEnd i) (e : Fin 2) (o1 : k0_off1 i = ![e.val, 0, 0, 0]) :
    View.canon (runLast c i b1 h1 b2 h2 b3 h3 b4 h4 b5 h5 b6 h6 b7 h7 b8 h8 b9 h9 b10 h10 b11 h11 b12 h12 b13 h13 b14 h14 x g dy2 dy1 gu wg wu wo hc X G D H).2.2.2.1 = k0_pay6 x (k0_pay11 (stepNo i) (slot e H) wg wu X) G := by
  unfold runLast; dsimp only; sl_unfold_words
  refine (Whole.stored Whole.zero2 _ _ _).trans ?_
  exact pay6_of (Whole.load h1 Whole.zero2 _ _)
    ((Whole.reload _ _ _).trans (pay11_of (stepNo i) (ld_slot e H h14 o1 _) (Whole.load h6 Whole.zero3 _ _) (Whole.load h7 Whole.zero3 _ _) (Whole.load h9 Whole.zero2 _ _)))
    (Whole.load h12 Whole.zero2 _ _)

/-! The offsets at each point. -/
theorem off1_at : ∀ t : Fin cfg0.N, k0_off1 (grid0.coords t) = ![(t.val + 1) % 2, 0, 0, 0] := by decide +kernel
theorem off2_at : ∀ t : Fin cfg0.N, k0_off2 (grid0.coords t) = ![t.val % 2, 0, 0, 0] := by decide +kernel
theorem off3_at : ∀ t : Fin cfg0.N, k0_off3 (grid0.coords t) = ![t.val % 2, 1, 0, 0] := by decide +kernel
theorem off4_at : ∀ t : Fin cfg0.N, k0_off4 (grid0.coords t) = ![t.val % 2, 0, 0, 256] := by decide +kernel
theorem off5_at : ∀ t : Fin cfg0.N, k0_off5 (grid0.coords t) = ![t.val % 2, 1, 0, 256] := by decide +kernel
theorem off6_at : ∀ t : Fin cfg0.N, k0_off6 (grid0.coords t) = ![t.val % 2, 0, 0, 512] := by decide +kernel
theorem off7_at : ∀ t : Fin cfg0.N, k0_off7 (grid0.coords t) = ![t.val % 2, 1, 0, 512] := by decide +kernel
theorem stepNo_at : ∀ t : Fin cfg0.N, Scalar.cmpi .sgt (stepNo (grid0.coords t)) 0#32 = 1#1 ↔ 0 < t.val := by decide +kernel

end

end Cert.Kernel9Ideal.Ffn

end
-- ==== Proof.FfnBwdGrid.lean ====
/- The backward feed-forward call over its grid. After each point: the half gradient of the computed step's row tile, the two
   gradients of that step in their slot, the running product of the kept steps of a row tile (at the tile's end turned into
   the gradient of the input), and the gain's gradient over the row tiles ended so far. -/
module

public import proofs.«01_k».proof.Proof.FfnBwdStores

@[expose] public section

set_option maxRecDepth 16384

noncomputable section

namespace Cert.Kernel9Ideal.Ffn

open Idealize.ShloMosaic Idealize.ShloMosaic.TcCoe Idealize.SL.Sem
open Idealize.ShloMosaic.Pipeline (Dat)
open Cert.Kernel9Ideal Cert.Kernel9Ideal.Gen

theorem idx : ∀ t : Fin cfg0.N, win0_0.index t = ![(t.val - 1) / 4, 0] ∧ win0_1.index t = ![0, 0] ∧ win0_2.index t = ![(t.val - 1) / 4, 0]
    ∧ win0_3.index t = ![min t.val 63 / 4, 0] ∧ win0_4.index t = ![min t.val 63 % 4, 0, min t.val 63 / 4, 0]
    ∧ win0_5.index t = ![(t.val - 1) % 4, 0, 0] ∧ win0_6.index t = ![(t.val - 1) % 4 + 4, 0, 0] ∧ win0_7.index t = ![min t.val 63 % 4, 0, 0]
    ∧ win0_8.index t = ![(t.val - 1) / 4, 0] ∧ win0_9.index t = ![min t.val 63 % 4, 0, min t.val 63 / 4, 0]
    ∧ win0_10.index t = ![min t.val 63 % 4, min t.val 63 / 4, 0] ∧ win0_11.index t = ![0, 0] ∧ win0_12.index t = ![min t.val 63 / 4, 0]
    ∧ (win0_11.flush t = true → t.val = 64) :=
  (by decide +kernel : ∀ t : Fin grid0.N, win0_0.index t = ![(t.val - 1) / 4, 0] ∧ win0_1.index t = ![0, 0] ∧ win0_2.index t = ![(t.val - 1) / 4, 0]
    ∧ win0_3.index t = ![min t.val 63 / 4, 0] ∧ win0_4.index t = ![min t.val 63 % 4, 0, min t.val 63 / 4, 0]
    ∧ win0_5.index t = ![(t.val - 1) % 4, 0, 0] ∧ win0_6.index t = ![(t.val - 1) % 4 + 4, 0, 0] ∧ win0_7.index t = ![min t.val 63 % 4, 0, 0]
    ∧ win0_8.index t = ![(t.val - 1) / 4, 0] ∧ win0_9.index t = ![min t.val 63 % 4, 0, min t.val 63 / 4, 0]
    ∧ win0_10.index t = ![min t.val 63 % 4, min t.val 63 / 4, 0] ∧ win0_11.index t = ![0, 0] ∧ win0_12.index t = ![min t.val 63 / 4, 0]
    ∧ (win0_11.flush t = true → t.val = 64))

theorem lt65 (t : Fin cfg0.N) : t.val < 65 := lt_of_lt_of_eq t.isLt N_0

variable (m : (ℓ : Loc nD τ sig) → Buf (Elt Ideal) ℓ) (c : Dev nD)

/-! ## The arrays by their types -/

abbrev xs : Vec Ideal S8192x1024 .f32 := V m c main_arg0
abbrev gs : Vec Ideal S1x1024 .f32 := V m c main_v17
abbrev dys : Vec Ideal S8192x1024 .f32 := V m c main_arg4
abbrev gus : Vec Ideal S4x2x8192x704 .bf16 := V m c main_v16
abbrev wi : Vec Ideal S8x1024x704 .bf16 := V m c main_v20
abbrev wos : Vec Ideal S8x352x1024 .bf16 := V m c main_v22

abbrev xAt (t : Fin cfg0.N) : Vec Ideal S512x1024 .f32 := iblk m c 0 t
abbrev gAt (t : Fin cfg0.N) : Vec Ideal S1x1024 .f32 := iblk m c 1 t
abbrev dy2At (t : Fin cfg0.N) : Vec Ideal S512x1024 .f32 := iblk m c 2 t
abbrev dy1At (t : Fin cfg0.N) : Vec Ideal S512x1024 .f32 := iblk m c 3 t
abbrev guAt (t : Fin cfg0.N) : Vec Ideal S1x2x512x704 .bf16 := iblk m c 4 t
abbrev wgAt (t : Fin cfg0.N) : Vec Ideal S1x1024x704 .bf16 := iblk m c 5 t
abbrev wuAt (t : Fin cfg0.N) : Vec Ideal S1x1024x704 .bf16 := iblk m c 6 t
abbrev woAt (t : Fin cfg0.N) : Vec Ideal S2x352x1024 .bf16 := iblk m c 7 t

/-- The row of the whole array that is row `p` of the computed step's tile, and of the kept step's; their column tiles. -/
abbrev row1 (t : Fin cfg0.N) (p : Fin 512) : Fin 8192 := ⟨min t.val 63 / 4 * 512 + p.val, by have := lt65 t; omega⟩
abbrev row2 (t : Fin cfg0.N) (p : Fin 512) : Fin 8192 := ⟨(t.val - 1) / 4 * 512 + p.val, by have := lt65 t; omega⟩
abbrev col1 (t : Fin cfg0.N) : Fin 4 := ⟨min t.val 63 % 4, Nat.mod_lt _ (by decide)⟩
abbrev col2 (t : Fin cfg0.N) : Fin 4 := ⟨(t.val - 1) % 4, Nat.mod_lt _ (by decide)⟩

theorem xAt_apply (t : Fin cfg0.N) (p : Fin 512) (q : Fin 1024) : xAt m c t (ix2 p q) = xs m c (ix2 (row2 t p) q) := by
  blk_ext [xAt, iblk, idx t]
theorem gAt_apply (t : Fin cfg0.N) (q : Fin 1024) : gAt m c t (ix2 0 q) = gs m c (ix2 0 q) := by
  blk_ext [gAt, iblk, idx t]
theorem dy2At_apply (t : Fin cfg0.N) (p : Fin 512) (q : Fin 1024) : dy2At m c t (ix2 p q) = dys m c (ix2 (row2 t p) q) := by
  blk_ext [dy2At, iblk, idx t]
theorem dy1At_apply (t : Fin cfg0.N) (p : Fin 512) (q : Fin 1024) : dy1At m c t (ix2 p q) = dys m c (ix2 (row1 t p) q) := by
  blk_ext [dy1At, iblk, idx t]
theorem guAt_apply (t : Fin cfg0.N) (b : Fin 2) (p : Fin 512) (f : Fin 704) :
    guAt m c t (ix4 0 b p f) = gus m c (ix4 (col1 t) b (row1 t p) f) := by
  blk_ext [guAt, iblk, idx t]
theorem wgAt_apply (t : Fin cfg0.N) (k : Fin 1024) (f : Fin 704) :
    wgAt m c t (ix3 0 k f) = wi m c (ix3 ⟨(col2 t).val, by omega⟩ k f) := by
  blk_ext [wgAt, iblk, idx t]
theorem wuAt_apply (t : Fin cfg0.N) (k : Fin 1024) (f : Fin 704) :
    wuAt m c t (ix3 0 k f) = wi m c (ix3 ⟨(col2 t).val + 4, by omega⟩ k f) := by
  blk_ext [wuAt, iblk, idx t]
theorem woAt_apply (t : Fin cfg0.N) (d : Fin 2) (f : Fin 352) (q : Fin 1024) :
    woAt m c t (ix3 d f q) = wos m c (ix3 ⟨(col1 t).val * 2 + d.val, by omega⟩ f q) := by
  blk_ext [woAt, iblk, idx t]

/-! ## The results, entry by entry -/

/-- What flows back to an activation, and to its two factors. -/
def backAt (r : Fin 8192) (j : Fin 4) (f : Fin 704) : EReal :=
  ∑ k : Fin 1024, halfC * dys m c (ix2 r k) * wos m c (ix3 ⟨j.val * 2 + f.val / 352, by omega⟩ ⟨f.val % 352, Nat.mod_lt _ (by decide)⟩ k)
def gradAt (r : Fin 8192) (j : Fin 4) (b : ℕ) (f : Fin 704) : EReal :=
  if b = 0 then gateGrad (backAt m c r j f) (gus m c (ix4 j 0 r f)) (gus m c (ix4 j 1 r f)) else upGrad (backAt m c r j f) (gus m c (ix4 j 0 r f))
def actAt (r : Fin 8192) (j : Fin 4) (f : Fin 704) : EReal := gated (gus m c (ix4 j 0 r f)) (gus m c (ix4 j 1 r f))

/-- One column tile's part of the product with the first weights, and the parts up to `j`. -/
def part (r : Fin 8192) (q : Fin 1024) (j : Fin 4) : EReal :=
  (∑ f : Fin 704, gradAt m c r j 0 f * wi m c (ix3 ⟨j.val, by omega⟩ q f)) + ∑ f : Fin 704, gradAt m c r j 1 f * wi m c (ix3 ⟨j.val + 4, by omega⟩ q f)
def upTo (r : Fin 8192) (q : Fin 1024) : ℕ → EReal
  | 0 => 0 + part m c r q 0
  | j + 1 => upTo r q j + part m c r q ⟨(j + 1) % 4, Nat.mod_lt _ (by decide)⟩

abbrev xRow (r : Fin 8192) : Fin 1024 → EReal := fun q => xs m c (ix2 r q)

/-- The input's gradient. -/
def final (r : Fin 8192) (q : Fin 1024) : EReal :=
  dys m c (ix2 r q) + Rms.back Rms.n1024 (xRow m c r) (gainRow (gs m c)) (fun e => upTo m c r e 3) q

/-- A row's part of the gain's gradient, and the row tiles before the `n`-th. -/
def gainTerm (r : Fin 8192) (q : Fin 1024) : EReal := upTo m c r q 3 * (xs m c (ix2 r q) * Rms.scale Rms.n1024 (xRow m c r))
def gainUp (b : Fin 8) (q : Fin 1024) : ℕ → EReal
  | 0 => 0
  | n + 1 => gainUp b q n + ∑ a : Fin 64, gainTerm m c ⟨n % 16 * 512 + (a.val * 8 + b.val), by omega⟩ q

/-- The two gradients of the computed step. -/
def gradsAt (t : Fin cfg0.N) : Vec Ideal S1x2x512x704 .bf16 := fun i => gradAt m c (row1 t (i 2)) (col1 t) (i 1).val (i 3)

variable (t : Fin cfg0.N)

theorem grads_at (D : Vec Ideal S512x1024 .bf16) (hD : ∀ p k, D (ix2 p k) = halfC * dys m c (ix2 (row1 t p) k)) :
    grads D (woAt m c t) (guAt m c t) = gradsAt m c t := by
  funext i
  obtain ⟨a, b, p, f, rfl⟩ : ∃ (a : Fin 1) (b : Fin 2) (p : Fin 512) (f : Fin 704), i = ix4 a b p f := ⟨i 0, i 1, i 2, i 3, eq_ix4 i⟩
  show grad D (woAt m c t) (guAt m c t) b.val p f = gradAt m c (row1 t p) (col1 t) b.val f
  unfold grad gradAt back backAt
  simp only [hD, guAt_apply, woAt_apply]

theorem acts_at (p : Fin 512) (f : Fin 704) : acts (guAt m c t) (ix3 0 p f) = actAt m c (row1 t p) (col1 t) f := by
  show actOf (guAt m c t) p f = _
  unfold actOf actAt
  simp only [guAt_apply]

/-! ## One point -/

abbrev e1 : Fin 2 := ⟨t.val % 2, Nat.mod_lt _ (by decide)⟩
abbrev e2 : Fin 2 := ⟨(t.val + 1) % 2, Nat.mod_lt _ (by decide)⟩

/-- The running product with the kept step's part added. -/
abbrev acc (p : Kept Ideal) : Vec Ideal S512x1024 .f32 :=
  k0_pay11 (stepNo (grid0.coords t)) (slot (e2 t) (begun m c t p).grads) (wgAt m c t) (wuAt m c t) (begun m c t p).dx

theorem next_slot (p : Kept Ideal) :
    slot (e1 t) (next m c t p).kept.grads = grads (next m c t p).kept.half (woAt m c t) (guAt m c t) := by
  by_cases h : atKeptEnd (grid0.coords t)
  · rw [next_last m c t h]
    dsimp only
    rw [last_slot (e := e1 t) (o2 := off2_at t) (o3 := off3_at t) (o4 := off4_at t) (o5 := off5_at t) (o6 := off6_at t) (o7 := off7_at t)]
  · rw [next_plain m c t h]
    dsimp only
    rw [plain_slot (e := e1 t) (o2 := off2_at t) (o3 := off3_at t) (o4 := off4_at t) (o5 := off5_at t) (o6 := off6_at t) (o7 := off7_at t)]

theorem next_dgu (p : Kept Ideal) : (next m c t p).dgu = grads (next m c t p).kept.half (woAt m c t) (guAt m c t) := by
  by_cases h : atKeptEnd (grid0.coords t)
  · rw [next_last m c t h]
    dsimp only
    rw [last_dgu (hcov := coverlast9 m c t h _)]
  · rw [next_plain m c t h]
    dsimp only
    rw [plain_dgu (hcov := coverplain9 m c t h _)]

theorem next_act (p : Kept Ideal) : (next m c t p).act = acts (guAt m c t) := by
  by_cases h : atKeptEnd (grid0.coords t)
  · rw [next_last m c t h]
    dsimp only
    rw [last_act (hcov := coverlast10 m c t h _)]
  · rw [next_plain m c t h]
    dsimp only
    rw [plain_act (hcov := coverplain10 m c t h _)]

theorem next_dx (h : ¬atKeptEnd (grid0.coords t)) (p : Kept Ideal) : (next m c t p).kept.dx = acc m c t p := by
  rw [next_plain m c t h]
  dsimp only
  rw [plain_dx (e := e2 t) (o1 := off1_at t)]
theorem next_dx_last (h : atKeptEnd (grid0.coords t)) (p : Kept Ideal) :
    (next m c t p).kept.dx = k0_pay5 (gAt m c t) (xAt m c t) (acc m c t p) (dy2At m c t) := by
  rw [next_last m c t h]
  dsimp only
  rw [last_dx (e := e2 t) (o1 := off1_at t)]
theorem next_gain_last (h : atKeptEnd (grid0.coords t)) (p : Kept Ideal) :
    (next m c t p).kept.gain = k0_pay6 (xAt m c t) (acc m c t p) (begun m c t p).gain := by
  rw [next_last m c t h]
  dsimp only
  rw [last_gain (e := e2 t) (o1 := off1_at t)]

/-- What the running product of a row tile is after the kept step, given what the point before left. -/
theorem acc_eq (p : Kept Ideal) (h0 : 0 < t.val)
    (hB : slot (e2 t) p.grads = gradsAt m c ⟨t.val - 1, by omega⟩)
    (hC : ¬t.val % 4 = 1 → ∀ a q, p.dx (ix2 a q) = upTo m c (row2 t a) q ((t.val - 1) % 4 - 1)) (a : Fin 512) (q : Fin 1024) :
    acc m c t p (ix2 a q) = upTo m c (row2 t a) q ((t.val - 1) % 4) := by
  have ht := lt65 t
  have e : (begun m c t p).grads = p.grads := if_neg (mt (atStart_iff t).mp (by omega))
  have hr : row1 ⟨t.val - 1, by omega⟩ a = row2 t a := Fin.ext (by dsimp only; omega)
  have hc : col1 ⟨t.val - 1, by omega⟩ = col2 t := Fin.ext (by dsimp only; omega)
  unfold acc
  rw [pay11_apply _ _ _ _ _ _ _ ((stepNo_at t).mpr h0), e, hB]
  have hpart : (∑ f : Fin 704, gradsAt m c ⟨t.val - 1, by omega⟩ (ix4 0 0 a f) * wgAt m c t (ix3 0 q f))
      + ∑ f : Fin 704, gradsAt m c ⟨t.val - 1, by omega⟩ (ix4 0 1 a f) * wuAt m c t (ix3 0 q f) = part m c (row2 t a) q (col2 t) := by
    have hg (b : Fin 2) (f : Fin 704) : gradsAt m c ⟨t.val - 1, by omega⟩ (ix4 0 b a f) = gradAt m c (row2 t a) (col2 t) b.val f := by
      show gradAt m c (row1 ⟨t.val - 1, _⟩ a) (col1 ⟨t.val - 1, _⟩) b.val f = _
      rw [hr, hc]
    unfold part
    simp only [wgAt_apply, wuAt_apply, hg]
    rfl
  rw [hpart]
  by_cases h : t.val % 4 = 1
  · have ed : (begun m c t p).dx = k0_pay10 (F := Ideal) := if_pos ((atKeptTile_iff t).mpr (.inl h))
    rw [ed, pay10_apply, show (t.val - 1) % 4 = 0 by omega, show col2 t = 0 from Fin.ext (by show (t.val - 1) % 4 = 0; omega)]
    rfl
  · have ed : (begun m c t p).dx = p.dx := if_neg (mt (atKeptTile_iff t).mp (by omega))
    rw [ed, hC h]
    obtain ⟨j, hj⟩ : ∃ j, (t.val - 1) % 4 = j + 1 := ⟨(t.val - 1) % 4 - 1, by omega⟩
    rw [hj]
    refine congrArg (upTo m c (row2 t a) q j + part m c (row2 t a) q ·) (Fin.ext ?_)
    show (t.val - 1) % 4 = (j + 1) % 4
    omega

/-! ## All the points -/

/-- What holds after point `n`. -/
structure Holds (n : ℕ) (hn : n < cfg0.N) : Prop where
  half : ∀ p k, (outs m c n hn).kept.half (ix2 p k) = halfC * dys m c (ix2 (row1 ⟨n, hn⟩ p) k)
  grads : slot (e1 ⟨n, hn⟩) (outs m c n hn).kept.grads = gradsAt m c ⟨n, hn⟩
  dx : 0 < n → ∀ p q, (outs m c n hn).kept.dx (ix2 p q)
    = if (n - 1) % 4 = 3 then final m c (row2 ⟨n, hn⟩ p) q else upTo m c (row2 ⟨n, hn⟩ p) q ((n - 1) % 4)
  gain : ∀ b q, (outs m c n hn).kept.gain (ix2 b q) = gainUp m c b q (n / 4)

theorem half_of (h : t.val % 4 = 0 ∧ t.val < 64) (p : Kept Ideal) (a k) :
    (next m c t p).kept.half (ix2 a k) = halfC * dys m c (ix2 (row1 t a) k) := by
  rw [next_half, show half1 (grid0.coords t) (iblk m c 3 t) p.half = k0_pay9 (dy1At m c t) from if_pos ((atTile_iff t).mpr h),
    pay9_apply, dy1At_apply]

theorem holds : ∀ (n : ℕ) (hn : n < cfg0.N), Holds m c n hn := by
  intro n
  induction n with
  | zero =>
    intro hn
    have hh (a k) := half_of m c ⟨0, hn⟩ ⟨Nat.zero_mod _, Nat.zero_lt_succ _⟩ blank a k
    refine ⟨hh, (next_slot m c ⟨0, hn⟩ blank).trans (grads_at m c _ _ hh), fun h => absurd h (lt_irrefl _), fun b q => ?_⟩
    have h : ¬atKeptEnd (grid0.coords ⟨0, hn⟩) := mt (atKeptEnd_iff _).mp (fun h => absurd h.2 (lt_irrefl _))
    have e : (outs m c 0 hn).kept.gain = k0_pay7 (F := Ideal) := by
      show (next m c ⟨0, hn⟩ blank).kept.gain = _
      rw [next_plain m c _ h]
      exact if_pos ((atStart_iff _).mpr rfl)
    rw [e, pay7_apply]
    rfl
  | succ n ih =>
    intro hn
    have hn' := Nat.lt_of_succ_lt hn
    obtain ⟨iA, iB, iC, iD⟩ := ih hn'
    have ht := lt65 ⟨n + 1, hn⟩
    dsimp only at ht
    have hs : ¬atStart (grid0.coords ⟨n + 1, hn⟩) := mt (atStart_iff _).mp (Nat.succ_ne_zero _)
    have hh : ∀ a k, (outs m c (n + 1) hn).kept.half (ix2 a k) = halfC * dys m c (ix2 (row1 ⟨n + 1, hn⟩ a) k) := by
      intro a k
      by_cases h : (n + 1) % 4 = 0 ∧ n + 1 < 64
      · exact half_of m c ⟨n + 1, hn⟩ h _ a k
      · show (next m c ⟨n + 1, hn⟩ (outs m c n hn').kept).kept.half (ix2 a k) = _
        rw [next_half, show half1 (grid0.coords ⟨n + 1, hn⟩) (iblk m c 3 ⟨n + 1, hn⟩) (outs m c n hn').kept.half = (outs m c n hn').kept.half
          from if_neg (mt (atTile_iff _).mp h), iA, show row1 ⟨n, hn'⟩ a = row1 ⟨n + 1, hn⟩ a from Fin.ext (by dsimp only; omega)]
    have hacc := acc_eq m c ⟨n + 1, hn⟩ (outs m c n hn').kept (Nat.succ_pos n) (by
        rw [show e2 ⟨n + 1, hn⟩ = e1 ⟨n, hn'⟩ from Fin.ext (by show (n + 1 + 1) % 2 = n % 2; omega)]
        exact iB) (fun h a q => by
        dsimp only at h
        rw [iC (by omega), if_neg (by omega), show row2 ⟨n, hn'⟩ a = row2 ⟨n + 1, hn⟩ a from Fin.ext (by dsimp only; omega)]
        exact congrArg _ (by dsimp only; omega))
    refine ⟨hh, (next_slot m c ⟨n + 1, hn⟩ _).trans (grads_at m c _ _ hh), fun _ a q => ?_, fun b q => ?_⟩
    · show (next m c ⟨n + 1, hn⟩ (outs m c n hn').kept).kept.dx (ix2 a q) = _
      by_cases h : (n + 1) % 4 = 0
      · have h3 : (n + 1 - 1) % 4 = 3 := by omega
        rw [next_dx_last m c _ ((atKeptEnd_iff _).mpr ⟨h, Nat.succ_pos _⟩), if_pos h3, pay5_apply, dy2At_apply]
        unfold final rowOf gainRow
        simp only [xAt_apply, gAt_apply, hacc]
        rw [h3]
      · rw [next_dx m c _ (mt (atKeptEnd_iff _).mp (fun h' => h h'.1)), if_neg (by omega), hacc]
    · show (next m c ⟨n + 1, hn⟩ (outs m c n hn').kept).kept.gain (ix2 b q) = _
      by_cases h : (n + 1) % 4 = 0
      · have h3 : (n + 1 - 1) % 4 = 3 := by omega
        have eg : (begun m c ⟨n + 1, hn⟩ (outs m c n hn').kept).gain = (outs m c n hn').kept.gain := if_neg hs
        rw [next_gain_last m c _ ((atKeptEnd_iff _).mpr ⟨h, Nat.succ_pos _⟩), pay6_apply, eg, iD, show (n + 1) / 4 = n / 4 + 1 by omega]
        refine congrArg (gainUp m c b q (n / 4) + ·) (Finset.sum_congr rfl fun a _ => ?_)
        unfold gainTerm rowOf
        simp only [xAt_apply, hacc]
        rw [h3, show row2 ⟨n + 1, hn⟩ ⟨a.val * 8 + b.val, by omega⟩ = ⟨n / 4 % 16 * 512 + (a.val * 8 + b.val), by omega⟩ from
          Fin.ext (by dsimp only; omega)]
      · rw [next_gain m c _ hs (mt (atKeptEnd_iff _).mp (fun h' => h h'.1)), iD, show (n + 1) / 4 = n / 4 by omega]

/-! ## The arrays -/

def resX : Vec Ideal S8192x1024 .f32 := fun i => final m c (i 0) (i 1)
def resGu : Vec Ideal S4x2x8192x704 .bf16 := fun i => gradAt m c (i 2) (i 0) (i 1).val (i 3)
def resAct : Vec Ideal S4x8192x704 .bf16 := fun i => actAt m c (i 1) (i 0) (i 2)
def resGain : Vec Ideal S8x1024 .f32 := fun i => gainUp m c (i 0) (i 1) 16
def resHalf : Vec Ideal S8192x1024 .bf16 := fun i => halfC * dys m c i

theorem arr8 : (dats m 0 c).arrAt 8 cfg0.N = resX m c := by
  refine (dats m 0 c).arrAt_eq_of_covers 8 _ (by decide +kernel) fun t hf y => ?_
  have ht := (flush8 t).mp hf
  obtain ⟨p, q, rfl⟩ : ∃ (p : Fin 512) (q : Fin 1024), y = ix2 p q := ⟨y 0, y 1, eq_ix2 y⟩
  have e : (win0_8.blk t).view.emb (ix2 p q) = (ix2 (row2 t p) q : S8192x1024.Idx) := by
    funext b; fin_cases b <;> refine Fin.ext ?_ <;> blk_simp [idx t] <;> rfl
  blk_simp [idx t]
  rw [after8, (holds m c t.val t.isLt).dx ht.2, if_pos (by omega), e]
  rfl

theorem arr9 : (dats m 0 c).arrAt 9 cfg0.N = resGu m c := by
  refine (dats m 0 c).arrAt_eq_of_covers 9 _ (by decide +kernel) fun t hf y => ?_
  obtain ⟨a, b, p, f, rfl⟩ : ∃ (a : Fin 1) (b : Fin 2) (p : Fin 512) (f : Fin 704), y = ix4 a b p f := ⟨y 0, y 1, y 2, y 3, eq_ix4 y⟩
  obtain rfl : a = 0 := Subsingleton.elim _ _
  have e : (win0_9.blk t).view.emb (ix4 0 b p f) = (ix4 (col1 t) b (row1 t p) f : S4x2x8192x704.Idx) := by
    funext b; fin_cases b <;> refine Fin.ext ?_ <;> blk_simp [idx t] <;> rfl
  blk_simp [idx t]
  have hh := (holds m c t.val t.isLt).half
  rw [after9, outs_eq, next_dgu, ← outs_eq, grads_at m c t _ hh, e]
  rfl

theorem arr10 : (dats m 0 c).arrAt 10 cfg0.N = resAct m c := by
  refine (dats m 0 c).arrAt_eq_of_covers 10 _ (by decide +kernel) fun t hf y => ?_
  obtain ⟨a, p, f, rfl⟩ : ∃ (a : Fin 1) (p : Fin 512) (f : Fin 704), y = ix3 a p f := ⟨y 0, y 1, y 2, eq_ix3 y⟩
  obtain rfl : a = 0 := Subsingleton.elim _ _
  have e : (win0_10.blk t).view.emb (ix3 0 p f) = (ix3 (col1 t) (row1 t p) f : S4x8192x704.Idx) := by
    funext b; fin_cases b <;> refine Fin.ext ?_ <;> blk_simp [idx t] <;> rfl
  blk_simp [idx t]
  rw [after10, outs_eq, next_act, acts_at, e]
  rfl

theorem arr11 : (dats m 0 c).arrAt 11 cfg0.N = resGain m c := by
  refine (dats m 0 c).arrAt_eq_of_covers 11 _ (by decide +kernel) fun t hf y => ?_
  have ht := (idx t).2.2.2.2.2.2.2.2.2.2.2.2.2 hf
  obtain ⟨b, q, rfl⟩ : ∃ (b : Fin 8) (q : Fin 1024), y = ix2 b q := ⟨y 0, y 1, eq_ix2 y⟩
  have e : (win0_11.blk t).view.emb (ix2 b q) = (ix2 b q : S8x1024.Idx) := by
    funext b; fin_cases b <;> refine Fin.ext ?_ <;> blk_simp [idx t] <;> rfl
  blk_simp [idx t]
  rw [after11, (holds m c t.val t.isLt).gain, e, ht]
  rfl

theorem arr12 : (dats m 0 c).arrAt 12 cfg0.N = resHalf m c := by
  refine (dats m 0 c).arrAt_eq_of_covers 12 _ (by decide +kernel) fun t hf y => ?_
  obtain ⟨p, q, rfl⟩ : ∃ (p : Fin 512) (q : Fin 1024), y = ix2 p q := ⟨y 0, y 1, eq_ix2 y⟩
  have e : (win0_12.blk t).view.emb (ix2 p q) = (ix2 (row1 t p) q : S8192x1024.Idx) := by
    funext b; fin_cases b <;> refine Fin.ext ?_ <;> blk_simp [idx t] <;> rfl
  blk_simp [idx t]
  rw [after12, (holds m c t.val t.isLt).half, e]
  rfl

end Cert.Kernel9Ideal.Ffn

end
-- ==== Proof.FfnBwdRef.lean ====
/- The backward feed-forward reference read entry by entry. -/
module

public import proofs.«01_k».proof.Proof.Gen.Reference9Ideal.Read
public import proofs.«01_k».proof.Proof.RmsGrad
public import Idealize.ShloMosaic.Lib.Pointwise
public import Idealize.ShloMosaic.Lib.ValueIdx
public import Idealize.ShloMosaic.Lib.IdealHost
public import Idealize.ShloMosaic.Lib.KernelVsHost

@[expose] public section

set_option maxRecDepth 16384

noncomputable section

namespace Cert.Reference9Ideal.Ffn

open Cert.Reference9Ideal Cert.Reference9Ideal.Gen Cert.Reference9Ideal.Read Idealize.ShloMosaic
open Cert.Gate (IsReal)

variable (x0 : Vec Ideal S8192x1024 .f32) (x1 : Vec Ideal S1024 .f32) (x2 : Vec Ideal S1024x5632 .f32)
  (x3 : Vec Ideal S2816x1024 .f32) (x4 : Vec Ideal S8192x1024 .f32) (r : Fin 8192)

abbrev half : EReal := Ideal.ofBits .f32 0x3F000000#32
abbrev xRow : Fin 1024 → EReal := fun q => x0 (ix2 r q)
abbrev gRow : Fin 1024 → EReal := fun q => x1 (ix1 q)

/-- A hidden entry: the first 2816 columns are the gate's, the last the other factor's. -/
def hidden (f : Fin 5632) : EReal := ∑ k : Fin 1024, Rms.norm Rms.n1024 (xRow x0 r) (gRow x1) k * x2 (ix2 k f)
abbrev gate (f : Fin 2816) : EReal := hidden x0 x1 x2 r ⟨f.val, by omega⟩
abbrev up (f : Fin 2816) : EReal := hidden x0 x1 x2 r ⟨2816 + f.val, by omega⟩

/-- What flows back to an activation, and to its two factors. -/
def dact (f : Fin 2816) : EReal := ∑ k : Fin 1024, half * x4 (ix2 r k) * x3 (ix2 f k)
def dup (f : Fin 2816) : EReal :=
  gate x0 x1 x2 r f * Ideal.logistic (gate x0 x1 x2 r f) * dact x3 x4 r f
def dgate (f : Fin 2816) : EReal :=
  dact x3 x4 r f * up x0 x1 x2 r f * Ideal.logistic (gate x0 x1 x2 r f)
    + gate x0 x1 x2 r f * (dact x3 x4 r f * up x0 x1 x2 r f) * (Ideal.logistic (gate x0 x1 x2 r f) * (1 - Ideal.logistic (gate x0 x1 x2 r f)))
/-- What flows back to the normalised row. -/
def dnorm (q : Fin 1024) : EReal :=
  (∑ f : Fin 2816, dgate x0 x1 x2 x3 x4 r f * x2 (ix2 q ⟨f.val, by omega⟩)) + ∑ f : Fin 2816, dup x0 x1 x2 x3 x4 r f * x2 (ix2 q ⟨2816 + f.val, by omega⟩)

/-! ## The normalisation -/

theorem sq_eq (i : S8192.Idx) : val_main_v1 (F := Ideal) x0 i = ∑ k : Fin 1024, x0 (ix2 (i 0) k) * x0 (ix2 (i 0) k) := by
  rw [val_main_v1_apply, val_main_cst_apply]
  show Ideal.ofBits .f32 0x00000000#32 + _ = _
  rw [Ideal.ofBits_zero_f32, zero_add]
  refine Finset.sum_congr rfl fun k _ => ?_
  rw [val_main_v0_apply, show idx_main_v1 i k = ix2 (i 0) k from by funext a; fin_cases a <;> rfl]
  rfl

theorem msq_eq (a : Fin 1) : val_main_v6 (F := Ideal) x0 (ix2 r a) = Rms.msq Rms.n1024 (xRow x0 r) := by
  simp only [val_main_v6_apply, val_main_v5_apply, val_main_v4_apply, val_main_v3_apply, val_main_v2_apply, val_main_cst_0_apply,
    val_main_cst_1_apply, sq_eq]
  rfl
theorem scale_eq (a : Fin 1) : val_main_v7 (F := Ideal) x0 (ix2 r a) = Rms.scale Rms.n1024 (xRow x0 r) := by
  rw [val_main_v7_apply, msq_eq]; rfl
theorem xh_eq (q : Fin 1024) : val_main_v12 (F := Ideal) x0 (ix2 r q) = x0 (ix2 r q) * Rms.scale Rms.n1024 (xRow x0 r) := by
  simp only [val_main_v12_apply, val_main_v11_apply]
  rw [show idx_main_v11 (ix2 r q) = ix2 r 0 from by funext a; fin_cases a <;> rfl, scale_eq]
  rfl
theorem norm_eq (q : Fin 1024) : val_main_v15 (F := Ideal) x0 x1 (ix2 r q) = Rms.norm Rms.n1024 (xRow x0 r) (gRow x1) q := by
  simp only [val_main_v15_apply, val_main_v14_apply, val_main_v13_apply]
  rw [xh_eq, show idx_main_v13 (idx_main_v14 (ix2 r q)) = ix1 q from by funext a; fin_cases a; rfl]
  rfl
theorem hidden_eq (f : Fin 5632) : val_main_v16 (F := Ideal) x0 x1 x2 (ix2 r f) = hidden x0 x1 x2 r f := by
  rw [val_main_v16_apply]
  refine Finset.sum_congr rfl fun k _ => congrArg₂ (· * ·) ?_ (congrArg x2 ?_)
  · rw [show lidx_main_v16 (ix2 r f) k = ix2 r k from by funext a; fin_cases a <;> rfl, norm_eq]
  · funext a; fin_cases a <;> rfl

/-! ## The gate -/

theorem gate_eq (f : Fin 2816) : val_main_v17 (F := Ideal) x0 x1 x2 (ix2 r f) = gate x0 x1 x2 r f := by
  rw [val_main_v17_apply, show idx_main_v17 (ix2 r f) = ix2 r ⟨f.val, by omega⟩ from by funext a; fin_cases a <;> rfl, hidden_eq]
theorem up_eq (f : Fin 2816) : val_main_v18 (F := Ideal) x0 x1 x2 (ix2 r f) = up x0 x1 x2 r f := by
  rw [val_main_v18_apply, show idx_main_v18 (ix2 r f) = ix2 r ⟨2816 + f.val, by omega⟩ from by funext a; fin_cases a <;> rfl, hidden_eq]
theorem sig_eq (f : Fin 2816) : val_main_v19_2 (F := Ideal) x0 x1 x2 (ix2 r f) = Ideal.logistic (gate x0 x1 x2 r f) := by
  simp only [val_main_v19_2_apply, val_main_call0_v4_apply, val_main_call0_v3_apply, val_main_call0_v2_apply, val_main_call0_v1_apply,
    val_main_call0_v0_apply, val_main_call0_cst_apply, val_main_call0_cst_0_apply]
  rw [gate_eq]
  unfold Ideal.logistic
  rw [← Ideal.ofBits_one_f32]
  rfl
theorem silu_eq (f : Fin 2816) : val_main_v19_0 (F := Ideal) x0 x1 x2 (ix2 r f) = gate x0 x1 x2 r f * Ideal.logistic (gate x0 x1 x2 r f) := by
  rw [val_main_v19_0_apply, sig_eq, gate_eq]; rfl
theorem sig'_eq (f : Fin 2816) : val_main_v19_1 (F := Ideal) x0 x1 x2 (ix2 r f)
    = Ideal.logistic (gate x0 x1 x2 r f) * (1 - Ideal.logistic (gate x0 x1 x2 r f)) := by
  simp only [val_main_v19_1_apply, val_main_call0_v7_apply, val_main_call0_v6_apply, val_main_call0_cst_1_apply]
  rw [sig_eq, ← Ideal.ofBits_one_f32]
  rfl

theorem dact_eq (f : Fin 2816) : val_main_v28 (F := Ideal) x3 x4 (ix2 r f) = dact x3 x4 r f := by
  rw [val_main_v28_apply]
  refine Finset.sum_congr rfl fun k _ => congrArg₂ (· * ·) ?_ (congrArg x3 ?_)
  · rw [show lidx_main_v28 (ix2 r f) k = ix2 r k from by funext a; fin_cases a <;> rfl]
    simp only [val_main_v27_apply, val_main_v26_apply, val_main_v25_apply, val_main_cst_4_apply]
    refine congrArg (half * x4 ·) ?_
    funext a; fin_cases a <;> refine Fin.ext ?_ <;> simp [ix2] <;> omega
  · funext a; fin_cases a <;> rfl
theorem dup_eq (f : Fin 2816) : val_main_v29 (F := Ideal) x0 x1 x2 x3 x4 (ix2 r f) = dup x0 x1 x2 x3 x4 r f := by
  rw [val_main_v29_apply, silu_eq, dact_eq]; rfl
theorem dgate_eq (f : Fin 2816) : val_main_v31 (F := Ideal) x0 x1 x2 x3 x4 (ix2 r f) = dgate x0 x1 x2 x3 x4 r f := by
  simp only [val_main_v31_apply, val_main_call1_v2_apply, val_main_call1_v1_apply, val_main_call1_v0_apply, val_main_v30_apply]
  rw [sig_eq, sig'_eq, gate_eq, dact_eq, up_eq]
  rfl

end Cert.Reference9Ideal.Ffn

end
-- ==== Proof.FfnBwdBack.lean ====
/- The backward feed-forward reference's five results, entry by entry. -/
module

public import proofs.«01_k».proof.Proof.FfnBwdRef

@[expose] public section

set_option maxRecDepth 16384

noncomputable section

namespace Cert.Reference9Ideal.Ffn

open Cert.Reference9Ideal Cert.Reference9Ideal.Gen Cert.Reference9Ideal.Read Idealize.ShloMosaic
open Cert.Gate (IsReal)

variable (x0 : Vec Ideal S8192x1024 .f32) (x1 : Vec Ideal S1024 .f32) (x2 : Vec Ideal S1024x5632 .f32)
  (x3 : Vec Ideal S2816x1024 .f32) (x4 : Vec Ideal S8192x1024 .f32) (r : Fin 8192)

/-! ## What flows back to the hidden entries: the gate's half, and the other half -/

theorem pad_zero (a : Vec Ideal S8192x2816 .f32) (c : Vec Ideal S_ .f32) (hc : ∀ i, c i = 0)
    (f : Fin 2816) :
    pad S8192x5632 ![0, 2816] ![0, 0] ![0, 0] a c pads_S8192x2816_S8192x5632_000_281600 h_S_ (ix2 r ⟨f.val, by omega⟩) = (0 : EReal) := by
  rw [pad_apply_of_not_inside _ _ _ a c pads_S8192x2816_S8192x5632_000_281600 h_S_ _ (1 : Fin 2) (by
    intro h
    have e : 2816 ≤ f.val := h.1
    omega)]
  exact hc _

theorem pad_right (a : Vec Ideal S8192x2816 .f32) (c : Vec Ideal S_ .f32) (f : Fin 2816) :
    pad S8192x5632 ![0, 2816] ![0, 0] ![0, 0] a c pads_S8192x2816_S8192x5632_000_281600 h_S_ (ix2 r ⟨2816 + f.val, by omega⟩) = a (ix2 r f) := by
  refine pad_apply_of_inside _ _ _ a c pads_S8192x2816_S8192x5632_000_281600 h_S_ _ (ix2 r f) fun b => ?_
  fin_cases b
  · show r.val = 0 + r.val * (0 + 1); omega
  · show 2816 + f.val = 2816 + f.val * (0 + 1); omega

theorem pad_left (a : Vec Ideal S8192x2816 .f32) (c : Vec Ideal S_ .f32) (f : Fin 2816) :
    pad S8192x5632 ![0, 0] ![0, 2816] ![0, 0] a c pads_S8192x2816_S8192x5632_000_028160 h_S_ (ix2 r ⟨f.val, by omega⟩) = a (ix2 r f) := by
  refine pad_apply_of_inside _ _ _ a c pads_S8192x2816_S8192x5632_000_028160 h_S_ _ (ix2 r f) fun b => ?_
  fin_cases b
  · show r.val = 0 + r.val * (0 + 1); omega
  · show f.val = 0 + f.val * (0 + 1); omega

theorem pad_zero' (a : Vec Ideal S8192x2816 .f32) (c : Vec Ideal S_ .f32) (hc : ∀ i, c i = 0) (f : Fin 2816) :
    pad S8192x5632 ![0, 0] ![0, 2816] ![0, 0] a c pads_S8192x2816_S8192x5632_000_028160 h_S_ (ix2 r ⟨2816 + f.val, by omega⟩) = (0 : EReal) := by
  rw [pad_apply_of_not_inside _ _ _ a c pads_S8192x2816_S8192x5632_000_028160 h_S_ _ (1 : Fin 2) (by
    intro h
    have e : (2816 + f.val - 0) / (0 + 1) < 2816 := h.2.2
    omega)]
  exact hc _

theorem cst5_zero (i : S_.Idx) : val_main_cst_5 (F := Ideal) i = (0 : EReal) := by
  rw [val_main_cst_5_apply]; exact Ideal.ofBits_zero_f32
theorem cst6_zero (i : S_.Idx) : val_main_cst_6 (F := Ideal) i = (0 : EReal) := by
  rw [val_main_cst_6_apply]; exact Ideal.ofBits_zero_f32
theorem cst16_zero (i : S_.Idx) : val_main_cst_16 (F := Ideal) i = (0 : EReal) := cst5_zero i
theorem cst17_zero (i : S_.Idx) : val_main_cst_17 (F := Ideal) i = (0 : EReal) := cst6_zero i

theorem left_eq (f : Fin 2816) : val_main_v34 (F := Ideal) x0 x1 x2 x3 x4 (ix2 r ⟨f.val, by omega⟩) = dgate x0 x1 x2 x3 x4 r f := by
  rw [val_main_v34_apply, val_main_v32, val_main_v33, pad_zero r _ _ cst5_zero, pad_left, dgate_eq]
  exact zero_add (M := EReal) _
theorem right_eq (f : Fin 2816) : val_main_v34 (F := Ideal) x0 x1 x2 x3 x4 (ix2 r ⟨2816 + f.val, by omega⟩) = dup x0 x1 x2 x3 x4 r f := by
  rw [val_main_v34_apply, val_main_v32, val_main_v33, pad_right, pad_zero' r _ _ cst6_zero, dup_eq]
  exact add_zero (M := EReal) _

theorem dnorm_eq (q : Fin 1024) : val_main_v35 (F := Ideal) x0 x1 x2 x3 x4 (ix2 r q) = dnorm x0 x1 x2 x3 x4 r q := by
  rw [val_main_v35_apply]
  have e (k : Fin 5632) : val_main_v34 (F := Ideal) x0 x1 x2 x3 x4 (lidx_main_v35 (ix2 r q) k) * x2 (ridx_main_v35 (ix2 r q) k)
      = val_main_v34 (F := Ideal) x0 x1 x2 x3 x4 (ix2 r k) * x2 (ix2 q k) := by
    rw [show lidx_main_v35 (ix2 r q) k = ix2 r k from by funext a; fin_cases a <;> rfl,
      show ridx_main_v35 (ix2 r q) k = ix2 q k from by funext a; fin_cases a <;> rfl]
  simp only [e]
  rw [Fin.sum_univ_add (a := 2816) (b := 2816)]
  unfold dnorm
  refine congrArg₂ (· + ·) (Finset.sum_congr rfl fun f _ => ?_) (Finset.sum_congr rfl fun f _ => ?_)
  · exact congrArg (· * x2 (ix2 q ⟨f.val, by omega⟩)) (left_eq x0 x1 x2 x3 x4 r f)
  · exact congrArg (· * x2 (ix2 q ⟨2816 + f.val, by omega⟩)) (right_eq x0 x1 x2 x3 x4 r f)

/-! ## The gain's gradient -/

theorem gain_eq (q : Fin 1024) : val_main_v41 (F := Ideal) x0 x1 x2 x3 x4 (ix1 q)
    = ∑ r : Fin 8192, x0 (ix2 r q) * Rms.scale Rms.n1024 (xRow x0 r) * dnorm x0 x1 x2 x3 x4 r q := by
  rw [val_main_v41_apply, val_main_cst_8_apply]
  show Ideal.ofBits .f32 0x00000000#32 + _ = _
  rw [Ideal.ofBits_zero_f32, zero_add, Fin.sum_univ_one, val_main_v38_apply,
    show idx_main_v38 (idx_main_v41 (ix1 q) 0) = ix1 q from by
      funext a; fin_cases a; refine Fin.ext ?_; show 0 * 1024 + q.val = q.val; omega,
    val_main_v37_apply, val_main_cst_7_apply]
  show Ideal.ofBits .f32 0x00000000#32 + _ = _
  rw [Ideal.ofBits_zero_f32, zero_add]
  refine Finset.sum_congr rfl fun r _ => ?_
  rw [val_main_v36_apply, show idx_main_v37 (ix1 q) r = ix2 r q from by funext a; fin_cases a <;> rfl, xh_eq, dnorm_eq]
  rfl

/-! ## What flows back to the row -/

theorem prod_eq (q : Fin 1024) : val_main_v40 (F := Ideal) x0 x1 x2 x3 x4 (ix2 r q) = dnorm x0 x1 x2 x3 x4 r q * x1 (ix1 q) := by
  rw [val_main_v40_apply, val_main_v39_apply, val_main_v13_apply, dnorm_eq,
    show idx_main_v13 (idx_main_v39 (ix2 r q)) = ix1 q from by funext a; fin_cases a; rfl]
  rfl
theorem inner_eq : val_main_v43 (F := Ideal) x0 x1 x2 x3 x4 (ix1 r) = ∑ e : Fin 1024, x0 (ix2 r e) * (dnorm x0 x1 x2 x3 x4 r e * x1 (ix1 e)) := by
  rw [val_main_v43_apply, val_main_cst_9_apply]
  show Ideal.ofBits .f32 0x00000000#32 + _ = _
  rw [Ideal.ofBits_zero_f32, zero_add]
  refine Finset.sum_congr rfl fun e _ => ?_
  rw [val_main_v42_apply, show idx_main_v43 (ix1 r) e = ix2 r e from by funext a; fin_cases a <;> rfl, prod_eq]
  rfl

/-- The factor of the two equal terms that pass through the mean square. -/
def through : EReal :=
  Ideal.div ((∑ e, xRow x0 r e * (dnorm x0 x1 x2 x3 x4 r e * gRow x1 e))
    * (Ideal.ofBits .f32 0xBF000000#32 * Ideal.div (Rms.scale Rms.n1024 (xRow x0 r)) (Rms.msq Rms.n1024 (xRow x0 r)))) Rms.n1024

theorem through_eq (q : Fin 1024) : val_main_v52 (F := Ideal) x0 x1 x2 x3 x4 (ix2 r q) = through x0 x1 x2 x3 x4 r := by
  rw [val_main_v52_apply, show idx_main_v52 (ix2 r q) = ix1 r from by funext a; fin_cases a; rfl, val_main_v51_apply, val_main_cst_11_apply]
  show Ideal.ofBits .f32 0x00000000#32 + _ = _
  rw [Ideal.ofBits_zero_f32, zero_add, Fin.sum_univ_one,
    show idx_main_v51 (ix1 r) 0 = ix2 r 0 from by funext a; fin_cases a <;> rfl]
  simp only [val_main_v50_apply, val_main_v49_apply, val_main_cst_10_apply, val_main_v48_apply, val_main_v44_apply, val_main_v10_apply,
    val_main_v9_apply, val_main_cst_2_apply, val_main_v8_apply]
  rw [show idx_main_v44 (ix2 r 0) = ix1 r from by
    funext a; fin_cases a; refine Fin.ext ?_; show r.val * 1 + 0 = r.val; omega, inner_eq, scale_eq, msq_eq]
  rfl

theorem dx_eq (q : Fin 1024) : val_main_v56 (F := Ideal) x0 x1 x2 x3 x4 (ix2 r q)
    = x4 (ix2 r q) + dnorm x0 x1 x2 x3 x4 r q * gRow x1 q * Rms.scale Rms.n1024 (xRow x0 r) + xRow x0 r q * through x0 x1 x2 x3 x4 r
      + through x0 x1 x2 x3 x4 r * xRow x0 r q := by
  simp only [val_main_v56_apply, val_main_v55_apply, val_main_v54_apply, val_main_v53_apply, val_main_v47_apply, val_main_v46_apply,
    val_main_v45_apply]
  rw [through_eq, prod_eq, show idx_main_v45 (ix2 r q) = ix2 r 0 from by funext a; fin_cases a <;> rfl, scale_eq]
  rfl

/-! ## The arrays kept for the products with the weights -/

theorem hidden_eq' (f : Fin 5632) : val_main_v70 (F := Ideal) x0 x1 x2 (ix2 r f) = hidden x0 x1 x2 r f := hidden_eq x0 x1 x2 r f

theorem dact_eq' (f : Fin 2816) : val_main_v78 (F := Ideal) x3 x4 (ix2 r f) = dact x3 x4 r f := by
  rw [val_main_v78_apply]
  refine Finset.sum_congr rfl fun k _ => congrArg₂ (· * ·) ?_ ?_
  · rw [show lidx_main_v78 (ix2 r f) k = ix2 r k from by funext a; fin_cases a <;> rfl]
    simp only [val_main_v76_apply, val_main_v75_apply, val_main_cst_15_apply]
    rfl
  · rw [val_main_v77_apply]
    exact congrArg x3 (by funext a; fin_cases a <;> rfl)
theorem dup_eq' (f : Fin 2816) : val_main_v79 (F := Ideal) x0 x1 x2 x3 x4 (ix2 r f) = dup x0 x1 x2 x3 x4 r f := by
  rw [val_main_v79_apply, dact_eq']
  exact congrArg (· * dact x3 x4 r f) (silu_eq x0 x1 x2 r f)
theorem dgate_eq' (f : Fin 2816) : val_main_v82 (F := Ideal) x0 x1 x2 x3 x4 (ix2 r f) = dgate x0 x1 x2 x3 x4 r f := by
  simp only [val_main_v82_apply, val_main_call3_v2_apply, val_main_call3_v1_apply, val_main_call3_v0_apply, val_main_v80_apply]
  have e1 : val_main_v71 (F := Ideal) x0 x1 x2 (ix2 r f) = _ := gate_eq x0 x1 x2 r f
  have e2 : val_main_v73 (F := Ideal) x0 x1 x2 (ix2 r f) = _ := up_eq x0 x1 x2 r f
  have e3 : val_main_v72_2 (F := Ideal) x0 x1 x2 (ix2 r f) = _ := sig_eq x0 x1 x2 r f
  have e4 : val_main_v72_1 (F := Ideal) x0 x1 x2 (ix2 r f) = _ := sig'_eq x0 x1 x2 r f
  rw [e1, e2, e3, e4, dact_eq']
  rfl

theorem left_eq' (f : Fin 2816) : val_main_v84 (F := Ideal) x0 x1 x2 x3 x4 (ix2 r ⟨f.val, by omega⟩) = dgate x0 x1 x2 x3 x4 r f := by
  rw [val_main_v84_apply, val_main_v81, val_main_v83, pad_zero r _ _ cst16_zero, pad_left, dgate_eq']
  exact zero_add (M := EReal) _
theorem right_eq' (f : Fin 2816) : val_main_v84 (F := Ideal) x0 x1 x2 x3 x4 (ix2 r ⟨2816 + f.val, by omega⟩) = dup x0 x1 x2 x3 x4 r f := by
  rw [val_main_v84_apply, val_main_v81, val_main_v83, pad_right, pad_zero' r _ _ cst17_zero, dup_eq']
  exact add_zero (M := EReal) _
theorem act_eq (f : Fin 2816) : val_main_v74 (F := Ideal) x0 x1 x2 (ix2 r f)
    = gate x0 x1 x2 r f * Ideal.logistic (gate x0 x1 x2 r f) * up x0 x1 x2 r f := by
  rw [val_main_v74_apply]
  exact congrArg₂ (· * ·) (silu_eq x0 x1 x2 r f) (up_eq x0 x1 x2 r f)

theorem keptGrad_eq (j : Fin 4) (b : Fin 2) (f : Fin 704) : val_main_v87 (F := Ideal) x0 x1 x2 x3 x4 (ix4 j b r f)
    = val_main_v84 (F := Ideal) x0 x1 x2 x3 x4 (ix2 r ⟨b.val * 2816 + j.val * 704 + f.val, by omega⟩) := by
  rw [val_main_v87_apply, val_main_v86_apply, val_main_v85_apply]
  refine congrArg (val_main_v84 (F := Ideal) x0 x1 x2 x3 x4) ?_
  funext a
  fin_cases a
  · refine Fin.ext ?_
    show (((r.val * 2 + b.val) * 4 + j.val) * 704 + f.val) / 5632 = r.val
    omega
  · refine Fin.ext ?_
    show (((r.val * 2 + b.val) * 4 + j.val) * 704 + f.val) % 5632 = b.val * 2816 + j.val * 704 + f.val
    omega

theorem keptAct_eq (j : Fin 4) (f : Fin 704) : val_main_v91 (F := Ideal) x0 x1 x2 (ix3 j r f)
    = val_main_v74 (F := Ideal) x0 x1 x2 (ix2 r ⟨j.val * 704 + f.val, by omega⟩) := by
  rw [val_main_v91_apply, val_main_v90_apply, val_main_v89_apply, val_main_v88_apply]
  refine congrArg (val_main_v74 (F := Ideal) x0 x1 x2) ?_
  have e1 : ((j.val * 8192 + r.val) * 704 + f.val) / 704 % 8192 = r.val := by omega
  have e2 : ((j.val * 8192 + r.val) * 704 + f.val) / 5767168 = j.val := by omega
  have e3 : ((j.val * 8192 + r.val) * 704 + f.val) % 704 = f.val := by omega
  funext a
  fin_cases a
  · refine Fin.ext ?_
    show (((((j.val * 8192 + r.val) * 704 + f.val) / 704 % 8192 * 1 + 0) * 4 + ((j.val * 8192 + r.val) * 704 + f.val) / 5767168) * 704
      + ((j.val * 8192 + r.val) * 704 + f.val) % 704) / 2816 = r.val
    rw [e1, e2, e3]; omega
  · refine Fin.ext ?_
    show (((((j.val * 8192 + r.val) * 704 + f.val) / 704 % 8192 * 1 + 0) * 4 + ((j.val * 8192 + r.val) * 704 + f.val) / 5767168) * 704
      + ((j.val * 8192 + r.val) * 704 + f.val) % 704) % 2816 = j.val * 704 + f.val
    rw [e1, e2, e3]; omega

theorem keptHalf_eq (i : S8192x1024.Idx) : val_main_v94 (F := Ideal) x4 i = half * x4 i := by
  rw [val_main_v94_apply, val_main_v93_apply, val_main_v92_apply, val_main_cst_18_apply]
  rfl

end Cert.Reference9Ideal.Ffn

end
-- ==== Proof.FfnBwdValue.lean ====
/- The backward feed-forward call computes its reference, for arguments that are real numbers. -/
module

public import proofs.«01_k».proof.Proof.FfnBwdGrid
public import proofs.«01_k».proof.Proof.FfnBwdBack
public import proofs.«01_k».proof.Proof.Gen.Reference9Ideal.Run
public import proofs.«01_k».proof.Proof.Gen.Pre_finite9
public import proofs.«01_k».proof.Defs
public import Idealize.ShloMosaic.Lib.StableHlo.ReadAt

@[expose] public section

set_option maxRecDepth 16384

noncomputable section

namespace Cert.Kernel9Ideal.Ffn

open Idealize.ShloMosaic Idealize.ShloMosaic.TcCoe Idealize.SL.Sem
open Cert.Kernel9Ideal Cert.Kernel9Ideal.Gen
open Cert.Gate (IsReal)

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S1024x5632 .f32 := m ((c : Thread nD τ).loc main_arg2)
abbrev a3 : Vec Ideal S2816x1024 .f32 := m ((c : Thread nD τ).loc main_arg3)
abbrev a4 : Vec Ideal S8192x1024 .f32 := m ((c : Thread nD τ).loc main_arg4)

/-! ## The host's preparation -/

theorem xs_eq : xs m c = a0 m c := V_args m c (by decide)
theorem xRow_eq (r : Fin 8192) : xRow m c r = Reference9Ideal.Ffn.xRow (a0 m c) r := by
  funext q; show xs m c _ = _; rw [xs_eq]
theorem dys_eq : dys m c = a4 m c := V_args m c (by decide)
theorem gs_eq (q : Fin 1024) : gs m c (ix2 0 q) = a1 m c (ix1 q) := by
  show V m c main_v17 _ = _
  unfold V V0
  simp only [List.flatten_cons, List.flatten_nil, List.cons_append, List.nil_append]
  after_reads_at
theorem wi_eq (d : Fin 8) (k : Fin 1024) (f : Fin 704) :
    wi m c (ix3 d k f) = a2 m c (ix2 k ⟨d.val * 704 + f.val, by omega⟩) := by
  show V m c main_v20 _ = _
  unfold V V0
  simp only [List.flatten_cons, List.flatten_nil, List.cons_append, List.nil_append]
  after_reads_at
theorem wos_eq (d : Fin 8) (f : Fin 352) (q : Fin 1024) :
    wos m c (ix3 d f q) = a3 m c (ix2 ⟨d.val * 352 + f.val, by omega⟩ q) := by
  show V m c main_v22 _ = _
  unfold V V0
  simp only [List.flatten_cons, List.flatten_nil, List.cons_append, List.nil_append]
  after_reads_at
theorem gus_eq (j : Fin 4) (b : Fin 2) (r : Fin 8192) (f : Fin 704) :
    gus m c (ix4 j b r f) = Reference9Ideal.Ffn.hidden (a0 m c) (a1 m c) (a2 m c) r ⟨b.val * 2816 + j.val * 704 + f.val, by omega⟩ := by
  show V m c main_v16 _ = _
  unfold V V0
  simp only [List.flatten_cons, List.flatten_nil, List.cons_append, List.nil_append]
  after_reads_at
  rfl

/-! ## The reference's numbers are real when its arguments are -/

structure Reals : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)

theorem reals (hp : Cert.Pre_Kernel9Ideal_finite9 (hPre_finite9 := Pre_finite9.Gen.facts) m) : Reals m c := by
  obtain ⟨p0, p1, p2, p3, p4⟩ := hp c
  exact ⟨fun i => .of_lt (congrFun p0 i), fun i => .of_lt (congrFun p1 i), fun i => .of_lt (congrFun p2 i),
    fun i => .of_lt (congrFun p3 i), fun i => .of_lt (congrFun p4 i)⟩

abbrev rHidden := Reference9Ideal.Ffn.hidden (a0 m c) (a1 m c) (a2 m c)
abbrev rAct := Reference9Ideal.Ffn.dact (a3 m c) (a4 m c)
abbrev rGate := Reference9Ideal.Ffn.dgate (a0 m c) (a1 m c) (a2 m c) (a3 m c) (a4 m c)
abbrev rUp := Reference9Ideal.Ffn.dup (a0 m c) (a1 m c) (a2 m c) (a3 m c) (a4 m c)
abbrev rNorm := Reference9Ideal.Ffn.dnorm (a0 m c) (a1 m c) (a2 m c) (a3 m c) (a4 m c)

section
variable {m c} (h : Reals m c) (r : Fin 8192)
include h

theorem hidden_real (F : Fin 5632) : IsReal (rHidden m c r F) :=
  .sum _ fun k => .mul (.mul (.mul (h.h0 _) (Rms.scale_real Rms.n1024_eq (by norm_num) fun q => h.h0 _)) (h.h1 _)) (h.h2 _)
theorem act_real (f : Fin 2816) : IsReal (rAct m c r f) := .sum _ fun k => .mul (.mul ⟨_, Gate.half_eq⟩ (h.h4 _)) (h.h3 _)
theorem gate_real (f : Fin 2816) : IsReal (rGate m c r f) :=
  have s := Rms.logistic_real (hidden_real h r ⟨f.val, by omega⟩)
  have d := (act_real h r f).mul (hidden_real h r ⟨2816 + f.val, by omega⟩)
  (d.mul s).add (((hidden_real h r _).mul d).mul (s.mul (IsReal.one.sub s)))
theorem up_real (f : Fin 2816) : IsReal (rUp m c r f) :=
  .mul (.mul (hidden_real h r _) (Rms.logistic_real (hidden_real h r _))) (act_real h r f)
theorem norm_real (q : Fin 1024) : IsReal (rNorm m c r q) :=
  .add (.sum _ fun f => (gate_real h r f).mul (h.h2 _)) (.sum _ fun f => (up_real h r f).mul (h.h2 _))

end

/-! ## The results -/

section
variable {m c} (r : Fin 8192)

abbrev fcol (j : Fin 4) (f : Fin 704) : Fin 2816 := ⟨j.val * 704 + f.val, by omega⟩

theorem gus0 (j : Fin 4) (f : Fin 704) : gus m c (ix4 j 0 r f) = rHidden m c r ⟨(fcol j f).val, by omega⟩ := by
  rw [gus_eq]
  exact congrArg (rHidden m c r) (Fin.ext (by show 0 * 2816 + j.val * 704 + f.val = j.val * 704 + f.val; omega))
theorem gus1 (j : Fin 4) (f : Fin 704) : gus m c (ix4 j 1 r f) = rHidden m c r ⟨2816 + (fcol j f).val, by omega⟩ := by
  rw [gus_eq]
  exact congrArg (rHidden m c r) (Fin.ext (by show 1 * 2816 + j.val * 704 + f.val = 2816 + (j.val * 704 + f.val); omega))

theorem back_same (j : Fin 4) (f : Fin 704) : backAt m c r j f = rAct m c r (fcol j f) := by
  unfold backAt rAct Reference9Ideal.Ffn.dact
  refine Finset.sum_congr rfl fun k _ => ?_
  rw [dys_eq, wos_eq]
  refine congrArg (fun t => _ * a3 m c (ix2 t k)) (Fin.ext ?_)
  show (j.val * 2 + f.val / 352) * 352 + f.val % 352 = j.val * 704 + f.val
  omega

theorem act_same (j : Fin 4) (f : Fin 704) : actAt m c r j f = rHidden m c r ⟨(fcol j f).val, by omega⟩
    * Ideal.logistic (rHidden m c r ⟨(fcol j f).val, by omega⟩) * rHidden m c r ⟨2816 + (fcol j f).val, by omega⟩ := by
  rw [actAt, gus0, gus1, gated]

theorem up_same (j : Fin 4) (b : ℕ) (hb : b ≠ 0) (f : Fin 704) : gradAt m c r j b f = rUp m c r (fcol j f) := by
  rw [gradAt, if_neg hb, gus0, back_same, upGrad, mul_comm]
  rfl

variable (h : Reals m c)
include h

theorem gate_same (j : Fin 4) (f : Fin 704) : gradAt m c r j 0 f = rGate m c r (fcol j f) := by
  rw [gradAt, if_pos rfl, gus0, gus1, back_same, gateGrad]
  exact (Rms.silu_back (hidden_real h r _) ((act_real h r (fcol j f)).mul (hidden_real h r _))).symm

theorem part_same (q : Fin 1024) (j : Fin 4) : part m c r q j
    = (∑ f : Fin 704, rGate m c r (fcol j f) * a2 m c (ix2 q ⟨(fcol j f).val, by omega⟩))
      + ∑ f : Fin 704, rUp m c r (fcol j f) * a2 m c (ix2 q ⟨2816 + (fcol j f).val, by omega⟩) := by
  unfold part
  refine congrArg₂ (· + ·) (Finset.sum_congr rfl fun f _ => ?_) (Finset.sum_congr rfl fun f _ => ?_)
  · rw [gate_same r h, wi_eq]
  · rw [up_same r j 1 (by decide), wi_eq]
    exact congrArg (fun t => _ * a2 m c (ix2 q t)) (Fin.ext (by show (j.val + 4) * 704 + f.val = 2816 + (j.val * 704 + f.val); omega))

theorem upTo_same (q : Fin 1024) : upTo m c r q 3 = rNorm m c r q := by
  show 0 + part m c r q 0 + part m c r q 1 + part m c r q 2 + part m c r q 3 = _
  unfold rNorm Reference9Ideal.Ffn.dnorm
  rw [Fin.sum_univ_tiles 4 704 rfl, Fin.sum_univ_tiles 4 704 rfl, Fin.sum_univ_four, Fin.sum_univ_four, part_same r h, part_same r h,
    part_same r h, part_same r h, zero_add]
  abel

end

section
variable {m c} (h : Reals m c)
include h

open Cert.Reference9Ideal.Read in
theorem sameX : resX m c = val_main_v56 (F := Ideal) (a0 m c) (a1 m c) (a2 m c) (a3 m c) (a4 m c) := by
  funext i
  obtain ⟨r, q, rfl⟩ : ∃ (r : Fin 8192) (q : Fin 1024), i = ix2 r q := ⟨i 0, i 1, eq_ix2 i⟩
  rw [Reference9Ideal.Ffn.dx_eq]
  show final m c r q = _
  have eg : gainRow (gs m c) = Reference9Ideal.Ffn.gRow (a1 m c) := funext fun q => gs_eq m c q
  have eu : (fun e => upTo m c r e 3) = rNorm m c r := funext fun e => upTo_same r h e
  rw [final, dys_eq, eg, eu, xRow_eq]
  exact (Rms.back_eq Rms.n1024_eq (by norm_num) (fun q => h.h0 _) (fun q => h.h1 _) (norm_real h r) (a4 m c (ix2 r q)) q).symm

open Cert.Reference9Ideal.Read in
theorem sameGu : resGu m c = val_main_v87 (F := Ideal) (a0 m c) (a1 m c) (a2 m c) (a3 m c) (a4 m c) := by
  funext i
  obtain ⟨j, b, r, f, rfl⟩ : ∃ (j : Fin 4) (b : Fin 2) (r : Fin 8192) (f : Fin 704), i = ix4 j b r f := ⟨i 0, i 1, i 2, i 3, eq_ix4 i⟩
  rw [Reference9Ideal.Ffn.keptGrad_eq]
  show gradAt m c r j b.val f = _
  fin_cases b
  · refine (gate_same r h j f).trans ((Reference9Ideal.Ffn.left_eq' _ _ _ _ _ r (fcol j f)).symm.trans ?_)
    exact congrArg (fun t => val_main_v84 (F := Ideal) (a0 m c) (a1 m c) (a2 m c) (a3 m c) (a4 m c) (ix2 r t))
      (Fin.ext (by show j.val * 704 + f.val = 0 * 2816 + j.val * 704 + f.val; omega))
  · refine (up_same r j 1 (by decide) f).trans ((Reference9Ideal.Ffn.right_eq' _ _ _ _ _ r (fcol j f)).symm.trans ?_)
    exact congrArg (fun t => val_main_v84 (F := Ideal) (a0 m c) (a1 m c) (a2 m c) (a3 m c) (a4 m c) (ix2 r t))
      (Fin.ext (by show 2816 + (j.val * 704 + f.val) = 1 * 2816 + j.val * 704 + f.val; omega))

omit h in
open Cert.Reference9Ideal.Read in
theorem sameAct : resAct m c = val_main_v91 (F := Ideal) (a0 m c) (a1 m c) (a2 m c) := by
  funext i
  obtain ⟨j, r, f, rfl⟩ : ∃ (j : Fin 4) (r : Fin 8192) (f : Fin 704), i = ix3 j r f := ⟨i 0, i 1, i 2, eq_ix3 i⟩
  rw [Reference9Ideal.Ffn.keptAct_eq, Reference9Ideal.Ffn.act_eq]
  exact act_same r j f

omit h in
open Cert.Reference9Ideal.Read in
theorem sameHalf : resHalf m c = val_main_v94 (F := Ideal) (a4 m c) := by
  funext i
  rw [Reference9Ideal.Ffn.keptHalf_eq, resHalf, dys_eq]

/-- The gain's gradient: the rows of a tile fall into eight partial sums, one row of the array each. -/
theorem gain_sum (q : Fin 1024) : (∑ b : Fin 8, gainUp m c b q 16) = ∑ r : Fin 8192, gainTerm m c r q := by
  have e (b : Fin 8) : gainUp m c b q 16 = ∑ n : Fin 16, ∑ a : Fin 64, gainTerm m c ⟨n.val * 512 + (a.val * 8 + b.val), by omega⟩ q := by
    have g : ∀ k, (hk : k ≤ 16) → gainUp m c b q k = ∑ n : Fin k, ∑ a : Fin 64, gainTerm m c ⟨n.val * 512 + (a.val * 8 + b.val), by omega⟩ q := by
      intro k
      induction k with
      | zero => intro _; rfl
      | succ k ih =>
        intro hk
        rw [Fin.sum_univ_castSucc, gainUp, ih (by omega)]
        refine congrArg (_ + ·) (Finset.sum_congr rfl fun a _ => congrArg (gainTerm m c · q) (Fin.ext ?_))
        show k % 16 * 512 + _ = k * 512 + _
        rw [Nat.mod_eq_of_lt (by omega)]
    exact g 16 le_rfl
  simp only [e]
  rw [Finset.sum_comm, Fin.sum_univ_tiles 16 512 rfl]
  refine Finset.sum_congr rfl fun n _ => ?_
  rw [Finset.sum_comm, Fin.sum_univ_tiles 64 8 rfl]

end

/-! ## The host code after the launch -/

abbrev tail (b : Ref sig .tc) := Pipeline.afterTail₀ cfgs (dats (F := Ideal) m) 0 (V0 m) [hostOps1] c b
abbrev arrs := Pipeline.withArrays (cfgs 0).spec c (V0 m c) fun w => (dats (F := Ideal) m 0 c).arrAt w (cfgs 0).N

theorem arrs_arr (w : Fin 13) : arrs m c (Proc.devRef .tc (Pipeline.arrRef spec0 w)) = (dats m 0 c).arrAt w cfg0.N :=
  (dats m 0 c).withArrays_arrAt sharedIn0 (V0 m c) (fun w => A_eq m c w) w

open Cert.Reference9Ideal.Read in
theorem sameGain (h : Reals m c) : tail m c main_v24 = val_main_v41 (F := Ideal) (a0 m c) (a1 m c) (a2 m c) (a3 m c) (a4 m c) := by
  funext i
  obtain ⟨q, rfl⟩ : ∃ q : Fin 1024, i = ix1 q := ⟨i 0, eq_ix1 i⟩
  rw [Reference9Ideal.Ffn.gain_eq]
  unfold tail Pipeline.afterTail₀
  simp only [List.flatten_cons, List.flatten_nil, List.cons_append, List.nil_append]
  after_reads_at
  show (∑ x : Fin 8, arrs m c (Proc.devRef .tc (Pipeline.arrRef spec0 11)) (ix2 x q) : EReal) = _
  rw [arrs_arr, arr11]
  refine (gain_sum h q).trans (Finset.sum_congr rfl fun r _ => ?_)
  rw [gainTerm, upTo_same r h, mul_comm, xRow_eq, xs_eq]

/-! ## The claim -/

theorem algebraic : Cert.algebraic_Kernel9Ideal_Reference9Ideal_pre_finite9 (hKernel9Ideal := Kernel9Ideal.Gen.facts)
    (hReference9Ideal := Reference9Ideal.Gen.facts) (hPre_finite9 := Pre_finite9.Gen.facts) := by
  intro m g m' g' hp ha
  refine ⟨fun c => Reference9Ideal.Read.val_main_v56 (F := Ideal) (a0 m c) (a1 m c) (a2 m c) (a3 m c) (a4 m c),
    fun c => Reference9Ideal.Read.val_main_v41 (F := Ideal) (a0 m c) (a1 m c) (a2 m c) (a3 m c) (a4 m c),
    fun c => Reference9Ideal.Read.val_main_v87 (F := Ideal) (a0 m c) (a1 m c) (a2 m c) (a3 m c) (a4 m c),
    fun c => Reference9Ideal.Read.val_main_v91 (F := Ideal) (a0 m c) (a1 m c) (a2 m c),
    fun c => Reference9Ideal.Read.val_main_v94 (F := Ideal) (a4 m c), ?_, ?_⟩
  · refine (θ_run Kernel9Ideal.defs _ _).mono (fun r h c => ?_) (run_main (F := Ideal) m g)
    have hr := reals m c hp
    exact ⟨((h.1 c).1 8).trans ((arr8 m c).trans (sameX hr)),
      ((h.1 c).2 main_v24 (Pipeline.mem_restRefs_of main_v24 (by decide) (by decide))).trans (sameGain m c hr),
      ((h.1 c).1 9).trans ((arr9 m c).trans (sameGu hr)), ((h.1 c).1 10).trans ((arr10 m c).trans sameAct),
      ((h.1 c).1 12).trans ((arr12 m c).trans sameHalf), args m c h.1⟩
  · refine (θ_run Reference9Ideal.defs _ _).mono (fun r h c => ?_) (Reference9Ideal.Value.run (F := Ideal) m' g')
    obtain ⟨k0, k1, k2, k3, k4, k5⟩ := h c
    obtain ⟨e0, e1, e2, e3, e4⟩ := ha c
    rw [Reference9Ideal.Read.val_main_v56_eq] at k0
    rw [Reference9Ideal.Read.val_main_v41_eq] at k1
    rw [Reference9Ideal.Read.val_main_v87_eq] at k2
    rw [Reference9Ideal.Read.val_main_v91_eq] at k3
    rw [Reference9Ideal.Read.val_main_v94_eq] at k4
    refine ⟨k0.trans ?_, k1.trans ?_, k2.trans ?_, k3.trans ?_, k4.trans ?_, k5⟩
    · simp only [a0, a1, a2, a3, a4, ← e0, ← e1, ← e2, ← e3, ← e4]
    · simp only [a0, a1, a2, a3, a4, ← e0, ← e1, ← e2, ← e3, ← e4]
    · simp only [a0, a1, a2, a3, a4, ← e0, ← e1, ← e2, ← e3, ← e4]
    · simp only [a0, a1, a2, ← e0, ← e1, ← e2]
    · simp only [a4, ← e4]

end Cert.Kernel9Ideal.Ffn

end
-- ==== Proof.GmChunk.lean ====
/- One chunk of 128 tokens of the gating's gradient, as vector operations over the chunk's rows: what the kernel's body
   computes eight times per grid point, written once. The head `h` of four takes the columns `128 h … 128 h + 127`. -/
module

public import proofs.«01_k».proof.Proof.Gen.KernelIdeal.Skeleton
public import Idealize.ShloMosaic.Lib.Pipeline.Value

@[expose] public section

set_option maxRecDepth 16384

noncomputable section

namespace Cert.KernelIdeal.Gm

open Idealize.ShloMosaic Idealize.SL.Sem
open Cert.KernelIdeal Cert.KernelIdeal.Gen

/-- All 512 channels of a chunk, one head's 128 channels, one head's gain, one head's weights. -/
abbrev A := FVec Ideal S128x512 .f32
abbrev H := FVec Ideal S128x128 .f32
abbrev G := FVec Ideal S1x128 .f32
abbrev W := FVec Ideal S1x128x128 .bf16

/-- A chunk's rows of a block, one head's columns of a row vector, of a 128-row array, one head's matrix. -/
theorem rows_inb (k : Fin 8) : ∀ a, (![128 * k.val, 0] : Fin 2 → ℕ) a + S128x512.size a ≤ S1024x512.size a := by
  revert k; decide
theorem gain_inb (h : Fin 4) : ∀ a, (![0, 128 * h.val] : Fin 2 → ℕ) a + S1x128.size a ≤ S1x512.size a := by
  revert h; decide
theorem cols_inb (h : Fin 4) : ∀ a, (![0, 128 * h.val] : Fin 2 → ℕ) a + S128x128.size a ≤ S128x512.size a := by
  revert h; decide
theorem mat_inb (h : Fin 4) : ∀ a, (![h.val, 0, 0] : Fin 3 → ℕ) a + S1x128x128.size a ≤ S4x128x128.size a := by
  revert h; decide
theorem cols_slices (h : Fin 4) : S128x512.Slices ![0, 128 * h.val] S128x128 := by
  revert h; decide

abbrev rowsRect (k : Fin 8) : Rect S1024x512 := Rect.unit ![128 * k.val, 0] S128x512.size (rows_inb k)
abbrev matRect (h : Fin 4) : Rect S4x128x128 := Rect.unit ![h.val, 0, 0] S1x128x128.size (mat_inb h)

def ldRows (x : Vec Ideal S1024x512 .f32) (k : Fin 8) : A := View.ld x (rowsRect k)
def ldGain (x : Vec Ideal S1x512 .f32) (h : Fin 4) : G :=
  View.ld x (Rect.unit ![0, 128 * h.val] S1x128.size (gain_inb h))
def ldCols (x : Vec Ideal S128x512 .f32) (h : Fin 4) : H :=
  View.ld x (Rect.unit ![0, 128 * h.val] S128x128.size (cols_inb h))
def ldMat (x : Vec Ideal S4x128x128 .bf16) (h : Fin 4) : W := View.ld x (matRect h)

/-- The head's columns of a chunk, and four heads side by side. -/
def cols (x : A) (h : Fin 4) : H := extractStridedSlice S128x128 ![0, 128 * h.val] x (cols_slices h)
def join (f : Fin 4 → H) : A :=
  concatenate S128x512 1 [⟨S128x128, f 0⟩, ⟨S128x128, f 1⟩, ⟨S128x128, f 2⟩, ⟨S128x128, f 3⟩]
    concatenates_S128x128_S128x128_S128x128_S128x128_S128x512_d1

/-- The gating's nonlinearity: its inner `tanh`, its value, its derivative. -/
def th (x : A) : A :=
  tanh (mulf (broadcast S128x512 (Scalar.ofBits (F := Ideal) .f32 0x3F4C422A#32))
    (addf x (mulf (mulf (mulf (broadcast S128x512 (Named.named (F := Ideal) κ "c" 0x3D372713#32)) x) x) x)))
def act (x : A) : A :=
  mulf (mulf (broadcast S128x512 (Scalar.ofBits (F := Ideal) .f32 0x3F000000#32)) x)
    (addf (broadcast S128x512 (Scalar.ofBits (F := Ideal) .f32 0x3F800000#32)) (th x))
def act' (x : A) : A :=
  addf (mulf (broadcast S128x512 (Scalar.ofBits (F := Ideal) .f32 0x3F000000#32))
      (addf (broadcast S128x512 (Scalar.ofBits (F := Ideal) .f32 0x3F800000#32)) (th x)))
    (mulf (mulf (mulf (broadcast S128x512 (Scalar.ofBits (F := Ideal) .f32 0x3F000000#32)) x)
        (subf (broadcast S128x512 (Scalar.ofBits (F := Ideal) .f32 0x3F800000#32)) (mulf (th x) (th x))))
      (mulf (broadcast S128x512 (Scalar.ofBits (F := Ideal) .f32 0x3F4C422A#32))
        (addf (broadcast S128x512 (Scalar.ofBits (F := Ideal) .f32 0x3F800000#32))
          (mulf (mulf (broadcast S128x512 (Named.named (F := Ideal) κ "c3" 0x3E095D4F#32)) x) x))))

/-- The mean over a head's channels of a head's columns. -/
def mean (y : H) : FVec Ideal S128x1 .f32 :=
  divf (shapeCast S128x1 (multiReduction .add [1] S128 y 0x00000000#32 reduces_S128x128_S128 (.inl rfl) rfl)
    shapeCasts_S128_S128x1) (broadcast S128x1 (Scalar.ofBits (F := Ideal) .f32 0x43000000#32))
/-- The reciprocal root of the mean square, the normalised columns, those times the gain. -/
def rms (y : H) : H :=
  broadcastTo S128x128 (rsqrt (addf (mean (mulf y y))
    (broadcast S128x1 (Scalar.ofBits (F := Ideal) .f32 0x358637BD#32)))) broadcasts_S128x1_S128x128
def xhat (y : H) : H := mulf y (rms y)
def gains (g : G) : H := broadcastTo S128x128 (shapeCast S1x128 g shapeCasts_S1x128_S1x128) broadcasts_S1x128_S128x128
def normed (y : H) (g : G) : H := mulf (xhat y) (gains g)

/-- The gate's mixing over the chunk's tokens. -/
def mix (y : H) (g : G) (w : W) (b : H) : H :=
  addf (matmul dot_S128x128_S128x128_S128x128_1_0_0_1_n_n none (shapeCast S128x128 w shapeCasts_S1x128x128_S128x128)
      (truncf .bf16 (normed y g) bitsLt_bf16_f32) (constant S128x128 .f32 0x00000000#32))
    (shapeCast S128x128 b shapeCasts_S128x128_S128x128)

/-- What flows back into the mixed values, into the normalised values, into the gain and into the columns. -/
def ds (u dy : A) : A := mulf dy (act u)
def dnormed (w : W) (d : H) : H :=
  matmul dot_S128x128_S128x128_S128x128_0_0_1_1_n_n none (shapeCast S128x128 w shapeCasts_S1x128x128_S128x128)
    (truncf .bf16 d bitsLt_bf16_f32) (constant S128x128 .f32 0x00000000#32)
def dgains (y : H) (w : W) (d : H) : H := mulf (dnormed w d) (xhat y)
def dcols (y : H) (g : G) (w : W) (d : H) : H :=
  mulf (rms y) (subf (mulf (dnormed w d) (gains g))
    (mulf (xhat y) (broadcastTo S128x128 (mean (mulf (mulf (dnormed w d) (gains g)) (xhat y))) broadcasts_S128x1_S128x128)))
def dmat (y : H) (g : G) (d : H) : H :=
  matmul dot_S128x128_S128x128_S128x128_1_1_0_0_n_n none (truncf .bf16 d bitsLt_bf16_f32)
    (truncf .bf16 (normed y g) bitsLt_bf16_f32) (constant S128x128 .f32 0x00000000#32)

/-- A chunk's rows of the gradients of `u` and of `v`. -/
def duChunk (u v dy : A) (g : Fin 4 → G) (w : Fin 4 → W) (b : Fin 4 → H) : A :=
  mulf (mulf dy (join fun h => mix (cols (act v) h) (g h) (w h) (b h))) (act' u)
def dvChunk (u v dy : A) (g : Fin 4 → G) (w : Fin 4 → W) : A :=
  mulf (join fun h => dcols (cols (act v) h) (g h) (w h) (cols (ds u dy) h)) (act' v)

/-- A chunk added to the three sums: one head's weights, the biases, the gains (eight rows of partial sums). -/
def dwStep (u v dy : A) (g : G) (h : Fin 4) (old : FVec Ideal S1x128x128 .f32) : FVec Ideal S1x128x128 .f32 :=
  shapeCast S1x128x128 (addf (shapeCast S128x128 old shapeCasts_S1x128x128_S128x128)
    (dmat (cols (act v) h) g (cols (ds u dy) h))) shapeCasts_S128x128_S1x128x128
def dbStep (u dy : A) (old : A) : A := addf (shapeCast S128x512 old shapeCasts_S128x512_S128x512) (ds u dy)
def dgStep (u v dy : A) (w : Fin 4 → W) (old : FVec Ideal S8x512 .f32) : FVec Ideal S8x512 .f32 :=
  addf (shapeCast S8x512 old shapeCasts_S8x512_S8x512)
    (multiReduction .add [0] S8x512 (shapeCast S16x8x512
      (join fun h => dgains (cols (act v) h) (w h) (cols (ds u dy) h)) shapeCasts_S128x512_S16x8x512)
      0x00000000#32 reduces_S16x8x512_S8x512 (.inl rfl) rfl)

end Cert.KernelIdeal.Gm

end
-- ==== Proof.GmBody.lean ====
/- What the body leaves in its five output buffers at one grid point, as the chunk's vector operations (GmChunk) over the
   eight chunks of the point's rows: the gradients of `u` and `v` chunk by chunk, and the three sums as the eight steps
   one after the other, from zero at the first point and from what the point before left at the others. -/
module

public import proofs.«01_k».proof.Proof.Gen.KernelIdeal.Frame
public import proofs.«01_k».proof.Proof.GmChunk
public import Idealize.ShloMosaic.Lib.ValueIdx
public import Idealize.ShloMosaic.Lib.Pipeline.ReadBack
public import Idealize.ShloMosaic.Lib.Pipeline.ValueKit

@[expose] public section

set_option maxRecDepth 16384

noncomputable section

namespace Cert.KernelIdeal.Gm

open Idealize.ShloMosaic Idealize.ShloMosaic.TcCoe Idealize.SL.Sem
open Cert.KernelIdeal Cert.KernelIdeal.Gen

/-! ## Eight chunks stored one under the other -/

/-- Eight chunks stacked along the rows. -/
def stack (f : Fin 8 → A) : Vec Ideal S1024x512 .f32 := fun i =>
  f ⟨(i 0).val / 128, by have := ValueIdx.idx2_lt0 i; omega⟩ (ix2 ⟨(i 0).val % 128, Nat.mod_lt _ (by decide)⟩ (i 1))

def rowsPieces (f : Fin 8 → A) : List (View.Piece (Elt Ideal) S1024x512 .f32) :=
  [⟨rowsRect 7, f 7⟩, ⟨rowsRect 6, f 6⟩, ⟨rowsRect 5, f 5⟩, ⟨rowsRect 4, f 4⟩, ⟨rowsRect 3, f 3⟩, ⟨rowsRect 2, f 2⟩,
    ⟨rowsRect 1, f 1⟩, ⟨rowsRect 0, f 0⟩]

theorem stack_emb (f : Fin 8 → A) (k : Fin 8) (x : S128x512.Idx) : f k x = stack f ((rowsRect k).emb x) := by
  have hx := ValueIdx.idx2_lt0 x
  have e0 : (((rowsRect k).emb x) 0).val = 128 * k.val + (x 0).val := ValueKit.rect_emb_unit_val (s := S1024x512) ![128 * k.val, 0] S128x512.size (rows_inb k) x 0
  have e1 : (((rowsRect k).emb x) 1).val = (x 1).val := (ValueKit.rect_emb_unit_val (s := S1024x512) ![128 * k.val, 0] S128x512.size (rows_inb k) x 1).trans (Nat.zero_add _)
  unfold stack
  have hk : (⟨(((rowsRect k).emb x) 0).val / 128, by have := ValueIdx.idx2_lt0 ((rowsRect k).emb x); omega⟩ : Fin 8) = k :=
    Fin.ext (by show (((rowsRect k).emb x) 0).val / 128 = _; omega)
  rw [hk]
  refine congrArg (f k) (Shape.idx_ext₂ ?_ ?_)
  · show (x 0).val = (((rowsRect k).emb x) 0).val % 128; omega
  · exact e1.symm

theorem canon_rows (f : Fin 8 → A) (hc : ∀ y, ∃ p ∈ rowsPieces f, y ∈ p.1.set) : View.canon (rowsPieces f) = stack f := by
  funext y
  refine View.canon_apply_of_pieces (stack f) (rowsPieces f) ?_ y (hc y)
  unfold rowsPieces
  simp only [List.forall_mem_cons, List.not_mem_nil, false_imp_iff, implies_true, and_true]
  exact ⟨stack_emb f 7, stack_emb f 6, stack_emb f 5, stack_emb f 4, stack_emb f 3, stack_emb f 2, stack_emb f 1,
    stack_emb f 0⟩

/-! ## Eight steps into one buffer -/

/-- The steps of the eight chunks one after the other. -/
def fold8 {T : Type} (step : Fin 8 → T → T) (z : T) : T :=
  step 7 (step 6 (step 5 (step 4 (step 3 (step 2 (step 1 (step 0 z)))))))

/-- The stores of the whole of a buffer, each from what the buffer holds: the first from `first`. -/
def wholePieces {s : Shape} {off : Fin s.rank → ℕ} (inb : ∀ a, off a + s.size a ≤ s.size a) (v : View sig .tc .vmem s .f32)
    (L : List (View.Piece (Elt Ideal) s .f32)) (first : FVec Ideal s .f32) (step : Fin 8 → FVec Ideal s .f32 → FVec Ideal s .f32) :
    ℕ → List (View.Piece (Elt Ideal) s .f32)
  | 0 => ⟨Rect.unit off s.size inb, step 0 first⟩ :: L
  | n + 1 => ⟨Rect.unit off s.size inb, step ⟨(n + 1) % 8, Nat.mod_lt _ (by decide)⟩
      (v.readCov (wholePieces inb v L first step n) (Rect.unit off s.size inb).toLoadRect)⟩ :: wholePieces inb v L first step n

theorem readCov_whole {s : Shape} {off : Fin s.rank → ℕ} (inb : ∀ a, off a + s.size a ≤ s.size a) (v : View sig .tc .vmem s .f32)
    (w : FVec Ideal s .f32) (L : List (View.Piece (Elt Ideal) s .f32)) :
    v.readCov (⟨Rect.unit off s.size inb, w⟩ :: L) (Rect.unit off s.size inb).toLoadRect = w :=
  View.readCov_cons_toLoadRect v (Rect.unit off s.size inb) w L

theorem canon_whole {s : Shape} {off : Fin s.rank → ℕ} (h : off = fun _ => 0) (inb : ∀ a, off a + s.size a ≤ s.size a)
    (v : View sig .tc .vmem s .f32) (L : List (View.Piece (Elt Ideal) s .f32)) (first : FVec Ideal s .f32)
    (step : Fin 8 → FVec Ideal s .f32 → FVec Ideal s .f32) :
    View.canon (wholePieces inb v L first step 7) = fold8 step first := by
  unfold wholePieces
  rw [View.canon_cons_unit_zero h]
  simp only [wholePieces, readCov_whole]
  rfl

/-! ## Eight steps into four matrices of one buffer -/

/-- The stores of one head's matrix after another, chunk by chunk, each from what the buffer holds there. -/
def matPieces (v : View sig .tc .vmem S4x128x128 .f32) (L : List (View.Piece (Elt Ideal) S4x128x128 .f32))
    (first : Option (Fin 4 → FVec Ideal S1x128x128 .f32))
    (step : Fin 8 → Fin 4 → FVec Ideal S1x128x128 .f32 → FVec Ideal S1x128x128 .f32) :
    ℕ → List (View.Piece (Elt Ideal) S4x128x128 .f32)
  | 0 => L
  | n + 1 => ⟨matRect ⟨n % 4, by omega⟩, step ⟨n / 4 % 8, by omega⟩ ⟨n % 4, by omega⟩ (match first, n with
      | some f, 0 => f 0 | some f, 1 => f 1 | some f, 2 => f 2 | some f, 3 => f 3
      | _, _ => v.readCov (matPieces v L first step n) (matRect ⟨n % 4, by omega⟩).toLoadRect)⟩ :: matPieces v L first step n

/-- The four matrices after the eight steps of each head. -/
def mats (f : Fin 4 → FVec Ideal S1x128x128 .f32) : Vec Ideal S4x128x128 .f32 := fun i => f (i 0) (ix3 0 (i 1) (i 2))

/-- One head's matrix after its first `j` steps. -/
def matAfter (z : Fin 4 → FVec Ideal S1x128x128 .f32)
    (step : Fin 8 → Fin 4 → FVec Ideal S1x128x128 .f32 → FVec Ideal S1x128x128 .f32) (h : Fin 4) : ℕ → FVec Ideal S1x128x128 .f32
  | 0 => z h
  | j + 1 => step ⟨j % 8, Nat.mod_lt _ (by decide)⟩ h (matAfter z step h j)

theorem mat_disj (h h' : Fin 4) (hne : h ≠ h') : LoadRect.disj (matRect h) (matRect h').toLoadRect = true := by
  revert h h'; decide

/-- Read at one head's rectangle after `n` stores, the buffer holds that head's matrix after its steps so far. -/
theorem readCov_mats (v : View sig .tc .vmem S4x128x128 .f32) (L : List (View.Piece (Elt Ideal) S4x128x128 .f32))
    (first : Option (Fin 4 → FVec Ideal S1x128x128 .f32)) (z : Fin 4 → FVec Ideal S1x128x128 .f32)
    (step : Fin 8 → Fin 4 → FVec Ideal S1x128x128 .f32 → FVec Ideal S1x128x128 .f32)
    (hz : ∀ f, first = some f → f = z)
    (hL : first = none → ∀ h, v.readCov L (matRect h).toLoadRect = z h) (h : Fin 4) :
    ∀ n, (first = none ∨ h.val < n) →
      v.readCov (matPieces v L first step n) (matRect h).toLoadRect = matAfter z step h ((n + 3 - h.val) / 4)
  | 0, hn => by
    have hf : first = none := by
      rcases hn with hf | hn
      · exact hf
      · exact absurd hn (Nat.not_lt_zero _)
    have e : (0 + 3 - h.val) / 4 = 0 := by omega
    rw [e]
    exact hL hf h
  | n + 1, hn => by
    have ih := readCov_mats v L first z step hz hL h n
    unfold matPieces
    by_cases hh : n % 4 = h.val
    · have e : (n + 1 + 3 - h.val) / 4 = n / 4 + 1 := by omega
      have e' : (⟨n % 4, Nat.mod_lt _ (by decide)⟩ : Fin 4) = h := Fin.ext hh
      subst e'
      rw [View.readCov_cons_toLoadRect, e]
      show step _ _ _ = step _ _ _
      congr 1
      have en : (n + 3 - n % 4) / 4 = n / 4 := by omega
      rw [en] at ih
      split
      · rw [hz _ rfl]; rfl
      · rw [hz _ rfl]; rfl
      · rw [hz _ rfl]; rfl
      · rw [hz _ rfl]; rfl
      · rename_i h0 h1 h2 h3
        refine ih ?_
        rcases hf : first with _ | f
        · exact Or.inl rfl
        · right
          have : n ≠ 0 := fun e => h0 f hf e
          have : n ≠ 1 := fun e => h1 f hf e
          have : n ≠ 2 := fun e => h2 f hf e
          have : n ≠ 3 := fun e => h3 f hf e
          show n % 4 < n
          omega
    · have hne : (⟨n % 4, Nat.mod_lt _ (by decide)⟩ : Fin 4) ≠ h := fun e => hh (congrArg Fin.val e)
      have e : (n + 1 + 3 - h.val) / 4 = (n + 3 - h.val) / 4 := by omega
      rw [View.readCov_skip v _ _ _ _ (mat_disj _ _ hne), e]
      exact ih (hn.imp_right fun _ => by omega)

/-- After all 32 stores the buffer holds each head's matrix after its eight steps. -/
theorem canon_mats (v : View sig .tc .vmem S4x128x128 .f32) (L : List (View.Piece (Elt Ideal) S4x128x128 .f32))
    (first : Option (Fin 4 → FVec Ideal S1x128x128 .f32)) (z : Fin 4 → FVec Ideal S1x128x128 .f32)
    (step : Fin 8 → Fin 4 → FVec Ideal S1x128x128 .f32 → FVec Ideal S1x128x128 .f32)
    (hz : ∀ f, first = some f → f = z)
    (hL : first = none → ∀ h, v.readCov L (matRect h).toLoadRect = z h) :
    View.canon (matPieces v L first step 32) = mats fun h => fold8 (fun k => step k h) (z h) := by
  funext y
  have hy := readCov_mats v L first z step hz hL (y 0) 32 (Or.inr (by have : (y 0).val < 4 := (y 0).isLt; omega))
  have e : (32 + 3 - (y 0).val) / 4 = 8 := by have : (y 0).val < 4 := (y 0).isLt; omega
  rw [e, View.readCov_eq_canon'] at hy
  have hi : (matRect (y 0)).toLoadRect.idx (ix3 0 (y 1) (y 2)) = y := by
    funext a
    refine Fin.ext ?_
    match a with
    | ⟨0, _⟩ => exact (ValueKit.rect_emb_unit_val (s := S4x128x128) ![(y 0).val, 0, 0] S1x128x128.size (mat_inb (y 0)) (ix3 0 (y 1) (y 2)) 0)
    | ⟨1, _⟩ => exact (ValueKit.rect_emb_unit_val (s := S4x128x128) ![(y 0).val, 0, 0] S1x128x128.size (mat_inb (y 0)) (ix3 0 (y 1) (y 2)) 1).trans (Nat.zero_add _)
    | ⟨2, _⟩ => exact (ValueKit.rect_emb_unit_val (s := S4x128x128) ![(y 0).val, 0, 0] S1x128x128.size (mat_inb (y 0)) (ix3 0 (y 1) (y 2)) 2).trans (Nat.zero_add _)
  have := congrFun hy (ix3 0 (y 1) (y 2))
  rw [hi] at this
  exact this

/-! ## The five buffers after the body, at the first grid point (A) and at a later one (B) -/

theorem mats_inb : ∀ a, (![0, 0, 0] : Fin 3 → ℕ) a + S4x128x128.size a ≤ S4x128x128.size a := by decide
theorem bias_inb : ∀ a, (![0, 0] : Fin 2 → ℕ) a + S128x512.size a ≤ S128x512.size a := by decide
theorem sums_inb : ∀ a, (![0, 0] : Fin 2 → ℕ) a + S8x512.size a ≤ S8x512.size a := by decide

/-- The zero fills of the first point, and one head's matrix of a buffer. -/
abbrev biasZero : View.Piece (Elt Ideal) S128x512 .f32 := ⟨Rect.unit ![0, 0] S128x512.size bias_inb, k0_pay3 (F := Ideal)⟩
abbrev sumsZero : View.Piece (Elt Ideal) S8x512 .f32 := ⟨Rect.unit ![0, 0] S8x512.size sums_inb, k0_pay4 (F := Ideal)⟩
def ldMatF (x : Vec Ideal S4x128x128 .f32) (h : Fin 4) : FVec Ideal S1x128x128 .f32 := View.ld x (matRect h)

/-! The point's windows and the blocks it finds in them. -/

variable (c : Dev nD) (i : grid0.Coords)
  (arg1 : Memref sig .tc .vmem S1024x512 .f32) (harg1 : arg1.IsWhole)
  (arg2 : Memref sig .tc .vmem S1024x512 .f32) (harg2 : arg2.IsWhole)
  (arg3 : Memref sig .tc .vmem S1024x512 .f32) (harg3 : arg3.IsWhole)
  (arg4 : Memref sig .tc .vmem S1x512 .f32) (harg4 : arg4.IsWhole)
  (arg5 : Memref sig .tc .vmem S4x128x128 .bf16) (harg5 : arg5.IsWhole)
  (arg6 : Memref sig .tc .vmem S128x512 .f32) (harg6 : arg6.IsWhole)
  (arg7 : Memref sig .tc .vmem S1024x512 .f32) (harg7 : arg7.IsWhole)
  (arg8 : Memref sig .tc .vmem S1024x512 .f32) (harg8 : arg8.IsWhole)
  (arg9 : Memref sig .tc .vmem S4x128x128 .f32) (harg9 : arg9.IsWhole)
  (arg10 : Memref sig .tc .vmem S128x512 .f32) (harg10 : arg10.IsWhole)
  (arg11 : Memref sig .tc .vmem S8x512 .f32) (harg11 : arg11.IsWhole)
  (x0 x1 x2 : Vec Ideal S1024x512 .f32) (x3 : Vec Ideal S1x512 .f32) (x4 : Vec Ideal S4x128x128 .bf16) (x5 : Vec Ideal S128x512 .f32)

theorem outA_6 (hc0 : cond0_0 i) :
    out0_A_6 c i arg1 harg1 arg2 harg2 arg3 harg3 arg4 harg4 arg5 harg5 arg6 harg6 arg7 harg7 arg8 harg8 arg9 harg9 arg10 harg10 arg11 harg11 hc0 x0 x1 x2 x3 x4 x5 = stack fun k => duChunk (ldRows x0 k) (ldRows x1 k) (ldRows x2 k) (ldGain x3) (ldMat x4) (ldCols x5) := by
  have hp : (kernelRun0_A c i arg1 harg1 arg2 harg2 arg3 harg3 arg4 harg4 arg5 harg5 arg6 harg6 arg7 harg7 arg8 harg8 arg9 harg9 arg10 harg10 arg11 harg11 hc0 x0 x1 x2 x3 x4 x5).1 = rowsPieces fun k => duChunk (ldRows (arg1.view.read (Elt Ideal) (harg1.unread x0)) k) (ldRows (arg2.view.read (Elt Ideal) (harg2.unread x1)) k) (ldRows (arg3.view.read (Elt Ideal) (harg3.unread x2)) k) (ldGain (arg4.view.read (Elt Ideal) (harg4.unread x3))) (ldMat (arg5.view.read (Elt Ideal) (harg5.unread x4))) (ldCols (arg6.view.read (Elt Ideal) (harg6.unread x5))) := by
    unfold kernelRun0_A; dsimp only; sl_unfold_words; rfl
  have hc := cover0_A_6 c i arg1 harg1 arg2 harg2 arg3 harg3 arg4 harg4 arg5 harg5 arg6 harg6 arg7 harg7 arg8 harg8 arg9 harg9 arg10 harg10 arg11 harg11 hc0 x0 x1 x2 x3 x4 x5
  unfold out0_A_6
  rw [View.read_writes_eq_canon _ _ _ hc, hp]
  rw [hp] at hc
  rw [canon_rows _ hc, harg1.read_unread, harg2.read_unread, harg3.read_unread, harg4.read_unread, harg5.read_unread, harg6.read_unread]

theorem outA_7 (hc0 : cond0_0 i) :
    out0_A_7 c i arg1 harg1 arg2 harg2 arg3 harg3 arg4 harg4 arg5 harg5 arg6 harg6 arg7 harg7 arg8 harg8 arg9 harg9 arg10 harg10 arg11 harg11 hc0 x0 x1 x2 x3 x4 x5 = stack fun k => dvChunk (ldRows x0 k) (ldRows x1 k) (ldRows x2 k) (ldGain x3) (ldMat x4) := by
  have hp : (kernelRun0_A c i arg1 harg1 arg2 harg2 arg3 harg3 arg4 harg4 arg5 harg5 arg6 harg6 arg7 harg7 arg8 harg8 arg9 harg9 arg10 harg10 arg11 harg11 hc0 x0 x1 x2 x3 x4 x5).2.1 = rowsPieces fun k => dvChunk (ldRows (arg1.view.read (Elt Ideal) (harg1.unread x0)) k) (ldRows (arg2.view.read (Elt Ideal) (harg2.unread x1)) k) (ldRows (arg3.view.read (Elt Ideal) (harg3.unread x2)) k) (ldGain (arg4.view.read (Elt Ideal) (harg4.unread x3))) (ldMat (arg5.view.read (Elt Ideal) (harg5.unread x4))) := by
    unfold kernelRun0_A; dsimp only; sl_unfold_words; rfl
  have hc := cover0_A_7 c i arg1 harg1 arg2 harg2 arg3 harg3 arg4 harg4 arg5 harg5 arg6 harg6 arg7 harg7 arg8 harg8 arg9 harg9 arg10 harg10 arg11 harg11 hc0 x0 x1 x2 x3 x4 x5
  unfold out0_A_7
  rw [View.read_writes_eq_canon _ _ _ hc, hp]
  rw [hp] at hc
  rw [canon_rows _ hc, harg1.read_unread, harg2.read_unread, harg3.read_unread, harg4.read_unread, harg5.read_unread]

theorem outA_8 (hc0 : cond0_0 i) :
    out0_A_8 c i arg1 harg1 arg2 harg2 arg3 harg3 arg4 harg4 arg5 harg5 arg6 harg6 arg7 harg7 arg8 harg8 arg9 harg9 arg10 harg10 arg11 harg11 hc0 x0 x1 x2 x3 x4 x5 = mats fun h => fold8 (fun k => dwStep (ldRows x0 k) (ldRows x1 k) (ldRows x2 k) (ldGain x3 h) h) (ldMatF (k0_pay2 (F := Ideal)) h) := by
  have hp : (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1 = matPieces arg9.view [⟨Rect.unit ![0, 0, 0] S4x128x128.size mats_inb, k0_pay2 (F := Ideal)⟩] none (fun k h => dwStep (ldRows (arg1.view.read (Elt Ideal) (harg1.unread x0)) k) (ldRows (arg2.view.read (Elt Ideal) (harg2.unread x1)) k) (ldRows (arg3.view.read (Elt Ideal) (harg3.unread x2)) k) (ldGain (arg4.view.read (Elt Ideal) (harg4.unread x3)) h) h) 32 := by
    unfold kernelRun0_A; dsimp only; sl_unfold_words; rfl
  have hc := cover0_A_8 c i arg1 harg1 arg2 harg2 arg3 harg3 arg4 harg4 arg5 harg5 arg6 harg6 arg7 harg7 arg8 harg8 arg9 harg9 arg10 harg10 arg11 harg11 hc0 x0 x1 x2 x3 x4 x5
  unfold out0_A_8
  rw [View.read_writes_eq_canon _ _ _ hc, hp]
  rw [canon_mats _ _ _ (fun h => ldMatF (k0_pay2 (F := Ideal)) h) _ (fun f h => by cases h) (fun _ h => View.readCov_fill _ _ _ _ _ (by decide)),
    harg1.read_unread, harg2.read_unread, harg3.read_unread, harg4.read_unread]

theorem outA_9 (hc0 : cond0_0 i) :
    out0_A_9 c i arg1 harg1 arg2 harg2 arg3 harg3 arg4 harg4 arg5 harg5 arg6 harg6 arg7 harg7 arg8 harg8 arg9 harg9 arg10 harg10 arg11 harg11 hc0 x0 x1 x2 x3 x4 x5 = fold8 (fun k => dbStep (ldRows x0 k) (ldRows x2 k)) (k0_pay3 (F := Ideal)) := by
  have hp : (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1 = wholePieces (off := ![0, 0]) bias_inb arg10.view [biasZero] (arg10.view.readCov [biasZero] (Rect.unit ![0, 0] S128x512.size bias_inb).toLoadRect) (fun k => dbStep (ldRows (arg1.view.read (Elt Ideal) (harg1.unread x0)) k) (ldRows (arg3.view.read (Elt Ideal) (harg3.unread x2)) k)) 7 := by
    unfold kernelRun0_A; dsimp only; sl_unfold_words; rfl
  have hc := cover0_A_9 c i arg1 harg1 arg2 harg2 arg3 harg3 arg4 harg4 arg5 harg5 arg6 harg6 arg7 harg7 arg8 harg8 arg9 harg9 arg10 harg10 arg11 harg11 hc0 x0 x1 x2 x3 x4 x5
  unfold out0_A_9
  rw [View.read_writes_eq_canon _ _ _ hc, hp]
  rw [canon_whole (by decide), View.readCov_cons_toLoadRect, harg1.read_unread, harg3.read_unread]

theorem outA_10 (hc0 : cond0_0 i) :
    out0_A_10 c i arg1 harg1 arg2 harg2 arg3 harg3 arg4 harg4 arg5 harg5 arg6 harg6 arg7 harg7 arg8 harg8 arg9 harg9 arg10 harg10 arg11 harg11 hc0 x0 x1 x2 x3 x4 x5 = fold8 (fun k => dgStep (ldRows x0 k) (ldRows x1 k) (ldRows x2 k) (ldMat x4)) (k0_pay4 (F := Ideal)) := by
  have hp : (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.2.1 = wholePieces (off := ![0, 0]) sums_inb arg11.view [sumsZero] (arg11.view.readCov [sumsZero] (Rect.unit ![0, 0] S8x512.size sums_inb).toLoadRect) (fun k => dgStep (ldRows (arg1.view.read (Elt Ideal) (harg1.unread x0)) k) (ldRows (arg2.view.read (Elt Ideal) (harg2.unread x1)) k) (ldRows (arg3.view.read (Elt Ideal) (harg3.unread x2)) k) (ldMat (arg5.view.read (Elt Ideal) (harg5.unread x4)))) 7 := by
    unfold kernelRun0_A; dsimp only; sl_unfold_words; rfl
  have hc := cover0_A_10 c i arg1 harg1 arg2 harg2 arg3 harg3 arg4 harg4 arg5 harg5 arg6 harg6 arg7 harg7 arg8 harg8 arg9 harg9 arg10 harg10 arg11 harg11 hc0 x0 x1 x2 x3 x4 x5
  unfold out0_A_10
  rw [View.read_writes_eq_canon _ _ _ hc, hp]
  rw [canon_whole (by decide), View.readCov_cons_toLoadRect, harg1.read_unread, harg2.read_unread, harg3.read_unread, harg5.read_unread]

theorem outB_6 (hc0 : ¬cond0_0 i) (xo8 : Vec Ideal S4x128x128 .f32) (xo9 : Vec Ideal S128x512 .f32) (xo10 : Vec Ideal S8x512 .f32) :
    out0_B_6 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = stack fun k => duChunk (ldRows x0 k) (ldRows x1 k) (ldRows x2 k) (ldGain x3) (ldMat x4) (ldCols x5) := by
  have hp : (kernelRun0_B c i arg1 harg1 arg2 harg2 arg3 harg3 arg4 harg4 arg5 harg5 arg6 harg6 arg7 harg7 arg8 harg8 arg9 harg9 arg10 harg10 arg11 harg11 hc0 x0 x1 x2 x3 x4 x5 xo8 xo9 xo10).1 = rowsPieces fun k => duChunk (ldRows (arg1.view.read (Elt Ideal) (harg1.unread x0)) k) (ldRows (arg2.view.read (Elt Ideal) (harg2.unread x1)) k) (ldRows (arg3.view.read (Elt Ideal) (harg3.unread x2)) k) (ldGain (arg4.view.read (Elt Ideal) (harg4.unread x3))) (ldMat (arg5.view.read (Elt Ideal) (harg5.unread x4))) (ldCols (arg6.view.read (Elt Ideal) (harg6.unread x5))) := by
    unfold kernelRun0_B; dsimp only; sl_unfold_words; rfl
  have hc := cover0_B_6 c i arg1 harg1 arg2 harg2 arg3 harg3 arg4 harg4 arg5 harg5 arg6 harg6 arg7 harg7 arg8 harg8 arg9 harg9 arg10 harg10 arg11 harg11 hc0 x0 x1 x2 x3 x4 x5 xo8 xo9 xo10
  unfold out0_B_6
  rw [View.read_writes_eq_canon _ _ _ hc, hp]
  rw [hp] at hc
  rw [canon_rows _ hc, harg1.read_unread, harg2.read_unread, harg3.read_unread, harg4.read_unread, harg5.read_unread, harg6.read_unread]

theorem outB_7 (hc0 : ¬cond0_0 i) (xo8 : Vec Ideal S4x128x128 .f32) (xo9 : Vec Ideal S128x512 .f32) (xo10 : Vec Ideal S8x512 .f32) :
    out0_B_7 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = stack fun k => dvChunk (ldRows x0 k) (ldRows x1 k) (ldRows x2 k) (ldGain x3) (ldMat x4) := by
  have hp : (kernelRun0_B c i arg1 harg1 arg2 harg2 arg3 harg3 arg4 harg4 arg5 harg5 arg6 harg6 arg7 harg7 arg8 harg8 arg9 harg9 arg10 harg10 arg11 harg11 hc0 x0 x1 x2 x3 x4 x5 xo8 xo9 xo10).2.1 = rowsPieces fun k => dvChunk (ldRows (arg1.view.read (Elt Ideal) (harg1.unread x0)) k) (ldRows (arg2.view.read (Elt Ideal) (harg2.unread x1)) k) (ldRows (arg3.view.read (Elt Ideal) (harg3.unread x2)) k) (ldGain (arg4.view.read (Elt Ideal) (harg4.unread x3))) (ldMat (arg5.view.read (Elt Ideal) (harg5.unread x4))) := by
    unfold kernelRun0_B; dsimp only; sl_unfold_words; rfl
  have hc := cover0_B_7 c i arg1 harg1 arg2 harg2 arg3 harg3 arg4 harg4 arg5 harg5 arg6 harg6 arg7 harg7 arg8 harg8 arg9 harg9 arg10 harg10 arg11 harg11 hc0 x0 x1 x2 x3 x4 x5 xo8 xo9 xo10
  unfold out0_B_7
  rw [View.read_writes_eq_canon _ _ _ hc, hp]
  rw [hp] at hc
  rw [canon_rows _ hc, harg1.read_unread, harg2.read_unread, harg3.read_unread, harg4.read_unread, harg5.read_unread]

theorem outB_8 (hc0 : ¬cond0_0 i) (xo8 : Vec Ideal S4x128x128 .f32) (xo9 : Vec Ideal S128x512 .f32) (xo10 : Vec Ideal S8x512 .f32) :
    out0_B_8 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = mats fun h => fold8 (fun k => dwStep (ldRows x0 k) (ldRows x1 k) (ldRows x2 k) (ldGain x3 h) h) (ldMatF xo8 h) := by
  have hp : (kernelRun0_B c i arg1 harg1 arg2 harg2 arg3 harg3 arg4 harg4 arg5 harg5 arg6 harg6 arg7 harg7 arg8 harg8 arg9 harg9 arg10 harg10 arg11 harg11 hc0 x0 x1 x2 x3 x4 x5 xo8 xo9 xo10).2.2.1 = matPieces arg9.view [] (some fun h => ldMatF (arg9.view.read (Elt Ideal) (harg9.unread xo8)) h) (fun k h => dwStep (ldRows (arg1.view.read (Elt Ideal) (harg1.unread x0)) k) (ldRows (arg2.view.read (Elt Ideal) (harg2.unread x1)) k) (ldRows (arg3.view.read (Elt Ideal) (harg3.unread x2)) k) (ldGain (arg4.view.read (Elt Ideal) (harg4.unread x3)) h) h) 32 := by
    unfold kernelRun0_B; dsimp only; sl_unfold_words; rfl
  have hc := cover0_B_8 c i arg1 harg1 arg2 harg2 arg3 harg3 arg4 harg4 arg5 harg5 arg6 harg6 arg7 harg7 arg8 harg8 arg9 harg9 arg10 harg10 arg11 harg11 hc0 x0 x1 x2 x3 x4 x5 xo8 xo9 xo10
  unfold out0_B_8
  rw [View.read_writes_eq_canon _ _ _ hc, hp]
  rw [harg1.read_unread, harg2.read_unread, harg3.read_unread, harg4.read_unread, harg9.read_unread,
    canon_mats _ _ _ (fun h => ldMatF xo8 h) _ (fun _ h => (Option.some.inj h).symm) (fun h => by cases h)]

theorem outB_9 (hc0 : ¬cond0_0 i) (xo8 : Vec Ideal S4x128x128 .f32) (xo9 : Vec Ideal S128x512 .f32) (xo10 : Vec Ideal S8x512 .f32) :
    out0_B_9 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = fold8 (fun k => dbStep (ldRows x0 k) (ldRows x2 k)) xo9 := by
  have hp : (kernelRun0_B c i arg1 harg1 arg2 harg2 arg3 harg3 arg4 harg4 arg5 harg5 arg6 harg6 arg7 harg7 arg8 harg8 arg9 harg9 arg10 harg10 arg11 harg11 hc0 x0 x1 x2 x3 x4 x5 xo8 xo9 xo10).2.2.2.1 = wholePieces (off := ![0, 0]) bias_inb arg10.view [] (View.ld (arg10.view.read (Elt Ideal) (harg10.unread xo9)) (Rect.unit ![0, 0] _ bias_inb)) (fun k => dbStep (ldRows (arg1.view.read (Elt Ideal) (harg1.unread x0)) k) (ldRows (arg3.view.read (Elt Ideal) (harg3.unread x2)) k)) 7 := by
    unfold kernelRun0_B; dsimp only; sl_unfold_words; rfl
  have hc := cover0_B_9 c i arg1 harg1 arg2 harg2 arg3 harg3 arg4 harg4 arg5 harg5 arg6 harg6 arg7 harg7 arg8 harg8 arg9 harg9 arg10 harg10 arg11 harg11 hc0 x0 x1 x2 x3 x4 x5 xo8 xo9 xo10
  unfold out0_B_9
  rw [View.read_writes_eq_canon _ _ _ hc, hp]
  rw [canon_whole (by decide), harg10.read_unread, View.ld_unit_zero (by decide), harg1.read_unread, harg3.read_unread]

theorem outB_10 (hc0 : ¬cond0_0 i) (xo8 : Vec Ideal S4x128x128 .f32) (xo9 : Vec Ideal S128x512 .f32) (xo10 : Vec Ideal S8x512 .f32) :
    out0_B_10 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = fold8 (fun k => dgStep (ldRows x0 k) (ldRows x1 k) (ldRows x2 k) (ldMat x4)) xo10 := by
  have hp : (kernelRun0_B c i arg1 harg1 arg2 harg2 arg3 harg3 arg4 harg4 arg5 harg5 arg6 harg6 arg7 harg7 arg8 harg8 arg9 harg9 arg10 harg10 arg11 harg11 hc0 x0 x1 x2 x3 x4 x5 xo8 xo9 xo10).2.2.2.2.1 = wholePieces (off := ![0, 0]) sums_inb arg11.view [] (View.ld (arg11.view.read (Elt Ideal) (harg11.unread xo10)) (Rect.unit ![0, 0] _ sums_inb)) (fun k => dgStep (ldRows (arg1.view.read (Elt Ideal) (harg1.unread x0)) k) (ldRows (arg2.view.read (Elt Ideal) (harg2.unread x1)) k) (ldRows (arg3.view.read (Elt Ideal) (harg3.unread x2)) k) (ldMat (arg5.view.read (Elt Ideal) (harg5.unread x4)))) 7 := by
    unfold kernelRun0_B; dsimp only; sl_unfold_words; rfl
  have hc := cover0_B_10 c i arg1 harg1 arg2 harg2 arg3 harg3 arg4 harg4 arg5 harg5 arg6 harg6 arg7 harg7 arg8 harg8 arg9 harg9 arg10 harg10 arg11 harg11 hc0 x0 x1 x2 x3 x4 x5 xo8 xo9 xo10
  unfold out0_B_10
  rw [View.read_writes_eq_canon _ _ _ hc, hp]
  rw [canon_whole (by decide), harg11.read_unread, View.ld_unit_zero (by decide), harg1.read_unread, harg2.read_unread, harg3.read_unread, harg5.read_unread]

end Cert.KernelIdeal.Gm

end
-- ==== Proof.GmRead.lean ====
/- The chunk's vector operations (GmChunk) read element by element: the gate's gradient of GateSpec. -/
module

public import proofs.«01_k».proof.Proof.GmChunk
public import proofs.«01_k».proof.Proof.GateSpec
public import Idealize.ShloMosaic.Lib.Pointwise

@[expose] public section

set_option maxRecDepth 16384

noncomputable section

namespace Cert.KernelIdeal.Gm

open Idealize.ShloMosaic Idealize.SL.Sem
open Cert.KernelIdeal Cert.KernelIdeal.Gen Cert

/-- The column of a head's channel; a chunk's array, one head's gain and matrix, by token, head and channel. -/
abbrev col (h : Fin 4) (d : Fin 128) : Fin 512 := ⟨128 * h.val + d.val, by omega⟩
abbrev arr (x : A) : Gate.Arr := fun t h d => x (ix2 t (col h d))
abbrev gn (g : Fin 4 → G) : Fin 4 → Fin 128 → EReal := fun h d => g h (ix2 0 d)
abbrev wt (w : Fin 4 → W) : Fin 4 → Fin 128 → Fin 128 → EReal := fun h t k => w h (ix3 0 t k)
abbrev bs (b : Fin 4 → H) : Gate.Arr := fun t h d => b h (ix2 t d)

theorem act_apply (x : A) (i : S128x512.Idx) : act x i = Gate.act (x i) := by
  pointwise [act, th, Gate.act, Gate.th, Gate.half, Gate.K]; rfl
theorem act'_apply (x : A) (i : S128x512.Idx) : act' x i = Gate.act' (x i) := by
  pointwise [act', th, Gate.act', Gate.th, Gate.half, Gate.K]; rfl

theorem cols_apply (x : A) (h : Fin 4) (t d : Fin 128) : cols x h (ix2 t d) = x (ix2 t (col h d)) := by
  pointwise [cols]
theorem join_apply (f : Fin 4 → H) (h : Fin 4) (t d : Fin 128) : join f (ix2 t (col h d)) = f h (ix2 t d) := by
  pointwise [join]
  have key (k : Fin 4) (j j' : Fin 128) (e : j.val = j'.val) : f k (ix2 t j) = f k (ix2 t j') := by rw [Fin.ext e]
  obtain ⟨h, hh⟩ := h
  interval_cases h
  · rw [dif_pos (by dsimp only; omega)]; exact key _ _ _ (by dsimp only; omega)
  · rw [dif_neg (by dsimp only; omega), dif_pos (by dsimp only; omega)]; exact key _ _ _ (by dsimp only; omega)
  · rw [dif_neg (by dsimp only; omega), dif_neg (by dsimp only; omega), dif_pos (by dsimp only; omega)]
    exact key _ _ _ (by dsimp only; omega)
  · rw [dif_neg (by dsimp only; omega), dif_neg (by dsimp only; omega), dif_neg (by dsimp only; omega)]
    exact key _ _ _ (by dsimp only; omega)

theorem mean_apply (y : H) (t : Fin 128) : mean y (ix2 t 0) = Ideal.div (∑ d, y (ix2 t d)) Gate.n := by
  pointwise [mean, Gate.n]
theorem rms_apply (y : H) (t d : Fin 128) :
    rms y (ix2 t d) = Ideal.rsqrt (Ideal.div (∑ e, y (ix2 t e) * y (ix2 t e)) Gate.n + Gate.eps) := by
  pointwise [rms, mean, Gate.n, Gate.eps]
theorem xhat_apply (y : H) (t d : Fin 128) : xhat y (ix2 t d) = y (ix2 t d) * rms y (ix2 t d) := rfl
theorem gains_apply (g : G) (t d : Fin 128) : gains g (ix2 t d) = g (ix2 0 d) := by pointwise [gains]
theorem normed_apply (y : H) (g : G) (t d : Fin 128) : normed y g (ix2 t d) = xhat y (ix2 t d) * g (ix2 0 d) := by
  rw [← gains_apply g t d]; rfl
theorem mix_apply (y : H) (g : G) (w : W) (b : H) (t d : Fin 128) :
    mix y g w b (ix2 t d) = (∑ k, w (ix3 0 t k) * normed y g (ix2 k d)) + b (ix2 t d) := by
  pointwise [mix]
theorem dnormed_apply (w : W) (e : H) (t d : Fin 128) : dnormed w e (ix2 t d) = ∑ k, w (ix3 0 k t) * e (ix2 k d) := by
  pointwise [dnormed]
theorem dmat_apply (y : H) (g : G) (e : H) (t k : Fin 128) : dmat y g e (ix2 t k) = ∑ d, e (ix2 t d) * normed y g (ix2 k d) := by
  pointwise [dmat]
theorem dgains_apply (y : H) (w : W) (e : H) (t d : Fin 128) :
    dgains y w e (ix2 t d) = dnormed w e (ix2 t d) * xhat y (ix2 t d) := rfl
theorem dcols_apply (y : H) (g : G) (w : W) (e : H) (t d : Fin 128) :
    dcols y g w e (ix2 t d) = rms y (ix2 t d) * (dnormed w e (ix2 t d) * g (ix2 0 d)
      - xhat y (ix2 t d) * Ideal.div (∑ j, dnormed w e (ix2 t j) * g (ix2 0 j) * xhat y (ix2 t j)) Gate.n) := by
  pointwise [dcols, mean, gains_apply, Gate.n]

/-! The same read from the chunk's whole arrays. -/

theorem rms_act (v : A) (h : Fin 4) (t d : Fin 128) : rms (cols (act v) h) (ix2 t d) = Gate.r (arr v) t h := by
  rw [rms_apply]; simp only [cols_apply, act_apply]; rfl
theorem xhat_act (v : A) (h : Fin 4) (t d : Fin 128) : xhat (cols (act v) h) (ix2 t d) = Gate.xh (arr v) t h d := by
  rw [xhat_apply, rms_act, cols_apply, act_apply]; rfl
theorem normed_act (v : A) (g : Fin 4 → G) (h : Fin 4) (t d : Fin 128) :
    normed (cols (act v) h) (g h) (ix2 t d) = Gate.nv (arr v) (gn g) t h d := by
  rw [normed_apply, xhat_act]; rfl
theorem ds_act (u dy : A) (h : Fin 4) (t d : Fin 128) : cols (ds u dy) h (ix2 t d) = Gate.ds (arr u) (arr dy) t h d := by
  rw [cols_apply]
  show dy _ * act u _ = _
  rw [act_apply]; rfl
theorem dnormed_act (u dy : A) (w : Fin 4 → W) (h : Fin 4) (t d : Fin 128) :
    dnormed (w h) (cols (ds u dy) h) (ix2 t d) = Gate.dn (arr u) (arr dy) (wt w) t h d := by
  rw [dnormed_apply]; simp only [ds_act]; rfl

theorem duChunk_apply (u v dy : A) (g : Fin 4 → G) (w : Fin 4 → W) (b : Fin 4 → H) (h : Fin 4) (t d : Fin 128) :
    duChunk u v dy g w b (ix2 t (col h d)) = Gate.du (arr u) (arr v) (arr dy) (gn g) (wt w) (bs b) t h d := by
  show dy _ * join _ _ * act' u _ = _
  rw [join_apply, mix_apply, act'_apply]; simp only [normed_act]; rfl
theorem dvChunk_apply (u v dy : A) (g : Fin 4 → G) (w : Fin 4 → W) (h : Fin 4) (t d : Fin 128) :
    dvChunk u v dy g w (ix2 t (col h d)) = Gate.dv (arr u) (arr v) (arr dy) (gn g) (wt w) t h d := by
  show join _ _ * act' v _ = _
  rw [join_apply, dcols_apply, act'_apply]; simp only [rms_act, xhat_act, dnormed_act]; rfl
theorem dwStep_apply (u v dy : A) (g : Fin 4 → G) (h : Fin 4) (old : FVec Ideal S1x128x128 .f32) (t k : Fin 128) :
    dwStep u v dy (g h) h old (ix3 0 t k) = old (ix3 0 t k) + Gate.dw (arr u) (arr v) (arr dy) (gn g) h t k := by
  pointwise [dwStep, dmat_apply, normed_act, ds_act]; rfl
theorem dbStep_apply (u dy : A) (old : A) (h : Fin 4) (t d : Fin 128) :
    dbStep u dy old (ix2 t (col h d)) = old (ix2 t (col h d)) + Gate.ds (arr u) (arr dy) t h d := by
  rw [← ds_act, cols_apply]; pointwise [dbStep]
theorem dgStep_apply (u v dy : A) (w : Fin 4 → W) (old : FVec Ideal S8x512 .f32) (e : Fin 8) (h : Fin 4) (d : Fin 128) :
    dgStep u v dy w old (ix2 e (col h d)) = old (ix2 e (col h d))
      + ∑ a : Fin 16, Gate.dg (arr u) (arr v) (arr dy) (wt w) ⟨a.val * 8 + e.val, by omega⟩ h d := by
  have hj (a : Fin 16) : join (fun h => dgains (cols (act v) h) (w h) (cols (ds u dy) h)) (ix2 ⟨a.val * 8 + e.val, by omega⟩ (col h d))
      = Gate.dg (arr u) (arr v) (arr dy) (wt w) ⟨a.val * 8 + e.val, by omega⟩ h d := by
    rw [join_apply, dgains_apply, dnormed_act, xhat_act]; rfl
  pointwise [dgStep]
  simp only [hj]

end Cert.KernelIdeal.Gm

end
-- ==== Proof.GmRun.lean ====
/- The five result arrays of the launch after its eight grid points: each chunk's gradients of `u` and `v` stand in the
   chunk's rows, and the three sums run over all the sixty-four chunks, everything in terms of the arrays that the launch
   finds. -/
module

public import proofs.«01_k».proof.Proof.GmBody
public import proofs.«01_k».proof.Proof.GmRead
public import Idealize.ShloMosaic.Lib.Pipeline.ValueKit.Acc

@[expose] public section

set_option maxRecDepth 16384

noncomputable section

namespace Cert.KernelIdeal.Gm

open Idealize.ShloMosaic Idealize.ShloMosaic.TcCoe Idealize.SL.Sem
open Idealize.ShloMosaic.Pipeline (Dat)
open Cert.KernelIdeal Cert.KernelIdeal.Gen Cert

variable (m : (ℓ : Loc nD τ sig) → Buf (Elt Ideal) ℓ)

/-! ## The arrays by chunk, token, head and channel -/

/-- The three inputs' chunks: `u` from column 512, `v` from column 1024, the incoming gradient. -/
def chunkU (z : Vec Ideal S8192x1536 .f32) (C : Fin 64) : Gate.Arr := fun t h d =>
  z (ix2 ⟨128 * C.val + t.val, by omega⟩ ⟨512 + (128 * h.val + d.val), by omega⟩)
def chunkV (z : Vec Ideal S8192x1536 .f32) (C : Fin 64) : Gate.Arr := fun t h d =>
  z (ix2 ⟨128 * C.val + t.val, by omega⟩ ⟨1024 + (128 * h.val + d.val), by omega⟩)
def chunkY (y : Vec Ideal S8192x512 .f32) (C : Fin 64) : Gate.Arr := fun t h d =>
  y (ix2 ⟨128 * C.val + t.val, by omega⟩ (col h d))
/-- The gain by head and channel, the mixing weights by head, the bias by token, head and channel. -/
def gainOf (g : Vec Ideal S1x512 .f32) : Fin 4 → Fin 128 → EReal := fun h d => g (ix2 0 (col h d))
def matOf (w : Vec Ideal S4x128x128 .bf16) : Fin 4 → Fin 128 → Fin 128 → EReal := fun h t k => w (ix3 h t k)
def biasOf (b : Vec Ideal S128x512 .f32) : Gate.Arr := fun t h d => b (ix2 t (col h d))

/-- Sixty-four chunks as one array of 8192 rows. -/
def flat (f : Fin 64 → Gate.Arr) : Vec Ideal S8192x512 .f32 := fun i =>
  f ⟨(i 0).val / 128, by have := ValueIdx.idx2_lt0 i; omega⟩ ⟨(i 0).val % 128, Nat.mod_lt _ (by decide)⟩
    ⟨(i 1).val / 128, by have := ValueIdx.idx2_lt1 i; omega⟩ ⟨(i 1).val % 128, Nat.mod_lt _ (by decide)⟩

theorem ldRows_apply (x : Vec Ideal S1024x512 .f32) (k : Fin 8) (t : Fin 128) (q : Fin 512) :
    ldRows x k (ix2 t q) = x (ix2 ⟨128 * k.val + t.val, by omega⟩ q) := by
  pointwise [ldRows]
theorem ldGain_apply (x : Vec Ideal S1x512 .f32) (h : Fin 4) (d : Fin 128) : ldGain x h (ix2 0 d) = x (ix2 0 (col h d)) := by
  pointwise [ldGain]
theorem ldCols_apply (x : Vec Ideal S128x512 .f32) (h : Fin 4) (t d : Fin 128) : ldCols x h (ix2 t d) = x (ix2 t (col h d)) := by
  pointwise [ldCols]
theorem ldMat_apply (x : Vec Ideal S4x128x128 .bf16) (h : Fin 4) (t k : Fin 128) : ldMat x h (ix3 0 t k) = x (ix3 h t k) := by
  pointwise [ldMat]
theorem ldMatF_apply (x : Vec Ideal S4x128x128 .f32) (h : Fin 4) (t k : Fin 128) : ldMatF x h (ix3 0 t k) = x (ix3 h t k) := by
  pointwise [ldMatF]

/-! ## The blocks of a grid point -/

theorem idx : ∀ t : Fin cfg0.N, win0_0.index t = ![t.val, 1] ∧ win0_1.index t = ![t.val, 2] ∧ win0_2.index t = ![t.val, 0]
    ∧ win0_3.index t = ![0, 0] ∧ win0_4.index t = ![0, 0, 0] ∧ win0_5.index t = ![0, 0]
    ∧ win0_6.index t = ![t.val, 0] ∧ win0_7.index t = ![t.val, 0] :=
  (by decide +kernel : ∀ t : Fin grid0.N, win0_0.index t = ![t.val, 1] ∧ win0_1.index t = ![t.val, 2] ∧ win0_2.index t = ![t.val, 0]
    ∧ win0_3.index t = ![0, 0] ∧ win0_4.index t = ![0, 0, 0] ∧ win0_5.index t = ![0, 0]
    ∧ win0_6.index t = ![t.val, 0] ∧ win0_7.index t = ![t.val, 0])

theorem lt8 (t : Fin cfg0.N) : t.val < 8 := lt_of_lt_of_eq t.isLt N_0

/-- Chunk `k` of grid point `t`. -/
def chunk (t : Fin cfg0.N) (k : Fin 8) : Fin 64 := ⟨8 * t.val + k.val, by have := lt8 t; omega⟩

variable (c : Dev nD) (t : Fin cfg0.N)

theorem blkU (k : Fin 8) : arr (ldRows (iblk m c 0 t) k) = chunkU (V m c main_arg0) (chunk t k) := by
  funext tt h d
  show ldRows _ _ _ = _
  rw [ldRows_apply]
  blk_ext [iblk, chunkU, chunk, idx t]
theorem blkV (k : Fin 8) : arr (ldRows (iblk m c 1 t) k) = chunkV (V m c main_arg0) (chunk t k) := by
  funext tt h d
  show ldRows _ _ _ = _
  rw [ldRows_apply]
  blk_ext [iblk, chunkV, chunk, idx t]
theorem blkY (k : Fin 8) : arr (ldRows (iblk m c 2 t) k) = chunkY (V m c main_arg1) (chunk t k) := by
  funext tt h d
  show ldRows _ _ _ = _
  rw [ldRows_apply]
  blk_ext [iblk, chunkY, chunk, idx t]
theorem blkG : gn (ldGain (iblk m c 3 t)) = gainOf (V m c main_v8) := by
  funext h d
  show ldGain _ _ _ = _
  rw [ldGain_apply]
  blk_ext [iblk, gainOf, idx t]
theorem blkW : wt (ldMat (iblk m c 4 t)) = matOf (V m c main_v4) := by
  funext h i j
  show ldMat _ _ _ = _
  rw [ldMat_apply]
  blk_ext [iblk, matOf, idx t]
theorem blkB : bs (ldCols (iblk m c 5 t)) = biasOf (V m c main_v7) := by
  funext i h d
  show ldCols _ _ _ = _
  rw [ldCols_apply]
  blk_ext [iblk, biasOf, idx t]

/-! ## The gradients chunk by chunk -/

/-- A column is its head's channel. -/
theorem col_divMod (q : Fin 512) : q = col ⟨q.val / 128, by omega⟩ ⟨q.val % 128, Nat.mod_lt _ (by decide)⟩ :=
  Fin.ext (Nat.div_add_mod q.val 128).symm

/-- Eight chunks of a point, each read by token, head and channel: the point's rows of the whole array. -/
theorem stack_flat (f : Fin 8 → A) (F : Fin 64 → Gate.Arr) (hf : ∀ k tt h d, f k (ix2 tt (col h d)) = F (chunk t k) tt h d)
    (y : S1024x512.Idx) (i : S8192x512.Idx) (h0 : (i 0).val = 1024 * t.val + (y 0).val) (h1 : (i 1).val = (y 1).val) :
    stack f y = flat F i := by
  have hy0 := ValueIdx.idx2_lt0 y
  have hy1 := ValueIdx.idx2_lt1 y
  unfold stack flat
  rw [show y 1 = col ⟨(y 1).val / 128, by omega⟩ ⟨(y 1).val % 128, Nat.mod_lt _ (by decide)⟩ from col_divMod (y 1), hf]
  have e : chunk t ⟨(y 0).val / 128, by omega⟩ = ⟨(i 0).val / 128, by have := ValueIdx.idx2_lt0 i; omega⟩ := by
    apply Fin.ext; show 8 * t.val + (y 0).val / 128 = (i 0).val / 128; omega
  have e' : (⟨(y 0).val % 128, Nat.mod_lt _ (by decide)⟩ : Fin 128) = ⟨(i 0).val % 128, Nat.mod_lt _ (by decide)⟩ := by
    apply Fin.ext; show (y 0).val % 128 = (i 0).val % 128; omega
  rw [e, e']
  simp only [h1]

/-- The launch's two gradients by chunk, and the shares of a chunk in the three sums. -/
def duOf (C : Fin 64) : Gate.Arr := Gate.du (chunkU (V m c main_arg0) C) (chunkV (V m c main_arg0) C) (chunkY (V m c main_arg1) C)
  (gainOf (V m c main_v8)) (matOf (V m c main_v4)) (biasOf (V m c main_v7))
def dvOf (C : Fin 64) : Gate.Arr := Gate.dv (chunkU (V m c main_arg0) C) (chunkV (V m c main_arg0) C) (chunkY (V m c main_arg1) C)
  (gainOf (V m c main_v8)) (matOf (V m c main_v4))
def dwOf (C : Fin 64) : Fin 4 → Fin 128 → Fin 128 → EReal :=
  Gate.dw (chunkU (V m c main_arg0) C) (chunkV (V m c main_arg0) C) (chunkY (V m c main_arg1) C) (gainOf (V m c main_v8))
def dbOf (C : Fin 64) : Gate.Arr := Gate.ds (chunkU (V m c main_arg0) C) (chunkY (V m c main_arg1) C)
def dgOf (C : Fin 64) : Gate.Arr := Gate.dg (chunkU (V m c main_arg0) C) (chunkV (V m c main_arg0) C) (chunkY (V m c main_arg1) C)
  (matOf (V m c main_v4))

/-- What a grid point leaves for the gradients of `u` and of `v`: the same in both cases. -/
theorem after6 : (dats m 0 c).after 6 t = stack fun k => duChunk (ldRows (iblk m c 0 t) k) (ldRows (iblk m c 1 t) k)
    (ldRows (iblk m c 2 t) k) (ldGain (iblk m c 3 t)) (ldMat (iblk m c 4 t)) (ldCols (iblk m c 5 t)) := by
  rw [after0_6]
  by_cases h0 : t.val % 8 = 0
  · rw [outsAt0_A m c t h0]; dsimp only; rw [outA_6]
  · rw [outsAt0_B m c t h0]; dsimp only; rw [outB_6]
theorem after7 : (dats m 0 c).after 7 t = stack fun k => dvChunk (ldRows (iblk m c 0 t) k) (ldRows (iblk m c 1 t) k)
    (ldRows (iblk m c 2 t) k) (ldGain (iblk m c 3 t)) (ldMat (iblk m c 4 t)) := by
  rw [after0_7]
  by_cases h0 : t.val % 8 = 0
  · rw [outsAt0_A m c t h0]; dsimp only; rw [outA_7]
  · rw [outsAt0_B m c t h0]; dsimp only; rw [outB_7]

theorem arr6 : (dats m 0 c).arrAt 6 cfg0.N = flat (duOf m c) := by
  refine (dats m 0 c).arrAt_eq_of_covers 6 _ (by decide +kernel) fun t _ y => ?_
  rw [after6]
  blk_simp
  refine stack_flat t _ _ (fun k tt h d => ?_) _ _ ?_ ?_
  · rw [duChunk_apply, blkU, blkV, blkY, blkG, blkW, blkB]; rfl
  · blk_simp [idx t]
    omega
  · blk_simp [idx t]
theorem arr7 : (dats m 0 c).arrAt 7 cfg0.N = flat (dvOf m c) := by
  refine (dats m 0 c).arrAt_eq_of_covers 7 _ (by decide +kernel) fun t _ y => ?_
  rw [after7]
  blk_simp
  refine stack_flat t _ _ (fun k tt h d => ?_) _ _ ?_ ?_
  · rw [dvChunk_apply, blkU, blkV, blkY, blkG, blkW]; rfl
  · blk_simp [idx t]
    omega
  · blk_simp [idx t]

/-! ## The three sums -/

/-- Eight steps that each add a term, from `z`: `z` and the eight terms. -/
theorem fold8_apply {ι : Type} (step : Fin 8 → (ι → EReal) → ι → EReal) (z : ι → EReal) (x : ι) (g : Fin 8 → EReal)
    (h : ∀ k old, step k old x = old x + g k) : fold8 step z x = z x + ∑ k, g k := by
  unfold fold8
  rw [h, h, h, h, h, h, h, h, Fin.sum_univ_eight]
  ac_rfl

/-- A sum over the points and their chunks is one over all the chunks. -/
theorem sum_chunks (f : Fin 64 → EReal) : ∑ p : Fin cfg0.N, ∑ k : Fin 8, f (chunk p k) = ∑ C, f C := by
  rw [Fin.sum_univ_tiles 8 8 rfl f]
  refine Fintype.sum_equiv (finCongr N_0) _ _ fun p => Finset.sum_congr rfl fun k _ => congrArg f (Fin.ext ?_)
  show 8 * p.val + k.val = p.val * 8 + k.val
  omega

/-- The last grid point. -/
def tLast : Fin cfg0.N := ⟨7, by rw [show cfg0.N = 8 from N_0]; decide⟩

/-- A sum that the first point starts from zero and each point adds its chunks' terms to: over all the chunks. -/
theorem sum_points (f : (n : ℕ) → n < cfg0.N → EReal) (g : Fin 64 → EReal)
    (h0 : ∀ t : Fin cfg0.N, t.val % 8 = 0 → f t.val t.isLt = 0 + ∑ k, g (chunk t k))
    (hs : ∀ t : Fin cfg0.N, ¬t.val % 8 = 0 →
      f t.val t.isLt = f (t.val - 1) (Nat.lt_of_le_of_lt (Nat.sub_le _ _) t.isLt) + ∑ k, g (chunk t k)) :
    f tLast.val tLast.isLt = ∑ C, g C := by
  rw [Pipeline.eq_sum_fin_of_reset_step_last f 8 0 (fun t => ∑ k : Fin 8, g (chunk t k)) h0 hs
    (by rw [show cfg0.N = 8 from N_0]) tLast (show 8 = cfg0.N from N_0.symm), zero_add, sum_chunks]

theorem zero8 (h : Fin 4) (i j : Fin 128) : ldMatF (k0_pay2 (F := Ideal)) h (ix3 0 i j) = 0 := by
  rw [ldMatF_apply]; pointwise [k0_pay2]
theorem zero9 (i : S128x512.Idx) : k0_pay3 (F := Ideal) i = 0 := by pointwise [k0_pay3]
theorem zero10 (i : S8x512.Idx) : k0_pay4 (F := Ideal) i = 0 := by pointwise [k0_pay4]

theorem step8 (h : Fin 4) (i j : Fin 128) (z : FVec Ideal S1x128x128 .f32) :
    fold8 (fun k => dwStep (ldRows (iblk m c 0 t) k) (ldRows (iblk m c 1 t) k) (ldRows (iblk m c 2 t) k) (ldGain (iblk m c 3 t) h) h) z (ix3 0 i j)
      = z (ix3 0 i j) + ∑ k, dwOf m c (chunk t k) h i j :=
  fold8_apply (ι := S1x128x128.Idx) _ z (ix3 0 i j) (fun k => dwOf m c (chunk t k) h i j) fun k old => by
    rw [dwStep_apply, blkU, blkV, blkY, blkG]; rfl
theorem step9 (h : Fin 4) (i j : Fin 128) (z : A) :
    fold8 (fun k => dbStep (ldRows (iblk m c 0 t) k) (ldRows (iblk m c 2 t) k)) z (ix2 i (col h j))
      = z (ix2 i (col h j)) + ∑ k, dbOf m c (chunk t k) i h j :=
  fold8_apply (ι := S128x512.Idx) _ z (ix2 i (col h j)) (fun k => dbOf m c (chunk t k) i h j) fun k old => by
    rw [dbStep_apply, blkU, blkY]; rfl
theorem step10 (e : Fin 8) (h : Fin 4) (j : Fin 128) (z : FVec Ideal S8x512 .f32) :
    fold8 (fun k => dgStep (ldRows (iblk m c 0 t) k) (ldRows (iblk m c 1 t) k) (ldRows (iblk m c 2 t) k) (ldMat (iblk m c 4 t))) z (ix2 e (col h j))
      = z (ix2 e (col h j)) + ∑ k, ∑ a : Fin 16, dgOf m c (chunk t k) ⟨a.val * 8 + e.val, by omega⟩ h j :=
  fold8_apply (ι := S8x512.Idx) _ z (ix2 e (col h j)) (fun k => ∑ a : Fin 16, dgOf m c (chunk t k) ⟨a.val * 8 + e.val, by omega⟩ h j) fun k old => by
    rw [dgStep_apply, blkU, blkV, blkY, blkW]; rfl

theorem mats_apply (f : Fin 4 → FVec Ideal S1x128x128 .f32) (h : Fin 4) (i j : Fin 128) : mats f (ix3 h i j) = f h (ix3 0 i j) := rfl

theorem after8 (h : Fin 4) (i j : Fin 128) : (dats m 0 c).after 8 tLast (ix3 h i j) = ∑ C, dwOf m c C h i j := by
  rw [after0_8]
  refine sum_points (fun n hn => (outsAt0 m c n hn).2.2.1 (ix3 h i j)) (fun C => dwOf m c C h i j) (fun t h0 => ?_) fun t h0 => ?_
  · rw [outsAt0_A m c t h0]; dsimp only; rw [outA_8, mats_apply, step8 m c t h i j, zero8]
  · rw [outsAt0_B m c t h0]; dsimp only; rw [outB_8, mats_apply, step8 m c t h i j, ldMatF_apply]
theorem after9 (h : Fin 4) (i j : Fin 128) : (dats m 0 c).after 9 tLast (ix2 i (col h j)) = ∑ C, dbOf m c C i h j := by
  rw [after0_9]
  refine sum_points (fun n hn => (outsAt0 m c n hn).2.2.2.1 (ix2 i (col h j))) (fun C => dbOf m c C i h j) (fun t h0 => ?_) fun t h0 => ?_
  · rw [outsAt0_A m c t h0]; dsimp only; rw [outA_9, step9 m c t h i j, zero9]
  · rw [outsAt0_B m c t h0]; dsimp only; rw [outB_9, step9 m c t h i j]
theorem after10 (e : Fin 8) (h : Fin 4) (j : Fin 128) : (dats m 0 c).after 10 tLast (ix2 e (col h j))
    = ∑ C, ∑ a : Fin 16, dgOf m c C ⟨a.val * 8 + e.val, by omega⟩ h j := by
  rw [after0_10]
  refine sum_points (fun n hn => (outsAt0 m c n hn).2.2.2.2 (ix2 e (col h j)))
    (fun C => ∑ a : Fin 16, dgOf m c C ⟨a.val * 8 + e.val, by omega⟩ h j) (fun t h0 => ?_) fun t h0 => ?_
  · rw [outsAt0_A m c t h0]; dsimp only; rw [outA_10, step10 m c t e h j, zero10]
  · rw [outsAt0_B m c t h0]; dsimp only; rw [outB_10, step10 m c t e h j]

theorem arr8 (h : Fin 4) (i j : Fin 128) : (dats m 0 c).arrAt 8 cfg0.N (ix3 h i j) = ∑ C, dwOf m c C h i j := by
  have e : (dats m 0 c).arrAt 8 cfg0.N = (dats m 0 c).after 8 tLast := by
    refine (dats m 0 c).arrAt_eq_of_after_last 8 tLast (by decide +kernel) _ fun j => ?_
    blk_simp
  rw [e, after8]
theorem arr9 (h : Fin 4) (i j : Fin 128) : (dats m 0 c).arrAt 9 cfg0.N (ix2 i (col h j)) = ∑ C, dbOf m c C i h j := by
  have e : (dats m 0 c).arrAt 9 cfg0.N = (dats m 0 c).after 9 tLast := by
    refine (dats m 0 c).arrAt_eq_of_after_last 9 tLast (by decide +kernel) _ fun j => ?_
    blk_simp
  rw [e, after9]
theorem arr10 (k : Fin 8) (h : Fin 4) (j : Fin 128) : (dats m 0 c).arrAt 10 cfg0.N (ix2 k (col h j))
    = ∑ C, ∑ a : Fin 16, dgOf m c C ⟨a.val * 8 + k.val, by omega⟩ h j := by
  have e : (dats m 0 c).arrAt 10 cfg0.N = (dats m 0 c).after 10 tLast := by
    refine (dats m 0 c).arrAt_eq_of_after_last 10 tLast (by decide +kernel) _ fun j => ?_
    blk_simp
  rw [e, after10]

end Cert.KernelIdeal.Gm

end
-- ==== Proof.GmHost.lean ====
/- The whole program of the gradient, host code and launch: what its five results hold, in terms of its arguments alone. -/
module

public import proofs.«01_k».proof.Proof.GmRun
public import Idealize.ShloMosaic.Lib.StableHlo.ReadAt

@[expose] public section

set_option maxRecDepth 16384

noncomputable section

namespace Cert.KernelIdeal.Gm

open Idealize.ShloMosaic Idealize.ShloMosaic.TcCoe Idealize.SL.Sem
open Idealize.ShloMosaic.Pipeline (Dat)
open Cert.KernelIdeal Cert.KernelIdeal.Gen Cert

variable (m : (ℓ : Loc nD τ sig) → Buf (Elt Ideal) ℓ) (ρ : Dev nD → PrngReg) (c : Dev nD)

/-! ## The arguments, and what the host code before the launch makes of them -/

abbrev argU : Fin 64 → Gate.Arr := chunkU (m ((c : Thread nD τ).loc main_arg0))
abbrev argV : Fin 64 → Gate.Arr := chunkV (m ((c : Thread nD τ).loc main_arg0))
abbrev argY : Fin 64 → Gate.Arr := chunkY (m ((c : Thread nD τ).loc main_arg1))
abbrev argG : Fin 4 → Fin 128 → EReal := fun h d => m ((c : Thread nD τ).loc main_arg2) (ix1 (col h d))
abbrev argW : Fin 4 → Fin 128 → Fin 128 → EReal := fun h t k => m ((c : Thread nD τ).loc main_arg3) (ix3 h t k)
abbrev argB : Fin 4 → Fin 128 → EReal := fun h t => m ((c : Thread nD τ).loc main_arg4) (ix2 h t)

theorem gain_eq : gainOf (V m c main_v8) = argG m c := by
  funext h d
  show V m c main_v8 _ = _
  unfold V V0
  simp only [List.flatten_cons, List.flatten_nil, List.cons_append, List.nil_append]
  after_reads_at

theorem mask_eq (t s : Fin 128) : V m c main_v1 (ix2 t s) = Gate.mask t s := by
  unfold V V0
  simp only [List.flatten_cons, List.flatten_nil, List.cons_append, List.nil_append]
  after_reads_at
  rfl

theorem const_zero : id (constant (F := Ideal) S_ FTy.f32 0#32) ix0 = (0 : EReal) := by
  show constant (F := Ideal) S_ FTy.f32 0#32 ix0 = 0
  pointwise

theorem mat_eq : matOf (V m c main_v4) = Gate.masked (argW m c) := by
  funext h t s
  show V m c main_v4 _ = _
  unfold V V0
  simp only [List.flatten_cons, List.flatten_nil, List.cons_append, List.nil_append]
  after_reads_at
  rw [const_zero]
  rfl

theorem bias_eq : biasOf (V m c main_v7) = Gate.biases (argB m c) := by
  funext t h d
  show V m c main_v7 _ = _
  unfold V V0
  simp only [List.flatten_cons, List.flatten_nil, List.cons_append, List.nil_append]
  after_reads_at
  show m (c, Proc.tc.devRef main_arg4) _ = m (c, Proc.tc.devRef main_arg4) _
  exact congrArg _ (congrArg (ix2 · t) (Fin.ext (by show (128 * h.val + d.val) / 128 = h.val; omega)))

theorem duOf_eq : duOf m c = Gate.duAll (argU m c) (argV m c) (argY m c) (argG m c) (argW m c) (argB m c) := by
  funext C; rw [duOf, V_main_arg0, V_main_arg1, gain_eq, mat_eq, bias_eq]; rfl
theorem dvOf_eq : dvOf m c = Gate.dvAll (argU m c) (argV m c) (argY m c) (argG m c) (argW m c) := by
  funext C; rw [dvOf, V_main_arg0, V_main_arg1, gain_eq, mat_eq]; rfl
theorem dwOf_eq (C : Fin 64) : dwOf m c C = Gate.dw (argU m c C) (argV m c C) (argY m c C) (argG m c) := by
  rw [dwOf, V_main_arg0, V_main_arg1, gain_eq]
theorem dbOf_eq (C : Fin 64) : dbOf m c C = Gate.ds (argU m c C) (argY m c C) := by
  rw [dbOf, V_main_arg0, V_main_arg1]
theorem dgOf_eq (C : Fin 64) : dgOf m c C = Gate.dg (argU m c C) (argV m c C) (argY m c C) (Gate.masked (argW m c)) := by
  rw [dgOf, V_main_arg0, V_main_arg1, mat_eq]

/-! ## The host code after the launch -/

abbrev tail (b : Ref sig .tc) := Pipeline.afterTail₀ cfgs (dats m) 0 (V0 m) [hostOps1, hostOps1_1, hostOps1_2] c b
abbrev arrs := Pipeline.withArrays (cfgs 0).spec c (V0 m c) fun w => (dats m 0 c).arrAt w (cfgs 0).N

theorem arrs_arr (w : Fin 11) : arrs m c (Proc.devRef .tc (Pipeline.arrRef spec0 w)) = (dats m 0 c).arrAt w cfg0.N :=
  (dats m 0 c).withArrays_arrAt sharedIn0 (V0 m c) (fun w => A_eq m c w) w

theorem sum_rows (f : Fin 64 → Fin 128 → EReal) :
    (∑ k : Fin 8, ∑ C, ∑ a : Fin 16, f C ⟨a.val * 8 + k.val, by omega⟩) = ∑ C, ∑ t, f C t := by
  rw [Finset.sum_comm]
  refine Finset.sum_congr rfl fun C _ => ?_
  rw [Finset.sum_comm, Fin.sum_univ_tiles 16 8 (by norm_num) (f C)]

theorem tail_gain (h : Fin 4) (d : Fin 128) :
    tail m c main_v10 (ix1 (col h d)) = Gate.dgAll (argU m c) (argV m c) (argY m c) (argW m c) h d := by
  unfold tail Pipeline.afterTail₀
  simp only [List.flatten_cons, List.flatten_nil, List.cons_append, List.nil_append]
  after_reads_at
  show (∑ x : Fin 8, arrs m c (Proc.devRef .tc (Pipeline.arrRef spec0 10)) (ix2 x (col h d)) : EReal) = _
  rw [arrs_arr]
  simp only [arr10, dgOf_eq]
  exact sum_rows fun C t => Gate.dg (argU m c C) (argV m c C) (argY m c C) (Gate.masked (argW m c)) t h d

theorem tail_weights (h : Fin 4) (i j : Fin 128) :
    tail m c main_v12 (ix3 h i j) = Gate.dwAll (argU m c) (argV m c) (argY m c) (argG m c) h i j := by
  unfold tail Pipeline.afterTail₀
  simp only [List.flatten_cons, List.flatten_nil, List.cons_append, List.nil_append]
  after_reads_at
  have e : arrs m c (Proc.devRef .tc main_v1) (ix2 i j) = Gate.mask i j :=
    (congrFun (Pipeline.withArrays_of_ne spec0 c (V0 m c) _ main_v1 (by exact (by decide : ∀ w, Pipeline.arrRef spec0 w ≠ main_v1))) _).trans
      (mask_eq m c i j)
  show Scalar.select (arrs m c (Proc.devRef .tc main_v1) (ix2 i j))
    (arrs m c (Proc.devRef .tc (Pipeline.arrRef spec0 8)) (ix3 h i j)) _ = _
  rw [arrs_arr, arr8, e, const_zero]
  simp only [dwOf_eq]
  rfl

theorem tail_bias (h : Fin 4) (t : Fin 128) :
    tail m c main_v15 (ix2 h t) = Gate.dbAll (argU m c) (argY m c) h t := by
  unfold tail Pipeline.afterTail₀
  simp only [List.flatten_cons, List.flatten_nil, List.cons_append, List.nil_append]
  after_reads_at
  have e (x : Fin 128) (p : h.val * 128 + x.val < 512) : (⟨h.val * 128 + x.val, p⟩ : Fin 512) = col h x :=
    Fin.ext (by show h.val * 128 + x.val = 128 * h.val + x.val; omega)
  simp only [e]
  show (∑ x : Fin 128, arrs m c (Proc.devRef .tc (Pipeline.arrRef spec0 9)) (ix2 t (col h x)) : EReal) = _
  rw [arrs_arr]
  simp only [arr9, dbOf_eq]
  rw [Finset.sum_comm, Gate.dbAll]

/-! ## The run -/

/-- What the five results are of the arguments `z`, `y`, `G`, `W`, `B`. -/
structure Results (U V Y : Fin 64 → Gate.Arr) (G : Fin 4 → Fin 128 → EReal) (W : Fin 4 → Fin 128 → Fin 128 → EReal)
    (B : Fin 4 → Fin 128 → EReal) (du dv : Vec (F := Ideal) S8192x512 .f32) (dg : Vec (F := Ideal) S512 .f32)
    (dw : Vec (F := Ideal) S4x128x128 .f32) (db : Vec (F := Ideal) S4x128 .f32) : Prop where
  du : du = flat (Gate.duAll U V Y G W B)
  dv : dv = flat (Gate.dvAll U V Y G W)
  dg : ∀ h d, dg (ix1 (col h d)) = Gate.dgAll U V Y W h d
  dw : ∀ h i j, dw (ix3 h i j) = Gate.dwAll U V Y G h i j
  db : ∀ h t, db (ix2 h t) = Gate.dbAll U Y h t

theorem run : θ_run (defs (F := Ideal)) (onTc (τ := τ) (main (F := Ideal))) (s₀ m ρ) fun r => ∀ c : Dev nD,
    Results (argU m c) (argV m c) (argY m c) (argG m c) (argW m c) (argB m c)
      (r.2.mem ((c : Thread nD τ).loc main_v9_0)) (r.2.mem ((c : Thread nD τ).loc main_v9_1))
      (r.2.mem ((c : Thread nD τ).loc main_v10)) (r.2.mem ((c : Thread nD τ).loc main_v12))
      (r.2.mem ((c : Thread nD τ).loc main_v15)) := by
  refine (θ_run (defs (F := Ideal)) _ _).mono (fun r h c => ?_) (run_main m ρ)
  refine ⟨((h c).1 6).trans ((arr6 m c).trans (by rw [duOf_eq])), ((h c).1 7).trans ((arr7 m c).trans (by rw [dvOf_eq])),
    fun a d => ?_, fun a i j => ?_, fun a t => ?_⟩
  · rw [(h c).2 main_v10 (Pipeline.mem_restRefs_of main_v10 (by decide) (by decide))]
    exact tail_gain m c a d
  · rw [(h c).2 main_v12 (Pipeline.mem_restRefs_of main_v12 (by decide) (by decide))]
    exact tail_weights m c a i j
  · rw [(h c).2 main_v15 (Pipeline.mem_restRefs_of main_v15 (by decide) (by decide))]
    exact tail_bias m c a t

end Cert.KernelIdeal.Gm

end
-- ==== Proof.RefGate.lean ====
/- The reference's values read element by element: the gated mixing and the terms of its gradient, chunk by chunk. -/
module

public import proofs.«01_k».proof.Proof.Gen.ReferenceIdeal.Read
public import proofs.«01_k».proof.Proof.GateReal
public import Idealize.ShloMosaic.Lib.Pointwise

@[expose] public section

set_option maxRecDepth 16384

noncomputable section

namespace Cert.ReferenceIdeal.Gm

open Cert.ReferenceIdeal Cert.ReferenceIdeal.Gen Cert.ReferenceIdeal.Read Idealize.ShloMosaic Cert

/-- Chunk `n` of batch entry `b` of the 64; a token of it within the entry; a column of a head's channel. -/
abbrev ch (b : Fin 4) (n : Fin 16) : Fin 64 := ⟨16 * b.val + n.val, by omega⟩
abbrev tok (n : Fin 16) (t : Fin 128) : Fin 2048 := ⟨128 * n.val + t.val, by omega⟩
abbrev col (h : Fin 4) (d : Fin 128) : Fin 512 := ⟨128 * h.val + d.val, by omega⟩

variable (x0 : Vec Ideal S8192x1536 .f32) (x1 : Vec Ideal S8192x512 .f32) (x2 : Vec Ideal S512 .f32)
  (x3 : Vec Ideal S4x128x128 .f32) (x4 : Vec Ideal S4x128 .f32)

abbrev U (C : Fin 64) : Gate.Arr := fun t h d => x0 (ix2 ⟨128 * C.val + t.val, by omega⟩ ⟨512 + (128 * h.val + d.val), by omega⟩)
abbrev V (C : Fin 64) : Gate.Arr := fun t h d => x0 (ix2 ⟨128 * C.val + t.val, by omega⟩ ⟨1024 + (128 * h.val + d.val), by omega⟩)
abbrev Y (C : Fin 64) : Gate.Arr := fun t h d => x1 (ix2 ⟨128 * C.val + t.val, by omega⟩ (col h d))
abbrev G : Fin 4 → Fin 128 → EReal := fun h d => x2 (ix1 (col h d))
abbrev W : Fin 4 → Fin 128 → Fin 128 → EReal := fun h t k => x3 (ix3 h t k)
abbrev B : Fin 4 → Fin 128 → EReal := fun h t => x4 (ix2 h t)

variable (b : Fin 4) (n : Fin 16) (t : Fin 128) (h : Fin 4) (d : Fin 128)

/-! ## Indices -/

theorem i47 : idx_main_v47 (ix5 b n t h d) = ix3 b (tok n t) (col h d) := by
  funext a; fin_cases a <;> refine Fin.ext ?_ <;> simp [ix3, ix5] <;> omega
theorem i81 : idx_main_v81 (ix5 b n t h d) = ix3 b (tok n t) (col h d) := i47 b n t h d
theorem i76 : idx_main_v76 (ix3 b (tok n t) (col h d)) = ix5 b n t h d := by
  funext a; fin_cases a <;> refine Fin.ext ?_ <;> simp [ix3, ix5] <;> omega
theorem i112 : idx_main_v112 (ix3 b (tok n t) (col h d)) = ix5 b n t h d := i76 b n t h d

theorem u_eq : val_main_v1 x0 (ix3 b (tok n t) (col h d)) = U x0 (ch b n) t h d := by
  rw [val_main_v1_apply, val_main_v0_apply]
  refine congrArg x0 ?_
  funext a; fin_cases a <;> refine Fin.ext ?_ <;> simp [ix3, ix2] <;> omega
theorem v_eq : val_main_v2 x0 (ix3 b (tok n t) (col h d)) = V x0 (ch b n) t h d := by
  rw [val_main_v2_apply, val_main_v0_apply]
  refine congrArg x0 ?_
  funext a; fin_cases a <;> refine Fin.ext ?_ <;> simp [ix3, ix2] <;> omega
theorem y_eq : val_main_v78 x1 (ix3 b (tok n t) (col h d)) = Y x1 (ch b n) t h d := by
  rw [val_main_v78_apply]
  refine congrArg x1 ?_
  funext a; fin_cases a <;> refine Fin.ext ?_ <;> simp [ix3, ix2] <;> omega

/-! ## The nonlinearity -/

theorem th_u (i : S4x2048x512.Idx) : val_main_v14 x0 i = Gate.th (val_main_v1 x0 i) := by
  simp only [val_main_v14_apply, val_main_v13_apply, val_main_v12_apply, val_main_cst_2_apply, val_main_v11_apply,
    val_main_v10_apply, val_main_v9_apply, val_main_v3_apply, val_main_cst_apply, val_main_cst_0_apply, val_main_v5_apply,
    val_main_v4_apply]
  generalize val_main_v1 x0 i = x
  show Ideal.tanh (Gate.K * (x + Ideal.div (Ideal.ofBits .f32 0x472EAB00#32) (Ideal.ofBits .f32 0x49742400#32) * (x * x * x))) = _
  rw [Gate.c_div, Gate.th_eq]
theorem th_v (i : S4x2048x512.Idx) : val_main_v36 x0 i = Gate.th (val_main_v2 x0 i) := by
  simp only [val_main_v36_apply, val_main_v35_apply, val_main_v34_apply, val_main_cst_10_apply, val_main_v33_apply,
    val_main_v32_apply, val_main_v31_apply, val_main_v25_apply, val_main_cst_7_apply, val_main_cst_8_apply, val_main_v27_apply,
    val_main_v26_apply]
  generalize val_main_v2 x0 i = x
  show Ideal.tanh (Gate.K * (x + Ideal.div (Ideal.ofBits .f32 0x472EAB00#32) (Ideal.ofBits .f32 0x49742400#32) * (x * x * x))) = _
  rw [Gate.c_div, Gate.th_eq]
theorem act_u (i : S4x2048x512.Idx) : val_main_v24 x0 i = Gate.act (val_main_v1 x0 i) := by
  simp only [val_main_v24_apply, val_main_v23_apply, val_main_v22_apply, val_main_cst_6_apply, val_main_v21_apply,
    val_main_v20_apply, val_main_cst_5_apply, th_u]
  generalize val_main_v1 x0 i = x
  show x * (Gate.half * (Ideal.ofBits .f32 0x3F800000#32 + Gate.th x)) = _
  rw [Ideal.ofBits_one_f32, Gate.act_eq]
theorem act_v (i : S4x2048x512.Idx) : val_main_v46 x0 i = Gate.act (val_main_v2 x0 i) := by
  simp only [val_main_v46_apply, val_main_v45_apply, val_main_v44_apply, val_main_cst_14_apply, val_main_v43_apply,
    val_main_v42_apply, val_main_cst_13_apply, th_v]
  generalize val_main_v2 x0 i = x
  show x * (Gate.half * (Ideal.ofBits .f32 0x3F800000#32 + Gate.th x)) = _
  rw [Ideal.ofBits_one_f32, Gate.act_eq]

/-- What flows back through the nonlinearity of `u`, of `v`, is the cotangent times the derivative. -/
theorem back_u (i : S4x2048x512.Idx) (hx : Gate.IsReal (val_main_v1 x0 i)) (hy : Gate.IsReal (val_main_v80 x0 x1 x2 x3 x4 i)) :
    val_main_v136 x0 x1 x2 x3 x4 i = val_main_v80 x0 x1 x2 x3 x4 i * Gate.act' (val_main_v1 x0 i) := by
  simp only [val_main_v136_apply, val_main_v132_apply, val_main_v135_apply, val_main_v134_apply, val_main_v133_apply,
    val_main_v131_apply, val_main_v130_apply, val_main_v129_apply, val_main_v128_apply, val_main_v127_apply,
    val_main_v126_apply, val_main_v125_apply, val_main_v23_apply, val_main_v22_apply, val_main_v21_apply, val_main_v20_apply,
    val_main_v19_apply, val_main_v18_apply, val_main_v17_apply, val_main_v16_apply, val_main_v15_apply, val_main_v8_apply,
    val_main_v7_apply, val_main_v6_apply, val_main_v3_apply, val_main_cst_apply, val_main_cst_0_apply, val_main_cst_1_apply,
    val_main_cst_3_apply, val_main_cst_4_apply, val_main_cst_5_apply, val_main_cst_6_apply, val_main_cst_29_apply,
    val_main_cst_30_apply, th_u]
  generalize val_main_v1 x0 i = x at *
  generalize val_main_v80 x0 x1 x2 x3 x4 i = y at *
  rw [← Gate.act_back hx hy, ← Gate.c_div, ← Ideal.ofBits_one_f32]
  rfl
theorem back_v (i : S4x2048x512.Idx) (hx : Gate.IsReal (val_main_v2 x0 i)) (hy : Gate.IsReal (val_main_v112 x0 x1 x2 x3 i)) :
    val_main_v124 x0 x1 x2 x3 i = val_main_v112 x0 x1 x2 x3 i * Gate.act' (val_main_v2 x0 i) := by
  simp only [val_main_v124_apply, val_main_v120_apply, val_main_v123_apply, val_main_v122_apply, val_main_v121_apply,
    val_main_v119_apply, val_main_v118_apply, val_main_v117_apply, val_main_v116_apply, val_main_v115_apply,
    val_main_v114_apply, val_main_v113_apply, val_main_v45_apply, val_main_v44_apply, val_main_v43_apply, val_main_v42_apply,
    val_main_v41_apply, val_main_v40_apply, val_main_v39_apply, val_main_v38_apply, val_main_v37_apply, val_main_v30_apply,
    val_main_v29_apply, val_main_v28_apply, val_main_v25_apply, val_main_cst_7_apply, val_main_cst_8_apply, val_main_cst_9_apply,
    val_main_cst_11_apply, val_main_cst_12_apply, val_main_cst_13_apply, val_main_cst_14_apply, val_main_cst_27_apply,
    val_main_cst_28_apply, th_v]
  generalize val_main_v2 x0 i = x at *
  generalize val_main_v112 x0 x1 x2 x3 i = y at *
  rw [← Gate.act_back hx hy, ← Gate.c_div, ← Ideal.ofBits_one_f32]
  rfl

/-! ## The normalisation and the mixing -/

theorem v47_eq : val_main_v47 x0 (ix5 b n t h d) = Gate.act (V x0 (ch b n) t h d) := by
  rw [val_main_v47_apply, i47, act_v, v_eq]

/-- The index of a token's and head's one value. -/
abbrev one : S4x16x128x4x1.Idx := ix5 b n t h 0

theorem msq_eq : val_main_v55 x0 (one b n t h) = Gate.msq (V x0 (ch b n)) t h := by
  simp only [val_main_v55_apply, val_main_v54_apply, val_main_v53_apply, val_main_v52_apply, val_main_v51_apply,
    val_main_v50_apply, val_main_v49_apply, val_main_cst_15_apply, val_main_cst_16_apply, val_main_cst_17_apply]
  have e (k : Fin 128) : idx_main_v50 (idx_main_v51 (one b n t h)) k = ix5 b n t h k := by
    funext a; fin_cases a <;> rfl
  simp only [e, v47_eq]
  show Ideal.div (Ideal.ofBits .f32 0x00000000#32 + _) Gate.n + Gate.eps = _
  rw [Ideal.ofBits_zero_f32, zero_add]
  rfl
theorem r_eq : val_main_v56 x0 (one b n t h) = Gate.r (V x0 (ch b n)) t h := by
  rw [val_main_v56_apply, msq_eq]; rfl
theorem xh_eq : val_main_v61 x0 (ix5 b n t h d) = Gate.xh (V x0 (ch b n)) t h d := by
  have e : idx_main_v60 (ix5 b n t h d) = one b n t h := by funext a; fin_cases a <;> rfl
  rw [val_main_v61_apply, val_main_v60_apply, e, r_eq, v47_eq]; rfl
theorem g_eq (i : S1x1x1x4x128.Idx) (hi : i 3 = h) (hd : i 4 = d) : val_main_v62 x2 i = G x2 h d := by
  rw [val_main_v62_apply, val_main_v48_apply]
  refine congrArg x2 ?_
  subst hi hd
  funext a; fin_cases a; refine Fin.ext ?_; simp [ix1]; omega
theorem nv_eq : val_main_v64 x0 x2 (ix5 b n t h d) = Gate.nv (V x0 (ch b n)) (G x2) t h d := by
  rw [val_main_v64_apply, val_main_v63_apply, g_eq x2 h d _ rfl rfl, xh_eq]; rfl
theorem mask_eq (i : S128x128.Idx) : val_main_v66 (F := Ideal) i = Gate.mask (i 0) (i 1) := by
  simp only [val_main_v66_apply, val_main_call0_v4_apply, val_main_call0_v2_apply, val_main_call0_v0_apply,
    val_main_call0_v1_apply, val_main_call0_c_apply, val_main_call0_v3_apply, val_main_v65_apply, val_main_c_apply,
    val_main_call0_v5_apply, val_main_call0_c_0_apply]
  rfl
theorem mask_eq' (k : Fin 128) : val_main_v69_1 (F := Ideal) (ix3 h t k) = Gate.mask t k := by
  rw [val_main_v69_1_apply, val_main_v67_apply, mask_eq]; rfl
theorem w_eq (k : Fin 128) : val_main_v69_0 x3 (ix3 h t k) = Gate.masked (W x3) h t k := by
  rw [val_main_v69_0_apply, mask_eq', val_main_v68_apply, val_main_cst_19_apply]
  show Scalar.select _ _ (Ideal.ofBits .f32 0x00000000#32) = _
  rw [Ideal.ofBits_zero_f32]; rfl
theorem s_eq : val_main_v75 x0 x2 x3 x4 (ix5 b n t h d)
    = Gate.s (V x0 (ch b n)) (G x2) (Gate.masked (W x3)) (Gate.biases (B x4)) t h d := by
  rw [val_main_v75_apply, val_main_v71_apply, val_main_v70_apply, val_main_v74_apply, val_main_v73_apply, val_main_v72_apply]
  have el (k : Fin 128) : lidx_main_v70 (idx_main_v71 (ix5 b n t h d)) k = ix5 b n k h d := by funext a; fin_cases a <;> rfl
  have er (k : Fin 128) : ridx_main_v70 (idx_main_v71 (ix5 b n t h d)) k = ix3 h t k := by funext a; fin_cases a <;> rfl
  have eb : idx_main_v72 (idx_main_v73 (idx_main_v74 (ix5 b n t h d))) = ix2 h t := by funext a; fin_cases a <;> rfl
  simp only [el, er, eb, nv_eq, w_eq]
  refine congrArg (· + B x4 h t) (Finset.sum_congr rfl fun k _ => mul_comm _ _)

/-! ## What flows back -/

theorem ds_eq : val_main_v81 x0 x1 (ix5 b n t h d) = Gate.ds (U x0 (ch b n)) (Y x1 (ch b n)) t h d := by
  rw [val_main_v81_apply, i81, val_main_v79_apply, act_u, u_eq, y_eq]; exact mul_comm _ _
theorem ds_eq' : val_main_v86 x0 x1 (ix5 h b n d t) = Gate.ds (U x0 (ch b n)) (Y x1 (ch b n)) t h d := by
  have e : idx_main_v86 (ix5 h b n d t) = ix5 b n t h d := by funext a; fin_cases a <;> rfl
  rw [val_main_v86_apply, e, ds_eq]
theorem dn_eq : val_main_v89 x0 x1 x3 (ix5 b n t h d)
    = Gate.dn (U x0 (ch b n)) (Y x1 (ch b n)) (Gate.masked (W x3)) t h d := by
  rw [val_main_v89_apply, val_main_v88_apply]
  have el (k : Fin 128) : lidx_main_v88 (idx_main_v89 (ix5 b n t h d)) k = ix5 h b n d k := by funext a; fin_cases a <;> rfl
  have er (k : Fin 128) : ridx_main_v88 (idx_main_v89 (ix5 b n t h d)) k = ix3 h k t := by funext a; fin_cases a <;> rfl
  simp only [el, er, ds_eq', w_eq]
  exact Finset.sum_congr rfl fun k _ => mul_comm _ _
theorem dx_eq : val_main_v95 x0 x1 x2 x3 (ix5 b n t h d)
    = Gate.dx (U x0 (ch b n)) (Y x1 (ch b n)) (G x2) (Gate.masked (W x3)) t h d := by
  rw [val_main_v95_apply, val_main_v94_apply, g_eq x2 h d _ rfl rfl, dn_eq]; rfl

variable (h0 : ∀ i, Gate.IsReal (x0 i)) (h1 : ∀ i, Gate.IsReal (x1 i)) (h2 : ∀ i, Gate.IsReal (x2 i))
  (h3 : ∀ i, Gate.IsReal (x3 i)) (h4 : ∀ i, Gate.IsReal (x4 i))

include h0 h1 h2 h3 in
theorem norm_eq : val_main_v110 x0 x1 x2 x3 (ix5 b n t h d)
    = Gate.r (V x0 (ch b n)) t h * (Gate.dx (U x0 (ch b n)) (Y x1 (ch b n)) (G x2) (Gate.masked (W x3)) t h d
      - Gate.xh (V x0 (ch b n)) t h d * Ideal.div (∑ e, Gate.dx (U x0 (ch b n)) (Y x1 (ch b n)) (G x2) (Gate.masked (W x3)) t h e
        * Gate.xh (V x0 (ch b n)) t h e) Gate.n) := by
  rw [← Gate.norm_back (v := V x0 (ch b n)) (x := Gate.dx (U x0 (ch b n)) (Y x1 (ch b n)) (G x2) (Gate.masked (W x3)))
    (fun _ _ _ => h0 _) (Gate.dx_real (fun _ _ _ => h0 _) (fun _ _ _ => h1 _) (fun _ _ => h2 _) (Gate.IsReal.masked fun _ _ _ => h3 _)) t h d]
  have e100 : idx_main_v100 (ix5 b n t h d) = one b n t h := by funext a; fin_cases a <;> rfl
  have e105 (k : Fin 1) : idx_main_v105 (idx_main_v106 (ix5 b n t h d)) k = one b n t h := by
    funext a; fin_cases a <;> first | rfl | exact Fin.ext (by have := k.isLt; show k.val = 0; omega)
  have e98 (k : Fin 128) : idx_main_v98 (idx_main_v99 (one b n t h)) k = ix5 b n t h k := by
    funext a; fin_cases a <;> refine Fin.ext ?_ <;> simp [one, ix5] <;> omega
  simp only [val_main_v110_apply, val_main_v109_apply, val_main_v108_apply, val_main_v107_apply, val_main_v106_apply,
    val_main_v105_apply, val_main_v104_apply, val_main_v103_apply, val_main_v102_apply, val_main_v101_apply, val_main_v100_apply,
    val_main_v99_apply, val_main_v98_apply, val_main_v97_apply, val_main_v59_apply, val_main_v58_apply, val_main_v57_apply,
    val_main_cst_18_apply, val_main_cst_24_apply, val_main_cst_25_apply, val_main_cst_26_apply,
    e100, e105, e98, r_eq, msq_eq, dx_eq, v47_eq, Fin.sum_univ_one]
  simp only [Ideal.addf_def, Ideal.mulf_def, Ideal.hostDivf_def, Ideal.ofBits_def, Ideal.ofBits_zero_f32, zero_add]
  rfl

/-! ## The five results -/

abbrev row (b : Fin 4) (n : Fin 16) (t : Fin 128) : Fin 8192 := ⟨128 * (ch b n).val + t.val, by show 128 * (16 * b.val + n.val) + t.val < 8192; omega⟩

include h0 h1 h2 h3 h4 in
theorem du_eq : val_main_v137 x0 x1 x2 x3 x4 (ix2 (row b n t) (col h d))
    = Gate.duAll (U x0) (V x0) (Y x1) (G x2) (W x3) (B x4) (ch b n) t h d := by
  have e : idx_main_v137 (ix2 (row b n t) (col h d)) = ix3 b (tok n t) (col h d) := by
    funext a; fin_cases a <;> refine Fin.ext ?_ <;> simp [ix2, ix3] <;> omega
  have hs : val_main_v80 x0 x1 x2 x3 x4 (ix3 b (tok n t) (col h d)) = Y x1 (ch b n) t h d
      * Gate.s (V x0 (ch b n)) (G x2) (Gate.masked (W x3)) (Gate.biases (B x4)) t h d := by
    rw [val_main_v80_apply, val_main_v76_apply, i76, s_eq, y_eq]; rfl
  rw [val_main_v137_apply, e, back_u, u_eq, hs]
  · rfl
  · rw [u_eq]; exact h0 _
  · rw [hs]
    exact (h1 _).mul (Gate.s_real (fun _ _ _ => h0 _) (fun _ _ => h2 _) (Gate.IsReal.masked fun _ _ _ => h3 _) (fun _ _ _ => h4 _) t h d)

include h0 h1 h2 h3 in
theorem dv_eq : val_main_v138 x0 x1 x2 x3 (ix2 (row b n t) (col h d))
    = Gate.dvAll (U x0) (V x0) (Y x1) (G x2) (W x3) (ch b n) t h d := by
  have e : idx_main_v138 (ix2 (row b n t) (col h d)) = ix3 b (tok n t) (col h d) := by
    funext a; fin_cases a <;> refine Fin.ext ?_ <;> simp [ix2, ix3] <;> omega
  have hs := norm_eq x0 x1 x2 x3 b n t h d h0 h1 h2 h3
  rw [← i112, ← val_main_v112_apply] at hs
  rw [val_main_v138_apply, e, back_v, v_eq, hs]
  · rfl
  · rw [v_eq]; exact h0 _
  · rw [hs]
    exact Gate.dv_pre_real (fun _ _ _ => h0 _) (fun _ _ _ => h0 _) (fun _ _ _ => h1 _) (fun _ _ => h2 _)
      (Gate.IsReal.masked fun _ _ _ => h3 _) t h d

/-- The 64 chunks entry by entry. -/
theorem sum_ch (f : Fin 64 → EReal) : (∑ b : Fin 4, ∑ n : Fin 16, f (ch b n)) = ∑ C, f C := by
  rw [Fin.sum_univ_tiles 4 16 (by norm_num) f]
  exact Finset.sum_congr rfl fun b _ => Finset.sum_congr rfl fun n _ => congrArg f (Fin.ext (by show 16 * b.val + n.val = b.val * 16 + n.val; omega))

/-- A sum over a batch entry, a chunk and a channel, at a token and a head; over a batch entry, a chunk and a token. -/
theorem sum_d014 {n0 n1 n2 n3 n4 : ℕ} (hr : (⟨5, ![n0, n1, n2, n3, n4]⟩ : Shape).ReducesTo [0, 1, 4] ⟨2, ![n2, n3]⟩)
    (x : (⟨5, ![n0, n1, n2, n3, n4]⟩ : Shape).Idx → EReal) (z : EReal) (t : Fin n2) (h : Fin n3) :
    Ideal.hostReduceAdd hr x z (ix2 t h) = z + ∑ b, ∑ n, ∑ d, x (ix5 b n t h d) := by
  have e (b : Fin n0) (n : Fin n1) (t' : Fin n2) (h' : Fin n3) (d : Fin n4) :
      hr.drop (ix5 b n t' h' d) = ix2 t h ↔ t' = t ∧ h' = h :=
    ⟨fun k => ⟨Fin.ext (congrArg Fin.val (congrFun k 0)), Fin.ext (congrArg Fin.val (congrFun k 1))⟩,
      by rintro ⟨rfl, rfl⟩; funext a; fin_cases a <;> rfl⟩
  rw [Ideal.hostReduceAdd, Finset.sum_filter, sum_idx5]
  simp only [e, ite_and, Finset.sum_ite_irrel, Finset.sum_const_zero, Finset.sum_ite_eq', Finset.mem_univ, if_true]
theorem sum_d012 {n0 n1 n2 n3 n4 : ℕ} (hr : (⟨5, ![n0, n1, n2, n3, n4]⟩ : Shape).ReducesTo [0, 1, 2] ⟨2, ![n3, n4]⟩)
    (x : (⟨5, ![n0, n1, n2, n3, n4]⟩ : Shape).Idx → EReal) (z : EReal) (h : Fin n3) (d : Fin n4) :
    Ideal.hostReduceAdd hr x z (ix2 h d) = z + ∑ b, ∑ n, ∑ t, x (ix5 b n t h d) := by
  have e (b : Fin n0) (n : Fin n1) (t : Fin n2) (h' : Fin n3) (d' : Fin n4) :
      hr.drop (ix5 b n t h' d') = ix2 h d ↔ h' = h ∧ d' = d :=
    ⟨fun k => ⟨Fin.ext (congrArg Fin.val (congrFun k 0)), Fin.ext (congrArg Fin.val (congrFun k 1))⟩,
      by rintro ⟨rfl, rfl⟩; funext a; fin_cases a <;> rfl⟩
  rw [Ideal.hostReduceAdd, Finset.sum_filter, sum_idx5]
  simp only [e, ite_and, Finset.sum_ite_irrel, Finset.sum_const_zero, Finset.sum_ite_eq', Finset.mem_univ, if_true]

theorem v82_eq : val_main_v82 x0 x1 (ix2 t h) = ∑ C, ∑ d, Gate.ds (U x0 C) (Y x1 C) t h d := by
  rw [← sum_ch]
  unfold val_main_v82
  simp only [Host.reduceAdd, Ideal.hostReduceAdd_def]
  rw [sum_d014, val_main_cst_20_apply]
  simp only [ds_eq]
  show Ideal.ofBits .f32 0x00000000#32 + _ = _
  rw [Ideal.ofBits_zero_f32, zero_add]
theorem db_eq : val_main_v85 x0 x1 (ix2 h t) = Gate.dbAll (U x0) (Y x1) h t := by
  have e : idx_main_v85 (ix2 h t) = ix2 t h := by funext a; fin_cases a <;> rfl
  have e' (k b n : Fin 1) : idx_main_v83 (ix5 b n t h k) = ix2 t h := by
    funext a; fin_cases a <;> refine Fin.ext ?_ <;> simp [ix2, ix5] <;> omega
  rw [val_main_v85_apply, e, val_main_v84]
  simp only [Host.reduceAdd, Ideal.hostReduceAdd_def]
  rw [sum_d014, val_main_cst_21_apply]
  simp only [Fin.sum_univ_one, val_main_v83_apply, e', v82_eq]
  show Ideal.ofBits .f32 0x00000000#32 + _ = _
  rw [Ideal.ofBits_zero_f32, zero_add]; rfl

theorem v92_eq : val_main_v92 x0 x1 x3 (ix2 h d) = ∑ C, ∑ t, Gate.dg (U x0 C) (V x0 C) (Y x1 C) (Gate.masked (W x3)) t h d := by
  rw [← sum_ch]
  unfold val_main_v92
  simp only [Host.reduceAdd, Ideal.hostReduceAdd_def]
  rw [sum_d012, val_main_cst_22_apply]
  simp only [val_main_v91_apply, xh_eq, dn_eq]
  show Ideal.ofBits .f32 0x00000000#32 + _ = _
  rw [Ideal.ofBits_zero_f32, zero_add]
  exact Finset.sum_congr rfl fun b _ => Finset.sum_congr rfl fun n _ => Finset.sum_congr rfl fun t _ => mul_comm _ _
theorem dg_eq : val_main_v111 x0 x1 x3 (ix1 (col h d)) = Gate.dgAll (U x0) (V x0) (Y x1) (W x3) h d := by
  have e : idx_main_v111 (ix1 (col h d)) = ix2 h d := by
    funext a; fin_cases a <;> refine Fin.ext ?_ <;> simp [ix1, ix2] <;> omega
  have e' (b n t : Fin 1) : idx_main_v93 (ix5 b n t h d) = ix2 h d := by
    funext a; fin_cases a <;> refine Fin.ext ?_ <;> simp [ix2, ix5] <;> omega
  rw [val_main_v111_apply, e, val_main_v96]
  simp only [Host.reduceAdd, Ideal.hostReduceAdd_def]
  rw [sum_d012, val_main_cst_23_apply]
  simp only [Fin.sum_univ_one, val_main_v93_apply, e', v92_eq]
  show Ideal.ofBits .f32 0x00000000#32 + _ = _
  rw [Ideal.ofBits_zero_f32, zero_add]; rfl

abbrev dotW := dot_S4x4x16x128x128_S4x16x128x4x128_S4x128x128_123_014_4_2_0_3

/-- The three axes summed over, as one index. -/
def contrW : dotW.contr.Idx ≃ (⟨3, ![4, 16, 128]⟩ : Shape).Idx where
  toFun k := ix3 (k ⟨0, by decide⟩) (k ⟨1, by decide⟩) (k ⟨2, by decide⟩)
  invFun i := fun a => match a with | ⟨0, _⟩ => i 0 | ⟨1, _⟩ => i 1 | ⟨2, _⟩ => i 2
  left_inv k := by funext a; match a with | ⟨0, _⟩ => rfl | ⟨1, _⟩ => rfl | ⟨2, _⟩ => rfl
  right_inv i := by funext a; fin_cases a <;> rfl

theorem v87_eq (k : Fin 128) : val_main_v87 x0 x1 x2 (ix3 h t k) = ∑ C, Gate.dw (U x0 C) (V x0 C) (Y x1 C) (G x2) h t k := by
  unfold val_main_v87
  simp only [Host.dotGeneral]
  rw [Ideal.dotGeneral_apply, ← Equiv.sum_comp contrW.symm, sum_idx3, ← sum_ch]
  refine Finset.sum_congr rfl fun b _ => Finset.sum_congr rfl fun n _ => Finset.sum_congr rfl fun d _ => ?_
  have el : dotW.lhsIdx (ix3 h t k) (contrW.symm (ix3 b n d)) = ix5 h b n d t := by funext a; fin_cases a <;> rfl
  have er : dotW.rhsIdx (ix3 h t k) (contrW.symm (ix3 b n d)) = ix5 b n k h d := by funext a; fin_cases a <;> rfl
  rw [el, er, ds_eq', nv_eq]
theorem dw_eq (k : Fin 128) : val_main_v90 x0 x1 x2 (ix3 h t k) = Gate.dwAll (U x0) (V x0) (Y x1) (G x2) h t k := by
  rw [val_main_v90_apply, mask_eq', v87_eq, val_main_call2_v0_apply, val_main_call2_cst_apply]
  show Scalar.select _ _ (Ideal.ofBits .f32 0x00000000#32) = _
  rw [Ideal.ofBits_zero_f32]; rfl

end Cert.ReferenceIdeal.Gm

end
-- ==== Proof.GateSame.lean ====
/- The kernel's five gradients are the reference's, for arguments that are real numbers; and the frames and the value claim of
   the gate's gradient. -/
module

public import proofs.«01_k».proof.Defs
public import proofs.«01_k».proof.Proof.GmHost
public import proofs.«01_k».proof.Proof.RefGate
public import proofs.«01_k».proof.Proof.Gen.Pre_finite

@[expose] public section

set_option maxRecDepth 16384

noncomputable section

namespace Cert.GateSame

open Idealize.ShloMosaic Idealize.ShloMosaic.TcCoe Idealize.SL.Sem Cert

/-- Every row of the 8192 is a token of a chunk of a batch entry; every column a head's channel. -/
theorem row_eq (i : Fin 8192) : i = ReferenceIdeal.Gm.row ⟨i.val / 2048, by omega⟩ ⟨i.val / 128 % 16, by omega⟩ ⟨i.val % 128, by omega⟩ :=
  Fin.ext (by show i.val = 128 * (16 * (i.val / 2048) + i.val / 128 % 16) + i.val % 128; omega)
theorem col_eq (q : Fin 512) : q = ReferenceIdeal.Gm.col ⟨q.val / 128, by omega⟩ ⟨q.val % 128, by omega⟩ :=
  Fin.ext (by show q.val = 128 * (q.val / 128) + q.val % 128; omega)

theorem flat_apply (f : Fin 64 → Gate.Arr) (b : Fin 4) (n : Fin 16) (t : Fin 128) (h : Fin 4) (d : Fin 128) :
    KernelIdeal.Gm.flat f (ix2 (ReferenceIdeal.Gm.row b n t) (ReferenceIdeal.Gm.col h d)) = f (ReferenceIdeal.Gm.ch b n) t h d := by
  have e1 : (128 * (16 * b.val + n.val) + t.val) / 128 = 16 * b.val + n.val := by omega
  have e2 : (128 * (16 * b.val + n.val) + t.val) % 128 = t.val := by omega
  have e3 : (128 * h.val + d.val) / 128 = h.val := by omega
  have e4 : (128 * h.val + d.val) % 128 = d.val := by omega
  show f ⟨(128 * (16 * b.val + n.val) + t.val) / 128, _⟩ ⟨(128 * (16 * b.val + n.val) + t.val) % 128, _⟩
    ⟨(128 * h.val + d.val) / 128, _⟩ ⟨(128 * h.val + d.val) % 128, _⟩ = _
  simp only [e1, e2, e3, e4]

open Cert.ReferenceIdeal Cert.ReferenceIdeal.Read in
/-- Results that hold the gradients are the reference's. -/
theorem same (x0 : Vec Ideal S8192x1536 .f32) (x1 : Vec Ideal S8192x512 .f32) (x2 : Vec Ideal S512 .f32)
    (x3 : Vec Ideal S4x128x128 .f32) (x4 : Vec Ideal S4x128 .f32)
    (h0 : ∀ i, Gate.IsReal (x0 i)) (h1 : ∀ i, Gate.IsReal (x1 i)) (h2 : ∀ i, Gate.IsReal (x2 i))
    (h3 : ∀ i, Gate.IsReal (x3 i)) (h4 : ∀ i, Gate.IsReal (x4 i))
    {du dv : Vec Ideal S8192x512 .f32} {dg : Vec Ideal S512 .f32} {dw : Vec Ideal S4x128x128 .f32} {db : Vec Ideal S4x128 .f32}
    (r : KernelIdeal.Gm.Results (Gm.U x0) (Gm.V x0) (Gm.Y x1) (Gm.G x2) (Gm.W x3) (Gm.B x4) du dv dg dw db) :
    du = val_main_v137 x0 x1 x2 x3 x4 ∧ dv = val_main_v138 x0 x1 x2 x3 ∧ dg = val_main_v111 x0 x1 x3
      ∧ dw = val_main_v90 x0 x1 x2 ∧ db = val_main_v85 x0 x1 := by
  refine ⟨?_, ?_, ?_, ?_, ?_⟩
  · rw [r.du]; funext i
    obtain ⟨p, q, rfl⟩ : ∃ (p : Fin 8192) (q : Fin 512), i = ix2 p q := ⟨i 0, i 1, eq_ix2 i⟩
    rw [row_eq p, col_eq q, flat_apply, Gm.du_eq x0 x1 x2 x3 x4 _ _ _ _ _ h0 h1 h2 h3 h4]
  · rw [r.dv]; funext i
    obtain ⟨p, q, rfl⟩ : ∃ (p : Fin 8192) (q : Fin 512), i = ix2 p q := ⟨i 0, i 1, eq_ix2 i⟩
    rw [row_eq p, col_eq q, flat_apply, Gm.dv_eq x0 x1 x2 x3 _ _ _ _ _ h0 h1 h2 h3]
  · funext i
    obtain ⟨q, rfl⟩ : ∃ q : Fin 512, i = ix1 q := ⟨i 0, eq_ix1 i⟩
    rw [col_eq q]; exact (r.dg _ _).trans (Gm.dg_eq x0 x1 x3 _ _).symm
  · funext i
    obtain ⟨a, p, q, rfl⟩ : ∃ (a : Fin 4) (p q : Fin 128), i = ix3 a p q := ⟨i 0, i 1, i 2, eq_ix3 i⟩
    exact (r.dw _ _ _).trans (Gm.dw_eq x0 x1 x2 _ _ _).symm
  · funext i
    obtain ⟨p, q, rfl⟩ : ∃ (p : Fin 4) (q : Fin 128), i = ix2 p q := ⟨i 0, i 1, eq_ix2 i⟩
    exact (r.db _ _).trans (Gm.db_eq x0 x1 _ _).symm

section
open Cert.KernelIdeal
variable (m : (ℓ : Loc nD τ sig) → Buf (Elt Ideal) ℓ) (c : Dev nD)

/-- The arguments, as the kernel's memory holds them. -/
abbrev a0 : Vec Ideal S8192x1536 .f32 := m ((c : Thread nD τ).loc main_arg0)
abbrev a1 : Vec Ideal S8192x512 .f32 := m ((c : Thread nD τ).loc main_arg1)
abbrev a2 : Vec Ideal S512 .f32 := m ((c : Thread nD τ).loc main_arg2)
abbrev a3 : Vec Ideal S4x128x128 .f32 := m ((c : Thread nD τ).loc main_arg3)
abbrev a4 : Vec Ideal S4x128 .f32 := m ((c : Thread nD τ).loc main_arg4)

theorem real (hp : Cert.Pre_KernelIdeal_finite (hPre_finite := Pre_finite.Gen.facts) m) : (∀ i, Gate.IsReal (a0 m c i)) ∧ (∀ i, Gate.IsReal (a1 m c i))
    ∧ (∀ i, Gate.IsReal (a2 m c i)) ∧ (∀ i, Gate.IsReal (a3 m c i)) ∧ (∀ i, Gate.IsReal (a4 m c i)) := by
  obtain ⟨p0, p1, p2, p3, p4⟩ := hp c
  exact ⟨fun i => Gate.IsReal.of_lt (congrFun p0 i), fun i => Gate.IsReal.of_lt (congrFun p1 i),
    fun i => Gate.IsReal.of_lt (congrFun p2 i), fun i => Gate.IsReal.of_lt (congrFun p3 i), fun i => Gate.IsReal.of_lt (congrFun p4 i)⟩
end

open Cert.ReferenceIdeal.Read in
theorem algebraic : Cert.algebraic_KernelIdeal_ReferenceIdeal_pre_finite (hKernelIdeal := KernelIdeal.Gen.facts)
    (hReferenceIdeal := ReferenceIdeal.Gen.facts) (hPre_finite := Pre_finite.Gen.facts) := by
  intro m g m' g' hp ha
  refine ⟨fun c => val_main_v137 (a0 m c) (a1 m c) (a2 m c) (a3 m c) (a4 m c), fun c => val_main_v138 (a0 m c) (a1 m c) (a2 m c) (a3 m c),
    fun c => val_main_v111 (a0 m c) (a1 m c) (a3 m c), fun c => val_main_v90 (a0 m c) (a1 m c) (a2 m c),
    fun c => val_main_v85 (a0 m c) (a1 m c), ?_, ?_⟩
  · refine (θ_run KernelIdeal.defs _ _).mono (fun r h c => ?_) (θ_run_and (KernelIdeal.Gm.run m g) (KernelIdeal.Gen.frame (F := Ideal) m g))
    obtain ⟨h0, h1, h2, h3, h4⟩ := real m c hp
    have s := same (a0 m c) (a1 m c) (a2 m c) (a3 m c) (a4 m c) h0 h1 h2 h3 h4 (h.1 c)
    exact ⟨s.1, s.2.1, s.2.2.1, s.2.2.2.1, s.2.2.2.2, h.2.1 c⟩
  · refine (θ_run ReferenceIdeal.defs _ _).mono (fun r h c => ?_) (ReferenceIdeal.Value.run (F := Ideal) m' g')
    obtain ⟨k0, k1, k2, k3, k4, k5⟩ := h c
    obtain ⟨e0, e1, e2, e3, e4⟩ := ha c
    rw [val_main_v137_eq] at k0
    rw [val_main_v138_eq] at k1
    rw [val_main_v111_eq] at k2
    rw [val_main_v90_eq] at k3
    rw [val_main_v85_eq] at k4
    refine ⟨k0.trans ?_, k1.trans ?_, k2.trans ?_, k3.trans ?_, k4.trans ?_, k5⟩
    · simp only [a0, a1, a2, a3, a4, ← e0, ← e1, ← e2, ← e3, ← e4]
    · simp only [a0, a1, a2, a3, ← e0, ← e1, ← e2, ← e3]
    · simp only [a0, a1, a3, ← e0, ← e1, ← e3]
    · simp only [a0, a1, a2, ← e0, ← e1, ← e2]
    · simp only [a0, a1, ← e0, ← e1]

end Cert.GateSame

end
-- ==== Proof.GmFwd.lean ====
/- The gated mixing's forward pass: each chunk of 128 tokens of the result is the nonlinearity of `u` times the mixed,
   normalised values of `v`, and so is the reference's. The chunk's operations and their readings are those of the gradient's
   modules (GmChunk, GmRead, RefGate). -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.GateSame

@[expose] public section

set_option maxRecDepth 16384

noncomputable section

/-! ## The reference -/

namespace Cert.Reference10Ideal.GmFwd

open Idealize.ShloMosaic Cert
open Cert.ReferenceIdeal.Gm (ch tok col row U V)

variable (x0 : Vec Ideal S8192x1536 .f32) (x1 : Vec Ideal S512 .f32) (x2 : Vec Ideal S4x128x128 .f32) (x3 : Vec Ideal S4x128 .f32)

/-- The nonlinearity of `u` and the mixed values are those the gradient's reference starts from. -/
theorem act_same : Read.val_main_v16 (F := Ideal) x0 = ReferenceIdeal.Read.val_main_v24 (F := Ideal) x0 := rfl
theorem mixed_same : Read.val_main_v57 (F := Ideal) x0 x1 x2 x3 = ReferenceIdeal.Read.val_main_v76 (F := Ideal) x0 x1 x2 x3 := rfl

theorem out_eq (b : Fin 4) (n : Fin 16) (t : Fin 128) (h : Fin 4) (d : Fin 128) :
    Read.val_main_v59 (F := Ideal) x0 x1 x2 x3 (ix2 (row b n t) (col h d))
      = Gate.fwdAll (U x0) (V x0) (ReferenceIdeal.Gm.G x1) (ReferenceIdeal.Gm.W x2) (ReferenceIdeal.Gm.B x3) (ch b n) t h d := by
  have e : Read.idx_main_v59 (ix2 (row b n t) (col h d)) = ix3 b (tok n t) (col h d) := by
    funext a; fin_cases a <;> refine Fin.ext ?_ <;> simp [ix2, ix3] <;> omega
  rw [Read.val_main_v59_apply, e, Read.val_main_v58_apply, act_same, mixed_same, ReferenceIdeal.Gm.act_u, ReferenceIdeal.Gm.u_eq,
    ReferenceIdeal.Read.val_main_v76_apply, ReferenceIdeal.Gm.i76, ReferenceIdeal.Gm.s_eq]
  rfl

end Cert.Reference10Ideal.GmFwd

/-! ## The kernel -/

namespace Cert.Kernel10Ideal.GmFwd

open Idealize.ShloMosaic Idealize.ShloMosaic.TcCoe Idealize.SL.Sem
open Idealize.ShloMosaic.Pipeline (Dat)
open Cert.Kernel10Ideal Cert.Kernel10Ideal.Gen Cert
open Cert.KernelIdeal.Gm (A H G W ldRows ldGain ldCols ldMat cols join mix stack rowsPieces canon_rows arr gn wt bs col chunkU chunkV
  gainOf matOf biasOf flat)

/-- The nonlinearity with this program's constant, which is the gradient's. -/
def th (x : A) : A :=
  tanh (mulf (broadcast S128x512 (Scalar.ofBits (F := Ideal) .f32 0x3F4C422A#32))
    (addf x (mulf (mulf (mulf (broadcast S128x512 (Named.named (F := Ideal) κ "c" 0x3D372713#32)) x) x) x)))
def act (x : A) : A :=
  mulf (mulf (broadcast S128x512 (Scalar.ofBits (F := Ideal) .f32 0x3F000000#32)) x)
    (addf (broadcast S128x512 (Scalar.ofBits (F := Ideal) .f32 0x3F800000#32)) (th x))

/-- One chunk of the result. -/
def outChunk (u v : A) (g : Fin 4 → G) (w : Fin 4 → W) (b : Fin 4 → H) : A :=
  mulf (act u) (join fun h => mix (cols (act v) h) (g h) (w h) (b h))

theorem act_same (x : A) : act x = KernelIdeal.Gm.act x := rfl

theorem outChunk_apply (u v : A) (g : Fin 4 → G) (w : Fin 4 → W) (b : Fin 4 → H) (h : Fin 4) (t d : Fin 128) :
    outChunk u v g w b (ix2 t (col h d)) = Gate.act (arr u t h d) * Gate.s (arr v) (gn g) (wt w) (bs b) t h d := by
  show act u _ * join _ _ = _
  rw [KernelIdeal.Gm.join_apply, KernelIdeal.Gm.mix_apply, act_same, act_same, KernelIdeal.Gm.act_apply]
  simp only [KernelIdeal.Gm.normed_act]
  rfl

/-- What the body leaves in its output buffer: eight chunks. -/
theorem out_eq (x0 x1 : Vec Ideal S1024x512 .f32) (x2 : Vec Ideal S1x512 .f32) (x3 : Vec Ideal S4x128x128 .bf16)
    (x4 : Vec Ideal S128x512 .f32) : out0_5 (F := Ideal) x0 x1 x2 x3 x4
      = stack fun k => outChunk (ldRows x0 k) (ldRows x1 k) (ldGain x2) (ldMat x3) (ldCols x4) := by
  refine Eq.trans ?_ (canon_rows (fun k => outChunk (ldRows x0 k) (ldRows x1 k) (ldGain x2) (ldMat x3) (ldCols x4))
    (cover0_5 _ _ _ _ _ _ _ _))
  rfl

/-! ## The blocks of a grid point -/

theorem idx : ∀ t : Fin cfg0.N, win0_0.index t = ![t.val, 1] ∧ win0_1.index t = ![t.val, 2] ∧ win0_2.index t = ![0, 0]
    ∧ win0_3.index t = ![0, 0, 0] ∧ win0_4.index t = ![0, 0] ∧ win0_5.index t = ![t.val, 0] :=
  (by decide +kernel : ∀ t : Fin grid0.N, win0_0.index t = ![t.val, 1] ∧ win0_1.index t = ![t.val, 2] ∧ win0_2.index t = ![0, 0]
    ∧ win0_3.index t = ![0, 0, 0] ∧ win0_4.index t = ![0, 0] ∧ win0_5.index t = ![t.val, 0])

theorem lt8 (t : Fin cfg0.N) : t.val < 8 := lt_of_lt_of_eq t.isLt N_0

/-- Chunk `k` of grid point `t`. -/
def chunk (t : Fin cfg0.N) (k : Fin 8) : Fin 64 := ⟨8 * t.val + k.val, by have := lt8 t; omega⟩

variable (m : (ℓ : Loc nD τ sig) → Buf (Elt Ideal) ℓ) (c : Dev nD) (t : Fin cfg0.N)

abbrev a0 : Vec Ideal S8192x1536 .f32 := m ((c : Thread nD τ).loc main_arg0)
abbrev a1 : Vec Ideal S512 .f32 := m ((c : Thread nD τ).loc main_arg1)
abbrev a2 : Vec Ideal S4x128x128 .f32 := m ((c : Thread nD τ).loc main_arg2)
abbrev a3 : Vec Ideal S4x128 .f32 := m ((c : Thread nD τ).loc main_arg3)

theorem blkU (k : Fin 8) : arr (ldRows (iblk m c 0 t) k) = chunkU (V m c main_arg0) (chunk t k) := by
  funext tt h d
  show ldRows _ _ _ = _
  rw [KernelIdeal.Gm.ldRows_apply]
  blk_ext [iblk, chunkU, chunk, idx t]
theorem blkV (k : Fin 8) : arr (ldRows (iblk m c 1 t) k) = chunkV (V m c main_arg0) (chunk t k) := by
  funext tt h d
  show ldRows _ _ _ = _
  rw [KernelIdeal.Gm.ldRows_apply]
  blk_ext [iblk, chunkV, chunk, idx t]
theorem blkG : gn (ldGain (iblk m c 2 t)) = gainOf (V m c main_v8) := by
  funext h d
  show ldGain _ _ _ = _
  rw [KernelIdeal.Gm.ldGain_apply]
  blk_ext [iblk, gainOf, idx t]
theorem blkW : wt (ldMat (iblk m c 3 t)) = matOf (V m c main_v4) := by
  funext h i j
  show ldMat _ _ _ = _
  rw [KernelIdeal.Gm.ldMat_apply]
  blk_ext [iblk, matOf, idx t]
theorem blkB : bs (ldCols (iblk m c 4 t)) = biasOf (V m c main_v7) := by
  funext i h d
  show ldCols _ _ _ = _
  rw [KernelIdeal.Gm.ldCols_apply]
  blk_ext [iblk, biasOf, idx t]

/-! ## What the host code before the launch makes of the arguments -/

abbrev argU : Fin 64 → Gate.Arr := chunkU (a0 m c)
abbrev argV : Fin 64 → Gate.Arr := chunkV (a0 m c)
abbrev argG : Fin 4 → Fin 128 → EReal := fun h d => a1 m c (ix1 (col h d))
abbrev argW : Fin 4 → Fin 128 → Fin 128 → EReal := fun h t k => a2 m c (ix3 h t k)
abbrev argB : Fin 4 → Fin 128 → EReal := fun h t => a3 m c (ix2 h t)

theorem gain_eq : gainOf (V m c main_v8) = argG m c := by
  funext h d
  show V m c main_v8 _ = _
  unfold V
  simp only [List.flatten_cons, List.flatten_nil, List.cons_append, List.nil_append]
  after_reads_at
theorem mat_eq : matOf (V m c main_v4) = Gate.masked (argW m c) := by
  funext h t s
  show V m c main_v4 _ = _
  unfold V
  simp only [List.flatten_cons, List.flatten_nil, List.cons_append, List.nil_append]
  after_reads_at
  rw [show id (constant (F := Ideal) S_ FTy.f32 0#32) ix0 = (0 : EReal) from KernelIdeal.Gm.const_zero]
  rfl
theorem bias_eq : biasOf (V m c main_v7) = Gate.biases (argB m c) := by
  funext t h d
  show V m c main_v7 _ = _
  unfold V
  simp only [List.flatten_cons, List.flatten_nil, List.cons_append, List.nil_append]
  after_reads_at
  show m (c, Proc.tc.devRef main_arg3) _ = m (c, Proc.tc.devRef main_arg3) _
  exact congrArg _ (congrArg (ix2 · t) (Fin.ext (by show (128 * h.val + d.val) / 128 = h.val; omega)))

/-! ## The result -/

/-- Eight chunks of a point, each read by token, head and channel: the point's rows of the whole array. -/
theorem stack_flat (f : Fin 8 → A) (F : Fin 64 → Gate.Arr) (hf : ∀ k tt h d, f k (ix2 tt (col h d)) = F (chunk t k) tt h d)
    (y : S1024x512.Idx) (i : S8192x512.Idx) (h0 : (i 0).val = 1024 * t.val + (y 0).val) (h1 : (i 1).val = (y 1).val) :
    stack f y = flat F i := by
  have hy0 := ValueIdx.idx2_lt0 y
  have hy1 := ValueIdx.idx2_lt1 y
  unfold stack flat
  rw [show y 1 = col ⟨(y 1).val / 128, by omega⟩ ⟨(y 1).val % 128, Nat.mod_lt _ (by decide)⟩ from KernelIdeal.Gm.col_divMod (y 1), hf]
  have e : chunk t ⟨(y 0).val / 128, by omega⟩ = ⟨(i 0).val / 128, by have := ValueIdx.idx2_lt0 i; omega⟩ := by
    apply Fin.ext; show 8 * t.val + (y 0).val / 128 = (i 0).val / 128; omega
  have e' : (⟨(y 0).val % 128, Nat.mod_lt _ (by decide)⟩ : Fin 128) = ⟨(i 0).val % 128, Nat.mod_lt _ (by decide)⟩ := by
    apply Fin.ext; show (y 0).val % 128 = (i 0).val % 128; omega
  rw [e, e']
  simp only [h1]

theorem arr5 : (dats m 0 c).arrAt 5 cfg0.N = flat (Gate.fwdAll (argU m c) (argV m c) (argG m c) (argW m c) (argB m c)) := by
  refine (dats m 0 c).arrAt_eq_of_covers 5 _ (by decide +kernel) fun t _ y => ?_
  rw [after0_5, out_eq]
  blk_simp
  refine stack_flat t _ _ (fun k tt h d => ?_) _ _ ?_ ?_
  · rw [outChunk_apply, blkU, blkV, blkG, blkW, blkB, gain_eq, mat_eq, bias_eq, V_main_arg0]; rfl
  · blk_simp [idx t]
    omega
  · blk_simp [idx t]

theorem same : flat (Gate.fwdAll (argU m c) (argV m c) (argG m c) (argW m c) (argB m c))
    = Reference10Ideal.Read.val_main_v59 (F := Ideal) (a0 m c) (a1 m c) (a2 m c) (a3 m c) := by
  funext i
  obtain ⟨p, q, rfl⟩ : ∃ (p : Fin 8192) (q : Fin 512), i = ix2 p q := ⟨i 0, i 1, eq_ix2 i⟩
  rw [GateSame.row_eq p, GateSame.col_eq q, GateSame.flat_apply, Reference10Ideal.GmFwd.out_eq]; rfl

theorem algebraic : Cert.algebraic_Kernel10Ideal_Reference10Ideal (hKernel10Ideal := Kernel10Ideal.Gen.facts)
    (hReference10Ideal := Reference10Ideal.Gen.facts) := by
  intro m g m' g' _ ha
  refine ⟨fun c => Reference10Ideal.Read.val_main_v59 (F := Ideal) (a0 m c) (a1 m c) (a2 m c) (a3 m c), ?_, ?_⟩
  · exact (θ_run Kernel10Ideal.defs _ _).mono (fun r h c => ⟨(h c).1.trans ((arr5 m c).trans (same m c)), (h c).2⟩)
      (Value.run_blocks (F := Ideal) m g)
  · refine (θ_run Reference10Ideal.defs _ _).mono (fun r h c => ?_) (Reference10Ideal.Value.run (F := Ideal) m' g')
    obtain ⟨k0, k1⟩ := h c
    obtain ⟨e0, e1, e2, e3⟩ := ha c
    rw [Reference10Ideal.Read.val_main_v59_eq] at k0
    refine ⟨k0.trans ?_, k1⟩
    simp only [a0, a1, a2, a3, ← e0, ← e1, ← e2, ← e3]

end Cert.Kernel10Ideal.GmFwd

end
-- ==== Proof.LossHeadBody.lean ====
/- The loss with its gradient, one grid point: what its body leaves in the three result blocks, as functions of the blocks it finds. -/
module

public import proofs.«01_k».proof.Proof.Gen.Kernel11Ideal.Frame
public import proofs.«01_k».proof.Proof.Rms
public import proofs.«01_k».proof.Proof.Whole

@[expose] public section

set_option maxRecDepth 16384

noncomputable section

namespace Cert.Kernel11Ideal.Loss

open Idealize.ShloMosaic Idealize.ShloMosaic.TcCoe Idealize.ShloMosaic.Tactic Idealize.SL.Sem
open Cert.Kernel11Ideal Cert.Kernel11Ideal.Gen

/-! ## The body's arithmetic -/

abbrev rowOf (x : Vec Ideal S1024x1024 .f32) (p : Fin 1024) : Fin 1024 → EReal := fun q => x (ix2 p q)
abbrev gainRow (g : Vec Ideal S1x1024 .f32) : Fin 1024 → EReal := fun q => g (ix2 0 q)

section
variable (x : Vec Ideal S1024x1024 .f32) (g : Vec Ideal S1x1024 .f32) (t : Vec Ideal S1024x1024 .f32) (p q : Fin 1024)

/-- The distance from the target, and what flows back from it. -/
def err : EReal := Rms.norm Rms.n1024 (rowOf x p) (gainRow g) q - t (ix2 p q)
def ct : EReal := err x g t p q * Ideal.ofBits .f32 0x3A800000#32

theorem pay5_apply : k0_pay5 g (ix2 0 q) = g (ix2 0 q) := by pointwise [k0_pay5]
theorem pay6_apply (a : Fin 1) : k0_pay6 x (ix2 p a) = Rms.scale Rms.n1024 (rowOf x p) := by
  pointwise [k0_pay6]
  rfl
theorem pay7_apply : k0_pay7 x (ix2 p q) = x (ix2 p q) * Rms.scale Rms.n1024 (rowOf x p) := by
  pointwise [k0_pay7]
  rw [pay6_apply]
theorem pay8_apply : k0_pay8 g x t (ix2 p q) = err x g t p q := by
  pointwise [k0_pay8]
  rw [pay7_apply, pay5_apply]
  rfl
theorem pay10_apply : k0_pay10 g x t (ix2 p q) = ct x g t p q := by
  pointwise [k0_pay10]
  rw [pay8_apply]
  rfl
theorem pay11_apply : k0_pay11 g x t (ix2 p q) = ct x g t p q * g (ix2 0 q) := by
  pointwise [k0_pay11]
  rw [pay10_apply, pay5_apply]

/-- The gradient of the rows, one step of the sum of squares, and one step of the gain's gradient. -/
def dxOf : Vec Ideal S1024x1024 .f32 := k0_pay1 (k0_pay6 x) (k0_pay11 g x t) (k0_pay12 g x t)
def sqOf (old : Vec Ideal S8x1024 .f32) : Vec Ideal S8x1024 .f32 := k0_pay9 g x t old
def dgOf (old : Vec Ideal S8x1024 .f32) : Vec Ideal S8x1024 .f32 := k0_pay2 (k0_pay7 x) (k0_pay10 g x t) old

theorem dxOf_apply : dxOf x g t (ix2 p q) = Rms.back Rms.n1024 (rowOf x p) (gainRow g) (fun e => ct x g t p e) q := by
  pointwise [dxOf, k0_pay1, k0_pay12]
  simp only [pay6_apply, pay7_apply, pay11_apply]
  rfl
theorem sqOf_apply (old : Vec Ideal S8x1024 .f32) (e : Fin 8) : sqOf x g t old (ix2 e q) = old (ix2 e q)
    + ∑ a : Fin 128, err x g t ⟨a.val * 8 + e.val, by omega⟩ q * err x g t ⟨a.val * 8 + e.val, by omega⟩ q := by
  pointwise [sqOf, k0_pay9]
  simp only [pay8_apply]
theorem dgOf_apply (old : Vec Ideal S8x1024 .f32) (e : Fin 8) : dgOf x g t old (ix2 e q) = old (ix2 e q)
    + ∑ a : Fin 128, ct x g t ⟨a.val * 8 + e.val, by omega⟩ q * (x (ix2 ⟨a.val * 8 + e.val, by omega⟩ q)
      * Rms.scale Rms.n1024 (rowOf x ⟨a.val * 8 + e.val, by omega⟩)) := by
  pointwise [dgOf, k0_pay2]
  simp only [pay7_apply, pay10_apply]

theorem zero_sq (i : S8x1024.Idx) : k0_pay3 (F := Ideal) i = 0 := by pointwise [k0_pay3]
theorem zero_dg (i : S8x1024.Idx) : k0_pay4 (F := Ideal) i = 0 := by pointwise [k0_pay4]

end

/-! ## The blocks after the body, at the first grid point (A) and at a later one (B) -/

variable (c : Dev nD) (i : grid0.Coords)
  (arg1 : Memref sig .tc .vmem S1024x1024 .f32) (harg1 : arg1.IsWhole)
  (arg2 : Memref sig .tc .vmem S1x1024 .f32) (harg2 : arg2.IsWhole)
  (arg3 : Memref sig .tc .vmem S1024x1024 .f32) (harg3 : arg3.IsWhole)
  (arg4 : Memref sig .tc .vmem S1024x1024 .f32) (harg4 : arg4.IsWhole)
  (arg5 : Memref sig .tc .vmem S8x1024 .f32) (harg5 : arg5.IsWhole)
  (arg6 : Memref sig .tc .vmem S8x1024 .f32) (harg6 : arg6.IsWhole)
  (x0 : Vec Ideal S1024x1024 .f32) (x1 : Vec Ideal S1x1024 .f32) (x2 : Vec Ideal S1024x1024 .f32) (xo4 xo5 : Vec Ideal S8x1024 .f32)

theorem outA_3 (hc0 : cond0_0 i) : out0_A_3 c i arg1 harg1 arg2 harg2 arg3 harg3 arg4 harg4 arg5 harg5 arg6 harg6 hc0 x0 x1 x2 = dxOf x0 x1 x2 := by
  have hc := cover0_A_3 c i arg1 harg1 arg2 harg2 arg3 harg3 arg4 harg4 arg5 harg5 arg6 harg6 hc0 x0 x1 x2
  unfold out0_A_3
  rw [View.read_writes_eq_canon _ _ _ hc]
  unfold kernelRun0_A
  dsimp only
  sl_unfold_words
  refine (Whole.stored Whole.zero2 _ _ _).trans ?_
  rw [Whole.load harg1 Whole.zero2, Whole.load harg2 Whole.zero2, Whole.load harg3 Whole.zero2]
  rfl

theorem outB_3 (hc0 : ¬cond0_0 i) : out0_B_3 c i arg1 harg1 arg2 harg2 arg3 harg3 arg4 harg4 arg5 harg5 arg6 harg6 hc0 x0 x1 x2 xo4 xo5 = dxOf x0 x1 x2 := by
  have hc := cover0_B_3 c i arg1 harg1 arg2 harg2 arg3 harg3 arg4 harg4 arg5 harg5 arg6 harg6 hc0 x0 x1 x2 xo4 xo5
  unfold out0_B_3
  rw [View.read_writes_eq_canon _ _ _ hc]
  unfold kernelRun0_B
  dsimp only
  sl_unfold_words
  refine (Whole.stored Whole.zero2 _ _ _).trans ?_
  rw [Whole.load harg1 Whole.zero2, Whole.load harg2 Whole.zero2, Whole.load harg3 Whole.zero2]
  rfl

theorem outA_4 (hc0 : cond0_0 i) : out0_A_4 c i arg1 harg1 arg2 harg2 arg3 harg3 arg4 harg4 arg5 harg5 arg6 harg6 hc0 x0 x1 x2 = sqOf x0 x1 x2 (k0_pay3 (F := Ideal)) := by
  have hc := cover0_A_4 c i arg1 harg1 arg2 harg2 arg3 harg3 arg4 harg4 arg5 harg5 arg6 harg6 hc0 x0 x1 x2
  unfold out0_A_4
  rw [View.read_writes_eq_canon _ _ _ hc]
  unfold kernelRun0_A
  dsimp only
  sl_unfold_words
  refine (Whole.stored Whole.zero2 _ _ _).trans ?_
  rw [Whole.load harg1 Whole.zero2, Whole.load harg2 Whole.zero2, Whole.load harg3 Whole.zero2, Whole.reload]
  rfl

theorem outB_4 (hc0 : ¬cond0_0 i) : out0_B_4 c i arg1 harg1 arg2 harg2 arg3 harg3 arg4 harg4 arg5 harg5 arg6 harg6 hc0 x0 x1 x2 xo4 xo5 = sqOf x0 x1 x2 xo4 := by
  have hc := cover0_B_4 c i arg1 harg1 arg2 harg2 arg3 harg3 arg4 harg4 arg5 harg5 arg6 harg6 hc0 x0 x1 x2 xo4 xo5
  unfold out0_B_4
  rw [View.read_writes_eq_canon _ _ _ hc]
  unfold kernelRun0_B
  dsimp only
  sl_unfold_words
  refine (Whole.stored Whole.zero2 _ _ _).trans ?_
  rw [Whole.load harg1 Whole.zero2, Whole.load harg2 Whole.zero2, Whole.load harg3 Whole.zero2, Whole.load harg5 Whole.zero2]
  rfl

theorem outA_5 (hc0 : cond0_0 i) : out0_A_5 c i arg1 harg1 arg2 harg2 arg3 harg3 arg4 harg4 arg5 harg5 arg6 harg6 hc0 x0 x1 x2 = dgOf x0 x1 x2 (k0_pay4 (F := Ideal)) := by
  have hc := cover0_A_5 c i arg1 harg1 arg2 harg2 arg3 harg3 arg4 harg4 arg5 harg5 arg6 harg6 hc0 x0 x1 x2
  unfold out0_A_5
  rw [View.read_writes_eq_canon _ _ _ hc]
  unfold kernelRun0_A
  dsimp only
  sl_unfold_words
  refine (Whole.stored Whole.zero2 _ _ _).trans ?_
  rw [Whole.load harg1 Whole.zero2, Whole.load harg2 Whole.zero2, Whole.load harg3 Whole.zero2, Whole.reload]
  rfl

theorem outB_5 (hc0 : ¬cond0_0 i) : out0_B_5 c i arg1 harg1 arg2 harg2 arg3 harg3 arg4 harg4 arg5 harg5 arg6 harg6 hc0 x0 x1 x2 xo4 xo5 = dgOf x0 x1 x2 xo5 := by
  have hc := cover0_B_5 c i arg1 harg1 arg2 harg2 arg3 harg3 arg4 harg4 arg5 harg5 arg6 harg6 hc0 x0 x1 x2 xo4 xo5
  unfold out0_B_5
  rw [View.read_writes_eq_canon _ _ _ hc]
  unfold kernelRun0_B
  dsimp only
  sl_unfold_words
  refine (Whole.stored Whole.zero2 _ _ _).trans ?_
  rw [Whole.load harg1 Whole.zero2, Whole.load harg2 Whole.zero2, Whole.load harg3 Whole.zero2, Whole.load harg6 Whole.zero2]
  rfl

end Cert.Kernel11Ideal.Loss

end
-- ==== Proof.LossHeadRef.lean ====
/- The reference loss with its gradient: its three results, entry by entry. -/
module

public import proofs.«01_k».proof.Proof.Gen.Reference11Ideal.Read
public import proofs.«01_k».proof.Proof.RmsGrad

@[expose] public section

set_option maxRecDepth 16384

noncomputable section

namespace Cert.Reference11Ideal.Loss

open Cert.Reference11Ideal Cert.Reference11Ideal.Gen Cert.Reference11Ideal.Read Idealize.ShloMosaic

variable (x : Vec Ideal S8192x1024 .f32) (g : Vec Ideal S1024 .f32) (t : Vec Ideal S8192x1024 .f32) (r : Fin 8192)

abbrev xRow : Fin 1024 → EReal := fun q => x (ix2 r q)
abbrev gRow : Fin 1024 → EReal := fun q => g (ix1 q)

/-- The distance from the target. -/
def err (q : Fin 1024) : EReal := Rms.norm Rms.n1024 (xRow x r) (gRow g) q - t (ix2 r q)

/-- What flows back to the normalised row. -/
def ct (q : Fin 1024) : EReal :=
  Ideal.div (Ideal.ofBits .f32 0x3F000000#32 * Ideal.ofBits .f32 0x3F800000#32) Rms.n1024 * (Ideal.ofBits .f32 0x40000000#32 * err x g t r q)

/-! ## The loss -/

theorem sum_eq (i : S8192.Idx) : val_main_v1 (F := Ideal) x i = ∑ k : Fin 1024, x (ix2 (i 0) k) * x (ix2 (i 0) k) := by
  rw [val_main_v1_apply, val_main_cst_apply]
  show Ideal.ofBits .f32 0x00000000#32 + _ = _
  rw [Ideal.ofBits_zero_f32, zero_add]
  refine Finset.sum_congr rfl fun k _ => ?_
  rw [val_main_v0_apply, show idx_main_v1 i k = ix2 (i 0) k from by funext a; fin_cases a <;> rfl]
  rfl
theorem msq_eq (a : Fin 1) : val_main_v6 (F := Ideal) x (ix2 r a) = Rms.msq Rms.n1024 (xRow x r) := by
  simp only [val_main_v6_apply, val_main_v5_apply, val_main_v4_apply, val_main_v3_apply, val_main_v2_apply, val_main_cst_0_apply,
    val_main_cst_1_apply, sum_eq]
  rfl
theorem scale_eq (a : Fin 1) : val_main_v7 (F := Ideal) x (ix2 r a) = Rms.scale Rms.n1024 (xRow x r) := by
  rw [val_main_v7_apply, msq_eq]; rfl
theorem xh_eq (q : Fin 1024) : val_main_v12 (F := Ideal) x (ix2 r q) = x (ix2 r q) * Rms.scale Rms.n1024 (xRow x r) := by
  rw [val_main_v12_apply, val_main_v11_apply, show idx_main_v11 (ix2 r q) = ix2 r 0 from by funext a; fin_cases a <;> rfl, scale_eq]
  rfl
theorem err_eq (q : Fin 1024) : val_main_v16 (F := Ideal) x g t (ix2 r q) = err x g t r q := by
  rw [val_main_v16_apply, val_main_v15_apply, xh_eq, val_main_v14_apply, val_main_v13_apply,
    show idx_main_v13 (idx_main_v14 (ix2 r q)) = ix1 q from by funext a; fin_cases a; rfl]
  rfl
theorem row_eq : val_main_v22 (F := Ideal) x g t (ix1 r) = Ideal.div (∑ q : Fin 1024, err x g t r q * err x g t r q) Rms.n1024 := by
  rw [val_main_v22_apply, val_main_v21_apply, val_main_cst_5_apply, val_main_v20_apply, val_main_cst_4_apply]
  have e : Ideal.ofBits .f32 0x00000000#32 + ∑ k, val_main_v17 (F := Ideal) x g t (idx_main_v20 (ix1 r) k)
      = ∑ q : Fin 1024, err x g t r q * err x g t r q := by
    rw [Ideal.ofBits_zero_f32, zero_add]
    refine Finset.sum_congr rfl fun q _ => ?_
    rw [val_main_v17_apply, show idx_main_v20 (ix1 r) q = ix2 r q from by funext a; fin_cases a <;> rfl, err_eq]
    rfl
  exact congrArg (Ideal.div · Rms.n1024) e
theorem loss_eq (i : S_.Idx) : val_main_v24 (F := Ideal) x g t i
    = Ideal.ofBits .f32 0x3F000000#32 * ∑ r : Fin 8192, Ideal.div (∑ q : Fin 1024, err x g t r q * err x g t r q) Rms.n1024 := by
  rw [val_main_v24_apply, val_main_cst_7_apply, val_main_v23_apply, val_main_cst_6_apply]
  have e : Ideal.ofBits .f32 0x00000000#32 + ∑ j : S8192.Idx, val_main_v22 (F := Ideal) x g t j
      = ∑ r : Fin 8192, Ideal.div (∑ q : Fin 1024, err x g t r q * err x g t r q) Rms.n1024 := by
    rw [Ideal.ofBits_zero_f32, zero_add, sum_idx1]
    exact Finset.sum_congr rfl fun r _ => row_eq x g t r
  exact congrArg (Ideal.ofBits .f32 0x3F000000#32 * ·) e

/-! ## Its gradient -/

theorem ct_eq (q : Fin 1024) : val_main_v30 (F := Ideal) x g t (ix2 r q) = ct x g t r q := by
  simp only [val_main_v30_apply, val_main_v29_apply, val_main_v28_apply, val_main_v27_apply, val_main_cst_10_apply, val_main_v26_apply,
    val_main_v25_apply, val_main_cst_8_apply, val_main_cst_9_apply, val_main_v19_apply, val_main_v18_apply, val_main_cst_3_apply, err_eq]
  rfl

theorem gain_eq (q : Fin 1024) : val_main_v36 (F := Ideal) x g t (ix1 q)
    = ∑ r : Fin 8192, x (ix2 r q) * Rms.scale Rms.n1024 (xRow x r) * ct x g t r q := by
  rw [val_main_v36_apply, val_main_cst_12_apply]
  show Ideal.ofBits .f32 0x00000000#32 + _ = _
  rw [Ideal.ofBits_zero_f32, zero_add, Fin.sum_univ_one, val_main_v33_apply,
    show idx_main_v33 (idx_main_v36 (ix1 q) 0) = ix1 q from by
      funext a; fin_cases a; refine Fin.ext ?_; show 0 * 1024 + q.val = q.val; omega,
    val_main_v32_apply, val_main_cst_11_apply]
  show Ideal.ofBits .f32 0x00000000#32 + _ = _
  rw [Ideal.ofBits_zero_f32, zero_add]
  refine Finset.sum_congr rfl fun r _ => ?_
  rw [val_main_v31_apply, show idx_main_v32 (ix1 q) r = ix2 r q from by funext a; fin_cases a <;> rfl, xh_eq, ct_eq]
  rfl

theorem prod_eq (q : Fin 1024) : val_main_v35 (F := Ideal) x g t (ix2 r q) = ct x g t r q * g (ix1 q) := by
  rw [val_main_v35_apply, val_main_v34_apply, val_main_v13_apply, ct_eq,
    show idx_main_v13 (idx_main_v34 (ix2 r q)) = ix1 q from by funext a; fin_cases a; rfl]
  rfl
theorem inner_eq : val_main_v38 (F := Ideal) x g t (ix1 r) = ∑ e : Fin 1024, x (ix2 r e) * (ct x g t r e * g (ix1 e)) := by
  rw [val_main_v38_apply, val_main_cst_13_apply]
  show Ideal.ofBits .f32 0x00000000#32 + _ = _
  rw [Ideal.ofBits_zero_f32, zero_add]
  refine Finset.sum_congr rfl fun e _ => ?_
  rw [val_main_v37_apply, show idx_main_v38 (ix1 r) e = ix2 r e from by funext a; fin_cases a <;> rfl, prod_eq]
  rfl

/-- The factor of the two equal terms that pass through the mean square. -/
def through : EReal :=
  Ideal.div ((∑ e, xRow x r e * (ct x g t r e * gRow g e))
    * (Ideal.ofBits .f32 0xBF000000#32 * Ideal.div (Rms.scale Rms.n1024 (xRow x r)) (Rms.msq Rms.n1024 (xRow x r)))) Rms.n1024

theorem through_eq (q : Fin 1024) : val_main_v46 (F := Ideal) x g t (ix2 r q) = through x g t r := by
  rw [val_main_v46_apply, show idx_main_v46 (ix2 r q) = ix1 r from by funext a; fin_cases a; rfl, val_main_v45_apply, val_main_cst_15_apply]
  show Ideal.ofBits .f32 0x00000000#32 + _ = _
  rw [Ideal.ofBits_zero_f32, zero_add, Fin.sum_univ_one,
    show idx_main_v45 (ix1 r) 0 = ix2 r 0 from by funext a; fin_cases a <;> rfl]
  simp only [val_main_v44_apply, val_main_v43_apply, val_main_cst_14_apply, val_main_v42_apply, val_main_v39_apply, val_main_v10_apply,
    val_main_v9_apply, val_main_cst_2_apply, val_main_v8_apply]
  rw [show idx_main_v39 (ix2 r 0) = ix1 r from by
    funext a; fin_cases a; refine Fin.ext ?_; show r.val * 1 + 0 = r.val; omega, inner_eq, scale_eq, msq_eq]
  rfl

theorem dx_eq (q : Fin 1024) : val_main_v50 (F := Ideal) x g t (ix2 r q)
    = ct x g t r q * gRow g q * Rms.scale Rms.n1024 (xRow x r) + xRow x r q * through x g t r + through x g t r * xRow x r q := by
  simp only [val_main_v50_apply, val_main_v49_apply, val_main_v48_apply, val_main_v47_apply, val_main_v41_apply, val_main_v40_apply]
  rw [through_eq, prod_eq, show idx_main_v40 (ix2 r q) = ix2 r 0 from by funext a; fin_cases a <;> rfl, scale_eq]
  rfl

/-! ## The same with the constants gathered, for real numbers -/

open Cert.Gate (IsReal div_real coe_sum)

theorem two_eq : Ideal.ofBits .f32 0x40000000#32 = ((2 : ℝ) : EReal) := by
  simp [Ideal.ofBits, Ideal.ieee]; rw [← EReal.coe_mul]; norm_num
theorem half_eq : Ideal.ofBits .f32 0x3F000000#32 = ((1 / 2 : ℝ) : EReal) := Gate.half_eq
theorem per_eq : Ideal.ofBits .f32 0x3A800000#32 = ((1 / 1024 : ℝ) : EReal) := by
  simp [Ideal.ofBits, Ideal.ieee]; rw [← EReal.coe_mul]; norm_num
theorem half_per_eq : Ideal.ofBits .f32 0x3A000000#32 = ((1 / 2048 : ℝ) : EReal) := by
  simp [Ideal.ofBits, Ideal.ieee]; rw [← EReal.coe_mul]; norm_num

section
variable (hx : ∀ i, IsReal (x i)) (hg : ∀ i, IsReal (g i)) (ht : ∀ i, IsReal (t i))
include hx hg ht

theorem err_real (q : Fin 1024) : IsReal (err x g t r q) :=
  (((hx _).mul (Rms.scale_real Rms.n1024_eq (by norm_num) fun k => hx (ix2 r k))).mul (hg _)).sub (ht _)

theorem ct_per (q : Fin 1024) : ct x g t r q = err x g t r q * Ideal.ofBits .f32 0x3A800000#32 := by
  obtain ⟨e, he⟩ := err_real x g t r hx hg ht q
  rw [ct, he, half_eq, Ideal.ofBits_one_f32, mul_one, Rms.n1024_eq, div_real _ (by norm_num), two_eq, per_eq]
  norm_cast
  ring
theorem ct_real (q : Fin 1024) : IsReal (ct x g t r q) := by
  rw [ct_per x g t r hx hg ht q, per_eq]
  exact (err_real x g t r hx hg ht q).mul (.coe _)

theorem loss_per : Ideal.ofBits .f32 0x3F000000#32 * ∑ r : Fin 8192, Ideal.div (∑ q : Fin 1024, err x g t r q * err x g t r q) Rms.n1024
    = Ideal.ofBits .f32 0x3A000000#32 * ∑ r : Fin 8192, ∑ q : Fin 1024, err x g t r q * err x g t r q := by
  choose e he using fun r q => err_real x g t r hx hg ht q
  have h1 (r : Fin 8192) : (∑ q : Fin 1024, err x g t r q * err x g t r q) = ((∑ q, e r q * e r q : ℝ) : EReal) := by
    rw [← coe_sum]; exact Finset.sum_congr rfl fun q _ => by rw [he, EReal.coe_mul]
  simp only [h1]
  rw [half_eq, half_per_eq]
  simp only [Rms.n1024_eq]
  simp only [div_real _ (show (1024 : ℝ) ≠ 0 by norm_num)]
  rw [coe_sum, coe_sum, ← Finset.sum_div, ← EReal.coe_mul, ← EReal.coe_mul]
  congr 1
  ring

end

end Cert.Reference11Ideal.Loss

end
-- ==== Proof.LossHead.lean ====
/- The loss with its gradient computes its reference, for arguments that are real numbers. -/
module

public import proofs.«01_k».proof.Proof.LossHeadBody
public import proofs.«01_k».proof.Proof.LossHeadRef
public import proofs.«01_k».proof.Proof.Gen.Reference11Ideal.Run
public import proofs.«01_k».proof.Proof.Gen.Pre_finite11
public import proofs.«01_k».proof.Defs
public import Idealize.ShloMosaic.Lib.StableHlo.ReadAt
public import Idealize.ShloMosaic.Lib.Pipeline.ValueKit.Acc

@[expose] public section

set_option maxRecDepth 16384

noncomputable section

namespace Cert.Kernel11Ideal.Loss

open Idealize.ShloMosaic Idealize.ShloMosaic.TcCoe Idealize.SL.Sem
open Idealize.ShloMosaic.Pipeline (Dat)
open Cert.Kernel11Ideal Cert.Kernel11Ideal.Gen
open Cert.Gate (IsReal)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, win0_0.index t = ![t.val, 0] ∧ win0_1.index t = ![0, 0] ∧ win0_2.index t = ![t.val, 0]
    ∧ win0_3.index t = ![t.val, 0])

theorem lt8 (t : Fin cfg0.N) : t.val < 8 := lt_of_lt_of_eq t.isLt N_0

variable (m : (ℓ : Loc nD τ sig) → Buf (Elt Ideal) ℓ) (c : Dev nD)

abbrev a0 : Vec Ideal S8192x1024 .f32 := m ((c : Thread nD τ).loc main_arg0)
abbrev a1 : Vec Ideal S1024 .f32 := m ((c : Thread nD τ).loc main_arg1)
abbrev a2 : Vec Ideal S8192x1024 .f32 := m ((c : Thread nD τ).loc main_arg2)

/-! ## The blocks of a grid point -/

abbrev gs : Vec Ideal S1x1024 .f32 := V m c main_v0

theorem gs_eq (q : Fin 1024) : gs m c (ix2 0 q) = a1 m c (ix1 q) := by
  show V m c main_v0 _ = _
  unfold V V0
  simp only [List.flatten_cons, List.flatten_nil, List.cons_append, List.nil_append]
  after_reads_at

variable (t : Fin cfg0.N)

abbrev xAt : Vec Ideal S1024x1024 .f32 := iblk m c 0 t
abbrev gAt : Vec Ideal S1x1024 .f32 := iblk m c 1 t
abbrev tAt : Vec Ideal S1024x1024 .f32 := iblk m c 2 t

/-- The row of the whole array that is row `p` of the point's tile. -/
abbrev row' (p : Fin 1024) : Fin 8192 := ⟨t.val * 1024 + p.val, by have := lt8 t; omega⟩

theorem xAt_apply (p q : Fin 1024) : xAt m c t (ix2 p q) = a0 m c (ix2 (row' t p) q) := by
  rw [show a0 m c = V m c main_arg0 from (V_main_arg0 m c).symm]
  blk_ext [xAt, iblk, idx t]
theorem gAt_apply (q : Fin 1024) : gAt m c t (ix2 0 q) = a1 m c (ix1 q) := by
  rw [← gs_eq]
  blk_ext [gAt, iblk, idx t]
theorem tAt_apply (p q : Fin 1024) : tAt m c t (ix2 p q) = a2 m c (ix2 (row' t p) q) := by
  rw [show a2 m c = V m c main_arg2 from (V_main_arg2 m c).symm]
  blk_ext [tAt, iblk, idx t]

/-! ## A grid point's shares, in terms of the arguments -/

abbrev xRow (r : Fin 8192) : Fin 1024 → EReal := Reference11Ideal.Loss.xRow (a0 m c) r
abbrev gRow : Fin 1024 → EReal := Reference11Ideal.Loss.gRow (a1 m c)
abbrev dist (r : Fin 8192) (q : Fin 1024) : EReal := Reference11Ideal.Loss.err (a0 m c) (a1 m c) (a2 m c) r q
def share (r : Fin 8192) (q : Fin 1024) : EReal := dist m c r q * Ideal.ofBits .f32 0x3A800000#32

theorem rowOf_eq (p : Fin 1024) : rowOf (xAt m c t) p = xRow m c (row' t p) := funext fun q => xAt_apply m c t p q
theorem gainRow_eq : gainRow (gAt m c t) = gRow m c := funext fun q => gAt_apply m c t q
theorem err_eq (p q : Fin 1024) : err (xAt m c t) (gAt m c t) (tAt m c t) p q = dist m c (row' t p) q := by
  unfold err dist Reference11Ideal.Loss.err
  rw [rowOf_eq, gainRow_eq, tAt_apply]
theorem ct_eq (p q : Fin 1024) : ct (xAt m c t) (gAt m c t) (tAt m c t) p q = share m c (row' t p) q := by
  unfold ct share
  rw [err_eq]

/-- What one row adds to the sum of squares and to the gain's gradient. -/
def sqTerm (q : Fin 1024) (r : Fin 8192) : EReal := dist m c r q * dist m c r q
def dgTerm (q : Fin 1024) (r : Fin 8192) : EReal := share m c r q * (a0 m c (ix2 r q) * Rms.scale Rms.n1024 (xRow m c r))

theorem sqOf_eq (old : Vec Ideal S8x1024 .f32) (e : Fin 8) (q : Fin 1024) : sqOf (xAt m c t) (gAt m c t) (tAt m c t) old (ix2 e q)
    = old (ix2 e q) + ∑ a : Fin 128, sqTerm m c q (row' t ⟨a.val * 8 + e.val, by omega⟩) := by
  rw [sqOf_apply]
  simp only [err_eq]
  rfl
theorem dgOf_eq (old : Vec Ideal S8x1024 .f32) (e : Fin 8) (q : Fin 1024) : dgOf (xAt m c t) (gAt m c t) (tAt m c t) old (ix2 e q)
    = old (ix2 e q) + ∑ a : Fin 128, dgTerm m c q (row' t ⟨a.val * 8 + e.val, by omega⟩) := by
  rw [dgOf_apply]
  simp only [ct_eq, rowOf_eq, xAt_apply]
  rfl

/-! ## The gradient of the rows -/

def resX : Vec Ideal S8192x1024 .f32 := fun i => Rms.back Rms.n1024 (xRow m c (i 0)) (gRow m c) (share m c (i 0)) (i 1)

theorem after3 : (dats m 0 c).after 3 t = dxOf (xAt m c t) (gAt m c t) (tAt m c t) := by
  rw [after0_3]
  by_cases h0 : t.val % 8 = 0
  · rw [outsAt0_A m c t h0]; dsimp only; rw [outA_3]
  · rw [outsAt0_B m c t h0]; dsimp only; rw [outB_3]

theorem dxOf_eq (p q : Fin 1024) : dxOf (xAt m c t) (gAt m c t) (tAt m c t) (ix2 p q) = resX m c (ix2 (row' t p) q) := by
  rw [dxOf_apply, rowOf_eq, gainRow_eq]
  simp only [ct_eq]
  rfl

omit t in
theorem arr3 : (dats m 0 c).arrAt 3 cfg0.N = resX m c := by
  refine (dats m 0 c).arrAt_eq_of_covers 3 _ (by decide +kernel) fun t hf y => ?_
  obtain ⟨p, q, rfl⟩ : ∃ (p q : Fin 1024), y = ix2 p q := ⟨y 0, y 1, eq_ix2 y⟩
  have e : (win0_3.blk t).view.emb (ix2 p q) = (ix2 (row' t p) q : S8192x1024.Idx) := by
    funext b; fin_cases b <;> refine Fin.ext ?_ <;> blk_simp [idx t] <;> rfl
  blk_simp [idx t]
  rw [after3, e, dxOf_eq m c t]

/-! ## The sums over the grid -/

/-- The last grid point. -/
def tLast : Fin cfg0.N := ⟨7, by rw [show cfg0.N = 8 from N_0]; decide⟩

omit t in
/-- A sum that the first point starts from zero and each point adds the terms of its eighth rows to. -/
theorem sum_points (f : (n : ℕ) → n < cfg0.N → Vec Ideal S8x1024 .f32) (g : Fin 1024 → Fin 8192 → EReal)
    (h0 : ∀ (t : Fin cfg0.N) (e : Fin 8) (q : Fin 1024), t.val % 8 = 0 →
      f t.val t.isLt (ix2 e q) = 0 + ∑ a : Fin 128, g q (row' t ⟨a.val * 8 + e.val, by omega⟩))
    (hs : ∀ (t : Fin cfg0.N) (e : Fin 8) (q : Fin 1024), ¬t.val % 8 = 0 → f t.val t.isLt (ix2 e q)
      = f (t.val - 1) (Nat.lt_of_le_of_lt (Nat.sub_le _ _) t.isLt) (ix2 e q) + ∑ a : Fin 128, g q (row' t ⟨a.val * 8 + e.val, by omega⟩))
    (e : Fin 8) (q : Fin 1024) :
    f tLast.val tLast.isLt (ix2 e q) = ∑ t : Fin cfg0.N, ∑ a : Fin 128, g q (row' t ⟨a.val * 8 + e.val, by omega⟩) := by
  rw [Pipeline.eq_sum_fin_of_reset_step_last (fun n hn => f n hn (ix2 e q)) 8 0
    (fun t => ∑ a : Fin 128, g q (row' t ⟨a.val * 8 + e.val, by omega⟩)) (fun t h => h0 t e q h) (fun t h => hs t e q h)
    (by rw [show cfg0.N = 8 from N_0]) tLast (show 8 = cfg0.N from N_0.symm), zero_add]

omit t in
/-- The rows of a tile fall into eight partial sums, one row of the array each. -/
theorem sum_rows (f : Fin 8192 → EReal) :
    ∑ e : Fin 8, ∑ t : Fin cfg0.N, ∑ a : Fin 128, f (row' t ⟨a.val * 8 + e.val, by omega⟩) = ∑ r, f r := by
  rw [Fin.sum_univ_tiles 8 1024 rfl f, Finset.sum_comm]
  refine (Finset.sum_congr rfl fun t _ => ?_).trans
    (Fintype.sum_equiv (finCongr N_0) (fun t : Fin cfg0.N => ∑ p : Fin 1024, f (row' t p)) _ fun t => rfl)
  rw [Finset.sum_comm, Fin.sum_univ_tiles 128 8 rfl]

/-- The partial sums after a grid point: of the squares, and of the gain's gradient. -/
abbrev sqOut (n : ℕ) (hn : n < cfg0.N) : Vec Ideal S8x1024 .f32 := (outsAt0 m c n hn).2.1
abbrev dgOut (n : ℕ) (hn : n < cfg0.N) : Vec Ideal S8x1024 .f32 := (outsAt0 m c n hn).2.2

omit t in
theorem sqOut_sum (q : Fin 1024) : (∑ e : Fin 8, sqOut m c tLast.val tLast.isLt (ix2 e q)) = ∑ r, sqTerm m c q r := by
  rw [← sum_rows]
  refine Finset.sum_congr rfl fun e _ => sum_points (sqOut m c) (sqTerm m c) (fun t e q h => ?_) (fun t e q h => ?_) e q
  · unfold sqOut
    rw [outsAt0_A m c t h]; dsimp only; rw [outA_4]
    exact (sqOf_eq m c t _ e q).trans (congrArg (· + _) (zero_sq _))
  · unfold sqOut
    rw [outsAt0_B m c t h]; dsimp only; rw [outB_4]
    exact sqOf_eq m c t _ e q
omit t in
theorem dgOut_sum (q : Fin 1024) : (∑ e : Fin 8, dgOut m c tLast.val tLast.isLt (ix2 e q)) = ∑ r, dgTerm m c q r := by
  rw [← sum_rows]
  refine Finset.sum_congr rfl fun e _ => sum_points (dgOut m c) (dgTerm m c) (fun t e q h => ?_) (fun t e q h => ?_) e q
  · unfold dgOut
    rw [outsAt0_A m c t h]; dsimp only; rw [outA_5]
    exact (dgOf_eq m c t _ e q).trans (congrArg (· + _) (zero_dg _))
  · unfold dgOut
    rw [outsAt0_B m c t h]; dsimp only; rw [outB_5]
    exact dgOf_eq m c t _ e q

omit t in
theorem arr4 : (dats m 0 c).arrAt 4 cfg0.N = sqOut m c tLast.val tLast.isLt := by
  refine ((dats m 0 c).arrAt_eq_of_after_last 4 tLast (by decide +kernel) ((dats m 0 c).after 4 tLast) fun j => ?_).trans (after0_4 m c tLast)
  blk_simp
omit t in
theorem arr5 : (dats m 0 c).arrAt 5 cfg0.N = dgOut m c tLast.val tLast.isLt := by
  refine ((dats m 0 c).arrAt_eq_of_after_last 5 tLast (by decide +kernel) ((dats m 0 c).after 5 tLast) fun j => ?_).trans (after0_5 m c tLast)
  blk_simp

/-! ## The host code after the launch -/

omit t

abbrev tail (b : Ref sig .tc) := Pipeline.afterTail₀ cfgs (dats (F := Ideal) m) 0 (V0 m) [hostOps1] c b
abbrev arrs := Pipeline.withArrays (cfgs 0).spec c (V0 m c) fun w => (dats (F := Ideal) m 0 c).arrAt w (cfgs 0).N

theorem arr_inj : Function.Injective (Pipeline.arrRef spec0) := by decide

theorem arrs_arr (w : Fin 6) : arrs m c (Proc.devRef .tc (Pipeline.arrRef spec0 w)) = (dats m 0 c).arrAt w cfg0.N :=
  Pipeline.withArrays_arr spec0 arr_inj c (V0 m c) (fun w => (dats (F := Ideal) m 0 c).arrAt w (cfgs 0).N) w

theorem tail_gain (q : Fin 1024) : tail m c main_v4 (ix1 q) = ∑ r, dgTerm m c q r := by
  unfold tail Pipeline.afterTail₀
  simp only [List.flatten_cons, List.flatten_nil, List.cons_append, List.nil_append]
  after_reads_at
  show (∑ x : Fin 8, arrs m c (Proc.devRef .tc (Pipeline.arrRef spec0 5)) (ix2 x q) : EReal) = _
  rw [arrs_arr, arr5]
  exact dgOut_sum m c q
theorem tail_loss (i : S_.Idx) : tail m c main_v3 i = Ideal.ofBits .f32 0x3A000000#32 * ∑ r : Fin 8192, ∑ q : Fin 1024, sqTerm m c q r := by
  unfold tail Pipeline.afterTail₀
  simp only [List.flatten_cons, List.flatten_nil, List.cons_append, List.nil_append]
  after_reads_at
  show Ideal.ofBits .f32 0x3A000000#32 * (∑ e : Fin 8, ∑ q : Fin 1024, arrs m c (Proc.devRef .tc (Pipeline.arrRef spec0 4)) (ix2 e q) : EReal) = _
  rw [arrs_arr, arr4, Finset.sum_comm (s := (Finset.univ : Finset (Fin 8192)))]
  refine congrArg (Ideal.ofBits .f32 0x3A000000#32 * ·) ?_
  rw [Finset.sum_comm]
  exact Finset.sum_congr rfl fun q _ => sqOut_sum m c q

/-! ## The reference's results -/

structure Reals : Prop where
  h0 : ∀ i, IsReal (a0 m c i)
  h1 : ∀ i, IsReal (a1 m c i)
  h2 : ∀ i, IsReal (a2 m c i)

theorem reals (hp : Cert.Pre_Kernel11Ideal_finite11 (hPre_finite11 := Pre_finite11.Gen.facts) m) : Reals m c := by
  obtain ⟨p0, p1, p2⟩ := hp c
  exact ⟨fun i => .of_lt (congrFun p0 i), fun i => .of_lt (congrFun p1 i), fun i => .of_lt (congrFun p2 i)⟩

open Cert.Reference11Ideal.Read

variable (h : Reals m c)
include h

theorem share_eq (r : Fin 8192) (q : Fin 1024) : Reference11Ideal.Loss.ct (a0 m c) (a1 m c) (a2 m c) r q = share m c r q :=
  Reference11Ideal.Loss.ct_per _ _ _ r h.h0 h.h1 h.h2 q
theorem share_real (r : Fin 8192) (q : Fin 1024) : IsReal (share m c r q) := by
  rw [← share_eq m c h]
  exact Reference11Ideal.Loss.ct_real _ _ _ r h.h0 h.h1 h.h2 q

theorem sameX : resX m c = val_main_v50 (F := Ideal) (a0 m c) (a1 m c) (a2 m c) := by
  funext i
  obtain ⟨r, q, rfl⟩ : ∃ (r : Fin 8192) (q : Fin 1024), i = ix2 r q := ⟨i 0, i 1, eq_ix2 i⟩
  have e := Rms.back_eq Rms.n1024_eq (by norm_num) (fun q => h.h0 (ix2 r q)) (fun q => h.h1 (ix1 q)) (share_real m c h r) 0 q
  simp only [zero_add] at e
  rw [Reference11Ideal.Loss.dx_eq]
  unfold Reference11Ideal.Loss.through
  simp only [share_eq m c h]
  exact e.symm
theorem sameGain : tail m c main_v4 = val_main_v36 (F := Ideal) (a0 m c) (a1 m c) (a2 m c) := by
  funext i
  obtain ⟨q, rfl⟩ : ∃ q : Fin 1024, i = ix1 q := ⟨i 0, eq_ix1 i⟩
  rw [Reference11Ideal.Loss.gain_eq]
  simp only [share_eq m c h]
  exact (tail_gain m c q).trans (Finset.sum_congr (M := EReal) rfl fun r _ => mul_comm (G := EReal) _ _)
theorem sameLoss : tail m c main_v3 = val_main_v24 (F := Ideal) (a0 m c) (a1 m c) (a2 m c) := by
  funext i
  rw [Reference11Ideal.Loss.loss_eq, Reference11Ideal.Loss.loss_per _ _ _ h.h0 h.h1 h.h2]
  exact tail_loss m c i

/-! ## The claim -/

omit h
theorem algebraic : Cert.algebraic_Kernel11Ideal_Reference11Ideal_pre_finite11 (hKernel11Ideal := Kernel11Ideal.Gen.facts)
    (hReference11Ideal := Reference11Ideal.Gen.facts) (hPre_finite11 := Pre_finite11.Gen.facts) := by
  intro m g m' g' hp ha
  refine ⟨fun c => val_main_v24 (F := Ideal) (a0 m c) (a1 m c) (a2 m c), fun c => val_main_v50 (F := Ideal) (a0 m c) (a1 m c) (a2 m c),
    fun c => val_main_v36 (F := Ideal) (a0 m c) (a1 m c) (a2 m c), ?_, ?_⟩
  · refine (θ_run Kernel11Ideal.defs _ _).mono (fun r h c => ?_) (θ_run_and (run_main (F := Ideal) m g) (Gen.frame (F := Ideal) m g))
    have hr := reals m c hp
    exact ⟨((h.1 c).2 main_v3 (Pipeline.mem_restRefs_of main_v3 (by decide) (by decide))).trans (sameLoss m c hr),
      ((h.1 c).1 3).trans ((arr3 m c).trans (sameX m c hr)),
      ((h.1 c).2 main_v4 (Pipeline.mem_restRefs_of main_v4 (by decide) (by decide))).trans (sameGain m c hr), h.2.1 c⟩
  · refine (θ_run Reference11Ideal.defs _ _).mono (fun r h c => ?_) (Reference11Ideal.Value.run (F := Ideal) m' g')
    obtain ⟨k0, k1, k2, k3⟩ := h c
    obtain ⟨e0, e1, e2⟩ := ha c
    rw [val_main_v24_eq] at k0
    rw [val_main_v50_eq] at k1
    rw [val_main_v36_eq] at k2
    refine ⟨k0.trans ?_, k1.trans ?_, k2.trans ?_, k3⟩ <;> simp only [a0, a1, a2, ← e0, ← e1, ← e2]

end Cert.Kernel11Ideal.Loss

end
-- ==== Proof.AdamPacked.lean ====
/- The optimiser's step on the packed small parameters: both programs do the same arithmetic entry by entry. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read

@[expose] public section

noncomputable section

namespace Cert.Kernel12Ideal.Adam

open Idealize.ShloMosaic Idealize.ShloMosaic.TcCoe Idealize.SL.Sem
open Cert.Kernel12Ideal Cert.Kernel12Ideal.Gen

variable (m : (ℓ : Loc nD τ sig) → Buf (Elt Ideal) ℓ) (c : Dev nD)

/-- The gradient, the parameters, their two moments. -/
abbrev a0 : Vec Ideal S3520x128 .f32 := m ((c : Thread nD τ).loc main_arg0)
abbrev a1 : Vec Ideal S3520x128 .f32 := m ((c : Thread nD τ).loc main_arg1)
abbrev a2 : Vec Ideal S3520x128 .f32 := m ((c : Thread nD τ).loc main_arg2)
abbrev a3 : Vec Ideal S3520x128 .f32 := m ((c : Thread nD τ).loc main_arg3)

/-- The step and the two new moments, as the reference computes them. -/
theorem step_eq (g w v s : Vec Ideal S3520x128 .f32) :
    Value.G4 (F := Ideal) w g v s = Reference12Ideal.Read.val_main_v23 (F := Ideal) g w v s := rfl
theorem first_eq (g v : Vec Ideal S3520x128 .f32) :
    Value.G5 (F := Ideal) g v = Reference12Ideal.Read.val_main_v4 (F := Ideal) g v := rfl
theorem second_eq (g s : Vec Ideal S3520x128 .f32) :
    Value.G6 (F := Ideal) g s = Reference12Ideal.Read.val_main_v10 (F := Ideal) g s := rfl

theorem algebraic : Cert.algebraic_Kernel12Ideal_Reference12Ideal (hKernel12Ideal := Kernel12Ideal.Gen.facts)
    (hReference12Ideal := Reference12Ideal.Gen.facts) := by
  intro m g m' g' _ ha
  refine ⟨fun c => Reference12Ideal.Read.val_main_v23 (F := Ideal) (a0 m c) (a1 m c) (a2 m c) (a3 m c),
    fun c => Reference12Ideal.Read.val_main_v4 (F := Ideal) (a0 m c) (a2 m c),
    fun c => Reference12Ideal.Read.val_main_v10 (F := Ideal) (a0 m c) (a3 m c), ?_, ?_⟩
  · refine (θ_run Kernel12Ideal.defs _ _).mono (fun r h c => ?_) (Value.run_blocks (F := Ideal) m g)
    obtain ⟨k4, k5, k6, k⟩ := h c
    exact ⟨k4.trans ((Value.final4 m c).trans (step_eq ..)), k5.trans ((Value.final5 m c).trans (first_eq ..)),
      k6.trans ((Value.final6 m c).trans (second_eq ..)), k⟩
  · refine (θ_run Reference12Ideal.defs _ _).mono (fun r h c => ?_) (Reference12Ideal.Value.run (F := Ideal) m' g')
    obtain ⟨k0, k1, k2, k⟩ := h c
    obtain ⟨e0, e1, e2, e3⟩ := ha c
    rw [Reference12Ideal.Read.val_main_v23_eq] at k0
    rw [Reference12Ideal.Read.val_main_v4_eq] at k1
    rw [Reference12Ideal.Read.val_main_v10_eq] at k2
    refine ⟨k0.trans ?_, k1.trans ?_, k2.trans ?_, k⟩ <;> simp only [a0, a1, a2, a3, ← e0, ← e1, ← e2, ← e3]

end Cert.Kernel12Ideal.Adam

end
-- ==== Proof.AdamSharded.lean ====
/- The optimiser's step for a large weight's last layer: the eight devices' shares of the gradient are added up, and every entry
   of the weight and of its two moments is updated. The launch fills the last layer's half of each result array, which is what
   the program returns. -/
module

public import proofs.«01_k».proof.Defs
public import proofs.«01_k».proof.Proof.Gen.Kernel13Ideal.Frame
public import proofs.«01_k».proof.Proof.Gen.Reference13Ideal.Run
public import proofs.«01_k».proof.Proof.Gen.Reference13Ideal.Read
public import proofs.«01_k».proof.Proof.Whole
public import Idealize.ShloMosaic.Lib.Pointwise
public import Idealize.ShloMosaic.Lib.ValueIdx
public import Idealize.ShloMosaic.Lib.StableHlo.ReadAt
public import Idealize.ShloMosaic.Lib.Pipeline.ValueKit
public import Idealize.ShloMosaic.Lib.Pipeline.ValueKit.Partial

@[expose] public section

set_option maxRecDepth 16384

noncomputable section

namespace Cert.Kernel13Ideal.Adam

open Idealize.ShloMosaic Idealize.ShloMosaic.TcCoe Idealize.SL.Sem
open Idealize.ShloMosaic.Pipeline (Dat)
open Cert.Kernel13Ideal Cert.Kernel13Ideal.Gen

/-! ## One entry's step, from the gradient and the entry's old values -/

abbrev R := Ideal .f32
abbrev lit (b : BitVec 32) : R := FloatOps.ofBits .f32 b

/-- The new first moment, the new second moment and the step. -/
def first (g a : R) : R := FloatOps.addf (FloatOps.mulf (lit 0x3F666666#32) a) (FloatOps.mulf (lit 0x3DCCCCCD#32) g)
def second (g b : R) : R :=
  FloatOps.addf (FloatOps.mulf (lit 0x3F7FBE77#32) b) (FloatOps.mulf (lit 0x3A83126F#32) (FloatOps.mulf g g))
def step (g w a b : R) : R :=
  FloatOps.mulf (lit 0xBA83126F#32) (FloatOps.addf
    (FloatOps.divf (FloatOps.divf (first g a) (lit 0x3F26BD02#32))
      (FloatOps.addf (FloatOps.hostUnary .sqrt (FloatOps.divf (second g b) (lit 0x3C231ACC#32))) (lit 0x322BCC77#32)))
    (FloatOps.mulf (lit 0x3C23D70A#32) w))

/-- The gradient: the sum of the eight shares. -/
def total (f : Fin 8 → R) : R := ∑ s, f s

/-! ## One grid point -/

section
variable (x0 : Vec Ideal S8x352x1024 .bf16) (x1 x2 x3 : Vec Ideal S1x352x1024 .f32) (p : Fin 352) (q : Fin 1024)

theorem ld_share (s : Fin 8) (inb) (p : Fin 352) (q : Fin 1024) :
    View.ld x0 (Rect.unit (s := S8x352x1024) ![s.val, 0, 0] S1x352x1024.size inb) (ix3 0 p q) = x0 (ix3 s p q) := by
  pointwise [View.ld]

theorem pay8_apply : k0_pay8 x0 x1 x2 x3 (ix2 p q) = total fun s => x0 (ix3 s p q) := by
  unfold total
  rw [Fin.sum_univ_eight]
  pointwise [k0_pay8, k0_pay3]

theorem pay4_apply (g : FVec Ideal S352x1024 .f32) : k0_pay4 g x2 (ix2 p q) = first (g (ix2 p q)) (x2 (ix3 0 p q)) := by
  pointwise [k0_pay4, first]
theorem pay5_apply (g : FVec Ideal S352x1024 .f32) : k0_pay5 g x3 (ix2 p q) = second (g (ix2 p q)) (x3 (ix3 0 p q)) := by
  pointwise [k0_pay5, second]
theorem pay7_apply (g : FVec Ideal S352x1024 .f32) :
    k0_pay7 g x1 x2 x3 (ix3 0 p q) = step (g (ix2 p q)) (x1 (ix3 0 p q)) (x2 (ix3 0 p q)) (x3 (ix3 0 p q)) := by
  unfold step
  rw [← pay4_apply, ← pay5_apply]
  pointwise [k0_pay7]
theorem pay6_apply (g : FVec Ideal S352x1024 .f32) : k0_pay6 g (ix3 0 p q) = g (ix2 p q) := by pointwise [k0_pay6]
theorem pay1_apply (g : FVec Ideal S352x1024 .f32) : k0_pay1 g (ix3 0 p q) = g (ix2 p q) := by pointwise [k0_pay1]
theorem pay2_apply (g : FVec Ideal S352x1024 .f32) : k0_pay2 g (ix3 0 p q) = g (ix2 p q) := by pointwise [k0_pay2]

theorem ld_whole (x : Vec Ideal S1x352x1024 .f32) : View.ld x r0_8 = x := View.ld_unit_zero Whole.zero3 _ x

theorem out4_apply : out0_4 x0 x1 x2 x3 (ix3 0 p q) = total fun s => x0 (ix3 s p q) := by
  unfold out0_4
  rw [Whole.stored Whole.zero3, pay6_apply, pay8_apply]
theorem out5_apply : out0_5 x0 x1 x2 x3 (ix3 0 p q)
    = step (total fun s => x0 (ix3 s p q)) (x1 (ix3 0 p q)) (x2 (ix3 0 p q)) (x3 (ix3 0 p q)) := by
  unfold out0_5
  rw [Whole.stored Whole.zero3, pay7_apply, pay8_apply, ld_whole, ld_whole, ld_whole]
theorem out6_apply : out0_6 x0 x1 x2 x3 (ix3 0 p q) = first (total fun s => x0 (ix3 s p q)) (x2 (ix3 0 p q)) := by
  unfold out0_6
  rw [Whole.stored Whole.zero3, pay1_apply, pay4_apply, pay8_apply, ld_whole]
theorem out7_apply : out0_7 x0 x1 x2 x3 (ix3 0 p q) = second (total fun s => x0 (ix3 s p q)) (x3 (ix3 0 p q)) := by
  unfold out0_7
  rw [Whole.stored Whole.zero3, pay2_apply, pay5_apply, pay8_apply, ld_whole]
end

/-! ## The grid: the upper and the lower half of the last layer's rows -/

theorem idx : ∀ t : Fin cfg0.N, win0_0.index t = ![0, t.val, 0] ∧ win0_1.index t = ![1, t.val, 0] ∧ win0_2.index t = ![1, t.val, 0]
    ∧ win0_3.index t = ![1, t.val, 0] ∧ win0_4.index t = ![1, t.val, 0] ∧ win0_5.index t = ![1, t.val, 0]
    ∧ win0_6.index t = ![1, t.val, 0] ∧ win0_7.index t = ![1, t.val, 0] :=
  (by decide +kernel : ∀ t : Fin grid0.N, win0_0.index t = ![0, t.val, 0] ∧ win0_1.index t = ![1, t.val, 0]
    ∧ win0_2.index t = ![1, t.val, 0] ∧ win0_3.index t = ![1, t.val, 0] ∧ win0_4.index t = ![1, t.val, 0]
    ∧ win0_5.index t = ![1, t.val, 0] ∧ win0_6.index t = ![1, t.val, 0] ∧ win0_7.index t = ![1, t.val, 0])

theorem lt2 (t : Fin cfg0.N) : t.val < 2 := lt_of_lt_of_eq t.isLt N_0

variable (m : (ℓ : Loc nD τ sig) → Buf (Elt Ideal) ℓ) (c : Dev nD)

/-- The eight shares of the gradient, the weight and its two moments. -/
abbrev a0 : Vec Ideal S8x704x1024 .bf16 := m ((c : Thread nD τ).loc main_arg0)
abbrev a1 : Vec Ideal S2x704x1024 .f32 := m ((c : Thread nD τ).loc main_arg1)
abbrev a2 : Vec Ideal S2x704x1024 .f32 := m ((c : Thread nD τ).loc main_arg2)
abbrev a3 : Vec Ideal S2x704x1024 .f32 := m ((c : Thread nD τ).loc main_arg3)

variable (t : Fin cfg0.N)

abbrev sharesAt : Vec Ideal S8x352x1024 .bf16 := iblk m c 0 t
abbrev wAt : Vec Ideal S1x352x1024 .f32 := iblk m c 1 t
abbrev mAt : Vec Ideal S1x352x1024 .f32 := iblk m c 2 t
abbrev vAt : Vec Ideal S1x352x1024 .f32 := iblk m c 3 t

/-- The row of the layer that is row `p` of the point's tile. -/
abbrev row' (p : Fin 352) : Fin 704 := ⟨t.val * 352 + p.val, by have := lt2 t; omega⟩

theorem sharesAt_apply (s : Fin 8) (p : Fin 352) (q : Fin 1024) : sharesAt m c t (ix3 s p q) = a0 m c (ix3 s (row' t p) q) := by
  rw [show a0 m c = V m c main_arg0 from (V_main_arg0 m c).symm]
  blk_ext [sharesAt, iblk, idx t]
theorem wAt_apply (p : Fin 352) (q : Fin 1024) : wAt m c t (ix3 0 p q) = a1 m c (ix3 1 (row' t p) q) := by
  rw [show a1 m c = V m c main_arg1 from (V_main_arg1 m c).symm]
  blk_ext [wAt, iblk, idx t]
theorem mAt_apply (p : Fin 352) (q : Fin 1024) : mAt m c t (ix3 0 p q) = a2 m c (ix3 1 (row' t p) q) := by
  rw [show a2 m c = V m c main_arg2 from (V_main_arg2 m c).symm]
  blk_ext [mAt, iblk, idx t]
theorem vAt_apply (p : Fin 352) (q : Fin 1024) : vAt m c t (ix3 0 p q) = a3 m c (ix3 1 (row' t p) q) := by
  rw [show a3 m c = V m c main_arg3 from (V_main_arg3 m c).symm]
  blk_ext [vAt, iblk, idx t]

omit t

/-- The last layer's entry `(r, q)` of the gradient, of the step and of the two new moments. -/
def gradAt (r : Fin 704) (q : Fin 1024) : R := total fun s => a0 m c (ix3 s r q)
def stepAt (r : Fin 704) (q : Fin 1024) : R := step (gradAt m c r q) (a1 m c (ix3 1 r q)) (a2 m c (ix3 1 r q)) (a3 m c (ix3 1 r q))
def firstAt (r : Fin 704) (q : Fin 1024) : R := first (gradAt m c r q) (a2 m c (ix3 1 r q))
def secondAt (r : Fin 704) (q : Fin 1024) : R := second (gradAt m c r q) (a3 m c (ix3 1 r q))

/-- An array whose entries do not depend on the layer. -/
def layers (f : Fin 704 → Fin 1024 → R) : Vec Ideal S2x704x1024 .f32 := fun i => f (i 1) (i 2)

abbrev lastLayer (i : S2x704x1024.Idx) : Prop := (i 0).val = 1
theorem lastLayer_iff (j : S2x704x1024.Idx) : lastLayer j ↔ (j 0).val / 1 = 1 := by rw [Nat.div_one]
theorem tile_idx (y : S1x352x1024.Idx) : ∃ (p : Fin 352) (q : Fin 1024), y = ix3 0 p q :=
  ⟨y 1, y 2, (eq_ix3 y).trans (congrArg (ix3 · (y 1) (y 2)) (Subsingleton.elim (α := Fin 1) _ _))⟩

theorem arr4 (r : Fin 704) (q : Fin 1024) : (dats m 0 c).arrAt 4 cfg0.N (ix3 1 r q) = gradAt m c r q := by
  refine ((dats m 0 c).arrAt_apply_of_coversWhere 4 (layers (gradAt m c)) (P := lastLayer) (fun β => β (0 : Fin 3) = 1)
    (by decide +kernel) (fun t hf y => ?_) lastLayer_iff (ix3 1 r q)).trans (by rw [if_pos (by rfl)]; rfl)
  obtain ⟨p, q, rfl⟩ := tile_idx y
  have e : (win0_4.blk t).view.emb (ix3 0 p q) = (ix3 1 (row' t p) q : S2x704x1024.Idx) := by
    funext b; fin_cases b <;> refine Fin.ext ?_ <;> blk_simp [idx t] <;> rfl
  blk_simp [idx t]
  rw [after0_4, e, out4_apply]
  simp only [sharesAt_apply]
  rfl
theorem arr5 (r : Fin 704) (q : Fin 1024) : (dats m 0 c).arrAt 5 cfg0.N (ix3 1 r q) = stepAt m c r q := by
  refine ((dats m 0 c).arrAt_apply_of_coversWhere 5 (layers (stepAt m c)) (P := lastLayer) (fun β => β (0 : Fin 3) = 1)
    (by decide +kernel) (fun t hf y => ?_) lastLayer_iff (ix3 1 r q)).trans (by rw [if_pos (by rfl)]; rfl)
  obtain ⟨p, q, rfl⟩ := tile_idx y
  have e : (win0_5.blk t).view.emb (ix3 0 p q) = (ix3 1 (row' t p) q : S2x704x1024.Idx) := by
    funext b; fin_cases b <;> refine Fin.ext ?_ <;> blk_simp [idx t] <;> rfl
  blk_simp [idx t]
  rw [after0_5, e, out5_apply]
  simp only [sharesAt_apply, wAt_apply, mAt_apply, vAt_apply]
  rfl
theorem arr6 (r : Fin 704) (q : Fin 1024) : (dats m 0 c).arrAt 6 cfg0.N (ix3 1 r q) = firstAt m c r q := by
  refine ((dats m 0 c).arrAt_apply_of_coversWhere 6 (layers (firstAt m c)) (P := lastLayer) (fun β => β (0 : Fin 3) = 1)
    (by decide +kernel) (fun t hf y => ?_) lastLayer_iff (ix3 1 r q)).trans (by rw [if_pos (by rfl)]; rfl)
  obtain ⟨p, q, rfl⟩ := tile_idx y
  have e : (win0_6.blk t).view.emb (ix3 0 p q) = (ix3 1 (row' t p) q : S2x704x1024.Idx) := by
    funext b; fin_cases b <;> refine Fin.ext ?_ <;> blk_simp [idx t] <;> rfl
  blk_simp [idx t]
  rw [after0_6, e, out6_apply]
  simp only [sharesAt_apply, mAt_apply]
  rfl
theorem arr7 (r : Fin 704) (q : Fin 1024) : (dats m 0 c).arrAt 7 cfg0.N (ix3 1 r q) = secondAt m c r q := by
  refine ((dats m 0 c).arrAt_apply_of_coversWhere 7 (layers (secondAt m c)) (P := lastLayer) (fun β => β (0 : Fin 3) = 1)
    (by decide +kernel) (fun t hf y => ?_) lastLayer_iff (ix3 1 r q)).trans (by rw [if_pos (by rfl)]; rfl)
  obtain ⟨p, q, rfl⟩ := tile_idx y
  have e : (win0_7.blk t).view.emb (ix3 0 p q) = (ix3 1 (row' t p) q : S2x704x1024.Idx) := by
    funext b; fin_cases b <;> refine Fin.ext ?_ <;> blk_simp [idx t] <;> rfl
  blk_simp [idx t]
  rw [after0_7, e, out7_apply]
  simp only [sharesAt_apply, vAt_apply]
  rfl

/-! ## The host code after the launch: the last layer of each result array -/

abbrev tail (b : Ref sig .tc) := Pipeline.afterTail₀ cfgs (dats (F := Ideal) m) 0 (V0 m) [hostOps1] c b
abbrev arrs := Pipeline.withArrays (cfgs 0).spec c (V0 m c) fun w => (dats (F := Ideal) m 0 c).arrAt w (cfgs 0).N

theorem arr_inj : Function.Injective (Pipeline.arrRef spec0) := by decide

theorem arrs_arr (w : Fin 8) : arrs m c (Proc.devRef .tc (Pipeline.arrRef spec0 w)) = (dats m 0 c).arrAt w cfg0.N :=
  Pipeline.withArrays_arr spec0 arr_inj c (V0 m c) (fun w => (dats (F := Ideal) m 0 c).arrAt w (cfgs 0).N) w

variable (r : Fin 704) (q : Fin 1024)

theorem tail_grad : tail m c main_v2 (ix2 r q) = gradAt m c r q := by
  unfold tail Pipeline.afterTail₀
  simp only [List.flatten_cons, List.flatten_nil, List.cons_append, List.nil_append]
  after_reads_at
  show arrs m c (Proc.devRef .tc (Pipeline.arrRef spec0 4)) (ix3 1 r q) = _
  rw [arrs_arr, arr4]
theorem tail_step : tail m c main_v4 (ix2 r q) = stepAt m c r q := by
  unfold tail Pipeline.afterTail₀
  simp only [List.flatten_cons, List.flatten_nil, List.cons_append, List.nil_append]
  after_reads_at
  show arrs m c (Proc.devRef .tc (Pipeline.arrRef spec0 5)) (ix3 1 r q) = _
  rw [arrs_arr, arr5]
theorem tail_first : tail m c main_v6 (ix2 r q) = firstAt m c r q := by
  unfold tail Pipeline.afterTail₀
  simp only [List.flatten_cons, List.flatten_nil, List.cons_append, List.nil_append]
  after_reads_at
  show arrs m c (Proc.devRef .tc (Pipeline.arrRef spec0 6)) (ix3 1 r q) = _
  rw [arrs_arr, arr6]
theorem tail_second : tail m c main_v8 (ix2 r q) = secondAt m c r q := by
  unfold tail Pipeline.afterTail₀
  simp only [List.flatten_cons, List.flatten_nil, List.cons_append, List.nil_append]
  after_reads_at
  show arrs m c (Proc.devRef .tc (Pipeline.arrRef spec0 7)) (ix3 1 r q) = _
  rw [arrs_arr, arr7]

/-! ## The reference's entries -/

section
open Cert.Reference13Ideal.Read
variable (x0 : Vec Ideal S8x704x1024 .bf16) (x1 x2 x3 : Vec Ideal S2x704x1024 .f32)

theorem ref_grad : val_main_v1 (F := Ideal) x0 (ix2 r q) = total fun s => x0 (ix3 s r q) := by
  unfold total
  pointwise [val_main_v1, val_main_v0, val_main_cst]
theorem ref_w : val_main_v3 (F := Ideal) x1 (ix2 r q) = x1 (ix3 1 r q) := by pointwise [val_main_v3, val_main_v2]
theorem ref_m : val_main_v5 (F := Ideal) x2 (ix2 r q) = x2 (ix3 1 r q) := by pointwise [val_main_v5, val_main_v4]
theorem ref_v : val_main_v7 (F := Ideal) x3 (ix2 r q) = x3 (ix3 1 r q) := by pointwise [val_main_v7, val_main_v6]
theorem ref_first : val_main_v12 (F := Ideal) x0 x2 (ix2 r q) = first (total fun s => x0 (ix3 s r q)) (x2 (ix3 1 r q)) := by
  rw [← ref_grad, ← ref_m r q x2]; rfl
theorem ref_second : val_main_v18 (F := Ideal) x0 x3 (ix2 r q) = second (total fun s => x0 (ix3 s r q)) (x3 (ix3 1 r q)) := by
  rw [← ref_grad, ← ref_v r q x3]; rfl
theorem ref_step : val_main_v31 (F := Ideal) x0 x1 x2 x3 (ix2 r q)
    = step (total fun s => x0 (ix3 s r q)) (x1 (ix3 1 r q)) (x2 (ix3 1 r q)) (x3 (ix3 1 r q)) := by
  unfold step
  rw [← ref_first, ← ref_second, ← ref_w r q x1]; rfl
end

theorem same_grad : tail m c main_v2 = Reference13Ideal.Read.val_main_v1 (F := Ideal) (a0 m c) := by
  funext i
  obtain ⟨r, q, rfl⟩ : ∃ (r : Fin 704) (q : Fin 1024), i = ix2 r q := ⟨i 0, i 1, eq_ix2 i⟩
  exact (tail_grad m c r q).trans (ref_grad r q _).symm
theorem same_step : tail m c main_v4 = Reference13Ideal.Read.val_main_v31 (F := Ideal) (a0 m c) (a1 m c) (a2 m c) (a3 m c) := by
  funext i
  obtain ⟨r, q, rfl⟩ : ∃ (r : Fin 704) (q : Fin 1024), i = ix2 r q := ⟨i 0, i 1, eq_ix2 i⟩
  exact (tail_step m c r q).trans (ref_step r q _ _ _ _).symm
theorem same_first : tail m c main_v6 = Reference13Ideal.Read.val_main_v12 (F := Ideal) (a0 m c) (a2 m c) := by
  funext i
  obtain ⟨r, q, rfl⟩ : ∃ (r : Fin 704) (q : Fin 1024), i = ix2 r q := ⟨i 0, i 1, eq_ix2 i⟩
  exact (tail_first m c r q).trans (ref_first r q _ _).symm
theorem same_second : tail m c main_v8 = Reference13Ideal.Read.val_main_v18 (F := Ideal) (a0 m c) (a3 m c) := by
  funext i
  obtain ⟨r, q, rfl⟩ : ∃ (r : Fin 704) (q : Fin 1024), i = ix2 r q := ⟨i 0, i 1, eq_ix2 i⟩
  exact (tail_second m c r q).trans (ref_second r q _ _).symm

/-! ## The claim -/

theorem algebraic : Cert.algebraic_Kernel13Ideal_Reference13Ideal (hKernel13Ideal := Kernel13Ideal.Gen.facts)
    (hReference13Ideal := Reference13Ideal.Gen.facts) := by
  intro m g m' g' _ ha
  refine ⟨fun c => Reference13Ideal.Read.val_main_v1 (F := Ideal) (a0 m c),
    fun c => Reference13Ideal.Read.val_main_v31 (F := Ideal) (a0 m c) (a1 m c) (a2 m c) (a3 m c),
    fun c => Reference13Ideal.Read.val_main_v12 (F := Ideal) (a0 m c) (a2 m c),
    fun c => Reference13Ideal.Read.val_main_v18 (F := Ideal) (a0 m c) (a3 m c), ?_, ?_⟩
  · refine (θ_run Kernel13Ideal.defs _ _).mono (fun r h c => ?_) (θ_run_and (run_main (F := Ideal) m g) (Gen.frame (F := Ideal) m g))
    have k (b : Ref sig .tc) (hs hr) := (h.1 c).2 b (Pipeline.mem_restRefs_of b hs hr)
    exact ⟨(k main_v2 (by decide) (by decide)).trans (same_grad m c), (k main_v4 (by decide) (by decide)).trans (same_step m c),
      (k main_v6 (by decide) (by decide)).trans (same_first m c), (k main_v8 (by decide) (by decide)).trans (same_second m c), h.2.1 c⟩
  · refine (θ_run Reference13Ideal.defs _ _).mono (fun r h c => ?_) (Reference13Ideal.Value.run (F := Ideal) m' g')
    obtain ⟨k0, k1, k2, k3, k⟩ := h c
    obtain ⟨e0, e1, e2, e3⟩ := ha c
    rw [Reference13Ideal.Read.val_main_v1_eq] at k0
    rw [Reference13Ideal.Read.val_main_v31_eq] at k1
    rw [Reference13Ideal.Read.val_main_v12_eq] at k2
    rw [Reference13Ideal.Read.val_main_v18_eq] at k3
    refine ⟨k0.trans ?_, k1.trans ?_, k2.trans ?_, k3.trans ?_, k⟩ <;> simp only [a0, a1, a2, a3, ← e0, ← e1, ← e2, ← e3]

end Cert.Kernel13Ideal.Adam

end
-- ==== Proof.AdamLayers.lean ====
/- The optimiser's step for both layers of a large weight: one launch fills the last layer's half of each result array, the next
   launch the first layer's half of the same arrays, and together they are the update of the whole stack. -/
module

public import proofs.«01_k».proof.Defs
public import proofs.«01_k».proof.Proof.Gen.Kernel14Ideal.Frame
public import proofs.«01_k».proof.Proof.Gen.Reference14Ideal.Run
public import proofs.«01_k».proof.Proof.Gen.Reference14Ideal.Read
public import proofs.«01_k».proof.Proof.AdamSharded
public import proofs.«01_k».proof.Proof.Whole
public import Idealize.ShloMosaic.Lib.Pointwise
public import Idealize.ShloMosaic.Lib.ValueIdx
public import Idealize.ShloMosaic.Lib.StableHlo.ReadAt
public import Idealize.ShloMosaic.Lib.Pipeline.ValueKit
public import Idealize.ShloMosaic.Lib.Pipeline.ValueKit.Partial

@[expose] public section

set_option maxRecDepth 16384

noncomputable section

namespace Cert.Kernel14Ideal.Adam

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel14Ideal Cert.Kernel14Ideal.Gen
open Cert.Kernel13Ideal.Adam (R first second step total)

/-! ## One grid point: the two launches run the same body, which is the body of the last layer's launch taken alone -/

section
variable (x0 : Vec Ideal S8x352x1024 .bf16) (x1 x2 x3 : Vec Ideal S1x352x1024 .f32) (p : Fin 352) (q : Fin 1024)

theorem out4_apply : out0_4 x0 x1 x2 x3 (ix3 0 p q) = total fun s => x0 (ix3 s p q) :=
  Kernel13Ideal.Adam.out4_apply x0 x1 x2 x3 p q
theorem out5_apply : out0_5 x0 x1 x2 x3 (ix3 0 p q)
    = step (total fun s => x0 (ix3 s p q)) (x1 (ix3 0 p q)) (x2 (ix3 0 p q)) (x3 (ix3 0 p q)) :=
  Kernel13Ideal.Adam.out5_apply x0 x1 x2 x3 p q
theorem out6_apply : out0_6 x0 x1 x2 x3 (ix3 0 p q) = first (total fun s => x0 (ix3 s p q)) (x2 (ix3 0 p q)) :=
  Kernel13Ideal.Adam.out6_apply x0 x1 x2 x3 p q
theorem out7_apply : out0_7 x0 x1 x2 x3 (ix3 0 p q) = second (total fun s => x0 (ix3 s p q)) (x3 (ix3 0 p q)) :=
  Kernel13Ideal.Adam.out7_apply x0 x1 x2 x3 p q
end

variable (V : (c : Dev nD) → (b : Ref sig .tc) → Buf (Elt Ideal) ((c : Thread nD τ).loc b)) (c : Dev nD)

theorem outs4 (t : Fin cfg1.N) : (outsAt1 V c t).1 = out0_4 (iblk1 V c 0 t) (iblk1 V c 1 t) (iblk1 V c 2 t) (iblk1 V c 3 t) := by
  have hc := cover1_A_4 c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (iblk1 V c 0 t) (iblk1 V c 1 t) (iblk1 V c 2 t) (iblk1 V c 3 t)
  unfold outsAt1 out1_A_4
  dsimp only
  rw [View.read_writes_eq_canon _ _ _ hc]
  unfold kernelRun1_A; dsimp only; sl_unfold_words
  simp only [View.readAt_eq_ld, Memref.IsWhole.read_unread]
  rfl
theorem outs5 (t : Fin cfg1.N) : (outsAt1 V c t).2.1 = out0_5 (iblk1 V c 0 t) (iblk1 V c 1 t) (iblk1 V c 2 t) (iblk1 V c 3 t) := by
  have hc := cover1_A_5 c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (iblk1 V c 0 t) (iblk1 V c 1 t) (iblk1 V c 2 t) (iblk1 V c 3 t)
  unfold outsAt1 out1_A_5
  dsimp only
  rw [View.read_writes_eq_canon _ _ _ hc]
  unfold kernelRun1_A; dsimp only; sl_unfold_words
  simp only [View.readAt_eq_ld, Memref.IsWhole.read_unread]
  rfl
theorem outs6 (t : Fin cfg1.N) : (outsAt1 V c t).2.2.1 = out0_6 (iblk1 V c 0 t) (iblk1 V c 1 t) (iblk1 V c 2 t) (iblk1 V c 3 t) := by
  have hc := cover1_A_6 c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (iblk1 V c 0 t) (iblk1 V c 1 t) (iblk1 V c 2 t) (iblk1 V c 3 t)
  unfold outsAt1 out1_A_6
  dsimp only
  rw [View.read_writes_eq_canon _ _ _ hc]
  unfold kernelRun1_A; dsimp only; sl_unfold_words
  simp only [View.readAt_eq_ld, Memref.IsWhole.read_unread]
  rfl
theorem outs7 (t : Fin cfg1.N) : (outsAt1 V c t).2.2.2 = out0_7 (iblk1 V c 0 t) (iblk1 V c 1 t) (iblk1 V c 2 t) (iblk1 V c 3 t) := by
  have hc := cover1_A_7 c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (iblk1 V c 0 t) (iblk1 V c 1 t) (iblk1 V c 2 t) (iblk1 V c 3 t)
  unfold outsAt1 out1_A_7
  dsimp only
  rw [View.read_writes_eq_canon _ _ _ hc]
  unfold kernelRun1_A; dsimp only; sl_unfold_words
  simp only [View.readAt_eq_ld, Memref.IsWhole.read_unread]
  rfl

/-! ## The grids: the upper and the lower half of one layer's rows, the last layer's first -/

theorem idx0 : ∀ t : Fin cfg0.N, win0_0.index t = ![0, t.val, 0] ∧ win0_1.index t = ![1, t.val, 0] ∧ win0_2.index t = ![1, t.val, 0]
    ∧ win0_3.index t = ![1, t.val, 0] ∧ win0_4.index t = ![1, t.val, 0] ∧ win0_5.index t = ![1, t.val, 0]
    ∧ win0_6.index t = ![1, t.val, 0] ∧ win0_7.index t = ![1, t.val, 0] :=
  (by decide +kernel : ∀ t : Fin grid0.N, win0_0.index t = ![0, t.val, 0] ∧ win0_1.index t = ![1, t.val, 0] ∧ win0_2.index t = ![1, t.val, 0]
    ∧ win0_3.index t = ![1, t.val, 0] ∧ win0_4.index t = ![1, t.val, 0] ∧ win0_5.index t = ![1, t.val, 0]
    ∧ win0_6.index t = ![1, t.val, 0] ∧ win0_7.index t = ![1, t.val, 0])
theorem idx1 : ∀ t : Fin cfg1.N, win1_0.index t = ![0, t.val, 0] ∧ win1_1.index t = ![0, t.val, 0] ∧ win1_2.index t = ![0, t.val, 0]
    ∧ win1_3.index t = ![0, t.val, 0] ∧ win1_4.index t = ![0, t.val, 0] ∧ win1_5.index t = ![0, t.val, 0]
    ∧ win1_6.index t = ![0, t.val, 0] ∧ win1_7.index t = ![0, t.val, 0] :=
  (by decide +kernel : ∀ t : Fin grid1.N, win1_0.index t = ![0, t.val, 0] ∧ win1_1.index t = ![0, t.val, 0] ∧ win1_2.index t = ![0, t.val, 0]
    ∧ win1_3.index t = ![0, t.val, 0] ∧ win1_4.index t = ![0, t.val, 0] ∧ win1_5.index t = ![0, t.val, 0]
    ∧ win1_6.index t = ![0, t.val, 0] ∧ win1_7.index t = ![0, t.val, 0])

theorem lt0 (t : Fin cfg0.N) : t.val < 2 := lt_of_lt_of_eq t.isLt N_0
theorem lt1 (t : Fin cfg1.N) : t.val < 2 := lt_of_lt_of_eq t.isLt N_1

/-- The shares of the two layers' gradients, the weights and their two moments. -/
abbrev a0 : Vec Ideal S8x704x1024 .bf16 := V c main_arg0
abbrev a1 : Vec Ideal S8x704x1024 .bf16 := V c main_arg1
abbrev a2 : Vec Ideal S2x704x1024 .f32 := V c main_arg2
abbrev a3 : Vec Ideal S2x704x1024 .f32 := V c main_arg3
abbrev a4 : Vec Ideal S2x704x1024 .f32 := V c main_arg4

/-- The row of the layer that is row `p` of the point's tile. -/
abbrev row (n : ℕ) (h : n < 2) (p : Fin 352) : Fin 704 := ⟨n * 352 + p.val, by omega⟩

section
variable (t : Fin cfg0.N) (p : Fin 352) (q : Fin 1024)
abbrev shares0 : Vec Ideal S8x352x1024 .bf16 := iblk0 V c 0 t
abbrev w0 : Vec Ideal S1x352x1024 .f32 := iblk0 V c 1 t
abbrev m0 : Vec Ideal S1x352x1024 .f32 := iblk0 V c 2 t
abbrev v0 : Vec Ideal S1x352x1024 .f32 := iblk0 V c 3 t
theorem shares0_apply (s : Fin 8) : shares0 V c t (ix3 s p q) = a1 V c (ix3 s (row t.val (lt0 t) p) q) := by blk_ext [shares0, iblk0, idx0 t]
theorem w0_apply : w0 V c t (ix3 0 p q) = a2 V c (ix3 1 (row t.val (lt0 t) p) q) := by blk_ext [w0, iblk0, idx0 t]
theorem m0_apply : m0 V c t (ix3 0 p q) = a3 V c (ix3 1 (row t.val (lt0 t) p) q) := by blk_ext [m0, iblk0, idx0 t]
theorem v0_apply : v0 V c t (ix3 0 p q) = a4 V c (ix3 1 (row t.val (lt0 t) p) q) := by blk_ext [v0, iblk0, idx0 t]
end

section
variable (t : Fin cfg1.N) (p : Fin 352) (q : Fin 1024)
abbrev shares1 : Vec Ideal S8x352x1024 .bf16 := iblk1 V c 0 t
abbrev w1 : Vec Ideal S1x352x1024 .f32 := iblk1 V c 1 t
abbrev m1 : Vec Ideal S1x352x1024 .f32 := iblk1 V c 2 t
abbrev v1 : Vec Ideal S1x352x1024 .f32 := iblk1 V c 3 t
theorem shares1_apply (s : Fin 8) : shares1 V c t (ix3 s p q) = a0 V c (ix3 s (row t.val (lt1 t) p) q) := by blk_ext [shares1, iblk1, idx1 t]
theorem w1_apply : w1 V c t (ix3 0 p q) = a2 V c (ix3 0 (row t.val (lt1 t) p) q) := by blk_ext [w1, iblk1, idx1 t]
theorem m1_apply : m1 V c t (ix3 0 p q) = a3 V c (ix3 0 (row t.val (lt1 t) p) q) := by blk_ext [m1, iblk1, idx1 t]
theorem v1_apply : v1 V c t (ix3 0 p q) = a4 V c (ix3 0 (row t.val (lt1 t) p) q) := by blk_ext [v1, iblk1, idx1 t]
end

/-! ## What the launches leave: entry `(r, q)` of layer `l`, from the shares `x` of that layer's gradient -/

section
variable (x : Vec Ideal S8x704x1024 .bf16) (w m v : Vec Ideal S2x704x1024 .f32) (l : Fin 2) (r : Fin 704) (q : Fin 1024)
def gradAt : R := total fun s => x (ix3 s r q)
def stepAt : R := step (gradAt x r q) (w (ix3 l r q)) (m (ix3 l r q)) (v (ix3 l r q))
def firstAt : R := first (gradAt x r q) (m (ix3 l r q))
def secondAt : R := second (gradAt x r q) (v (ix3 l r q))
end

/-- An array whose entries do not depend on the layer. -/
def layers (f : Fin 704 → Fin 1024 → R) : Vec Ideal S2x704x1024 .f32 := fun i => f (i 1) (i 2)

abbrev inLayer (l : Fin 2) (i : S2x704x1024.Idx) : Prop := (i 0).val = l.val
theorem inLayer_iff (l : Fin 2) (j : S2x704x1024.Idx) : inLayer l j ↔ (j 0).val / 1 = l.val := by rw [Nat.div_one]
theorem tile_idx (y : S1x352x1024.Idx) : ∃ (p : Fin 352) (q : Fin 1024), y = ix3 0 p q :=
  ⟨y 1, y 2, (eq_ix3 y).trans (congrArg (ix3 · (y 1) (y 2)) (Subsingleton.elim (α := Fin 1) _ _))⟩

theorem arr0_4 (i : S2x704x1024.Idx) : (dat0 V c).arrAt 4 cfg0.N i
    = if inLayer 1 i then layers (gradAt (a1 V c)) i else (dat0 V c).A 4 i := by
  refine (dat0 V c).arrAt_apply_of_coversWhere 4 (layers (gradAt (a1 V c))) (P := inLayer 1) (fun β => β (0 : Fin 3) = 1)
    (by decide +kernel) (fun t hf y => ?_) (inLayer_iff 1) i
  obtain ⟨p, q, rfl⟩ := tile_idx y
  have e : (win0_4.blk t).view.emb (ix3 0 p q) = (ix3 1 (row t.val (lt0 t) p) q : S2x704x1024.Idx) := by
    funext b; fin_cases b <;> refine Fin.ext ?_ <;> blk_simp [idx0 t] <;> rfl
  blk_simp [idx0 t]
  rw [after0_4, e, out4_apply]
  simp only [shares0_apply]
  rfl
theorem arr0_5 (i : S2x704x1024.Idx) : (dat0 V c).arrAt 5 cfg0.N i
    = if inLayer 1 i then layers (stepAt (a1 V c) (a2 V c) (a3 V c) (a4 V c) 1) i else (dat0 V c).A 5 i := by
  refine (dat0 V c).arrAt_apply_of_coversWhere 5 (layers (stepAt (a1 V c) (a2 V c) (a3 V c) (a4 V c) 1)) (P := inLayer 1) (fun β => β (0 : Fin 3) = 1)
    (by decide +kernel) (fun t hf y => ?_) (inLayer_iff 1) i
  obtain ⟨p, q, rfl⟩ := tile_idx y
  have e : (win0_5.blk t).view.emb (ix3 0 p q) = (ix3 1 (row t.val (lt0 t) p) q : S2x704x1024.Idx) := by
    funext b; fin_cases b <;> refine Fin.ext ?_ <;> blk_simp [idx0 t] <;> rfl
  blk_simp [idx0 t]
  rw [after0_5, e, out5_apply]
  simp only [shares0_apply, w0_apply, m0_apply, v0_apply]
  rfl
theorem arr0_6 (i : S2x704x1024.Idx) : (dat0 V c).arrAt 6 cfg0.N i
    = if inLayer 1 i then layers (firstAt (a1 V c) (a3 V c) 1) i else (dat0 V c).A 6 i := by
  refine (dat0 V c).arrAt_apply_of_coversWhere 6 (layers (firstAt (a1 V c) (a3 V c) 1)) (P := inLayer 1) (fun β => β (0 : Fin 3) = 1)
    (by decide +kernel) (fun t hf y => ?_) (inLayer_iff 1) i
  obtain ⟨p, q, rfl⟩ := tile_idx y
  have e : (win0_6.blk t).view.emb (ix3 0 p q) = (ix3 1 (row t.val (lt0 t) p) q : S2x704x1024.Idx) := by
    funext b; fin_cases b <;> refine Fin.ext ?_ <;> blk_simp [idx0 t] <;> rfl
  blk_simp [idx0 t]
  rw [after0_6, e, out6_apply]
  simp only [shares0_apply, m0_apply]
  rfl
theorem arr0_7 (i : S2x704x1024.Idx) : (dat0 V c).arrAt 7 cfg0.N i
    = if inLayer 1 i then layers (secondAt (a1 V c) (a4 V c) 1) i else (dat0 V c).A 7 i := by
  refine (dat0 V c).arrAt_apply_of_coversWhere 7 (layers (secondAt (a1 V c) (a4 V c) 1)) (P := inLayer 1) (fun β => β (0 : Fin 3) = 1)
    (by decide +kernel) (fun t hf y => ?_) (inLayer_iff 1) i
  obtain ⟨p, q, rfl⟩ := tile_idx y
  have e : (win0_7.blk t).view.emb (ix3 0 p q) = (ix3 1 (row t.val (lt0 t) p) q : S2x704x1024.Idx) := by
    funext b; fin_cases b <;> refine Fin.ext ?_ <;> blk_simp [idx0 t] <;> rfl
  blk_simp [idx0 t]
  rw [after0_7, e, out7_apply]
  simp only [shares0_apply, v0_apply]
  rfl
theorem arr1_4 (i : S2x704x1024.Idx) : (dat1 V c).arrAt 4 cfg1.N i
    = if inLayer 0 i then layers (gradAt (a0 V c)) i else (dat1 V c).A 4 i := by
  refine (dat1 V c).arrAt_apply_of_coversWhere 4 (layers (gradAt (a0 V c))) (P := inLayer 0) (fun β => β (0 : Fin 3) = 0)
    (by decide +kernel) (fun t hf y => ?_) (inLayer_iff 0) i
  obtain ⟨p, q, rfl⟩ := tile_idx y
  have e : (win1_4.blk t).view.emb (ix3 0 p q) = (ix3 0 (row t.val (lt1 t) p) q : S2x704x1024.Idx) := by
    funext b; fin_cases b <;> refine Fin.ext ?_ <;> blk_simp [idx1 t] <;> rfl
  blk_simp [idx1 t]
  rw [after1_4, e, outs4, out4_apply]
  simp only [shares1_apply]
  rfl
theorem arr1_5 (i : S2x704x1024.Idx) : (dat1 V c).arrAt 5 cfg1.N i
    = if inLayer 0 i then layers (stepAt (a0 V c) (a2 V c) (a3 V c) (a4 V c) 0) i else (dat1 V c).A 5 i := by
  refine (dat1 V c).arrAt_apply_of_coversWhere 5 (layers (stepAt (a0 V c) (a2 V c) (a3 V c) (a4 V c) 0)) (P := inLayer 0) (fun β => β (0 : Fin 3) = 0)
    (by decide +kernel) (fun t hf y => ?_) (inLayer_iff 0) i
  obtain ⟨p, q, rfl⟩ := tile_idx y
  have e : (win1_5.blk t).view.emb (ix3 0 p q) = (ix3 0 (row t.val (lt1 t) p) q : S2x704x1024.Idx) := by
    funext b; fin_cases b <;> refine Fin.ext ?_ <;> blk_simp [idx1 t] <;> rfl
  blk_simp [idx1 t]
  rw [after1_5, e, outs5, out5_apply]
  simp only [shares1_apply, w1_apply, m1_apply, v1_apply]
  rfl
theorem arr1_6 (i : S2x704x1024.Idx) : (dat1 V c).arrAt 6 cfg1.N i
    = if inLayer 0 i then layers (firstAt (a0 V c) (a3 V c) 0) i else (dat1 V c).A 6 i := by
  refine (dat1 V c).arrAt_apply_of_coversWhere 6 (layers (firstAt (a0 V c) (a3 V c) 0)) (P := inLayer 0) (fun β => β (0 : Fin 3) = 0)
    (by decide +kernel) (fun t hf y => ?_) (inLayer_iff 0) i
  obtain ⟨p, q, rfl⟩ := tile_idx y
  have e : (win1_6.blk t).view.emb (ix3 0 p q) = (ix3 0 (row t.val (lt1 t) p) q : S2x704x1024.Idx) := by
    funext b; fin_cases b <;> refine Fin.ext ?_ <;> blk_simp [idx1 t] <;> rfl
  blk_simp [idx1 t]
  rw [after1_6, e, outs6, out6_apply]
  simp only [shares1_apply, m1_apply]
  rfl
theorem arr1_7 (i : S2x704x1024.Idx) : (dat1 V c).arrAt 7 cfg1.N i
    = if inLayer 0 i then layers (secondAt (a0 V c) (a4 V c) 0) i else (dat1 V c).A 7 i := by
  refine (dat1 V c).arrAt_apply_of_coversWhere 7 (layers (secondAt (a0 V c) (a4 V c) 0)) (P := inLayer 0) (fun β => β (0 : Fin 3) = 0)
    (by decide +kernel) (fun t hf y => ?_) (inLayer_iff 0) i
  obtain ⟨p, q, rfl⟩ := tile_idx y
  have e : (win1_7.blk t).view.emb (ix3 0 p q) = (ix3 0 (row t.val (lt1 t) p) q : S2x704x1024.Idx) := by
    funext b; fin_cases b <;> refine Fin.ext ?_ <;> blk_simp [idx1 t] <;> rfl
  blk_simp [idx1 t]
  rw [after1_7, e, outs7, out7_apply]
  simp only [shares1_apply, v1_apply]
  rfl

/-! ## From the start to the end of the program -/

section
variable {F : FTy → Type} [FloatOps F]
local notation "𝕄" => MT nD τ sig Unit (Elt F) ℕ (UR sig nD τ) ℕ

set_option backward.isDefEq.respectTransparency.types false in
/-- Every array ends at what the second launch left or passed by. -/
theorem run (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Gen.R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)
end

omit V
variable (m : (ℓ : Loc nD τ sig) → Buf (Elt Ideal) ℓ) (ρ : Dev nD → PrngReg)

theorem enter0 : a0 (V2 m ρ) c = a0 (V0 m ρ) c := W2_args m ρ c main_arg0 (by decide)
theorem enter2 : a2 (V2 m ρ) c = a2 (V0 m ρ) c := W2_args m ρ c main_arg2 (by decide)
theorem enter3 : a3 (V2 m ρ) c = a3 (V0 m ρ) c := W2_args m ρ c main_arg3 (by decide)
theorem enter4 : a4 (V2 m ρ) c = a4 (V0 m ρ) c := W2_args m ρ c main_arg4 (by decide)

/-- An array that holds one layer of `f` at the first layer and of `g` at the last. -/
def both (f g : Fin 704 → Fin 1024 → R) : Vec Ideal S2x704x1024 .f32 := fun i => if inLayer 0 i then layers f i else layers g i

theorem inLayer_last {i : S2x704x1024.Idx} (h : ¬ inLayer 0 i) : inLayer 1 i := by
  have := (i 0).isLt
  have e : S2x704x1024.size 0 = 2 := rfl
  change ¬ (i 0).val = 0 at h
  show (i 0).val = 1
  omega

theorem copied4 (i : S2x704x1024.Idx) : (dat1 (V2 m ρ) c).A 4 i = (dat0 (V0 m ρ) c).arrAt 4 cfg0.N i := by
  rw [A_eq1]
  show StableHlo.after hostOps1 (W1 m ρ c) (Proc.devRef .tc main_v1_0) i = _
  after_reads_at
  exact congrFun (W1_arr m ρ c 4) i
theorem last4 : W3 m ρ c (Proc.devRef .tc main_v1_0) = both (gradAt (a0 (V0 m ρ) c))
    (gradAt (a1 (V0 m ρ) c)) := by
  funext i
  refine (congrFun (W3_arr m ρ c 4) i).trans ?_
  rw [arr1_4, copied4, arr0_4, enter0]
  unfold both
  by_cases h : inLayer 0 i
  · rw [if_pos h, if_pos h]
  · rw [if_neg h, if_neg h, if_pos (inLayer_last h)]
theorem copied5 (i : S2x704x1024.Idx) : (dat1 (V2 m ρ) c).A 5 i = (dat0 (V0 m ρ) c).arrAt 5 cfg0.N i := by
  rw [A_eq1]
  show StableHlo.after hostOps1 (W1 m ρ c) (Proc.devRef .tc main_v1_1) i = _
  after_reads_at
  exact congrFun (W1_arr m ρ c 5) i
theorem last5 : W3 m ρ c (Proc.devRef .tc main_v1_1) = both (stepAt (a0 (V0 m ρ) c) (a2 (V0 m ρ) c) (a3 (V0 m ρ) c) (a4 (V0 m ρ) c) 0)
    (stepAt (a1 (V0 m ρ) c) (a2 (V0 m ρ) c) (a3 (V0 m ρ) c) (a4 (V0 m ρ) c) 1) := by
  funext i
  refine (congrFun (W3_arr m ρ c 5) i).trans ?_
  rw [arr1_5, copied5, arr0_5, enter0, enter2, enter3, enter4]
  unfold both
  by_cases h : inLayer 0 i
  · rw [if_pos h, if_pos h]
  · rw [if_neg h, if_neg h, if_pos (inLayer_last h)]
theorem copied6 (i : S2x704x1024.Idx) : (dat1 (V2 m ρ) c).A 6 i = (dat0 (V0 m ρ) c).arrAt 6 cfg0.N i := by
  rw [A_eq1]
  show StableHlo.after hostOps1 (W1 m ρ c) (Proc.devRef .tc main_v1_2) i = _
  after_reads_at
  exact congrFun (W1_arr m ρ c 6) i
theorem last6 : W3 m ρ c (Proc.devRef .tc main_v1_2) = both (firstAt (a0 (V0 m ρ) c) (a3 (V0 m ρ) c) 0)
    (firstAt (a1 (V0 m ρ) c) (a3 (V0 m ρ) c) 1) := by
  funext i
  refine (congrFun (W3_arr m ρ c 6) i).trans ?_
  rw [arr1_6, copied6, arr0_6, enter0, enter3]
  unfold both
  by_cases h : inLayer 0 i
  · rw [if_pos h, if_pos h]
  · rw [if_neg h, if_neg h, if_pos (inLayer_last h)]
theorem copied7 (i : S2x704x1024.Idx) : (dat1 (V2 m ρ) c).A 7 i = (dat0 (V0 m ρ) c).arrAt 7 cfg0.N i := by
  rw [A_eq1]
  show StableHlo.after hostOps1 (W1 m ρ c) (Proc.devRef .tc main_v1_3) i = _
  after_reads_at
  exact congrFun (W1_arr m ρ c 7) i
theorem last7 : W3 m ρ c (Proc.devRef .tc main_v1_3) = both (secondAt (a0 (V0 m ρ) c) (a4 (V0 m ρ) c) 0)
    (secondAt (a1 (V0 m ρ) c) (a4 (V0 m ρ) c) 1) := by
  funext i
  refine (congrFun (W3_arr m ρ c 7) i).trans ?_
  rw [arr1_7, copied7, arr0_7, enter0, enter4]
  unfold both
  by_cases h : inLayer 0 i
  · rw [if_pos h, if_pos h]
  · rw [if_neg h, if_neg h, if_pos (inLayer_last h)]

/-! ## The reference's entries -/

section
open Cert.Reference14Ideal.Read
variable (x0 x1 : Vec Ideal S8x704x1024 .bf16) (x2 x3 x4 : Vec Ideal S2x704x1024 .f32) (r : Fin 704) (q : Fin 1024) (i : S2x704x1024.Idx)

theorem ref_grad0 : val_main_v6 (F := Ideal) x0 x1 (ix3 0 r q) = gradAt x0 r q := by
  unfold gradAt total
  pointwise [val_main_v6, val_main_v5, val_main_v4, val_main_v1, val_main_v0, val_main_cst]
theorem ref_grad1 : val_main_v6 (F := Ideal) x0 x1 (ix3 1 r q) = gradAt x1 r q := by
  unfold gradAt total
  pointwise [val_main_v6, val_main_v5, val_main_v4, val_main_v3, val_main_v2, val_main_cst_0]
theorem ref_first : val_main_v11 (F := Ideal) x0 x1 x3 i = first (val_main_v6 (F := Ideal) x0 x1 i) (x3 i) := rfl
theorem ref_second : val_main_v17 (F := Ideal) x0 x1 x4 i = second (val_main_v6 (F := Ideal) x0 x1 i) (x4 i) := rfl
theorem ref_step : val_main_v30 (F := Ideal) x0 x1 x2 x3 x4 i = step (val_main_v6 (F := Ideal) x0 x1 i) (x2 i) (x3 i) (x4 i) := rfl

theorem both_eq (f g : Fin 704 → Fin 1024 → R) (y : Vec Ideal S2x704x1024 .f32) (hf : ∀ r q, y (ix3 0 r q) = f r q)
    (hg : ∀ r q, y (ix3 1 r q) = g r q) : both f g = y := by
  funext i
  obtain ⟨l, r, q, rfl⟩ : ∃ (l : Fin 2) (r : Fin 704) (q : Fin 1024), i = ix3 l r q := ⟨i 0, i 1, i 2, eq_ix3 i⟩
  unfold both
  fin_cases l
  · exact (if_pos rfl).trans (hf r q).symm
  · exact (if_neg (show ¬ (1 : ℕ) = 0 by decide)).trans (hg r q).symm

theorem same_grad : both (gradAt x0) (gradAt x1) = val_main_v6 (F := Ideal) x0 x1 :=
  both_eq _ _ _ (ref_grad0 x0 x1) (ref_grad1 x0 x1)
theorem same_step : both (stepAt x0 x2 x3 x4 0) (stepAt x1 x2 x3 x4 1) = val_main_v30 (F := Ideal) x0 x1 x2 x3 x4 :=
  both_eq _ _ _ (fun r q => by rw [ref_step, ref_grad0]; rfl) (fun r q => by rw [ref_step, ref_grad1]; rfl)
theorem same_first : both (firstAt x0 x3 0) (firstAt x1 x3 1) = val_main_v11 (F := Ideal) x0 x1 x3 :=
  both_eq _ _ _ (fun r q => by rw [ref_first, ref_grad0]; rfl) (fun r q => by rw [ref_first, ref_grad1]; rfl)
theorem same_second : both (secondAt x0 x4 0) (secondAt x1 x4 1) = val_main_v17 (F := Ideal) x0 x1 x4 :=
  both_eq _ _ _ (fun r q => by rw [ref_second, ref_grad0]; rfl) (fun r q => by rw [ref_second, ref_grad1]; rfl)
end

/-! ## The claim -/

theorem algebraic : Cert.algebraic_Kernel14Ideal_Reference14Ideal (hKernel14Ideal := Kernel14Ideal.Gen.facts)
    (hReference14Ideal := Reference14Ideal.Gen.facts) := by
  intro m g m' g' _ ha
  refine ⟨fun c => Reference14Ideal.Read.val_main_v6 (F := Ideal) (a0 (V0 m g) c) (a1 (V0 m g) c),
    fun c => Reference14Ideal.Read.val_main_v30 (F := Ideal) (a0 (V0 m g) c) (a1 (V0 m g) c) (a2 (V0 m g) c) (a3 (V0 m g) c) (a4 (V0 m g) c),
    fun c => Reference14Ideal.Read.val_main_v11 (F := Ideal) (a0 (V0 m g) c) (a1 (V0 m g) c) (a3 (V0 m g) c),
    fun c => Reference14Ideal.Read.val_main_v17 (F := Ideal) (a0 (V0 m g) c) (a1 (V0 m g) c) (a4 (V0 m g) c), ?_, ?_⟩
  · refine (θ_run Kernel14Ideal.defs _ _).mono (fun r h c => ?_) (θ_run_and (run (F := Ideal) m g) (Gen.unchanged (F := Ideal) m g))
    have k (b : Ref sig .tc) (hb) := h.1 c (Proc.devRef .tc b) (mem_uc b hb)
    exact ⟨(k main_v1_0 (by decide)).trans ((last4 c m g).trans (same_grad _ _)),
      (k main_v1_1 (by decide)).trans ((last5 c m g).trans (same_step _ _ _ _ _)),
      (k main_v1_2 (by decide)).trans ((last6 c m g).trans (same_first _ _ _)),
      (k main_v1_3 (by decide)).trans ((last7 c m g).trans (same_second _ _ _)), h.2 c⟩
  · refine (θ_run Reference14Ideal.defs _ _).mono (fun r h c => ?_) (Reference14Ideal.Value.run (F := Ideal) m' g')
    obtain ⟨k0, k1, k2, k3, k⟩ := h c
    obtain ⟨e0, e1, e2, e3, e4⟩ := ha c
    rw [Reference14Ideal.Read.val_main_v6_eq] at k0
    rw [Reference14Ideal.Read.val_main_v30_eq] at k1
    rw [Reference14Ideal.Read.val_main_v11_eq] at k2
    rw [Reference14Ideal.Read.val_main_v17_eq] at k3
    rw [e0, e1] at k0
    rw [e0, e1, e2, e3, e4] at k1
    rw [e0, e1, e3] at k2
    rw [e0, e1, e4] at k3
    exact ⟨k0, k1, k2, k3, k⟩

end Cert.Kernel14Ideal.Adam

end
-- ==== Proof.DwIn.lean ====
/- The gradient of the feed-forward input weights: the two grid points of an output block accumulate the products of the two
   halves of the tokens, which together are the product over all the tokens. -/
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.Pointwise
public import Idealize.ShloMosaic.Lib.ValueIdx
public import proofs.«01_k».proof.Proof.Whole
public import Idealize.ShloMosaic.Lib.StableHlo.ReadAt

@[expose] public section

set_option maxRecDepth 16384

noncomputable section

namespace Cert.Kernel2Ideal.DwIn

open Idealize.ShloMosaic Idealize.ShloMosaic.TcCoe Idealize.SL.Sem
open Idealize.ShloMosaic.Pipeline (Dat)
open Cert.Kernel2Ideal Cert.Kernel2Ideal.Gen

/-! ## One grid point -/

section
variable (c : Dev nD) (i : grid0.Coords) (arg3 : Memref sig .tc .vmem S4096x1024 .bf16) (harg3 : arg3.IsWhole)
  (arg4 : Memref sig .tc .vmem S1x1x4096x704 .bf16) (harg4 : arg4.IsWhole) (arg5 : Memref sig .tc .vmem S1x704x1024 .bf16)
  (harg5 : arg5.IsWhole) (arg6 : Memref sig .tc .vmem S704x1024 .f32) (harg6 : arg6.IsWhole)
  (x0 : Vec Ideal S4096x1024 .bf16) (x1 : Vec Ideal S1x1x4096x704 .bf16)

theorem step_congr {a a' : Vec Ideal S704x1024 .f32} {b b' : Vec Ideal S1x1x4096x704 .bf16} {d d' : Vec Ideal S4096x1024 .bf16}
    (ha : a = a') (hb : b = b') (hd : d = d') : k0_pay2 a b d = k0_pay2 a' b' d' := by rw [ha, hb, hd]

/-- The first point of an output block leaves the product of its tokens, added to zero. -/
theorem first (hc0 : cond0_0 i) (hc1 : ¬cond0_1 i) :
    sout0_A_0 c i arg3 harg3 arg4 harg4 arg5 harg5 arg6 harg6 hc0 hc1 x0 x1 = k0_pay2 k0_pay1 x1 x0 := by
  have hc := scover0_A_0 c i arg3 harg3 arg4 harg4 arg5 harg5 arg6 harg6 hc0 hc1 x0 x1
  unfold sout0_A_0
  rw [View.read_writes_eq_canon _ _ _ hc]
  unfold kernelRun0_A; dsimp only; sl_unfold_words
  refine (Whole.stored Whole.zero2 _ _ _).trans (step_congr ?_ ?_ ?_)
  · exact Whole.reload _ _ _
  · exact Whole.load harg4 Whole.zero4 _ _
  · exact Whole.load harg3 Whole.zero2 _ _

/-- The second point adds its own and writes the sum. -/
theorem second (hc0 : ¬cond0_0 i) (hc1 : cond0_1 i) (xs : Vec Ideal S704x1024 .f32) :
    out0_B_2 c i arg3 harg3 arg4 harg4 arg5 harg5 arg6 harg6 hc0 hc1 x0 x1 xs = k0_pay3 (k0_pay2 xs x1 x0) := by
  have hc := cover0_B_2 c i arg3 harg3 arg4 harg4 arg5 harg5 arg6 harg6 hc0 hc1 x0 x1 xs
  unfold out0_B_2
  rw [View.read_writes_eq_canon _ _ _ hc]
  unfold kernelRun0_B; dsimp only; sl_unfold_words
  refine (Whole.stored Whole.zero3 _ _ _).trans (congrArg k0_pay3 ?_)
  refine (Whole.reload _ _ _).trans (step_congr ?_ ?_ ?_)
  · exact Whole.load harg6 Whole.zero2 _ _
  · exact Whole.load harg4 Whole.zero4 _ _
  · exact Whole.load harg3 Whole.zero2 _ _

end

/-! ## The grid: output block by output block, the two halves of the tokens of each -/

theorem step_apply (a : Vec Ideal S704x1024 .f32) (b : Vec Ideal S1x1x4096x704 .bf16) (d : Vec Ideal S4096x1024 .bf16)
    (p : Fin 704) (q : Fin 1024) : k0_pay2 a b d (ix2 p q) = a (ix2 p q) + ∑ k : Fin 4096, b (ix4 0 0 k p) * d (ix2 k q) := by
  pointwise [k0_pay2]
theorem zero_apply (p : Fin 704) (q : Fin 1024) : k0_pay1 (F := Ideal) (ix2 p q) = 0 := by pointwise [k0_pay1]
theorem write_apply (a : Vec Ideal S704x1024 .f32) (o : Fin 1) (p : Fin 704) (q : Fin 1024) :
    k0_pay3 a (ix3 o p q) = a (ix2 p q) := by pointwise [k0_pay3]

theorem idx : ∀ t : Fin cfg0.N, win0_0.index t = ![t.val % 2, 0] ∧ win0_1.index t = ![t.val / 4, t.val / 2 % 2, t.val % 2, 0]
    ∧ win0_2.index t = ![4 * (t.val / 2 % 2) + t.val / 4, 0, 0] ∧ (win0_2.flush t = true → t.val % 2 = 1) :=
  (by decide +kernel : ∀ t : Fin grid0.N, win0_0.index t = ![t.val % 2, 0] ∧ win0_1.index t = ![t.val / 4, t.val / 2 % 2, t.val % 2, 0]
    ∧ win0_2.index t = ![4 * (t.val / 2 % 2) + t.val / 4, 0, 0] ∧ (win0_2.flush t = true → t.val % 2 = 1))

theorem lt16 (t : Fin cfg0.N) : t.val < 16 := lt_of_lt_of_eq t.isLt N_0

variable (m : (ℓ : Loc nD τ sig) → Buf (Elt Ideal) ℓ) (ρ : Dev nD → PrngReg) (c : Dev nD)

/-- The launch's arguments by their types: the normalised tokens and the cotangent by chunk, half, token and column. -/
abbrev tokens : Vec Ideal S8192x1024 .bf16 := V m c main_v0
abbrev cot : Vec Ideal S4x2x8192x704 .bf16 := V m c main_v3
abbrev tokensAt (t : Fin cfg0.N) : Vec Ideal S4096x1024 .bf16 := iblk m c 0 t
abbrev cotAt (t : Fin cfg0.N) : Vec Ideal S1x1x4096x704 .bf16 := iblk m c 1 t

/-- One product of the sum over the tokens. -/
abbrev term (j : Fin 4) (p : Fin 2) (f : Fin 704) (q : Fin 1024) (k : Fin 8192) : EReal :=
  cot m c (ix4 j p k f) * tokens m c (ix2 k q)

theorem half_eq (t : Fin cfg0.N) (j : Fin 4) (p : Fin 2) (h : Fin 2) (ej : t.val / 4 = j.val) (ep : t.val / 2 % 2 = p.val)
    (eh : t.val % 2 = h.val) (f : Fin 704) (q : Fin 1024) :
    (∑ k : Fin 4096, cotAt m c t (ix4 0 0 k f) * tokensAt m c t (ix2 k q))
      = ∑ k : Fin 4096, term m c j p f q ⟨h.val * 4096 + k.val, by omega⟩ := by
  refine Finset.sum_congr rfl fun k _ => congrArg₂ (· * ·) ?_ ?_
  · blk_ext [cotAt, iblk, idx t]
  · blk_ext [tokensAt, iblk, idx t]

/-- The launch's result. -/
def result : Vec Ideal S8x704x1024 .bf16 := fun i =>
  ∑ k, term m c ⟨(i 0).val % 4, Nat.mod_lt _ (by decide)⟩ ⟨(i 0).val / 4 % 2, Nat.mod_lt _ (by decide)⟩ (i 1) (i 2) k

theorem after2 (t : Fin cfg0.N) (ht : t.val % 2 = 1) (p : Fin 704) (q : Fin 1024) :
    (dats m 0 c).after 2 t (ix3 0 p q)
      = ∑ k, term m c ⟨t.val / 4, by have := lt16 t; omega⟩ ⟨t.val / 2 % 2, by omega⟩ p q k := by
  have hs : t.val - 1 < cfg0.N := Nat.lt_of_le_of_lt (Nat.sub_le _ _) t.isLt
  have h1 : (⟨t.val - 1, hs⟩ : Fin cfg0.N).val % 2 = 0 := by show (t.val - 1) % 2 = 0; omega
  have e : (outsAt0 m c (t.val - 1) hs).2 = k0_pay2 k0_pay1 (cotAt m c ⟨t.val - 1, hs⟩) (tokensAt m c ⟨t.val - 1, hs⟩) := by
    rw [outsAt0_A m c ⟨t.val - 1, hs⟩ h1 (by omega)]; dsimp only; rw [first]
  rw [after0_2, outsAt0_B m c t (by omega) ht]
  dsimp only
  rw [second, write_apply, step_apply, e, step_apply, zero_apply, zero_add,
    half_eq m c t ⟨t.val / 4, by have := lt16 t; omega⟩ ⟨t.val / 2 % 2, by omega⟩ 1 rfl rfl (by show t.val % 2 = 1; omega),
    half_eq m c ⟨t.val - 1, hs⟩ ⟨t.val / 4, by have := lt16 t; omega⟩ ⟨t.val / 2 % 2, by omega⟩ 0 (by show (t.val - 1) / 4 = t.val / 4; omega)
      (by show (t.val - 1) / 2 % 2 = t.val / 2 % 2; omega) (by show (t.val - 1) % 2 = 0; omega),
    Fin.sum_univ_tiles 2 4096 rfl, Fin.sum_univ_two]

theorem arr2 : (dats m 0 c).arrAt 2 cfg0.N = result m c := by
  refine (dats m 0 c).arrAt_eq_of_covers 2 _ (by decide +kernel) fun t hf y => ?_
  have ht := (idx t).2.2.2 hf
  obtain ⟨a, p, q, rfl⟩ : ∃ (a : Fin 1) (p : Fin 704) (q : Fin 1024), y = ix3 a p q := ⟨y 0, y 1, y 2, eq_ix3 y⟩
  obtain rfl : a = 0 := Subsingleton.elim _ _
  have l : t.val < 16 := lt16 t
  have l4 : t.val / 4 < 4 := by omega
  have e : (win0_2.blk t).view.emb (ix3 0 p q) = (ix3 ⟨4 * (t.val / 2 % 2) + t.val / 4, by omega⟩ p q : S8x704x1024.Idx) := by
    funext b; fin_cases b <;> refine Fin.ext ?_ <;> blk_simp [idx t] <;> rfl
  blk_simp [idx t]
  rw [after2 m c t ht, e]
  refine Finset.sum_congr (M := EReal) rfl fun k _ => ?_
  have ej : (⟨(4 * (t.val / 2 % 2) + t.val / 4) % 4, Nat.mod_lt _ (by decide)⟩ : Fin 4) = ⟨t.val / 4, by omega⟩ := Fin.ext (by dsimp only; omega)
  have e4 : (4 * (t.val / 2 % 2) + t.val / 4) / 4 = t.val / 2 % 2 := by omega
  have ep : (⟨(4 * (t.val / 2 % 2) + t.val / 4) / 4 % 2, Nat.mod_lt _ (by decide)⟩ : Fin 2) = ⟨t.val / 2 % 2, by omega⟩ :=
    Fin.ext (by dsimp only; rw [e4, Nat.mod_mod])
  show _ = term m c ⟨(4 * (t.val / 2 % 2) + t.val / 4) % 4, _⟩ ⟨(4 * (t.val / 2 % 2) + t.val / 4) / 4 % 2, _⟩ p q k
  rw [ej, ep]

/-! ## The arguments, and the reference -/

abbrev a0 : Vec Ideal S8192x1024 .f32 := m ((c : Thread nD τ).loc main_arg0)
abbrev a1 : Vec Ideal S8192x5632 .f32 := m ((c : Thread nD τ).loc main_arg1)

theorem tokens_eq (k : Fin 8192) (q : Fin 1024) : tokens m c (ix2 k q) = a0 m c (ix2 k q) := by
  unfold tokens V
  after_reads_at

theorem cot_eq (j : Fin 4) (p : Fin 2) (k : Fin 8192) (f : Fin 704) :
    cot m c (ix4 j p k f) = a1 m c (ix2 k ⟨2816 * p.val + 704 * j.val + f.val, by omega⟩) := by
  unfold cot V
  after_reads_at
  exact congrArg (a1 m c) (congrArg (ix2 k) (Fin.ext (by show p.val * 2816 + j.val * 704 + f.val = _; dsimp only; omega)))

open Cert.Reference2Ideal.Read in
theorem same : result m c = val_main_v6 (F := Ideal) (a0 m c) (a1 m c) := by
  funext i
  obtain ⟨d, f, q, rfl⟩ : ∃ (d : Fin 8) (f : Fin 704) (q : Fin 1024), i = ix3 d f q := ⟨i 0, i 1, i 2, eq_ix3 i⟩
  rw [val_main_v6_apply, val_main_v5_apply, val_main_v4_apply, val_main_v3_apply, val_main_v2_apply]
  refine Finset.sum_congr rfl fun k _ => congrArg₂ (· * ·) ?_ ?_
  · refine (cot_eq m c ⟨d.val % 4, by omega⟩ ⟨d.val / 4 % 2, by omega⟩ k f).trans (congrArg (a1 m c) ?_)
    funext b; fin_cases b <;> refine Fin.ext ?_ <;> simp [ix2, ix3] <;> omega
  · refine (tokens_eq m c k q).trans (congrArg (a0 m c) ?_)
    funext b; fin_cases b <;> refine Fin.ext ?_ <;> simp [ix2, ix3] <;> omega

theorem algebraic : Cert.algebraic_Kernel2Ideal_Reference2Ideal (hKernel2Ideal := Kernel2Ideal.Gen.facts)
    (hReference2Ideal := Reference2Ideal.Gen.facts) := by
  intro m g m' g' _ ha
  refine ⟨fun c => Reference2Ideal.Read.val_main_v6 (F := Ideal) (a0 m c) (a1 m c), ?_, ?_⟩
  · exact (θ_run Kernel2Ideal.defs _ _).mono (fun r h c => ⟨(h c).1.trans ((arr2 m c).trans (same m c)), (h c).2⟩) (Value.run_blocks (F := Ideal) m g)
  · refine (θ_run Reference2Ideal.defs _ _).mono (fun r h c => ?_) (Reference2Ideal.Value.run (F := Ideal) m' g')
    obtain ⟨k0, k1⟩ := h c
    obtain ⟨e0, e1⟩ := ha c
    rw [Reference2Ideal.Read.val_main_v6_eq] at k0
    refine ⟨k0.trans ?_, k1⟩
    simp only [a0, a1, ← e0, ← e1]

end Cert.Kernel2Ideal.DwIn

end
-- ==== Proof.DwOut.lean ====
/- The gradient of the feed-forward output weights: the two grid points of a block of 704 hidden units accumulate the products
   of the two halves of the tokens, which together are the product over all the tokens. -/
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import proofs.«01_k».proof.Proof.Whole
public import Idealize.ShloMosaic.Lib.Pointwise
public import Idealize.ShloMosaic.Lib.ValueIdx
public import Idealize.ShloMosaic.Lib.StableHlo.ReadAt

@[expose] public section

set_option maxRecDepth 16384

noncomputable section

namespace Cert.Kernel3Ideal.DwOut

open Idealize.ShloMosaic Idealize.ShloMosaic.TcCoe Idealize.SL.Sem
open Idealize.ShloMosaic.Pipeline (Dat)
open Cert.Kernel3Ideal Cert.Kernel3Ideal.Gen

/-! ## One grid point -/

section
variable (c : Dev nD) (i : grid0.Coords) (arg2 : Memref sig .tc .vmem S1x4096x704 .bf16) (harg2 : arg2.IsWhole)
  (arg3 : Memref sig .tc .vmem S4096x1024 .bf16) (harg3 : arg3.IsWhole) (arg4 : Memref sig .tc .vmem S1x704x1024 .bf16)
  (harg4 : arg4.IsWhole) (arg5 : Memref sig .tc .vmem S704x1024 .f32) (harg5 : arg5.IsWhole)
  (x0 : Vec Ideal S1x4096x704 .bf16) (x1 : Vec Ideal S4096x1024 .bf16)

theorem step_congr {a a' : Vec Ideal S704x1024 .f32} {b b' : Vec Ideal S1x4096x704 .bf16} {d d' : Vec Ideal S4096x1024 .bf16}
    (ha : a = a') (hb : b = b') (hd : d = d') : k0_pay2 a b d = k0_pay2 a' b' d' := by rw [ha, hb, hd]

/-- The first point of an output block leaves the product of its tokens, added to zero. -/
theorem first (hc0 : cond0_0 i) (hc1 : ¬cond0_1 i) :
    sout0_A_0 c i arg2 harg2 arg3 harg3 arg4 harg4 arg5 harg5 hc0 hc1 x0 x1 = k0_pay2 k0_pay1 x0 x1 := by
  have hc := scover0_A_0 c i arg2 harg2 arg3 harg3 arg4 harg4 arg5 harg5 hc0 hc1 x0 x1
  unfold sout0_A_0
  rw [View.read_writes_eq_canon _ _ _ hc]
  unfold kernelRun0_A; dsimp only; sl_unfold_words
  exact (Whole.stored Whole.zero2 _ _ _).trans
    (step_congr (Whole.reload _ _ _) (Whole.load harg2 Whole.zero3 _ _) (Whole.load harg3 Whole.zero2 _ _))

/-- The second point adds its own and writes the sum. -/
theorem second (hc0 : ¬cond0_0 i) (hc1 : cond0_1 i) (xs : Vec Ideal S704x1024 .f32) :
    out0_B_2 c i arg2 harg2 arg3 harg3 arg4 harg4 arg5 harg5 hc0 hc1 x0 x1 xs = k0_pay3 (k0_pay2 xs x0 x1) := by
  have hc := cover0_B_2 c i arg2 harg2 arg3 harg3 arg4 harg4 arg5 harg5 hc0 hc1 x0 x1 xs
  unfold out0_B_2
  rw [View.read_writes_eq_canon _ _ _ hc]
  unfold kernelRun0_B; dsimp only; sl_unfold_words
  exact (Whole.stored Whole.zero3 _ _ _).trans (congrArg k0_pay3 ((Whole.reload _ _ _).trans
    (step_congr (Whole.load harg5 Whole.zero2 _ _) (Whole.load harg2 Whole.zero3 _ _) (Whole.load harg3 Whole.zero2 _ _))))

end

/-! ## The grid: output block by output block, the two halves of the tokens of each -/

theorem step_apply (a : Vec Ideal S704x1024 .f32) (b : Vec Ideal S1x4096x704 .bf16) (d : Vec Ideal S4096x1024 .bf16)
    (p : Fin 704) (q : Fin 1024) : k0_pay2 a b d (ix2 p q) = a (ix2 p q) + ∑ k : Fin 4096, b (ix3 0 k p) * d (ix2 k q) := by
  pointwise [k0_pay2]
theorem zero_apply (p : Fin 704) (q : Fin 1024) : k0_pay1 (F := Ideal) (ix2 p q) = 0 := by pointwise [k0_pay1]
theorem write_apply (a : Vec Ideal S704x1024 .f32) (o : Fin 1) (p : Fin 704) (q : Fin 1024) :
    k0_pay3 a (ix3 o p q) = a (ix2 p q) := by pointwise [k0_pay3]

theorem idx : ∀ t : Fin cfg0.N, win0_0.index t = ![t.val / 2, t.val % 2, 0] ∧ win0_1.index t = ![t.val % 2, 0]
    ∧ win0_2.index t = ![t.val / 2, 0, 0] ∧ (win0_2.flush t = true → t.val % 2 = 1) :=
  (by decide +kernel : ∀ t : Fin grid0.N, win0_0.index t = ![t.val / 2, t.val % 2, 0] ∧ win0_1.index t = ![t.val % 2, 0]
    ∧ win0_2.index t = ![t.val / 2, 0, 0] ∧ (win0_2.flush t = true → t.val % 2 = 1))

theorem lt8 (t : Fin cfg0.N) : t.val < 8 := lt_of_lt_of_eq t.isLt N_0

variable (m : (ℓ : Loc nD τ sig) → Buf (Elt Ideal) ℓ) (c : Dev nD)

/-- The launch's arguments by their types: the hidden units by chunk, token and column, and the cotangent. -/
abbrev units : Vec Ideal S4x8192x704 .bf16 := V m c main_v3
abbrev cot : Vec Ideal S8192x1024 .bf16 := V m c main_v4
abbrev unitsAt (t : Fin cfg0.N) : Vec Ideal S1x4096x704 .bf16 := iblk m c 0 t
abbrev cotAt (t : Fin cfg0.N) : Vec Ideal S4096x1024 .bf16 := iblk m c 1 t

/-- One product of the sum over the tokens. -/
abbrev term (j : Fin 4) (f : Fin 704) (q : Fin 1024) (k : Fin 8192) : EReal :=
  units m c (ix3 j k f) * cot m c (ix2 k q)

theorem half_eq (t : Fin cfg0.N) (j : Fin 4) (h : Fin 2) (ej : t.val / 2 = j.val) (eh : t.val % 2 = h.val) (f : Fin 704) (q : Fin 1024) :
    (∑ k : Fin 4096, unitsAt m c t (ix3 0 k f) * cotAt m c t (ix2 k q))
      = ∑ k : Fin 4096, term m c j f q ⟨h.val * 4096 + k.val, by omega⟩ := by
  refine Finset.sum_congr rfl fun k _ => congrArg₂ (· * ·) ?_ ?_
  · blk_ext [unitsAt, iblk, idx t]
  · blk_ext [cotAt, iblk, idx t]

/-- The launch's result. -/
def result : Vec Ideal S4x704x1024 .bf16 := fun i => ∑ k, term m c (i 0) (i 1) (i 2) k

theorem after2 (t : Fin cfg0.N) (ht : t.val % 2 = 1) (p : Fin 704) (q : Fin 1024) :
    (dats m 0 c).after 2 t (ix3 0 p q) = ∑ k, term m c ⟨t.val / 2, by have := lt8 t; omega⟩ p q k := by
  have hs : t.val - 1 < cfg0.N := Nat.lt_of_le_of_lt (Nat.sub_le _ _) t.isLt
  have h1 : (⟨t.val - 1, hs⟩ : Fin cfg0.N).val % 2 = 0 := by show (t.val - 1) % 2 = 0; omega
  have e : (outsAt0 m c (t.val - 1) hs).2 = k0_pay2 k0_pay1 (unitsAt m c ⟨t.val - 1, hs⟩) (cotAt m c ⟨t.val - 1, hs⟩) := by
    rw [outsAt0_A m c ⟨t.val - 1, hs⟩ h1 (by omega)]; dsimp only; rw [first]
  rw [after0_2, outsAt0_B m c t (by omega) ht]
  dsimp only
  rw [second, write_apply, step_apply, e, step_apply, zero_apply, zero_add,
    half_eq m c t ⟨t.val / 2, by have := lt8 t; omega⟩ 1 rfl ht,
    half_eq m c ⟨t.val - 1, hs⟩ ⟨t.val / 2, by have := lt8 t; omega⟩ 0 (by show (t.val - 1) / 2 = t.val / 2; omega) h1,
    Fin.sum_univ_tiles 2 4096 rfl, Fin.sum_univ_two]

theorem arr2 : (dats m 0 c).arrAt 2 cfg0.N = result m c := by
  refine (dats m 0 c).arrAt_eq_of_covers 2 _ (by decide +kernel) fun t hf y => ?_
  have ht := (idx t).2.2.2 hf
  obtain ⟨a, p, q, rfl⟩ : ∃ (a : Fin 1) (p : Fin 704) (q : Fin 1024), y = ix3 a p q := ⟨y 0, y 1, y 2, eq_ix3 y⟩
  obtain rfl : a = 0 := Subsingleton.elim _ _
  have l : t.val < 8 := lt8 t
  have e : (win0_2.blk t).view.emb (ix3 0 p q) = (ix3 ⟨t.val / 2, by omega⟩ p q : S4x704x1024.Idx) := by
    funext b; fin_cases b <;> refine Fin.ext ?_ <;> blk_simp [idx t] <;> rfl
  blk_simp [idx t]
  rw [after2 m c t ht, e]
  rfl

/-! ## The arguments, and the reference -/

abbrev a0 : Vec Ideal S8192x2816 .f32 := m ((c : Thread nD τ).loc main_arg0)
abbrev a1 : Vec Ideal S8192x1024 .f32 := m ((c : Thread nD τ).loc main_arg1)

theorem cot_eq (k : Fin 8192) (q : Fin 1024) : cot m c (ix2 k q) = a1 m c (ix2 k q) := by
  unfold cot V
  after_reads_at

theorem units_eq (j : Fin 4) (k : Fin 8192) (f : Fin 704) : units m c (ix3 j k f) = a0 m c (ix2 k ⟨704 * j.val + f.val, by omega⟩) := by
  unfold units V
  after_reads_at
  refine congrArg (a0 m c) ?_
  funext b; fin_cases b <;> refine Fin.ext ?_ <;> simp [ix2] <;> omega

open Cert.Reference3Ideal.Read in
theorem same : result m c = val_main_v5 (F := Ideal) (a0 m c) (a1 m c) := by
  funext i
  obtain ⟨j, f, q, rfl⟩ : ∃ (j : Fin 4) (f : Fin 704) (q : Fin 1024), i = ix3 j f q := ⟨i 0, i 1, i 2, eq_ix3 i⟩
  rw [val_main_v5_apply, val_main_v4_apply, val_main_v3_apply, val_main_v2_apply]
  refine Finset.sum_congr rfl fun k _ => (mul_comm _ _).trans (congrArg₂ (· * ·) ?_ ?_)
  · refine (cot_eq m c k q).trans (congrArg (a1 m c) ?_)
    funext b; fin_cases b <;> refine Fin.ext ?_ <;> simp [ix2, ix3] <;> omega
  · refine (units_eq m c j k f).trans (congrArg (a0 m c) ?_)
    funext b; fin_cases b <;> refine Fin.ext ?_ <;> simp [ix2, ix3] <;> omega

theorem algebraic : Cert.algebraic_Kernel3Ideal_Reference3Ideal (hKernel3Ideal := Kernel3Ideal.Gen.facts)
    (hReference3Ideal := Reference3Ideal.Gen.facts) := by
  intro m g m' g' _ ha
  refine ⟨fun c => Reference3Ideal.Read.val_main_v5 (F := Ideal) (a0 m c) (a1 m c), ?_, ?_⟩
  · exact (θ_run Kernel3Ideal.defs _ _).mono (fun r h c => ⟨(h c).1.trans ((arr2 m c).trans (same m c)), (h c).2⟩) (Value.run_blocks (F := Ideal) m g)
  · refine (θ_run Reference3Ideal.defs _ _).mono (fun r h c => ?_) (Reference3Ideal.Value.run (F := Ideal) m' g')
    obtain ⟨k0, k1⟩ := h c
    obtain ⟨e0, e1⟩ := ha c
    rw [Reference3Ideal.Read.val_main_v5_eq] at k0
    refine ⟨k0.trans ?_, k1⟩
    simp only [a0, a1, ← e0, ← e1]

end Cert.Kernel3Ideal.DwOut

end
-- ==== Proof.lean ====
/- The certificate: for each call the frames of the kernel, of its ideal form and of the reference, the rewriting that leads
   from the kernel to its ideal form, and that the ideal form computes the reference's results. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.FfnFwdKernel
public import proofs.«01_k».proof.Proof.FfnFwdValue
public import proofs.«01_k».proof.Proof.Gen.Kernel4Ideal.Skeleton
public import proofs.«01_k».proof.Proof.Gen.Kernel4Ideal.Points
public import proofs.«01_k».proof.Proof.Gen.Kernel4Ideal.Launch
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.MixIn
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.MixOut
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Pre_finite7
public import proofs.«01_k».proof.Proof.MixInBwd
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Pre_finite8
public import proofs.«01_k».proof.Proof.MixOutBwd
public import proofs.«01_k».proof.Proof.Gen.Kernel9
public import proofs.«01_k».proof.Proof.Gen.Kernel9Ideal.Skeleton
public import proofs.«01_k».proof.Proof.Gen.Kernel9Ideal.Points
public import proofs.«01_k».proof.Proof.Gen.Kernel9Ideal.Launch
public import proofs.«01_k».proof.Proof.Gen.Reference9Ideal.Run
public import proofs.«01_k».proof.Proof.Gen.Reference9Ideal.Read
public import proofs.«01_k».proof.Proof.Gen.Pre_finite9
public import proofs.«01_k».proof.Proof.FfnBwdKernel
public import proofs.«01_k».proof.Proof.FfnBwdValue
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.GmFwd
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Pre_finite11
public import proofs.«01_k».proof.Proof.LossHead
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.AdamPacked
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.AdamSharded
public import proofs.«01_k».proof.Proof.AdamLayers
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.GateSame
public import proofs.«01_k».proof.Proof.DwIn
public import proofs.«01_k».proof.Proof.DwOut
public import Idealize.ShloMosaic.Adequacy
public import Idealize.ShloMosaic.Init

@[expose] public section

noncomputable section

namespace Cert.Proof

open Idealize.ShloMosaic Idealize.SL.Sem

/-- The references have no kernel: their runs' read-backs give the frames, and they declare no semaphore. -/
theorem frame_reference : Cert.quiescent_ReferenceIdeal (hReferenceIdeal := Cert.ReferenceIdeal.Gen.facts) := fun m ρ _ =>
  (θ_run (Cert.ReferenceIdeal.defs (F := Ideal)) _ _).mono
    (fun _ h => ⟨fun c => (h c).2.2.2.2.2, funext fun s => nomatch s.2⟩)
    (Cert.ReferenceIdeal.Value.run (F := Ideal) m ρ)
theorem frame_reference2 : Cert.quiescent_Reference2Ideal (hReference2Ideal := Cert.Reference2Ideal.Gen.facts) := fun m ρ _ =>
  (θ_run (Cert.Reference2Ideal.defs (F := Ideal)) _ _).mono
    (fun _ h => ⟨fun c => (h c).2, funext fun s => nomatch s.2⟩) (Cert.Reference2Ideal.Value.run (F := Ideal) m ρ)
theorem frame_reference3 : Cert.quiescent_Reference3Ideal (hReference3Ideal := Cert.Reference3Ideal.Gen.facts) := fun m ρ _ =>
  (θ_run (Cert.Reference3Ideal.defs (F := Ideal)) _ _).mono
    (fun _ h => ⟨fun c => (h c).2, funext fun s => nomatch s.2⟩) (Cert.Reference3Ideal.Value.run (F := Ideal) m ρ)
theorem frame_reference4 : Cert.quiescent_Reference4Ideal (hReference4Ideal := Cert.Reference4Ideal.Gen.facts) := fun m ρ _ =>
  (θ_run (Cert.Reference4Ideal.defs (F := Ideal)) _ _).mono
    (fun _ h => ⟨fun c => (h c).2.2.2, funext fun s => nomatch s.2⟩) (Cert.Reference4Ideal.Value.run (F := Ideal) m ρ)
theorem frame_reference5 : Cert.quiescent_Reference5Ideal (hReference5Ideal := Cert.Reference5Ideal.Gen.facts) := fun m ρ _ =>
  (θ_run (Cert.Reference5Ideal.defs (F := Ideal)) _ _).mono
    (fun _ h => ⟨fun c => (h c).2, funext fun s => nomatch s.2⟩) (Cert.Reference5Ideal.Value.run (F := Ideal) m ρ)
theorem frame_reference6 : Cert.quiescent_Reference6Ideal (hReference6Ideal := Cert.Reference6Ideal.Gen.facts) := fun m ρ _ =>
  (θ_run (Cert.Reference6Ideal.defs (F := Ideal)) _ _).mono
    (fun _ h => ⟨fun c => (h c).2, funext fun s => nomatch s.2⟩) (Cert.Reference6Ideal.Value.run (F := Ideal) m ρ)
theorem frame_reference7 : Cert.quiescent_Reference7Ideal (hReference7Ideal := Cert.Reference7Ideal.Gen.facts) := fun m ρ _ =>
  (θ_run (Cert.Reference7Ideal.defs (F := Ideal)) _ _).mono
    (fun _ h => ⟨fun c => (h c).2.2.2, funext fun s => nomatch s.2⟩) (Cert.Reference7Ideal.Value.run (F := Ideal) m ρ)
theorem frame_reference8 : Cert.quiescent_Reference8Ideal (hReference8Ideal := Cert.Reference8Ideal.Gen.facts) := fun m ρ _ =>
  (θ_run (Cert.Reference8Ideal.defs (F := Ideal)) _ _).mono
    (fun _ h => ⟨fun c => (h c).2.2.2.2.2, funext fun s => nomatch s.2⟩) (Cert.Reference8Ideal.Value.run (F := Ideal) m ρ)
theorem frame_reference9 : Cert.quiescent_Reference9Ideal (hReference9Ideal := Cert.Reference9Ideal.Gen.facts) := fun m ρ _ =>
  (θ_run (Cert.Reference9Ideal.defs (F := Ideal)) _ _).mono
    (fun _ h => ⟨fun c => (h c).2.2.2.2.2, funext fun s => nomatch s.2⟩) (Cert.Reference9Ideal.Value.run (F := Ideal) m ρ)
theorem frame_reference10 : Cert.quiescent_Reference10Ideal (hReference10Ideal := Cert.Reference10Ideal.Gen.facts) := fun m ρ _ =>
  (θ_run (Cert.Reference10Ideal.defs (F := Ideal)) _ _).mono
    (fun _ h => ⟨fun c => (h c).2, funext fun s => nomatch s.2⟩) (Cert.Reference10Ideal.Value.run (F := Ideal) m ρ)
theorem frame_reference11 : Cert.quiescent_Reference11Ideal (hReference11Ideal := Cert.Reference11Ideal.Gen.facts) := fun m ρ _ =>
  (θ_run (Cert.Reference11Ideal.defs (F := Ideal)) _ _).mono
    (fun _ h => ⟨fun c => (h c).2.2.2, funext fun s => nomatch s.2⟩) (Cert.Reference11Ideal.Value.run (F := Ideal) m ρ)
theorem frame_reference12 : Cert.quiescent_Reference12Ideal (hReference12Ideal := Cert.Reference12Ideal.Gen.facts) := fun m ρ _ =>
  (θ_run (Cert.Reference12Ideal.defs (F := Ideal)) _ _).mono
    (fun _ h => ⟨fun c => (h c).2.2.2, funext fun s => nomatch s.2⟩) (Cert.Reference12Ideal.Value.run (F := Ideal) m ρ)
theorem frame_reference13 : Cert.quiescent_Reference13Ideal (hReference13Ideal := Cert.Reference13Ideal.Gen.facts) := fun m ρ _ =>
  (θ_run (Cert.Reference13Ideal.defs (F := Ideal)) _ _).mono
    (fun _ h => ⟨fun c => (h c).2.2.2.2, funext fun s => nomatch s.2⟩) (Cert.Reference13Ideal.Value.run (F := Ideal) m ρ)
theorem frame_reference14 : Cert.quiescent_Reference14Ideal (hReference14Ideal := Cert.Reference14Ideal.Gen.facts) := fun m ρ _ =>
  (θ_run (Cert.Reference14Ideal.defs (F := Ideal)) _ _).mono
    (fun _ h => ⟨fun c => (h c).2.2.2.2, funext fun s => nomatch s.2⟩) (Cert.Reference14Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts, Cert.Pre_finite7.Gen.facts, Cert.Pre_finite8.Gen.facts, Cert.Pre_finite9.Gen.facts, Cert.Pre_finite11.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    Cert.Kernel4Ideal.Ffn.frame_kernel, fun m ρ _ => Cert.Kernel4Ideal.Ffn.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ,
    fun m ρ _ => Cert.Kernel7Ideal.Gen.frame m ρ, frame_reference7, fun m ρ _ => frame_reference7 m ρ trivial,
    fun m ρ _ => Cert.Kernel8.Gen.frame m ρ, fun m ρ _ => Cert.Kernel8Ideal.Gen.frame m ρ,
    fun m ρ _ => Cert.Kernel8Ideal.Gen.frame m ρ, frame_reference8, fun m ρ _ => frame_reference8 m ρ trivial,
    Cert.Kernel9Ideal.Ffn.frame_kernel, fun m ρ _ => Cert.Kernel9Ideal.Ffn.frame m ρ,
    fun m ρ _ => Cert.Kernel9Ideal.Ffn.frame m ρ, frame_reference9, fun m ρ _ => frame_reference9 m ρ trivial,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ,
    fun m ρ _ => Cert.Kernel11Ideal.Gen.frame m ρ, frame_reference11, fun m ρ _ => frame_reference11 m ρ trivial,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    ⟨IdealRules.named_const.statement Cert.KernelIdeal.κ "c" .f32 0x3D372713#32 ((8943 / 200000 : ℝ) : EReal) rfl,
      IdealRules.named_const.statement Cert.KernelIdeal.κ "c3" .f32 0x3E095D4F#32 ((26829 / 200000 : ℝ) : EReal) rfl⟩,
    Cert.GateSame.algebraic,
    trivial, Cert.Kernel2Ideal.DwIn.algebraic,
    trivial, Cert.Kernel3Ideal.DwOut.algebraic,
    trivial, Cert.Kernel4Ideal.Ffn.algebraic,
    trivial, Cert.Kernel5Ideal.MixIn.algebraic,
    trivial, Cert.Kernel6Ideal.MixOut.algebraic,
    trivial, Cert.Kernel7Ideal.MixIn.algebraic,
    trivial, Cert.Kernel8Ideal.MixOut.algebraic,
    trivial, Cert.Kernel9Ideal.Ffn.algebraic,
    IdealRules.named_const.statement Cert.Kernel10Ideal.κ "c" .f32 0x3D372713#32 ((8943 / 200000 : ℝ) : EReal) rfl, Cert.Kernel10Ideal.GmFwd.algebraic,
    trivial, Cert.Kernel11Ideal.Loss.algebraic,
    trivial, Cert.Kernel12Ideal.Adam.algebraic,
    trivial, Cert.Kernel13Ideal.Adam.algebraic,
    trivial, Cert.Kernel14Ideal.Adam.algebraic⟩

end Cert.Proof

end
